-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2_0) = v0 c
          ∧ r.2.mem ((c.tc : Thread Cert.DownReferenceIdeal.nD Cert.DownReferenceIdeal.τ).loc Cert.DownReferenceIdeal.main_v2_1) = v1 c
          ∧ r.2.mem ((c.tc : Thread Cert.DownReferenceIdeal.nD Cert.DownReferenceIdeal.τ).loc Cert.DownReferenceIdeal.main_v2_2) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)) (v2 : (c : Dev Cert.FinalIdeal.nD) → Buf (Elt Ideal) ((c.tc : Thread Cert.FinalIdeal.nD Cert.FinalIdeal.τ).loc Cert.FinalIdeal.main_v1_2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_v1_2) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v1_0) = v0 c
          ∧ r.2.mem ((c.tc : Thread Cert.FinalReferenceIdeal.nD Cert.FinalReferenceIdeal.τ).loc Cert.FinalReferenceIdeal.main_v1_1) = v1 c
          ∧ r.2.mem ((c.tc : Thread Cert.FinalReferenceIdeal.nD Cert.FinalReferenceIdeal.τ).loc Cert.FinalReferenceIdeal.main_v1_2) = v2 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v6_0)) (v1 : (c : Dev Cert.AttnOutIdeal.nD) → Buf (Elt Ideal) ((c.tc : Thread Cert.AttnOutIdeal.nD Cert.AttnOutIdeal.τ).loc Cert.AttnOutIdeal.main_v6_1)) (v2 : (c : Dev Cert.AttnOutIdeal.nD) → Buf (Elt Ideal) ((c.tc : Thread Cert.AttnOutIdeal.nD Cert.AttnOutIdeal.τ).loc Cert.AttnOutIdeal.main_v6_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v6_0) = v0 c
          ∧ r.2.mem ((c.tc : Thread Cert.AttnOutIdeal.nD Cert.AttnOutIdeal.τ).loc Cert.AttnOutIdeal.main_v6_1) = v1 c
          ∧ r.2.mem ((c.tc : Thread Cert.AttnOutIdeal.nD Cert.AttnOutIdeal.τ).loc Cert.AttnOutIdeal.main_v6_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v0_0) = v0 c
          ∧ r.2.mem ((c.tc : Thread Cert.AttnOutReferenceIdeal.nD Cert.AttnOutReferenceIdeal.τ).loc Cert.AttnOutReferenceIdeal.main_v0_1) = v1 c
          ∧ r.2.mem ((c.tc : Thread Cert.AttnOutReferenceIdeal.nD Cert.AttnOutReferenceIdeal.τ).loc Cert.AttnOutReferenceIdeal.main_v0_2) = v2 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hFinal : Cert.Final.Facts) (hFinalIdeal : Cert.FinalIdeal.Facts) (hFinalReferenceIdeal : Cert.FinalReferenceIdeal.Facts) (hAttnOut : Cert.AttnOut.Facts) (hAttnOutIdeal : Cert.AttnOutIdeal.Facts) (hAttnOutReferenceIdeal : Cert.AttnOutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_Final_FinalIdeal
    ∧ algebraic_FinalIdeal_FinalReferenceIdeal (hFinalIdeal := hFinalIdeal) (hFinalReferenceIdeal := hFinalReferenceIdeal)
    ∧ preserves_AttnOut_AttnOutIdeal
    ∧ algebraic_AttnOutIdeal_AttnOutReferenceIdeal (hAttnOutIdeal := hAttnOutIdeal) (hAttnOutReferenceIdeal := hAttnOutReferenceIdeal)
-- ==== Kernel.lean ====
abbrev S24960x1152 : Shape := ⟨2, ![24960, 1152]⟩
abbrev S1152x14336 : Shape := ⟨2, ![1152, 14336]⟩
abbrev S14336 : Shape := ⟨1, ![14336]⟩
abbrev S1x14336 : Shape := ⟨2, ![1, 14336]⟩
abbrev S65x1x384 : Shape := ⟨3, ![65, 1, 384]⟩
abbrev S24960x14336 : Shape := ⟨2, ![24960, 14336]⟩
abbrev S384x1152 : Shape := ⟨2, ![384, 1152]⟩
abbrev S1x1x384 : Shape := ⟨3, ![1, 1, 384]⟩
abbrev S384x1024 : Shape := ⟨2, ![384, 1024]⟩
abbrev S384x14336 : Shape := ⟨2, ![384, 14336]⟩
abbrev S384x128 : Shape := ⟨2, ![384, 128]⟩
abbrev S384 : Shape := ⟨1, ![384]⟩
abbrev S384x1 : Shape := ⟨2, ![384, 1]⟩
abbrev S128x384 : Shape := ⟨2, ![128, 384]⟩
abbrev S1x384 : Shape := ⟨2, ![1, 384]⟩
abbrev S1152x1024 : Shape := ⟨2, ![1152, 1024]⟩
abbrev S1x128 : Shape := ⟨2, ![1, 128]⟩

abbrev nBuf : Space → Nat
  | .hbm => 11
  | .vmem => 19
  | .smem => 0
  | _ => 0

abbrev bufTy : (tb : Table) → Fin (tcTables nBuf tb) → BufTy
  | .hbm, ⟨0, _⟩ => ⟨S24960x1152, .bf16⟩
  | .hbm, ⟨1, _⟩ => ⟨S1152x14336, .fp8e4m3⟩
  | .hbm, ⟨2, _⟩ => ⟨S1152x14336, .fp8e4m3⟩
  | .hbm, ⟨3, _⟩ => ⟨S14336, .f32⟩
  | .hbm, ⟨4, _⟩ => ⟨S14336, .f32⟩
  | .hbm, ⟨5, _⟩ => ⟨S1x14336, .f32⟩
  | .hbm, ⟨6, _⟩ => ⟨S1x14336, .f32⟩
  | .hbm, ⟨7, _⟩ => ⟨S24960x1152, .fp8e4m3⟩
  | .hbm, ⟨8, _⟩ => ⟨S65x1x384, .f32⟩
  | .hbm, ⟨9, _⟩ => ⟨S24960x14336, .fp8e4m3⟩
  | .hbm, ⟨10, _⟩ => ⟨S65x1x384, .f32⟩
  | .local _ .vmem, ⟨0, _⟩ => ⟨S384x1152, .bf16⟩
  | .local _ .vmem, ⟨1, _⟩ => ⟨S384x1152, .bf16⟩
  | .local _ .vmem, ⟨2, _⟩ => ⟨S1152x14336, .fp8e4m3⟩
  | .local _ .vmem, ⟨3, _⟩ => ⟨S1152x14336, .fp8e4m3⟩
  | .local _ .vmem, ⟨4, _⟩ => ⟨S1x14336, .f32⟩
  | .local _ .vmem, ⟨5, _⟩ => ⟨S1x14336, .f32⟩
  | .local _ .vmem, ⟨6, _⟩ => ⟨S384x1152, .fp8e4m3⟩
  | .local _ .vmem, ⟨7, _⟩ => ⟨S384x1152, .fp8e4m3⟩
  | .local _ .vmem, ⟨8, _⟩ => ⟨S1x1x384, .f32⟩
  | .local _ .vmem, ⟨9, _⟩ => ⟨S1x1x384, .f32⟩
  | .local _ .vmem, ⟨10, _⟩ => ⟨S384x1024, .fp8e4m3⟩
  | .local _ .vmem, ⟨11, _⟩ => ⟨S384x1024, .fp8e4m3⟩
  | .local _ .vmem, ⟨12, _⟩ => ⟨S1x1x384, .f32⟩
  | .local _ .vmem, ⟨13, _⟩ => ⟨S1x1x384, .f32⟩
  | .local _ .vmem, ⟨14, _⟩ => ⟨S384x14336, .f32⟩
  | .local _ .vmem, ⟨15, _⟩ => ⟨S384x1152, .fp8e4m3⟩
  | .local _ .vmem, ⟨16, _⟩ => ⟨S384x128, .f32⟩
  | .local _ .vmem, ⟨17, _⟩ => ⟨S384x128, .f32⟩
  | .local _ .vmem, ⟨18, _⟩ => ⟨S384x128, .f32⟩
  | _, _ => ⟨S24960x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![66, 14], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .ne v3 c0_i32_0
  v4

def k0_mult2 (i : grid0.Coords) : BitVec 32 :=
  let arg1 : BitVec 32 := BitVec.ofNat 32 (i 1).val
  let c1024_i32_3 : BitVec 32 := 1024#32
  let v9 : BitVec 32 := Scalar.muli arg1 c1024_i32_3
  let c0_i32_4 : BitVec 32 := 0#32
  let v10 : BitVec 32 := Scalar.addi v9 c0_i32_4
  v10
def k0_off1 (i : grid0.Coords) (c0_i32_4 : BitVec 32) : Fin 2 → Nat :=
  let c0_5 : Index := 0#32
  let arg1 : BitVec 32 := BitVec.ofNat 32 (i 1).val
  let c1024_i32_3 : BitVec 32 := 1024#32
  let v9 : BitVec 32 := Scalar.muli arg1 c1024_i32_3
  let v10 : BitVec 32 := Scalar.addi v9 c0_i32_4
  let v11 : BitVec 32 := v10
  let v12 : Index := Scalar.indexCast v11
  ![0, v12.toNat]
def k0_mult3 (i : grid0.Coords) : BitVec 32 :=
  let arg1 : BitVec 32 := BitVec.ofNat 32 (i 1).val
  let c1024_i32_9 : BitVec 32 := 1024#32
  let v21 : BitVec 32 := Scalar.muli arg1 c1024_i32_9
  let c128_i32 : BitVec 32 := 128#32
  let v22 : BitVec 32 := Scalar.addi v21 c128_i32
  v22
def k0_mult4 (i : grid0.Coords) : BitVec 32 :=
  let arg1 : BitVec 32 := BitVec.ofNat 32 (i 1).val
  let c1024_i32_14 : BitVec 32 := 1024#32
  let v33 : BitVec 32 := Scalar.muli arg1 c1024_i32_14
  let c256_i32 : BitVec 32 := 256#32
  let v34 : BitVec 32 := Scalar.addi v33 c256_i32
  v34
def k0_mult5 (i : grid0.Coords) : BitVec 32 :=
  let arg1 : BitVec 32 := BitVec.ofNat 32 (i 1).val
  let c1024_i32_19 : BitVec 32 := 1024#32
  let v45 : BitVec 32 := Scalar.muli arg1 c1024_i32_19
  let c384_i32 : BitVec 32 := 384#32
  let v46 : BitVec 32 := Scalar.addi v45 c384_i32
  v46
def k0_mult6 (i : grid0.Coords) : BitVec 32 :=
  let arg1 : BitVec 32 := BitVec.ofNat 32 (i 1).val
  let c1024_i32_24 : BitVec 32 := 1024#32
  let v57 : BitVec 32 := Scalar.muli arg1 c1024_i32_24
  let c512_i32 : BitVec 32 := 512#32
  let v58 : BitVec 32 := Scalar.addi v57 c512_i32
  v58
def k0_mult7 (i : grid0.Coords) : BitVec 32 :=
  let arg1 : BitVec 32 := BitVec.ofNat 32 (i 1).val
  let c1024_i32_29 : BitVec 32 := 1024#32
  let v69 : BitVec 32 := Scalar.muli arg1 c1024_i32_29
  let c640_i32 : BitVec 32 := 640#32
  let v70 : BitVec 32 := Scalar.addi v69 c640_i32
  v70
def k0_mult8 (i : grid0.Coords) : BitVec 32 :=
  let arg1 : BitVec 32 := BitVec.ofNat 32 (i 1).val
  let c1024_i32_34 : BitVec 32 := 1024#32
  let v81 : BitVec 32 := Scalar.muli arg1 c1024_i32_34
  let c768_i32 : BitVec 32 := 768#32
  let v82 : BitVec 32 := Scalar.addi v81 c768_i32
  v82
def k0_mult9 (i : grid0.Coords) : BitVec 32 :=
  let arg1 : BitVec 32 := BitVec.ofNat 32 (i 1).val
  let c1024_i32_39 : BitVec 32 := 1024#32
  let v93 : BitVec 32 := Scalar.muli arg1 c1024_i32_39
  let c896_i32 : BitVec 32 := 896#32
  let v94 : BitVec 32 := Scalar.addi v93 c896_i32
  v94
def k0_cond2 (i : grid0.Coords) : BitVec 1 :=
  let arg0 : BitVec 32 := BitVec.ofNat 32 (i 0).val
  let c65_i32 : BitVec 32 := 65#32
  let v5 : BitVec 1 := Scalar.cmpi .slt arg0 c65_i32
  let v6 : BitVec 32 := Scalar.extui v5
  let c0_i32_1 : BitVec 32 := 0#32
  let v7 : BitVec 1 := Scalar.cmpi .ne v6 c0_i32_1
  v7

def k0_off2 (i : grid0.Coords) : Fin 2 → Nat :=
  let c0_5 : Index := 0#32
  let arg1 : BitVec 32 := BitVec.ofNat 32 (i 1).val
  let c1024_i32 : BitVec 32 := 1024#32
  let v0 : BitVec 32 := Scalar.muli arg1 c1024_i32
  let v1 : BitVec 32 := v0
  let v12 : Index := Scalar.indexCast v1
  ![0, v12.toNat]
def k0_mult10 (i : grid0.Coords) : BitVec 32 :=
  let arg1 : BitVec 32 := BitVec.ofNat 32 (i 1).val
  let c1024_i32_14 : BitVec 32 := 1024#32
  let v21 : BitVec 32 := Scalar.muli arg1 c1024_i32_14
  let c0_i32_15 : BitVec 32 := 0#32
  let v22 : BitVec 32 := Scalar.addi v21 c0_i32_15
  v22
def k0_off3 (i : grid0.Coords) (c0_i32_15 : BitVec 32) : Fin 2 → Nat :=
  let c0_16 : Index := 0#32
  let arg1 : BitVec 32 := BitVec.ofNat 32 (i 1).val
  let c1024_i32_14 : BitVec 32 := 1024#32
  let v21 : BitVec 32 := Scalar.muli arg1 c1024_i32_14
  let v22 : BitVec 32 := Scalar.addi v21 c0_i32_15
  let v23 : BitVec 32 := v22
  let v26 : Index := Scalar.indexCast v23
  ![0, v26.toNat]
def k0_off4 (i : grid0.Coords) (c0_i32_15 : BitVec 32) : Fin 2 → Nat :=
  let c0_18 : Index := 0#32
  let arg1 : BitVec 32 := BitVec.ofNat 32 (i 1).val
  let c1024_i32_14 : BitVec 32 := 1024#32
  let v21 : BitVec 32 := Scalar.muli arg1 c1024_i32_14
  let v22 : BitVec 32 := Scalar.addi v21 c0_i32_15
  let v23 : BitVec 32 := v22
  let v41 : Index := Scalar.indexCast v23
  ![0, v41.toNat]
def k0_mult11 (i : grid0.Coords) : BitVec 32 :=
  let arg1 : BitVec 32 := BitVec.ofNat 32 (i 1).val
  let c1024_i32_19 : BitVec 32 := 1024#32
  let v47 : BitVec 32 := Scalar.muli arg1 c1024_i32_19
  let c128_i32 : BitVec 32 := 128#32
  let v48 : BitVec 32 := Scalar.addi v47 c128_i32
  v48
def k0_mult12 (i : grid0.Coords) : BitVec 32 :=
  let arg1 : BitVec 32 := BitVec.ofNat 32 (i 1).val
  let c1024_i32_23 : BitVec 32 := 1024#32
  let v73 : BitVec 32 := Scalar.muli arg1 c1024_i32_23
  let c256_i32 : BitVec 32 := 256#32
  let v74 : BitVec 32 := Scalar.addi v73 c256_i32
  v74
def k0_mult13 (i : grid0.Coords) : BitVec 32 :=
  let arg1 : BitVec 32 := BitVec.ofNat 32 (i 1).val
  let c1024_i32_27 : BitVec 32 := 1024#32
  let v99 : BitVec 32 := Scalar.muli arg1 c1024_i32_27
  let c384_i32 : BitVec 32 := 384#32
  let v100 : BitVec 32 := Scalar.addi v99 c384_i32
  v100
def k0_mult14 (i : grid0.Coords) : BitVec 32 :=
  let arg1 : BitVec 32 := BitVec.ofNat 32 (i 1).val
  let c1024_i32_31 : BitVec 32 := 1024#32
  let v125 : BitVec 32 := Scalar.muli arg1 c1024_i32_31
  let c512_i32 : BitVec 32 := 512#32
  let v126 : BitVec 32 := Scalar.addi v125 c512_i32
  v126
def k0_mult15 (i : grid0.Coords) : BitVec 32 :=
  let arg1 : BitVec 32 := BitVec.ofNat 32 (i 1).val
  let c1024_i32_35 : BitVec 32 := 1024#32
  let v151 : BitVec 32 := Scalar.muli arg1 c1024_i32_35
  let c640_i32 : BitVec 32 := 640#32
  let v152 : BitVec 32 := Scalar.addi v151 c640_i32
  v152
def k0_mult16 (i : grid0.Coords) : BitVec 32 :=
  let arg1 : BitVec 32 := BitVec.ofNat 32 (i 1).val
  let c1024_i32_39 : BitVec 32 := 1024#32
  let v177 : BitVec 32 := Scalar.muli arg1 c1024_i32_39
  let c768_i32 : BitVec 32 := 768#32
  let v178 : BitVec 32 := Scalar.addi v177 c768_i32
  v178
def k0_mult17 (i : grid0.Coords) : BitVec 32 :=
  let arg1 : BitVec 32 := BitVec.ofNat 32 (i 1).val
  let c1024_i32_43 : BitVec 32 := 1024#32
  let v203 : BitVec 32 := Scalar.muli arg1 c1024_i32_43
  let c896_i32 : BitVec 32 := 896#32
  let v204 : BitVec 32 := Scalar.addi v203 c896_i32
  v204
def k0_cond3 (i : grid0.Coords) : BitVec 1 :=
  let arg1 : BitVec 32 := BitVec.ofNat 32 (i 1).val
  let c0_i32_2 : BitVec 32 := 0#32
  let v8 : BitVec 1 := Scalar.cmpi .eq arg1 c0_i32_2
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c13_i32 : BitVec 32 := 13#32
  let v232 : BitVec 1 := Scalar.cmpi .eq arg1 c13_i32
  let v233 : BitVec 32 := Scalar.extui v232
  let c0_i32_49 : BitVec 32 := 0#32
  let v234 : BitVec 1 := Scalar.cmpi .ne v233 c0_i32_49
  v234

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.minsi arg0 c64_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.minsi arg0 c64_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc0_transform_8 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.minsi arg0 c64_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S384x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1152x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1152x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x1152 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S24960x1152 : Shape := ⟨2, ![24960, 1152]⟩
abbrev S1152x14336 : Shape := ⟨2, ![1152, 14336]⟩
abbrev S14336 : Shape := ⟨1, ![14336]⟩
abbrev S1x14336 : Shape := ⟨2, ![1, 14336]⟩
abbrev S65x1x384 : Shape := ⟨3, ![65, 1, 384]⟩
abbrev S24960x14336 : Shape := ⟨2, ![24960, 14336]⟩
abbrev S24960 : Shape := ⟨1, ![24960]⟩
abbrev S24960x1 : Shape := ⟨2, ![24960, 1]⟩

abbrev nBuf : Space → Nat
  | .hbm => 11
  | .vmem => 9
  | .smem => 0
  | _ => 0

abbrev bufTy : (tb : Table) → Fin (tcTables nBuf tb) → BufTy
  | .hbm, ⟨0, _⟩ => ⟨S24960x1152, .bf16⟩
  | .hbm, ⟨1, _⟩ => ⟨S1152x14336, .fp8e4m3⟩
  | .hbm, ⟨2, _⟩ => ⟨S1152x14336, .fp8e4m3⟩
  | .hbm, ⟨3, _⟩ => ⟨S14336, .f32⟩
  | .hbm, ⟨4, _⟩ => ⟨S14336, .f32⟩
  | .hbm, ⟨5, _⟩ => ⟨S1x14336, .f32⟩
  | .hbm, ⟨6, _⟩ => ⟨S1x14336, .f32⟩
  | .hbm, ⟨7, _⟩ => ⟨S24960x1152, .fp8e4m3⟩
  | .hbm, ⟨8, _⟩ => ⟨S65x1x384, .f32⟩
  | .hbm, ⟨9, _⟩ => ⟨S24960x14336, .fp8e4m3⟩
  | .hbm, ⟨10, _⟩ => ⟨S65x1x384, .f32⟩
  | .local _ .vmem, ⟨0, _⟩ => ⟨S24960x1152, .bf16⟩
  | .local _ .vmem, ⟨1, _⟩ => ⟨S1152x14336, .fp8e4m3⟩
  | .local _ .vmem, ⟨2, _⟩ => ⟨S1152x14336, .fp8e4m3⟩
  | .local _ .vmem, ⟨3, _⟩ => ⟨S1x14336, .f32⟩
  | .local _ .vmem, ⟨4, _⟩ => ⟨S1x14336, .f32⟩
  | .local _ .vmem, ⟨5, _⟩ => ⟨S24960x1152, .fp8e4m3⟩
  | .local _ .vmem, ⟨6, _⟩ => ⟨S65x1x384, .f32⟩
  | .local _ .vmem, ⟨7, _⟩ => ⟨S24960x14336, .fp8e4m3⟩
  | .local _ .vmem, ⟨8, _⟩ => ⟨S65x1x384, .f32⟩
  | _, _ => ⟨S24960x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24960x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24960x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S65x1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24960x14336 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S65x1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S24960x14336 : Shape := ⟨2, ![24960, 14336]⟩
abbrev S52x1x480 : Shape := ⟨3, ![52, 1, 480]⟩
abbrev S14336x4096 : Shape := ⟨2, ![14336, 4096]⟩
abbrev S4096 : Shape := ⟨1, ![4096]⟩
abbrev S1x4096 : Shape := ⟨2, ![1, 4096]⟩
abbrev S24960x4096 : Shape := ⟨2, ![24960, 4096]⟩
abbrev S24960x32 : Shape := ⟨2, ![24960, 32]⟩
abbrev S480x14336 : Shape := ⟨2, ![480, 14336]⟩
abbrev S1x1x480 : Shape := ⟨3, ![1, 1, 480]⟩
abbrev S14336x512 : Shape := ⟨2, ![14336, 512]⟩
abbrev S1x512 : Shape := ⟨2, ![1, 512]⟩
abbrev S480x512 : Shape := ⟨2, ![480, 512]⟩
abbrev S480x32 : Shape := ⟨2, ![480, 32]⟩
abbrev S480x4096 : Shape := ⟨2, ![480, 4096]⟩
abbrev S480x128 : Shape := ⟨2, ![480, 128]⟩
abbrev S480 : Shape := ⟨1, ![480]⟩
abbrev S480x1 : Shape := ⟨2, ![480, 1]⟩
abbrev S1x480 : Shape := ⟨2, ![1, 480]⟩
abbrev S128x480 : Shape := ⟨2, ![128, 480]⟩
abbrev S1x128 : Shape := ⟨2, ![1, 128]⟩

abbrev nBuf : Space → Nat
  | .hbm => 8
  | .vmem => 18
  | .smem => 0
  | _ => 0

abbrev bufTy : (tb : Table) → Fin (tcTables nBuf tb) → BufTy
  | .hbm, ⟨0, _⟩ => ⟨S24960x14336, .fp8e4m3⟩
  | .hbm, ⟨1, _⟩ => ⟨S52x1x480, .f32⟩
  | .hbm, ⟨2, _⟩ => ⟨S14336x4096, .fp8e4m3⟩
  | .hbm, ⟨3, _⟩ => ⟨S4096, .f32⟩
  | .hbm, ⟨4, _⟩ => ⟨S1x4096, .f32⟩
  | .hbm, ⟨5, _⟩ => ⟨S52x1x480, .f32⟩
  | .hbm, ⟨6, _⟩ => ⟨S24960x4096, .fp8e4m3⟩
  | .hbm, ⟨7, _⟩ => ⟨S24960x32, .f32⟩
  | .local _ .vmem, ⟨0, _⟩ => ⟨S480x14336, .fp8e4m3⟩
  | .local _ .vmem, ⟨1, _⟩ => ⟨S480x14336, .fp8e4m3⟩
  | .local _ .vmem, ⟨2, _⟩ => ⟨S1x1x480, .f32⟩
  | .local _ .vmem, ⟨3, _⟩ => ⟨S1x1x480, .f32⟩
  | .local _ .vmem, ⟨4, _⟩ => ⟨S14336x512, .fp8e4m3⟩
  | .local _ .vmem, ⟨5, _⟩ => ⟨S14336x512, .fp8e4m3⟩
  | .local _ .vmem, ⟨6, _⟩ => ⟨S1x512, .f32⟩
  | .local _ .vmem, ⟨7, _⟩ => ⟨S1x512, .f32⟩
  | .local _ .vmem, ⟨8, _⟩ => ⟨S1x1x480, .f32⟩
  | .local _ .vmem, ⟨9, _⟩ => ⟨S1x1x480, .f32⟩
  | .local _ .vmem, ⟨10, _⟩ => ⟨S480x512, .fp8e4m3⟩
  | .local _ .vmem, ⟨11, _⟩ => ⟨S480x512, .fp8e4m3⟩
  | .local _ .vmem, ⟨12, _⟩ => ⟨S480x32, .f32⟩
  | .local _ .vmem, ⟨13, _⟩ => ⟨S480x32, .f32⟩
  | .local _ .vmem, ⟨14, _⟩ => ⟨S480x4096, .f32⟩
  | .local _ .vmem, ⟨15, _⟩ => ⟨S480x128, .f32⟩
  | .local _ .vmem, ⟨16, _⟩ => ⟨S480x128, .f32⟩
  | .local _ .vmem, ⟨17, _⟩ => ⟨S480x128, .f32⟩
  | _, _ => ⟨S24960x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![53, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v10 : BitVec 32 := Scalar.muli arg1 c512_i32
  let c0_i32_5 : BitVec 32 := 0#32
  let v11 : BitVec 32 := Scalar.addi v10 c0_i32_5
  v11
def k0_off1 (i : grid0.Coords) (c0_i32_5 : BitVec 32) : Fin 2 → Nat :=
  let c0_6 : Index := 0#32
  let arg1 : BitVec 32 := BitVec.ofNat 32 (i 1).val
  let c512_i32 : BitVec 32 := 512#32
  let v10 : BitVec 32 := Scalar.muli arg1 c512_i32
  let v11 : BitVec 32 := Scalar.addi v10 c0_i32_5
  let v12 : BitVec 32 := v11
  let v13 : Index := Scalar.indexCast v12
  ![0, v13.toNat]
def k0_mult2 (i : grid0.Coords) : BitVec 32 :=
  let arg1 : BitVec 32 := BitVec.ofNat 32 (i 1).val
  let c512_i32_34 : BitVec 32 := 512#32
  let v93 : BitVec 32 := Scalar.muli arg1 c512_i32_34
  let c128_i32 : BitVec 32 := 128#32
  let v94 : BitVec 32 := Scalar.addi v93 c128_i32
  v94
def k0_mult3 (i : grid0.Coords) : BitVec 32 :=
  let arg1 : BitVec 32 := BitVec.ofNat 32 (i 1).val
  let c512_i32_63 : BitVec 32 := 512#32
  let v176 : BitVec 32 := Scalar.muli arg1 c512_i32_63
  let c256_i32 : BitVec 32 := 256#32
  let v177 : BitVec 32 := Scalar.addi v176 c256_i32
  v177
def k0_mult4 (i : grid0.Coords) : BitVec 32 :=
  let arg1 : BitVec 32 := BitVec.ofNat 32 (i 1).val
  let c512_i32_92 : BitVec 32 := 512#32
  let v259 : BitVec 32 := Scalar.muli arg1 c512_i32_92
  let c384_i32 : BitVec 32 := 384#32
  let v260 : BitVec 32 := Scalar.addi v259 c384_i32
  v260
def k0_cond2 (i : grid0.Coords) : BitVec 1 :=
  let arg0 : BitVec 32 := BitVec.ofNat 32 (i 0).val
  let c52_i32 : BitVec 32 := 52#32
  let v3 : BitVec 1 := Scalar.cmpi .slt arg0 c52_i32
  let v4 : BitVec 32 := Scalar.extui v3
  let c0_i32_1 : BitVec 32 := 0#32
  let v5 : BitVec 1 := Scalar.cmpi .ne v4 c0_i32_1
  v5

def k0_mult5 (i : grid0.Coords) : BitVec 32 :=
  let arg1 : BitVec 32 := BitVec.ofNat 32 (i 1).val
  let c512_i32 : BitVec 32 := 512#32
  let v14 : BitVec 32 := Scalar.muli arg1 c512_i32
  let c0_i32_11 : BitVec 32 := 0#32
  let v15 : BitVec 32 := Scalar.addi v14 c0_i32_11
  v15
def k0_off2 (i : grid0.Coords) (c0_i32_11 : BitVec 32) : Fin 2 → Nat :=
  let c0_14 : Index := 0#32
  let arg1 : BitVec 32 := BitVec.ofNat 32 (i 1).val
  let c512_i32 : BitVec 32 := 512#32
  let v14 : BitVec 32 := Scalar.muli arg1 c512_i32
  let v15 : BitVec 32 := Scalar.addi v14 c0_i32_11
  let v16 : BitVec 32 := v15
  let v23 : Index := Scalar.indexCast v16
  ![0, v23.toNat]
def k0_mult6 (i : grid0.Coords) : BitVec 32 :=
  let arg1 : BitVec 32 := BitVec.ofNat 32 (i 1).val
  let c512_i32_15 : BitVec 32 := 512#32
  let v29 : BitVec 32 := Scalar.muli arg1 c512_i32_15
  let c128_i32 : BitVec 32 := 128#32
  let v30 : BitVec 32 := Scalar.addi v29 c128_i32
  v30
def k0_mult7 (i : grid0.Coords) : BitVec 32 :=
  let arg1 : BitVec 32 := BitVec.ofNat 32 (i 1).val
  let c512_i32_18 : BitVec 32 := 512#32
  let v44 : BitVec 32 := Scalar.muli arg1 c512_i32_18
  let c256_i32 : BitVec 32 := 256#32
  let v45 : BitVec 32 := Scalar.addi v44 c256_i32
  v45
def k0_mult8 (i : grid0.Coords) : BitVec 32 :=
  let arg1 : BitVec 32 := BitVec.ofNat 32 (i 1).val
  let c512_i32_21 : BitVec 32 := 512#32
  let v59 : BitVec 32 := Scalar.muli arg1 c512_i32_21
  let c384_i32 : BitVec 32 := 384#32
  let v60 : BitVec 32 := Scalar.addi v59 c384_i32
  v60
def k0_cond4 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_26 : BitVec 32 := 0#32
  let v79 : BitVec 1 := Scalar.cmpi .ne v78 c0_i32_26
  v79

def cc0_transform_0 (i : grid0.Coords) : Fin 2 → Nat :=
  let arg0 : BitVec 32 := BitVec.ofNat 32 (i 0).val
  let arg1 : BitVec 32 := BitVec.ofNat 32 (i 1).val
  let c51_i32 : BitVec 32 := 51#32
  let v0 : BitVec 32 := Scalar.minsi arg0 c51_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c51_i32 : BitVec 32 := 51#32
  let v0 : BitVec 32 := Scalar.minsi arg0 c51_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c51_i32 : BitVec 32 := 51#32
  let v0 : BitVec 32 := Scalar.minsi arg0 c51_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S480x14336 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x480 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S480x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S480x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownReferenceIdeal.lean ====
abbrev S24960x14336 : Shape := ⟨2, ![24960, 14336]⟩
abbrev S52x1x480 : Shape := ⟨3, ![52, 1, 480]⟩
abbrev S14336x4096 : Shape := ⟨2, ![14336, 4096]⟩
abbrev S4096 : Shape := ⟨1, ![4096]⟩
abbrev S24960x1 : Shape := ⟨2, ![24960, 1]⟩
abbrev S1x4096 : Shape := ⟨2, ![1, 4096]⟩
abbrev S24960x4096 : Shape := ⟨2, ![24960, 4096]⟩
abbrev S24960x32 : Shape := ⟨2, ![24960, 32]⟩
abbrev S24960 : Shape := ⟨1, ![24960]⟩
abbrev S24960x32x128 : Shape := ⟨3, ![24960, 32, 128]⟩
abbrev S24960x32x1 : Shape := ⟨3, ![24960, 32, 1]⟩
abbrev S24960x32x254 : Shape := ⟨3, ![24960, 32, 254]⟩

abbrev nBuf : Space → Nat
  | .hbm => 9
  | .vmem => 7
  | .smem => 0
  | _ => 0

abbrev bufTy : (tb : Table) → Fin (tcTables nBuf tb) → BufTy
  | .hbm, ⟨0, _⟩ => ⟨S24960x14336, .fp8e4m3⟩
  | .hbm, ⟨1, _⟩ => ⟨S52x1x480, .f32⟩
  | .hbm, ⟨2, _⟩ => ⟨S14336x4096, .fp8e4m3⟩
  | .hbm, ⟨3, _⟩ => ⟨S4096, .f32⟩
  | .hbm, ⟨4, _⟩ => ⟨S24960x1, .f32⟩
  | .hbm, ⟨5, _⟩ => ⟨S1x4096, .f32⟩
  | .hbm, ⟨6, _⟩ => ⟨S52x1x480, .f32⟩
  | .hbm, ⟨7, _⟩ => ⟨S24960x4096, .fp8e4m3⟩
  | .hbm, ⟨8, _⟩ => ⟨S24960x32, .f32⟩
  | .local _ .vmem, ⟨0, _⟩ => ⟨S24960x14336, .fp8e4m3⟩
  | .local _ .vmem, ⟨1, _⟩ => ⟨S24960x1, .f32⟩
  | .local _ .vmem, ⟨2, _⟩ => ⟨S14336x4096, .fp8e4m3⟩
  | .local _ .vmem, ⟨3, _⟩ => ⟨S1x4096, .f32⟩
  | .local _ .vmem, ⟨4, _⟩ => ⟨S52x1x480, .f32⟩
  | .local _ .vmem, ⟨5, _⟩ => ⟨S24960x4096, .fp8e4m3⟩
  | .local _ .vmem, ⟨6, _⟩ => ⟨S24960x32, .f32⟩
  | _, _ => ⟨S24960x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24960x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24960x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S52x1x480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24960x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24960x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Final.lean ====
abbrev S320x4096 : Shape := ⟨2, ![320, 4096]⟩
abbrev S4096 : Shape := ⟨1, ![4096]⟩
abbrev S1x4096 : Shape := ⟨2, ![1, 4096]⟩
abbrev S1x320 : Shape := ⟨2, ![1, 320]⟩
abbrev S320 : Shape := ⟨1, ![320]⟩
abbrev S320x1 : Shape := ⟨2, ![320, 1]⟩
abbrev S320x128 : Shape := ⟨2, ![320, 128]⟩
abbrev S128x320 : Shape := ⟨2, ![128, 320]⟩

abbrev nBuf : Space → Nat
  | .hbm => 6
  | .vmem => 5
  | .smem => 0
  | _ => 0

abbrev bufTy : (tb : Table) → Fin (tcTables nBuf tb) → BufTy
  | .hbm, ⟨0, _⟩ => ⟨S320x4096, .f32⟩
  | .hbm, ⟨1, _⟩ => ⟨S4096, .f32⟩
  | .hbm, ⟨2, _⟩ => ⟨S1x4096, .f32⟩
  | .hbm, ⟨3, _⟩ => ⟨S320x4096, .bf16⟩
  | .hbm, ⟨4, _⟩ => ⟨S320x4096, .fp8e4m3⟩
  | .hbm, ⟨5, _⟩ => ⟨S1x320, .f32⟩
  | .local _ .vmem, ⟨0, _⟩ => ⟨S320x4096, .f32⟩
  | .local _ .vmem, ⟨1, _⟩ => ⟨S1x4096, .f32⟩
  | .local _ .vmem, ⟨2, _⟩ => ⟨S320x4096, .bf16⟩
  | .local _ .vmem, ⟨3, _⟩ => ⟨S320x4096, .fp8e4m3⟩
  | .local _ .vmem, ⟨4, _⟩ => ⟨S1x320, .f32⟩
  | _, _ => ⟨S320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S320x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== FinalReferenceIdeal.lean ====
abbrev S320x4096 : Shape := ⟨2, ![320, 4096]⟩
abbrev S4096 : Shape := ⟨1, ![4096]⟩
abbrev S1x4096 : Shape := ⟨2, ![1, 4096]⟩
abbrev S1x320 : Shape := ⟨2, ![1, 320]⟩
abbrev S320 : Shape := ⟨1, ![320]⟩
abbrev S320x1 : Shape := ⟨2, ![320, 1]⟩

abbrev nBuf : Space → Nat
  | .hbm => 6
  | .vmem => 5
  | .smem => 0
  | _ => 0

abbrev bufTy : (tb : Table) → Fin (tcTables nBuf tb) → BufTy
  | .hbm, ⟨0, _⟩ => ⟨S320x4096, .f32⟩
  | .hbm, ⟨1, _⟩ => ⟨S4096, .f32⟩
  | .hbm, ⟨2, _⟩ => ⟨S1x4096, .f32⟩
  | .hbm, ⟨3, _⟩ => ⟨S320x4096, .bf16⟩
  | .hbm, ⟨4, _⟩ => ⟨S320x4096, .fp8e4m3⟩
  | .hbm, ⟨5, _⟩ => ⟨S1x320, .f32⟩
  | .local _ .vmem, ⟨0, _⟩ => ⟨S320x4096, .f32⟩
  | .local _ .vmem, ⟨1, _⟩ => ⟨S1x4096, .f32⟩
  | .local _ .vmem, ⟨2, _⟩ => ⟨S320x4096, .bf16⟩
  | .local _ .vmem, ⟨3, _⟩ => ⟨S320x4096, .fp8e4m3⟩
  | .local _ .vmem, ⟨4, _⟩ => ⟨S1x320, .f32⟩
  | _, _ => ⟨S320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S320x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AttnOut.lean ====
abbrev S320x1536 : Shape := ⟨2, ![320, 1536]⟩
abbrev S64x4096 : Shape := ⟨2, ![64, 4096]⟩
abbrev S3x1536x4096 : Shape := ⟨3, ![3, 1536, 4096]⟩
abbrev S3x12x32 : Shape := ⟨3, ![3, 12, 32]⟩
abbrev S_ : Shape := ⟨0, ![]⟩
abbrev S320x12 : Shape := ⟨2, ![320, 12]⟩
abbrev S320x4096 : Shape := ⟨2, ![320, 4096]⟩
abbrev S64x512 : Shape := ⟨2, ![64, 512]⟩
abbrev S1x1536x512 : Shape := ⟨3, ![1, 1536, 512]⟩
abbrev S1x12x32 : Shape := ⟨3, ![1, 12, 32]⟩
abbrev S320x512 : Shape := ⟨2, ![320, 512]⟩
abbrev S1536x512 : Shape := ⟨2, ![1536, 512]⟩
abbrev S320x128 : Shape := ⟨2, ![320, 128]⟩
abbrev S320 : Shape := ⟨1, ![320]⟩
abbrev S320x1 : Shape := ⟨2, ![320, 1]⟩
abbrev S1x1x1 : Shape := ⟨3, ![1, 1, 1]⟩
abbrev S8x128 : Shape := ⟨2, ![8, 128]⟩
abbrev S16x128 : Shape := ⟨2, ![16, 128]⟩
abbrev S1x128x128 : Shape := ⟨3, ![1, 128, 128]⟩
abbrev S128x128 : Shape := ⟨2, ![128, 128]⟩
abbrev S8x16x128 : Shape := ⟨3, ![8, 16, 128]⟩
abbrev S1x16x128 : Shape := ⟨3, ![1, 16, 128]⟩

abbrev nBuf : Space → Nat
  | .hbm => 15
  | .vmem => 11
  | .smem => 1
  | _ => 0

abbrev bufTy : (tb : Table) → Fin (tcTables nBuf tb) → BufTy
  | .hbm, ⟨0, _⟩ => ⟨S320x1536, .f32⟩
  | .hbm, ⟨1, _⟩ => ⟨S64x4096, .f32⟩
  | .hbm, ⟨2, _⟩ => ⟨S3x1536x4096, .fp8e4m3⟩
  | .hbm, ⟨3, _⟩ => ⟨S3x12x32, .i16⟩
  | .hbm, ⟨4, _⟩ => ⟨S3x12x32, .i32⟩
  | .hbm, ⟨5, _⟩ => ⟨S_, .i32⟩
  | .hbm, ⟨6, _⟩ => ⟨S3x12x32, .i32⟩
  | .hbm, ⟨7, _⟩ => ⟨S3x12x32, .i32⟩
  | .hbm, ⟨8, _⟩ => ⟨S_, .i32⟩
  | .hbm, ⟨9, _⟩ => ⟨S3x12x32, .i32⟩
  | .hbm, ⟨10, _⟩ => ⟨S3x12x32, .i32⟩
  | .hbm, ⟨11, _⟩ => ⟨S3x12x32, .i32⟩
  | .hbm, ⟨12, _⟩ => ⟨S320x1536, .fp8e4m3⟩
  | .hbm, ⟨13, _⟩ => ⟨S320x12, .f32⟩
  | .hbm, ⟨14, _⟩ => ⟨S320x4096, .f32⟩
  | .local _ .vmem, ⟨0, _⟩ => ⟨S320x1536, .f32⟩
  | .local _ .vmem, ⟨1, _⟩ => ⟨S64x512, .f32⟩
  | .local _ .vmem, ⟨2, _⟩ => ⟨S64x512, .f32⟩
  | .local _ .vmem, ⟨3, _⟩ => ⟨S1x1536x512, .fp8e4m3⟩
  | .local _ .vmem, ⟨4, _⟩ => ⟨S1x1536x512, .fp8e4m3⟩
  | .local _ .vmem, ⟨5, _⟩ => ⟨S320x1536, .fp8e4m3⟩
  | .local _ .vmem, ⟨6, _⟩ => ⟨S320x12, .f32⟩
  | .local _ .vmem, ⟨7, _⟩ => ⟨S320x512, .f32⟩
  | .local _ .vmem, ⟨8, _⟩ => ⟨S320x512, .f32⟩
  | .local _ .vmem, ⟨9, _⟩ => ⟨S320x1536, .bf16⟩
  | .local _ .vmem, ⟨10, _⟩ => ⟨S1536x512, .bf16⟩
  | .local _ .smem, ⟨0, _⟩ => ⟨S1x12x32, .i32⟩
  | _, _ => ⟨S320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) : Fin 3 → Nat :=
  let c0 : Index := 0#32
  let c0_2 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  ![0, 0, v5.toNat]
def k0_off2 (i : grid0.Coords) (c0_i32_26 : BitVec 32) : Fin 3 → Nat :=
  let c0_27 : Index := 0#32
  let c1 : Index := 1#32
  let arg0 : BitVec 32 := BitVec.ofNat 32 (i 0).val
  let c4_i32 : BitVec 32 := 4#32
  let v3 : BitVec 32 := Scalar.muli arg0 c4_i32
  let v68 : BitVec 32 := Scalar.addi v3 c0_i32_26
  let v69 : Index := Scalar.indexCast v68
  ![0, 1, v69.toNat]
def k0_off3 (i : grid0.Coords) (c0_i32_57 : BitVec 32) : Fin 3 → Nat :=
  let c0_58 : Index := 0#32
  let c2 : Index := 2#32
  let arg0 : BitVec 32 := BitVec.ofNat 32 (i 0).val
  let c4_i32 : BitVec 32 := 4#32
  let v3 : BitVec 32 := Scalar.muli arg0 c4_i32
  let v132 : BitVec 32 := Scalar.addi v3 c0_i32_57
  let v133 : Index := Scalar.indexCast v132
  ![0, 2, v133.toNat]
def k0_off4 (i : grid0.Coords) (c0_i32_88 : BitVec 32) : Fin 3 → Nat :=
  let c0_89 : Index := 0#32
  let c3 : Index := 3#32
  let arg0 : BitVec 32 := BitVec.ofNat 32 (i 0).val
  let c4_i32 : BitVec 32 := 4#32
  let v3 : BitVec 32 := Scalar.muli arg0 c4_i32
  let v196 : BitVec 32 := Scalar.addi v3 c0_i32_88
  let v197 : Index := Scalar.indexCast v196
  ![0, 3, v197.toNat]
def k0_off5 (i : grid0.Coords) (c0_i32_119 : BitVec 32) : Fin 3 → Nat :=
  let c0_120 : Index := 0#32
  let c4 : Index := 4#32
  let arg0 : BitVec 32 := BitVec.ofNat 32 (i 0).val
  let c4_i32 : BitVec 32 := 4#32
  let v3 : BitVec 32 := Scalar.muli arg0 c4_i32
  let v260 : BitVec 32 := Scalar.addi v3 c0_i32_119
  let v261 : Index := Scalar.indexCast v260
  ![0, 4, v261.toNat]
def k0_off6 (i : grid0.Coords) (c0_i32_149 : BitVec 32) : Fin 3 → Nat :=
  let c0_150 : Index := 0#32
  let c5 : Index := 5#32
  let arg0 : BitVec 32 := BitVec.ofNat 32 (i 0).val
  let c4_i32 : BitVec 32 := 4#32
  let v3 : BitVec 32 := Scalar.muli arg0 c4_i32
  let v324 : BitVec 32 := Scalar.addi v3 c0_i32_149
  let v325 : Index := Scalar.indexCast v324
  ![0, 5, v325.toNat]
def k0_off7 (i : grid0.Coords) (c0_i32_179 : BitVec 32) : Fin 3 → Nat :=
  let c0_180 : Index := 0#32
  let c6 : Index := 6#32
  let arg0 : BitVec 32 := BitVec.ofNat 32 (i 0).val
  let c4_i32 : BitVec 32 := 4#32
  let v3 : BitVec 32 := Scalar.muli arg0 c4_i32
  let v388 : BitVec 32 := Scalar.addi v3 c0_i32_179
  let v389 : Index := Scalar.indexCast v388
  ![0, 6, v389.toNat]
def k0_off8 (i : grid0.Coords) (c0_i32_209 : BitVec 32) : Fin 3 → Nat :=
  let c0_210 : Index := 0#32
  let c7 : Index := 7#32
  let arg0 : BitVec 32 := BitVec.ofNat 32 (i 0).val
  let c4_i32 : BitVec 32 := 4#32
  let v3 : BitVec 32 := Scalar.muli arg0 c4_i32
  let v452 : BitVec 32 := Scalar.addi v3 c0_i32_209
  let v453 : Index := Scalar.indexCast v452
  ![0, 7, v453.toNat]
def k0_off9 (i : grid0.Coords) (c0_i32_239 : BitVec 32) : Fin 3 → Nat :=
  let c0_240 : Index := 0#32
  let c8 : Index := 8#32
  let arg0 : BitVec 32 := BitVec.ofNat 32 (i 0).val
  let c4_i32 : BitVec 32 := 4#32
  let v3 : BitVec 32 := Scalar.muli arg0 c4_i32
  let v516 : BitVec 32 := Scalar.addi v3 c0_i32_239
  let v517 : Index := Scalar.indexCast v516
  ![0, 8, v517.toNat]
def k0_off10 (i : grid0.Coords) (c0_i32_269 : BitVec 32) : Fin 3 → Nat :=
  let c0_270 : Index := 0#32
  let c9 : Index := 9#32
  let arg0 : BitVec 32 := BitVec.ofNat 32 (i 0).val
  let c4_i32 : BitVec 32 := 4#32
  let v3 : BitVec 32 := Scalar.muli arg0 c4_i32
  let v580 : BitVec 32 := Scalar.addi v3 c0_i32_269
  let v581 : Index := Scalar.indexCast v580
  ![0, 9, v581.toNat]
def k0_off11 (i : grid0.Coords) (c0_i32_299 : BitVec 32) : Fin 3 → Nat :=
  let c0_300 : Index := 0#32
  let c10 : Index := 10#32
  let arg0 : BitVec 32 := BitVec.ofNat 32 (i 0).val
  let c4_i32 : BitVec 32 := 4#32
  let v3 : BitVec 32 := Scalar.muli arg0 c4_i32
  let v644 : BitVec 32 := Scalar.addi v3 c0_i32_299
  let v645 : Index := Scalar.indexCast v644
  ![0, 10, v645.toNat]
def k0_off12 (i : grid0.Coords) (c0_i32_329 : BitVec 32) : Fin 3 → Nat :=
  let c0_330 : Index := 0#32
  let c11 : Index := 11#32
  let arg0 : BitVec 32 := BitVec.ofNat 32 (i 0).val
  let c4_i32 : BitVec 32 := 4#32
  let v3 : BitVec 32 := Scalar.muli arg0 c4_i32
  let v708 : BitVec 32 := Scalar.addi v3 c0_i32_329
  let v709 : Index := Scalar.indexCast v708
  ![0, 11, v709.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S320x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x12x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnOutReferenceIdeal.lean ====
abbrev S320x1536 : Shape := ⟨2, ![320, 1536]⟩
abbrev S64x4096 : Shape := ⟨2, ![64, 4096]⟩
abbrev S3x1536x4096 : Shape := ⟨3, ![3, 1536, 4096]⟩
abbrev S3x12x32 : Shape := ⟨3, ![3, 12, 32]⟩
abbrev S320x12 : Shape := ⟨2, ![320, 12]⟩
abbrev S320x4096 : Shape := ⟨2, ![320, 4096]⟩
abbrev S320x12x128 : Shape := ⟨3, ![320, 12, 128]⟩
abbrev S320x12x1 : Shape := ⟨3, ![320, 12, 1]⟩
abbrev S320x12x254 : Shape := ⟨3, ![320, 12, 254]⟩
abbrev S1x12x32 : Shape := ⟨3, ![1, 12, 32]⟩
abbrev S12x32 : Shape := ⟨2, ![12, 32]⟩
abbrev S12x1x32x1 : Shape := ⟨4, ![12, 1, 32, 1]⟩
abbrev S12x128x32x128 : Shape := ⟨4, ![12, 128, 32, 128]⟩
abbrev S1536x4096 : Shape := ⟨2, ![1536, 4096]⟩
abbrev S1x1536x4096 : Shape := ⟨3, ![1, 1536, 4096]⟩
abbrev S5x64x4096 : Shape := ⟨3, ![5, 64, 4096]⟩
abbrev S1x64x4096 : Shape := ⟨3, ![1, 64, 4096]⟩

abbrev nBuf : Space → Nat
  | .hbm => 7
  | .vmem => 7
  | .smem => 0
  | _ => 0

abbrev bufTy : (tb : Table) → Fin (tcTables nBuf tb) → BufTy
  | .hbm, ⟨0, _⟩ => ⟨S320x1536, .f32⟩
  | .hbm, ⟨1, _⟩ => ⟨S64x4096, .f32⟩
  | .hbm, ⟨2, _⟩ => ⟨S3x1536x4096, .fp8e4m3⟩
  | .hbm, ⟨3, _⟩ => ⟨S3x12x32, .i16⟩
  | .hbm, ⟨4, _⟩ => ⟨S320x1536, .fp8e4m3⟩
  | .hbm, ⟨5, _⟩ => ⟨S320x12, .f32⟩
  | .hbm, ⟨6, _⟩ => ⟨S320x4096, .f32⟩
  | .local _ .vmem, ⟨0, _⟩ => ⟨S320x1536, .f32⟩
  | .local _ .vmem, ⟨1, _⟩ => ⟨S64x4096, .f32⟩
  | .local _ .vmem, ⟨2, _⟩ => ⟨S3x1536x4096, .fp8e4m3⟩
  | .local _ .vmem, ⟨3, _⟩ => ⟨S3x12x32, .i16⟩
  | .local _ .vmem, ⟨4, _⟩ => ⟨S320x1536, .fp8e4m3⟩
  | .local _ .vmem, ⟨5, _⟩ => ⟨S320x12, .f32⟩
  | .local _ .vmem, ⟨6, _⟩ => ⟨S320x4096, .f32⟩
  | _, _ => ⟨S320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S320x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1536x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x12x32 .i16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S320x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.UpBase.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body runs share: the branch conditions over the grid points, the buffers, the invariant's scratch -/

/-- The body writes out codes of the previous row tile (row tile above zero). -/
abbrev condOld (i : grid0.Coords) : Prop := k0_cond1 i = 1#1
/-- The body computes a block of the current row tile (row tile below the number of tiles). -/
abbrev condNew (i : grid0.Coords) : Prop := k0_cond2 i = 1#1
/-- The first column tile. -/
abbrev condFirst (i : grid0.Coords) : Prop := k0_cond3 i = 1#1
/-- The last column tile. -/
abbrev condLast (i : grid0.Coords) : Prop := k0_cond4 i = 1#1

theorem condOld_iff : ∀ t : Fin cfg0.N, condOld (grid0.coords t) ↔ 14 ≤ t.val :=
  (by decide +kernel : ∀ t : Fin grid0.N, condOld (grid0.coords t) ↔ 14 ≤ t.val)
theorem condNew_iff : ∀ t : Fin cfg0.N, condNew (grid0.coords t) ↔ t.val < 910 :=
  (by decide +kernel : ∀ t : Fin grid0.N, condNew (grid0.coords t) ↔ t.val < 910)

/-- The grid coordinates of a point: row tile and column tile. -/
theorem coords0 (t : Fin cfg0.N) : (grid0.coords t 0).val = t.val / 14 := by
  have ht : t.val < 924 := Nat.lt_of_lt_of_eq t.isLt N_0
  have e0 : (grid0.coords t 0).val = t.val / 14 % 66 := Pipeline.Grid.coords_val t 0 (by decide) rfl
  omega
theorem coords1 (t : Fin cfg0.N) : (grid0.coords t 1).val = t.val % 14 := by
  have e1 : (grid0.coords t 1).val = t.val / 1 % 14 := Pipeline.Grid.coords_val t 1 (by decide) rfl
  omega

theorem condFirst_iff : ∀ t : Fin cfg0.N, condFirst (grid0.coords t) ↔ t.val % 14 = 0 :=
  (fun t => by
    have ht : t.val < 924 := Nat.lt_of_lt_of_eq t.isLt N_0
    have e1 : (grid0.coords t 1).val = t.val / 1 % 14 := Pipeline.Grid.coords_val t 1 (by decide) rfl
    simp only [condFirst, k0_cond3, e1]
    word_cmp
   : ∀ t : Fin grid0.N, condFirst (grid0.coords t) ↔ t.val % 14 = 0)
theorem condLast_iff : ∀ t : Fin cfg0.N, condLast (grid0.coords t) ↔ t.val % 14 = 13 :=
  (fun t => by
    have ht : t.val < 924 := Nat.lt_of_lt_of_eq t.isLt N_0
    have e1 : (grid0.coords t 1).val = t.val / 1 % 14 := Pipeline.Grid.coords_val t 1 (by decide) rfl
    simp only [condLast, k0_cond4, e1]
    word_cmp
   : ∀ t : Fin grid0.N, condLast (grid0.coords t) ↔ t.val % 14 = 13)

/-- The scratch buffers: the row tile's gated product, its input codes, its input scale, the running maximum, the
reciprocal of the last row scale. -/
abbrev scM0 : Memref sig .tc .vmem S384x14336 .f32 := Memref.whole cc0_scratch0
abbrev scM1 : Memref sig .tc .vmem S384x1152 .fp8e4m3 := Memref.whole cc0_scratch1
abbrev scM2 : Memref sig .tc .vmem S384x128 .f32 := Memref.whole cc0_scratch2
abbrev scM3 : Memref sig .tc .vmem S384x128 .f32 := Memref.whole cc0_scratch3
abbrev scM4 : Memref sig .tc .vmem S384x128 .f32 := Memref.whole cc0_scratch4

/-- What the launch hands the region beside the windows: the five scratch buffers at some contents and the generator
register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

/-- Two puts of equal payloads over equal contents are equal. -/
theorem put_congr {α : Type} {s : Shape} {x x' : s.Idx → α} {off size : Fin s.rank → ℕ} {w w' : ((a : Fin s.rank) → Fin (size a)) → α}
    (hx : x = x') (hw : w = w') : VecWindow.put x off size w = VecWindow.put x' off size w' := by
  subst hx; subst hw; rfl

end Cert.KernelIdeal.Up

end
-- ==== Proof.UpCodes.lean ====
module

public import proofs.«01_k».proof.Proof.UpBase

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's first region: the codes of the previous row tile's block -/

/-- The codes of eight column groups, each the scratch product times the stored reciprocal, clipped. -/
noncomputable def codesProg (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (arg1 : BitVec 32) (k0_h1 : condOld i) :
    Prog (TpuEff nD τ sig (Elt F) Λ₀ .tc) PUnit := do
  let ⟨v8, v43⟩ : Σ' (v8 : Vec F S384x128 .f32), FVec F S384x128 .fp8e4m3 ← k0_part1 i arg2 harg2 arg3 harg3 arg4 harg4 arg5 harg5 arg6 harg6 arg7 harg7 arg8 harg8 arg9 harg9 arg10 harg10 arg11 harg11 arg12 harg12 arg13 harg13 arg14 harg14 arg15 harg15 arg1 k0_h1
  let v79 : FVec F S384x128 .fp8e4m3 ← k0_part2 i arg2 harg2 arg3 harg3 arg4 harg4 arg5 harg5 arg6 harg6 arg7 harg7 arg8 harg8 arg9 harg9 arg10 harg10 arg11 harg11 arg12 harg12 arg13 harg13 arg14 harg14 arg15 harg15 arg1 k0_h1 v8 v43
  let v80 : Vec F S384x128 .fp8e4m3 ← Prog.lift (.load arg9 (Rect.unit (s := S384x1024) ![0, 640] S384x128.size inb_S384x1024_S384x128_0_640).toLoadRect (View.loadsAt_vmem h_S384x128))
  Prog.lift (.store arg9 (Rect.unit (s := S384x1024) ![0, 640] S384x128.size inb_S384x1024_S384x128_0_640) v79 Finset.univ (View.stores_vmem h_S384x128 (harg9.storeExact_slice rfl _ packedfp8e4m3_S384x1024_S384x128_0_640) (fun _ => rfl)) (.inl rfl))
  let v85 : Vec F S384x128 .f32 ← Prog.lift (.load arg11 (Rect.unit (s := S384x14336) (k0_off1 i 768#32) S384x128.size (k0_off1_inb i k0_h1 6)).toLoadRect (View.loadsAt_vmem h_S384x128))
  let v92 : Vec F S384x128 .fp8e4m3 ← Prog.lift (.load arg9 (Rect.unit (s := S384x1024) ![0, 768] S384x128.size inb_S384x1024_S384x128_0_768).toLoadRect (View.loadsAt_vmem h_S384x128))
  Prog.lift (.store arg9 (Rect.unit (s := S384x1024) ![0, 768] S384x128.size inb_S384x1024_S384x128_0_768) (k0_pay1 v8 v85) Finset.univ (View.stores_vmem h_S384x128 (harg9.storeExact_slice rfl _ packedfp8e4m3_S384x1024_S384x128_0_768) (fun _ => rfl)) (.inl rfl))
  let v97 : Vec F S384x128 .f32 ← Prog.lift (.load arg11 (Rect.unit (s := S384x14336) (k0_off1 i 896#32) S384x128.size (k0_off1_inb i k0_h1 7)).toLoadRect (View.loadsAt_vmem h_S384x128))
  let v104 : Vec F S384x128 .fp8e4m3 ← Prog.lift (.load arg9 (Rect.unit (s := S384x1024) ![0, 896] S384x128.size inb_S384x1024_S384x128_0_896).toLoadRect (View.loadsAt_vmem h_S384x128))
  Prog.lift (.store arg9 (Rect.unit (s := S384x1024) ![0, 896] S384x128.size inb_S384x1024_S384x128_0_896) (k0_pay2 v8 v97) Finset.univ (View.stores_vmem h_S384x128 (harg9.storeExact_slice rfl _ packedfp8e4m3_S384x1024_S384x128_0_896) (fun _ => rfl)) (.inl rfl))
  pure ⟨⟩

/-- The printed body: the codes region, then the region of the current row tile. -/
theorem body_eq (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) :
    cc0_proj_up (F := F) i arg2 harg2 arg3 harg3 arg4 harg4 arg5 harg5 arg6 harg6 arg7 harg7 arg8 harg8 arg9 harg9 arg10 harg10 arg11 harg11 arg12 harg12 arg13 harg13 arg14 harg14 arg15 harg15 = (do
      if h : condOld i then codesProg i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) h else pure ⟨⟩
      if h : condNew i then do
        k0_part8 i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (Scalar.muli (BitVec.ofNat 32 (i 1).val) 1024#32) h
        pure ⟨⟩
      else pure ⟨⟩
      pure ⟨⟩) := rfl

/-- One group's codes: product times reciprocal, clipped to the format's range, cast. -/
noncomputable def codesOf (inv h : Vec F S384x128 .f32) : Vec F S384x128 .fp8e4m3 := k0_pay3 inv h

/-- A group's columns of the scratch product. -/
abbrev hCols (xh : Vec F S384x14336 .f32) (i : grid0.Coords) (h : condOld i) (g : Fin 8) : Vec F S384x128 .f32 :=
  VecWindow.window xh (k0_off1 i (BitVec.ofNat 32 (128 * g.val))) S384x128.size (k0_off1_inb i h g)

/-- The block of codes after the eight stores, over what the buffer held. -/
noncomputable def codesBlock (i : grid0.Coords) (h : condOld i) (xh : Vec F S384x14336 .f32) (xi : Vec F S384x128 .f32)
    (y7 : Vec F S384x1024 .fp8e4m3) : Vec F S384x1024 .fp8e4m3 :=
  VecWindow.put (VecWindow.put (VecWindow.put (VecWindow.put (VecWindow.put (VecWindow.put (VecWindow.put (VecWindow.put (y7) ![0, 0] S384x128.size (codesOf xi (hCols xh i h 0))) ![0, 128] S384x128.size (codesOf xi (hCols xh i h 1))) ![0, 256] S384x128.size (codesOf xi (hCols xh i h 2))) ![0, 384] S384x128.size (codesOf xi (hCols xh i h 3))) ![0, 512] S384x128.size (codesOf xi (hCols xh i h 4))) ![0, 640] S384x128.size (codesOf xi (hCols xh i h 5))) ![0, 768] S384x128.size (codesOf xi (hCols xh i h 6))) ![0, 896] S384x128.size (codesOf xi (hCols xh i h 7))

set_option maxHeartbeats 1000000 in
theorem codes_run (c : Dev nD) (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (h1 : condOld i) (arg1 : BitVec 32)
    (xh : Vec F S384x14336 .f32) (xi : Vec F S384x128 .f32) (y7 : Vec F S384x1024 .fp8e4m3) (E : Set ℕ) (K : PUnit → sProp 𝕄) :
    iprop(owns (c : Thread nD τ) arg9 fullShare y7 ∗ owns (c : Thread nD τ) arg11 fullShare xh ∗ owns (c : Thread nD τ) arg15 fullShare xi
        ∗ (iprop(owns (c : Thread nD τ) arg9 fullShare (codesBlock i h1 xh xi y7) ∗ owns (c : Thread nD τ) arg11 fullShare xh ∗ owns (c : Thread nD τ) arg15 fullShare xi) -∗ K ⟨⟩))
      ⊢ wp frame (wpE (defs₀ (F := F)) Variants.none c none) E (codesProg i arg2 harg2 arg3 harg3 arg4 harg4 arg5 harg5 arg6 harg6 arg7 harg7 arg8 harg8 arg9 harg9 arg10 harg10 arg11 harg11 arg12 harg12 arg13 harg13 arg14 harg14 arg15 harg15 arg1 h1) K := by
  unfold codesProg
  simp only [k0_part1_eq_skeleton, k0_part2_eq_skeleton]
  unfold owns
  iintro ⟨⟨%f7, %hf7, H7⟩, ⟨%fs0, %hfs0, HS0⟩, ⟨%fs4, %hfs4, HS4⟩, Hk⟩
  obtain rfl := harg9.eq_unread hf7; obtain rfl := harg11.eq_unread hfs0; obtain rfl := harg15.eq_unread hfs4
  sl_exec (disch := sl_exact h1)
  sl_step
  iapply Hk
  isplitl [H7]
  · iexists _; isplitr; swap; · iexact H7
    ipureintro
    have hi : View.readAt (Elt F) arg15.view (Rect.unit (s := S384x128) ![0, 0] S384x128.size inb_S384x128_S384x128_0_0).toLoadRect (harg15.unread xi) = xi := by
      rw [View.readAt_full, hfs4]
    have hh : ∀ g : Fin 8, View.readAt (Elt F) arg11.view (Rect.unit (s := S384x14336) (k0_off1 i (BitVec.ofNat 32 (128 * g.val))) S384x128.size (k0_off1_inb i h1 g)).toLoadRect (harg11.unread xh) = hCols xh i h1 g := fun g => by
      rw [View.readAt_unit _ _ _ rfl (k0_off1_inb i h1 g), hfs0]
    repeat rw [View.read_writes_cons_put _ _ _ _ _ rfl]
    rw [View.writes_nil, hf7]
    unfold codesBlock codes_run.sl.r_1 codes_run.sl.r_2 codes_run.sl.r
    refine put_congr (put_congr (put_congr (put_congr (put_congr (put_congr (put_congr (put_congr rfl ?_) ?_) ?_) ?_) ?_) ?_) ?_) ?_
    · exact congrArg₂ codesOf hi (hh 0)
    · exact congrArg₂ codesOf hi (hh 1)
    · exact congrArg₂ codesOf hi (hh 2)
    · exact congrArg₂ codesOf hi (hh 3)
    · exact congrArg₂ codesOf hi (hh 4)
    · exact congrArg₂ codesOf hi (hh 5)
    · exact congrArg₂ codesOf hi (hh 6)
    · exact congrArg₂ codesOf hi (hh 7)
  isplitl [HS0]
  · iexists _; isplitr; · ipureintro; exact harg11.read_unread _
    iexact HS0
  iexists _; isplitr; · ipureintro; exact harg15.read_unread _
  iexact HS4

end Cert.KernelIdeal.Up

end
-- ==== Proof.UpTile.lean ====
module

public import proofs.«01_k».proof.Proof.UpCodes

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's second region: one column block of the current row tile -/

/-- At the first column tile: the input tile's codes and scale, and the running maximum reset. -/
noncomputable def firstProg (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) :
    Prog (TpuEff nD τ sig (Elt F) Λ₀ .tc) PUnit := do
  let ⟨v269, v270⟩ : Σ' (v269 : FVec F S384x128 .f32), Vec F S384x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15
  Prog.lift (.store arg14 (Rect.unit (s := S384x128) ![0, 0] S384x128.size inb_S384x128_S384x128_0_0) (k0_pay16 v269) Finset.univ (View.stores_vmem_bits_univ h_S384x128 rfl) (.inl rfl))
  pure ⟨⟩

/-- The two products, and the first group of columns. -/
noncomputable def dotProg (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (arg1 : BitVec 32) (v1 : BitVec 32) (k0_h2 : condNew i) :
    Prog (TpuEff nD τ sig (Elt F) Λ₀ .tc) (Σ' (v14 : FVec F S384x1024 .f32) (v18 : FVec F S384x1024 .f32) (v19 : Vec F S384x128 .f32), FVec F S384x128 .f32) := do
  let v11 : Vec F S384x1152 .fp8e4m3 ← Prog.lift (.load arg12 (Rect.unit (s := S384x1152) ![0, 0] S384x1152.size inb_S384x1152_S384x1152_0_0).toLoadRect (View.loadsAt_vmem h_S384x1152))
  let v13 : Vec F S1152x1024 .fp8e4m3 ← Prog.lift (.load arg3 (Rect.unit (s := S1152x14336) (k0_off2 i) S1152x1024.size (k0_off2_inb i k0_h2)).toLoadRect (View.loadsAt_vmem h_S1152x1024))
  let v15 : Vec F S384x1152 .fp8e4m3 ← Prog.lift (.load arg12 (Rect.unit (s := S384x1152) ![0, 0] S384x1152.size inb_S384x1152_S384x1152_0_0).toLoadRect (View.loadsAt_vmem h_S384x1152))
  let v17 : Vec F S1152x1024 .fp8e4m3 ← Prog.lift (.load arg4 (Rect.unit (s := S1152x14336) (k0_off2 i) S1152x1024.size (k0_off2_inb i k0_h2)).toLoadRect (View.loadsAt_vmem h_S1152x1024))
  let v19 : Vec F S384x128 .f32 ← Prog.lift (.load arg13 (Rect.unit (s := S384x128) ![0, 0] S384x128.size inb_S384x128_S384x128_0_0).toLoadRect (View.loadsAt_vmem h_S384x128))
  let v20 : Vec F S384x128 .f32 ← Prog.lift (.load arg14 (Rect.unit (s := S384x128) ![0, 0] S384x128.size inb_S384x128_S384x128_0_0).toLoadRect (View.loadsAt_vmem h_S384x128))
  let v27 : Vec F S1x128 .f32 ← Prog.lift (.load arg5 (Rect.unit (s := S1x14336) (k0_off3 i 0#32) S1x128.size (k0_off3_inb i k0_h2 0)).toLoadRect (View.loadsAt_vmem h_S1x128))
  let v34 : Vec F S1x128 .f32 ← Prog.lift (.load arg6 (Rect.unit (s := S1x14336) (k0_off3 i 0#32) S1x128.size (k0_off3_inb i k0_h2 0)).toLoadRect (View.loadsAt_vmem h_S1x128))
  let v42 : Vec F S384x128 .f32 ← Prog.lift (.load arg11 (Rect.unit (s := S384x14336) (k0_off4 i 0#32) S384x128.size (k0_off4_inb i k0_h2 0)).toLoadRect (View.loadsAt_vmem h_S384x128))
  Prog.lift (.store arg11 (Rect.unit (s := S384x14336) (k0_off4 i 0#32) S384x128.size (k0_off4_inb i k0_h2 0)) (k0_pay20 v11 v13 v15 v17 v19 v27 v34) Finset.univ (View.stores_vmem_bits_univ h_S384x128 rfl) (.inl rfl))
  pure ⟨k0_pay17 v11 v13, k0_pay18 v15 v17, v19, k0_pay21 v11 v13 v15 v17 v19 v20 v27 v34⟩

/-- The column block: products, eight groups stored, the running maximum, and at the last block the row scales. -/
noncomputable def tileProg (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (arg1 : BitVec 32) (v1 : BitVec 32) (k0_h2 : condNew i) :
    Prog (TpuEff nD τ sig (Elt F) Λ₀ .tc) PUnit := do
  let ⟨v14, v18, v19, v46⟩ : Σ' (v14 : FVec F S384x1024 .f32) (v18 : FVec F S384x1024 .f32) (v19 : Vec F S384x128 .f32), FVec F S384x128 .f32 ← dotProg i arg2 harg2 arg3 harg3 arg4 harg4 arg5 harg5 arg6 harg6 arg7 harg7 arg8 harg8 arg9 harg9 arg10 harg10 arg11 harg11 arg12 harg12 arg13 harg13 arg14 harg14 arg15 harg15 arg1 v1 k0_h2
  let ⟨v72, v92⟩ : Σ' (v72 : FVec F S384x128 .f32), FVec F S384x128 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg1 k0_h2 v14 v18 v19 v46
  let ⟨v124, v127, v144⟩ : Σ' (v124 : FVec F S384x128 .f32) (v127 : BitVec 32), FVec F S384x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg1 k0_h2 v14 v18 v19 v72 v92
  let ⟨v176, v179, v186, v188, v192⟩ : Σ' (v176 : FVec F S384x128 .f32) (v179 : BitVec 32) (v186 : FVec F S384x128 .f32) (v188 : FVec F S384x128 .f32), FVec F S384x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg1 k0_h2 v14 v18 v19 v124 v127 v144
  let v198 : Vec F S384x128 .f32 ← Prog.lift (.load arg11 (Rect.unit (s := S384x14336) (k0_off4 i 768#32) S384x128.size (k0_off4_inb i k0_h2 6)).toLoadRect (View.loadsAt_vmem h_S384x128))
  Prog.lift (.store arg11 (Rect.unit (s := S384x14336) (k0_off4 i 768#32) S384x128.size (k0_off4_inb i k0_h2 6)) (k0_pay39 v186 v188 v192) Finset.univ (View.stores_vmem_bits_univ h_S384x128 rfl) (.inl rfl))
  let v209 : Vec F S1x128 .f32 ← Prog.lift (.load arg5 (Rect.unit (s := S1x14336) (k0_off3 i 896#32) S1x128.size (k0_off3_inb i k0_h2 7)).toLoadRect (View.loadsAt_vmem h_S1x128))
  let v216 : Vec F S1x128 .f32 ← Prog.lift (.load arg6 (Rect.unit (s := S1x14336) (k0_off3 i 896#32) S1x128.size (k0_off3_inb i k0_h2 7)).toLoadRect (View.loadsAt_vmem h_S1x128))
  let v224 : Vec F S384x128 .f32 ← Prog.lift (.load arg11 (Rect.unit (s := S384x14336) (k0_off4 i 896#32) S384x128.size (k0_off4_inb i k0_h2 7)).toLoadRect (View.loadsAt_vmem h_S384x128))
  Prog.lift (.store arg11 (Rect.unit (s := S384x14336) (k0_off4 i 896#32) S384x128.size (k0_off4_inb i k0_h2 7)) (k0_pay41 v14 v18 v19 v209 v216) Finset.univ (View.stores_vmem_bits_univ h_S384x128 rfl) (.inl rfl))
  let v229 : Vec F S384x128 .f32 ← Prog.lift (.load arg14 (Rect.unit (s := S384x128) ![0, 0] S384x128.size inb_S384x128_S384x128_0_0).toLoadRect (View.loadsAt_vmem h_S384x128))
  Prog.lift (.store arg14 (Rect.unit (s := S384x128) ![0, 0] S384x128.size inb_S384x128_S384x128_0_0) (k0_pay43 v14 v18 v19 v176 v186 v188 v192 v209 v216) Finset.univ (View.stores_vmem_bits_univ h_S384x128 rfl) (.inl rfl))
  if k0_h4 : k0_cond4 i = 1#1 then do
    let v247 : Vec F S1x1x384 .f32 ← Prog.lift (.load arg10 (Rect.unit (s := S1x1x384) ![0, 0, 0] S1x1x384.size inb_S1x1x384_S1x1x384_0_0_0).toLoadRect (View.loadsAt_vmem h_S1x1x384))
    Prog.lift (.store arg10 (Rect.unit (s := S1x1x384) ![0, 0, 0] S1x1x384.size inb_S1x1x384_S1x1x384_0_0_0) (k0_pay45 v14 v18 v19 v176 v186 v188 v192 v209 v216) Finset.univ (View.stores_vmem_bits_univ h_S1x1x384 rfl) (.inl rfl))
    let v254 : Vec F S384x128 .f32 ← Prog.lift (.load arg15 (Rect.unit (s := S384x128) ![0, 0] S384x128.size inb_S384x128_S384x128_0_0).toLoadRect (View.loadsAt_vmem h_S384x128))
    Prog.lift (.store arg15 (Rect.unit (s := S384x128) ![0, 0] S384x128.size inb_S384x128_S384x128_0_0) (k0_pay46 v14 v18 v19 v176 v186 v188 v192 v209 v216) Finset.univ (View.stores_vmem_bits_univ h_S384x128 rfl) (.inl rfl))
    pure ⟨⟩
  else do
    pure ⟨⟩
  pure ⟨⟩

theorem part8_eq (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (arg1 : BitVec 32) (v1 : BitVec 32) (k0_h2 : condNew i) :
    k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 k0_h2 = (do
      if h : condFirst i then firstProg i arg2 harg2 arg3 harg3 arg4 harg4 arg5 harg5 arg6 harg6 arg7 harg7 arg8 harg8 arg9 harg9 arg10 harg10 arg11 harg11 arg12 harg12 arg13 harg13 arg14 harg14 arg15 harg15 else pure ⟨⟩
      tileProg i arg2 harg2 arg3 harg3 arg4 harg4 arg5 harg5 arg6 harg6 arg7 harg7 arg8 harg8 arg9 harg9 arg10 harg10 arg11 harg11 arg12 harg12 arg13 harg13 arg14 harg14 arg15 harg15 arg1 v1 k0_h2) := by
  rw [k0_part8_eq_skeleton]; unfold k0_part8_skel
  rw [k0_part4_eq_skeleton]; unfold k0_part4_skel
  by_cases h : condFirst i
  · rw [dif_pos h, dif_pos h]; rfl
  · rw [dif_neg h, dif_neg h]; rfl

set_option maxHeartbeats 1000000 in
theorem first_run (c : Dev nD) (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole)
    (x0 : Vec F S384x1152 .bf16) (y5 : Vec F S384x1152 .fp8e4m3) (y6 : Vec F S1x1x384 .f32) (xq : Vec F S384x1152 .fp8e4m3) (xs xm : Vec F S384x128 .f32)
    (E : Set ℕ) (K : PUnit → sProp 𝕄) :
    iprop(owns (c : Thread nD τ) arg2 fullShare x0 ∗ owns (c : Thread nD τ) arg7 fullShare y5 ∗ owns (c : Thread nD τ) arg8 fullShare y6 ∗ owns (c : Thread nD τ) arg12 fullShare xq ∗ owns (c : Thread nD τ) arg13 fullShare xs ∗ owns (c : Thread nD τ) arg14 fullShare xm
        ∗ (iprop(owns (c : Thread nD τ) arg2 fullShare x0 ∗ owns (c : Thread nD τ) arg7 fullShare (k0_pay11 x0) ∗ owns (c : Thread nD τ) arg8 fullShare (k0_pay13 x0) ∗ owns (c : Thread nD τ) arg12 fullShare (k0_pay12 x0) ∗ owns (c : Thread nD τ) arg13 fullShare (k0_pay14 x0) ∗ owns (c : Thread nD τ) arg14 fullShare (k0_pay16 k0_pay15)) -∗ K ⟨⟩))
      ⊢ wp frame (wpE (defs₀ (F := F)) Variants.none c none) E (firstProg i arg2 harg2 arg3 harg3 arg4 harg4 arg5 harg5 arg6 harg6 arg7 harg7 arg8 harg8 arg9 harg9 arg10 harg10 arg11 harg11 arg12 harg12 arg13 harg13 arg14 harg14 arg15 harg15) K := by
  unfold firstProg
  simp only [k0_part3_eq_skeleton]
  unfold owns
  iintro ⟨⟨%f0, %hf0, H0⟩, ⟨%f5, %hf5, H5⟩, ⟨%f6, %hf6, H6⟩, ⟨%fs1, %hfs1, HS1⟩, ⟨%fs2, %hfs2, HS2⟩, ⟨%fs3, %hfs3, HS3⟩, Hk⟩
  obtain rfl := harg2.eq_unread hf0; obtain rfl := harg7.eq_unread hf5; obtain rfl := harg8.eq_unread hf6
  obtain rfl := harg12.eq_unread hfs1; obtain rfl := harg13.eq_unread hfs2; obtain rfl := harg14.eq_unread hfs3
  sl_exec
  sl_step
  have e0 : View.readAt (Elt F) arg2.view (Rect.unit (s := S384x1152) ![0, 0] S384x1152.size inb_S384x1152_S384x1152_0_0).toLoadRect (harg2.unread x0) = x0 := by
    rw [View.readAt_full, hf0]
  iapply Hk
  isplitl [H0]
  · iexists _; isplitr; · ipureintro; exact harg2.read_unread _
    iexact H0
  isplitl [H5]
  · iexists _; isplitr; swap; · iexact H5
    ipureintro; rw [View.read_writes_full]; sl_unfold_words; exact congrArg k0_pay11 e0
  isplitl [H6]
  · iexists _; isplitr; swap; · iexact H6
    ipureintro; rw [View.read_writes_full]; sl_unfold_words; exact congrArg k0_pay13 e0
  isplitl [HS1]
  · iexists _; isplitr; swap; · iexact HS1
    ipureintro; rw [View.read_writes_full]; sl_unfold_words; exact congrArg k0_pay12 e0
  isplitl [HS2]
  · iexists _; isplitr; swap; · iexact HS2
    ipureintro; rw [View.read_writes_full]; sl_unfold_words; exact congrArg k0_pay14 e0
  iexists _; isplitr; swap; · iexact HS3
  ipureintro; rw [View.read_writes_full]; try rfl

/-! ## The column block's values -/

theorem sliceCols (g : Fin 8) : S384x1024.Slices ![0, 128 * g.val] S384x128 := by
  revert g; exact (by decide : ∀ g : Fin 8, S384x1024.Slices ![0, 128 * g.val] S384x128)

/-- A product's block of columns: the codes against the weights' columns. -/
noncomputable def gateOf (xq : Vec F S384x1152 .fp8e4m3) (w : Vec F S1152x1024 .fp8e4m3) : FVec F S384x1024 .f32 := k0_pay17 xq w

/-- A product's group of columns, scaled by the row scales and by the columns' scales. -/
noncomputable def scaled (g : Fin 8) (gt : FVec F S384x1024 .f32) (xs : Vec F S384x128 .f32) (sg : Vec F S1x128 .f32) : FVec F S384x128 .f32 :=
  mulf (mulf (extractStridedSlice S384x128 ![0, 128 * g.val] gt (sliceCols g)) xs)
    (broadcastTo S384x128 (shapeCast S1x128 sg shapeCasts_S1x128_S1x128) broadcasts_S1x128_S384x128)

/-- The gated product's group of columns. -/
noncomputable def hTile (g : Fin 8) (gt up : FVec F S384x1024 .f32) (xs : Vec F S384x128 .f32) (sg su : Vec F S1x128 .f32) : FVec F S384x128 .f32 :=
  mulf (mulf (scaled g gt xs sg) (logistic (scaled g gt xs sg))) (scaled g up xs su)

/-- The group as it is stored. -/
noncomputable def hPay (g : Fin 8) (gt up : FVec F S384x1024 .f32) (xs : Vec F S384x128 .f32) (sg su : Vec F S1x128 .f32) : FVec F S384x128 .f32 :=
  shapeCast S384x128 (hTile g gt up xs sg su) shapeCasts_S384x128_S384x128

theorem hTile_congr (g : Fin 8) {gt gt' up up' : FVec F S384x1024 .f32} {xs xs' : Vec F S384x128 .f32} {sg sg' su su' : Vec F S1x128 .f32}
    (h1 : gt = gt') (h2 : up = up') (h3 : xs = xs') (h4 : sg = sg') (h5 : su = su') : hTile g gt up xs sg su = hTile g gt' up' xs' sg' su' := by
  subst h1 h2 h3 h4 h5; rfl

/-- The running maximum after one group. -/
noncomputable def maxStep (m h : Vec F S384x128 .f32) : Vec F S384x128 .f32 := maximumf m (absf h)

/-- The row scales of a lanewise maximum: its row maximum over the format's range, one where it is zero. -/
noncomputable def scaleOf (m : Vec F S384x128 .f32) : FVec F S384x1 .f32 :=
  select (cmpf .oeq (shapeCast S384x1 (multiReduction .maximumf [1] S384 m 0xFF800000#32 reduces_S384x128_S384 (.inl rfl) rfl) shapeCasts_S384_S384x1) (broadcast S384x1 (Scalar.ofBits .f32 0x00000000#32)))
    (broadcast S384x1 (Scalar.ofBits .f32 0x3F800000#32))
    (divf (shapeCast S384x1 (multiReduction .maximumf [1] S384 m 0xFF800000#32 reduces_S384x128_S384 (.inl rfl) rfl) shapeCasts_S384_S384x1) (broadcast S384x1 (Scalar.ofBits .f32 0x43E00000#32)))

/-- A column of row scales laid out as a row. -/
noncomputable def rowOf (s : FVec F S384x1 .f32) : FVec F S1x1x384 .f32 :=
  shapeCast S1x1x384 (extractStridedSlice S1x384 ![0, 0] (transpose S128x384 [1, 0] (broadcastTo S384x128 (shapeCast S384x1 s shapeCasts_S384x1_S384x1) broadcasts_S384x1_S384x128) transposes_S384x128_p1_0_S128x384) slices_S128x384_o0_0_S1x384) shapeCasts_S1x384_S1x1x384

/-- The reciprocals of the row scales, over the lanes. -/
noncomputable def invOf (s : FVec F S384x1 .f32) : FVec F S384x128 .f32 :=
  shapeCast S384x128 (broadcastTo S384x128 (shapeCast S384x1 (divf (broadcast S384x1 (Scalar.ofBits .f32 0x3F800000#32)) s) shapeCasts_S384x1_S384x1) broadcasts_S384x1_S384x128) shapeCasts_S384x128_S384x128

/-- The weights' columns of one column tile. -/
abbrev wCols (xw : Vec F S1152x14336 .fp8e4m3) (i : grid0.Coords) (h : condNew i) : Vec F S1152x1024 .fp8e4m3 :=
  VecWindow.window xw (k0_off2 i) S1152x1024.size (k0_off2_inb i h)
/-- The weight scales of one group of columns. -/
abbrev sCols (xs : Vec F S1x14336 .f32) (i : grid0.Coords) (h : condNew i) (g : Fin 8) : Vec F S1x128 .f32 :=
  VecWindow.window xs (k0_off3 i (BitVec.ofNat 32 (128 * g.val))) S1x128.size (k0_off3_inb i h g)

section Tile
variable (i : grid0.Coords) (h : condNew i) (xq : Vec F S384x1152 .fp8e4m3) (x1 x2 : Vec F S1152x14336 .fp8e4m3) (x3 x4 : Vec F S1x14336 .f32) (xs : Vec F S384x128 .f32)

/-- Group `g` of the point's column tile. -/
noncomputable def tileH (g : Fin 8) : FVec F S384x128 .f32 :=
  hTile g (gateOf xq (wCols x1 i h)) (gateOf xq (wCols x2 i h)) xs (sCols x3 i h g) (sCols x4 i h g)

/-- The same as stored. -/
noncomputable def tileP (g : Fin 8) : FVec F S384x128 .f32 := shapeCast S384x128 (tileH i h xq x1 x2 x3 x4 xs g) shapeCasts_S384x128_S384x128

/-- The scratch product after the point's eight stores. -/
noncomputable def hAfter (xh : Vec F S384x14336 .f32) : Vec F S384x14336 .f32 :=
  VecWindow.put (VecWindow.put (VecWindow.put (VecWindow.put (VecWindow.put (VecWindow.put (VecWindow.put (VecWindow.put (xh) (k0_off4 i (BitVec.ofNat 32 (128 * (0 : Fin 8).val))) S384x128.size (tileP i h xq x1 x2 x3 x4 xs 0)) (k0_off4 i (BitVec.ofNat 32 (128 * (1 : Fin 8).val))) S384x128.size (tileP i h xq x1 x2 x3 x4 xs 1)) (k0_off4 i (BitVec.ofNat 32 (128 * (2 : Fin 8).val))) S384x128.size (tileP i h xq x1 x2 x3 x4 xs 2)) (k0_off4 i (BitVec.ofNat 32 (128 * (3 : Fin 8).val))) S384x128.size (tileP i h xq x1 x2 x3 x4 xs 3)) (k0_off4 i (BitVec.ofNat 32 (128 * (4 : Fin 8).val))) S384x128.size (tileP i h xq x1 x2 x3 x4 xs 4)) (k0_off4 i (BitVec.ofNat 32 (128 * (5 : Fin 8).val))) S384x128.size (tileP i h xq x1 x2 x3 x4 xs 5)) (k0_off4 i (BitVec.ofNat 32 (128 * (6 : Fin 8).val))) S384x128.size (tileP i h xq x1 x2 x3 x4 xs 6)) (k0_off4 i (BitVec.ofNat 32 (128 * (7 : Fin 8).val))) S384x128.size (tileP i h xq x1 x2 x3 x4 xs 7)

/-- The running maximum after the point. -/
noncomputable def mAfter (m : Vec F S384x128 .f32) : Vec F S384x128 .f32 :=
  maxStep (maxStep (maxStep (maxStep (maxStep (maxStep (maxStep (maxStep (m) (tileH i h xq x1 x2 x3 x4 xs 0)) (tileH i h xq x1 x2 x3 x4 xs 1)) (tileH i h xq x1 x2 x3 x4 xs 2)) (tileH i h xq x1 x2 x3 x4 xs 3)) (tileH i h xq x1 x2 x3 x4 xs 4)) (tileH i h xq x1 x2 x3 x4 xs 5)) (tileH i h xq x1 x2 x3 x4 xs 6)) (tileH i h xq x1 x2 x3 x4 xs 7)
end Tile

set_option maxHeartbeats 4000000 in
theorem tile_run (c : Dev nD) (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (h2 : condNew i) (arg1 v1 : BitVec 32)
    (x1 x2 : Vec F S1152x14336 .fp8e4m3) (x3 x4 : Vec F S1x14336 .f32) (y8 : Vec F S1x1x384 .f32) (xh : Vec F S384x14336 .f32) (xq : Vec F S384x1152 .fp8e4m3) (xs xm xi : Vec F S384x128 .f32)
    (E : Set ℕ) (K : PUnit → sProp 𝕄) :
    iprop(owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare y8 ∗ owns (c : Thread nD τ) arg11 fullShare xh ∗ owns (c : Thread nD τ) arg12 fullShare xq ∗ owns (c : Thread nD τ) arg13 fullShare xs ∗ owns (c : Thread nD τ) arg14 fullShare xm ∗ owns (c : Thread nD τ) arg15 fullShare xi
        ∗ (iprop(owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (if condLast i then rowOf (scaleOf (mAfter i h2 xq x1 x2 x3 x4 xs xm)) else y8) ∗ owns (c : Thread nD τ) arg11 fullShare (hAfter i h2 xq x1 x2 x3 x4 xs xh) ∗ owns (c : Thread nD τ) arg12 fullShare xq ∗ owns (c : Thread nD τ) arg13 fullShare xs ∗ owns (c : Thread nD τ) arg14 fullShare (shapeCast S384x128 (mAfter i h2 xq x1 x2 x3 x4 xs xm) shapeCasts_S384x128_S384x128) ∗ owns (c : Thread nD τ) arg15 fullShare (if condLast i then invOf (scaleOf (mAfter i h2 xq x1 x2 x3 x4 xs xm)) else xi)) -∗ K ⟨⟩))
      ⊢ wp frame (wpE (defs₀ (F := F)) Variants.none c none) E (tileProg i arg2 harg2 arg3 harg3 arg4 harg4 arg5 harg5 arg6 harg6 arg7 harg7 arg8 harg8 arg9 harg9 arg10 harg10 arg11 harg11 arg12 harg12 arg13 harg13 arg14 harg14 arg15 harg15 arg1 v1 h2) K := by
  unfold tileProg dotProg
  simp only [k0_part5_eq_skeleton, k0_part6_eq_skeleton, k0_part7_eq_skeleton]
  unfold owns
  iintro ⟨⟨%f1, %hf1, H1⟩, ⟨%f2, %hf2, H2⟩, ⟨%f3, %hf3, H3⟩, ⟨%f4, %hf4, H4⟩, ⟨%f8, %hf8, H8⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg3.eq_unread hf1; obtain rfl := harg4.eq_unread hf2; obtain rfl := harg5.eq_unread hf3; obtain rfl := harg6.eq_unread hf4
  obtain rfl := harg10.eq_unread hf8; obtain rfl := harg11.eq_unread hfs0
  obtain rfl := harg12.eq_unread hfs1; obtain rfl := harg13.eq_unread hfs2; obtain rfl := harg14.eq_unread hfs3; obtain rfl := harg15.eq_unread hfs4
  by_cases h4 : condLast i
  all_goals
    sl_exec (disch := first | sl_exact h2 | sl_exact h4)
    sl_step
    have e11 : View.readAt (Elt F) arg12.view (Rect.unit (s := S384x1152) ![0, 0] S384x1152.size inb_S384x1152_S384x1152_0_0).toLoadRect (harg12.unread xq) = xq := by
      rw [View.readAt_full, hfs1]
    have e13 : View.readAt (Elt F) arg3.view (Rect.unit (s := S1152x14336) (k0_off2 i) S1152x1024.size (k0_off2_inb i h2)).toLoadRect (harg3.unread x1) = wCols x1 i h2 := by
      rw [View.readAt_unit _ _ _ rfl (k0_off2_inb i h2), hf1]
    have e17 : View.readAt (Elt F) arg4.view (Rect.unit (s := S1152x14336) (k0_off2 i) S1152x1024.size (k0_off2_inb i h2)).toLoadRect (harg4.unread x2) = wCols x2 i h2 := by
      rw [View.readAt_unit _ _ _ rfl (k0_off2_inb i h2), hf2]
    have e19 : View.readAt (Elt F) arg13.view (Rect.unit (s := S384x128) ![0, 0] S384x128.size inb_S384x128_S384x128_0_0).toLoadRect (harg13.unread xs) = xs := by
      rw [View.readAt_full, hfs2]
    have e20 : View.readAt (Elt F) arg14.view (Rect.unit (s := S384x128) ![0, 0] S384x128.size inb_S384x128_S384x128_0_0).toLoadRect (harg14.unread xm) = xm := by
      rw [View.readAt_full, hfs3]
    have e27 : ∀ g : Fin 8, View.readAt (Elt F) arg5.view (Rect.unit (s := S1x14336) (k0_off3 i (BitVec.ofNat 32 (128 * g.val))) S1x128.size (k0_off3_inb i h2 g)).toLoadRect (harg5.unread x3) = sCols x3 i h2 g := fun g => by
      rw [View.readAt_unit _ _ _ rfl (k0_off3_inb i h2 g), hf3]
    have e34 : ∀ g : Fin 8, View.readAt (Elt F) arg6.view (Rect.unit (s := S1x14336) (k0_off3 i (BitVec.ofNat 32 (128 * g.val))) S1x128.size (k0_off3_inb i h2 g)).toLoadRect (harg6.unread x4) = sCols x4 i h2 g := fun g => by
      rw [View.readAt_unit _ _ _ rfl (k0_off3_inb i h2 g), hf4]
    have eg := congrArg₂ gateOf e11 e13
    have eu := congrArg₂ gateOf e11 e17
    have et : ∀ g : Fin 8, _ = tileH i h2 xq x1 x2 x3 x4 xs g := fun g => hTile_congr g eg eu e19 (e27 g) (e34 g)
    have ep : ∀ g : Fin 8, _ = tileP i h2 xq x1 x2 x3 x4 xs g := fun g => congrArg (fun v => shapeCast S384x128 v shapeCasts_S384x128_S384x128) (et g)
    have em := (congrArg₂ maxStep (congrArg₂ maxStep (congrArg₂ maxStep (congrArg₂ maxStep (congrArg₂ maxStep (congrArg₂ maxStep (congrArg₂ maxStep (congrArg₂ maxStep (e20) (et 0)) (et 1)) (et 2)) (et 3)) (et 4)) (et 5)) (et 6)) (et 7))
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]
    · iexists _; isplitr; swap; · iexact H8
      ipureintro
      first
        | (rw [if_neg h4]; exact harg10.read_unread _)
        | (rw [if_pos h4, View.read_writes_full]; sl_unfold_words; exact congrArg (fun m => rowOf (scaleOf m)) em)
    isplitl [HS0]
    · iexists _; isplitr; swap; · iexact HS0
      ipureintro
      repeat rw [View.read_writes_cons_put _ _ _ _ _ rfl]
      rw [View.writes_nil, hfs0]
      unfold hAfter
      sl_unfold_words
      refine put_congr (put_congr (put_congr (put_congr (put_congr (put_congr (put_congr (put_congr rfl ?_) ?_) ?_) ?_) ?_) ?_) ?_) ?_
      · exact ep 0
      · exact ep 1
      · exact ep 2
      · exact ep 3
      · exact ep 4
      · exact ep 5
      · exact ep 6
      · exact ep 7
    isplitl [HS1]
    · iexists _; isplitr; · ipureintro; exact harg12.read_unread _
      iexact HS1
    isplitl [HS2]
    · iexists _; isplitr; · ipureintro; exact harg13.read_unread _
      iexact HS2
    isplitl [HS3]
    · iexists _; isplitr; swap; · iexact HS3
      ipureintro
      rw [View.read_writes_full]; sl_unfold_words
      exact congrArg (fun m => shapeCast S384x128 m shapeCasts_S384x128_S384x128) em
    iexists _; isplitr; swap; · iexact HS4
    ipureintro
    first
      | (rw [if_neg h4]; exact harg15.read_unread _)
      | (rw [if_pos h4, View.read_writes_full]; sl_unfold_words; exact congrArg (fun m => invOf (scaleOf m)) em)

end Cert.KernelIdeal.Up

end
-- ==== Proof.UpBody.lean ====
module

public import proofs.«01_k».proof.Proof.UpTile

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole body at a point -/

section After
variable (i : grid0.Coords) (x0 : Vec F S384x1152 .bf16)

/-- What the first column tile puts in place, and the other ones keep. -/
noncomputable def firstC (y : Vec F S384x1152 .fp8e4m3) : Vec F S384x1152 .fp8e4m3 := if condFirst i then k0_pay11 x0 else y
noncomputable def firstR (y : Vec F S1x1x384 .f32) : Vec F S1x1x384 .f32 := if condFirst i then k0_pay13 x0 else y
noncomputable def firstQ (y : Vec F S384x1152 .fp8e4m3) : Vec F S384x1152 .fp8e4m3 := if condFirst i then k0_pay12 x0 else y
noncomputable def firstS (y : Vec F S384x128 .f32) : Vec F S384x128 .f32 := if condFirst i then k0_pay14 x0 else y
noncomputable def firstM (y : Vec F S384x128 .f32) : Vec F S384x128 .f32 := if condFirst i then k0_pay16 k0_pay15 else y
/-- The block of codes of the previous row tile, where there is one. -/
noncomputable def oldC (xh : Vec F S384x14336 .f32) (xi : Vec F S384x128 .f32) (y : Vec F S384x1024 .fp8e4m3) : Vec F S384x1024 .fp8e4m3 :=
  if h : condOld i then codesBlock i h xh xi y else y
end After

section New
variable (i : grid0.Coords) (h : condNew i) (x0 : Vec F S384x1152 .bf16) (x1 x2 : Vec F S1152x14336 .fp8e4m3) (x3 x4 : Vec F S1x14336 .f32)
  (xq : Vec F S384x1152 .fp8e4m3) (xs : Vec F S384x128 .f32)
/-- The running maximum after a point of a row tile, from what the scratch held before it. -/
noncomputable def newM (m : Vec F S384x128 .f32) : Vec F S384x128 .f32 := mAfter i h (firstQ i x0 xq) x1 x2 x3 x4 (firstS i x0 xs) (firstM i m)
/-- The scratch product after it. -/
noncomputable def newH (xh : Vec F S384x14336 .f32) : Vec F S384x14336 .f32 := hAfter i h (firstQ i x0 xq) x1 x2 x3 x4 (firstS i x0 xs) xh
end New

theorem part8_run (c : Dev nD) (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (h2 : condNew i) (arg1 v1 : BitVec 32)
    (x0 : Vec F S384x1152 .bf16) (x1 x2 : Vec F S1152x14336 .fp8e4m3) (x3 x4 : Vec F S1x14336 .f32) (y5 : Vec F S384x1152 .fp8e4m3) (y6 : Vec F S1x1x384 .f32) (y8 : Vec F S1x1x384 .f32) (xh : Vec F S384x14336 .f32) (xq : Vec F S384x1152 .fp8e4m3) (xs xm xi : Vec F S384x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg10 fullShare y8 ∗ owns (c : Thread nD τ) arg11 fullShare xh ∗ owns (c : Thread nD τ) arg12 fullShare xq ∗ owns (c : Thread nD τ) arg13 fullShare xs ∗ owns (c : Thread nD τ) arg14 fullShare xm ∗ owns (c : Thread nD τ) arg15 fullShare xi
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (firstC i x0 y5) ∗ owns (c : Thread nD τ) arg8 fullShare (firstR i x0 y6) ∗ owns (c : Thread nD τ) arg10 fullShare (if condLast i then rowOf (scaleOf (newM i h2 x0 x1 x2 x3 x4 xq xs xm)) else y8) ∗ owns (c : Thread nD τ) arg11 fullShare (newH i h2 x0 x1 x2 x3 x4 xq xs xh) ∗ owns (c : Thread nD τ) arg12 fullShare (firstQ i x0 xq) ∗ owns (c : Thread nD τ) arg13 fullShare (firstS i x0 xs) ∗ owns (c : Thread nD τ) arg14 fullShare (shapeCast S384x128 (newM i h2 x0 x1 x2 x3 x4 xq xs xm) shapeCasts_S384x128_S384x128) ∗ owns (c : Thread nD τ) arg15 fullShare (if condLast i then invOf (scaleOf (newM i h2 x0 x1 x2 x3 x4 xq xs xm)) else xi)) -∗ K ⟨⟩))
      ⊢ wp frame (wpE (defs₀ (F := F)) Variants.none c none) E (k0_part8 i arg2 harg2 arg3 harg3 arg4 harg4 arg5 harg5 arg6 harg6 arg7 harg7 arg8 harg8 arg9 harg9 arg10 harg10 arg11 harg11 arg12 harg12 arg13 harg13 arg14 harg14 arg15 harg15 arg1 v1 h2) K := by
  rw [part8_eq]
  iintro ⟨H0, H1, H2, H3, H4, H5, H6, H8, HS0, HS1, HS2, HS3, HS4, Hk⟩
  by_cases h3 : condFirst i
  · simp only [newM, newH, firstC, firstR, firstQ, firstS, firstM, if_pos h3]
    rw [dif_pos h3, wp_bind]
    iapply (first_run c i arg2 harg2 arg3 harg3 arg4 harg4 arg5 harg5 arg6 harg6 arg7 harg7 arg8 harg8 arg9 harg9 arg10 harg10 arg11 harg11 arg12 harg12 arg13 harg13 arg14 harg14 arg15 harg15 x0 y5 y6 xq xs xm E (fun _ => wp frame (wpE (defs₀ (F := F)) Variants.none c none) E (tileProg i arg2 harg2 arg3 harg3 arg4 harg4 arg5 harg5 arg6 harg6 arg7 harg7 arg8 harg8 arg9 harg9 arg10 harg10 arg11 harg11 arg12 harg12 arg13 harg13 arg14 harg14 arg15 harg15 arg1 v1 h2) K))
    isplitl [H0]; · iexact H0
    isplitl [H5]; · iexact H5
    isplitl [H6]; · iexact H6
    isplitl [HS1]; · iexact HS1
    isplitl [HS2]; · iexact HS2
    isplitl [HS3]; · iexact HS3
    iintro ⟨H0, H5, H6, HS1, HS2, HS3⟩
    iapply (tile_run c i arg2 harg2 arg3 harg3 arg4 harg4 arg5 harg5 arg6 harg6 arg7 harg7 arg8 harg8 arg9 harg9 arg10 harg10 arg11 harg11 arg12 harg12 arg13 harg13 arg14 harg14 arg15 harg15 h2 arg1 v1 x1 x2 x3 x4 y8 xh (k0_pay12 x0) (k0_pay14 x0) (k0_pay16 k0_pay15) xi E K)
    isplitl [H1]; · iexact H1
    isplitl [H2]; · iexact H2
    isplitl [H3]; · iexact H3
    isplitl [H4]; · iexact H4
    isplitl [H8]; · iexact H8
    isplitl [HS0]; · iexact HS0
    isplitl [HS1]; · iexact HS1
    isplitl [HS2]; · iexact HS2
    isplitl [HS3]; · iexact HS3
    isplitl [HS4]; · iexact HS4
    iintro ⟨H1, H2, H3, H4, H8, HS0, HS1, HS2, HS3, HS4⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [HS0]; · iexact HS0
    isplitl [HS1]; · iexact HS1
    isplitl [HS2]; · iexact HS2
    isplitl [HS3]; · iexact HS3
    iexact HS4
  · simp only [newM, newH, firstC, firstR, firstQ, firstS, firstM, if_neg h3]
    rw [dif_neg h3]
    iapply (tile_run c i arg2 harg2 arg3 harg3 arg4 harg4 arg5 harg5 arg6 harg6 arg7 harg7 arg8 harg8 arg9 harg9 arg10 harg10 arg11 harg11 arg12 harg12 arg13 harg13 arg14 harg14 arg15 harg15 h2 arg1 v1 x1 x2 x3 x4 y8 xh xq xs xm xi E K)
    isplitl [H1]; · iexact H1
    isplitl [H2]; · iexact H2
    isplitl [H3]; · iexact H3
    isplitl [H4]; · iexact H4
    isplitl [H8]; · iexact H8
    isplitl [HS0]; · iexact HS0
    isplitl [HS1]; · iexact HS1
    isplitl [HS2]; · iexact HS2
    isplitl [HS3]; · iexact HS3
    isplitl [HS4]; · iexact HS4
    iintro ⟨H1, H2, H3, H4, H8, HS0, HS1, HS2, HS3, HS4⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [HS0]; · iexact HS0
    isplitl [HS1]; · iexact HS1
    isplitl [HS2]; · iexact HS2
    isplitl [HS3]; · iexact HS3
    iexact HS4

theorem body_new (c : Dev nD) (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (h2 : condNew i)
    (x0 : Vec F S384x1152 .bf16) (x1 x2 : Vec F S1152x14336 .fp8e4m3) (x3 x4 : Vec F S1x14336 .f32) (y5 : Vec F S384x1152 .fp8e4m3) (y6 : Vec F S1x1x384 .f32) (y7 : Vec F S384x1024 .fp8e4m3) (y8 : Vec F S1x1x384 .f32) (xh : Vec F S384x14336 .f32) (xq : Vec F S384x1152 .fp8e4m3) (xs xm xi : Vec F S384x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare xh ∗ owns (c : Thread nD τ) arg12 fullShare xq ∗ owns (c : Thread nD τ) arg13 fullShare xs ∗ owns (c : Thread nD τ) arg14 fullShare xm ∗ owns (c : Thread nD τ) arg15 fullShare xi
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (firstC i x0 y5) ∗ owns (c : Thread nD τ) arg8 fullShare (firstR i x0 y6) ∗ owns (c : Thread nD τ) arg9 fullShare (oldC i xh xi y7) ∗ owns (c : Thread nD τ) arg10 fullShare (if condLast i then rowOf (scaleOf (newM i h2 x0 x1 x2 x3 x4 xq xs xm)) else y8) ∗ owns (c : Thread nD τ) arg11 fullShare (newH i h2 x0 x1 x2 x3 x4 xq xs xh) ∗ owns (c : Thread nD τ) arg12 fullShare (firstQ i x0 xq) ∗ owns (c : Thread nD τ) arg13 fullShare (firstS i x0 xs) ∗ owns (c : Thread nD τ) arg14 fullShare (shapeCast S384x128 (newM i h2 x0 x1 x2 x3 x4 xq xs xm) shapeCasts_S384x128_S384x128) ∗ owns (c : Thread nD τ) arg15 fullShare (if condLast i then invOf (scaleOf (newM i h2 x0 x1 x2 x3 x4 xq xs xm)) else xi)) -∗ K ⟨⟩))
      ⊢ wp frame (wpE (defs₀ (F := F)) Variants.none c none) E (cc0_proj_up i arg2 harg2 arg3 harg3 arg4 harg4 arg5 harg5 arg6 harg6 arg7 harg7 arg8 harg8 arg9 harg9 arg10 harg10 arg11 harg11 arg12 harg12 arg13 harg13 arg14 harg14 arg15 harg15) K := by
  rw [body_eq]
  iintro ⟨H0, H1, H2, H3, H4, H5, H6, H7, H8, HS0, HS1, HS2, HS3, HS4, Hk⟩
  by_cases h1 : condOld i
  · rw [oldC, dif_pos h1]
    rw [show (if h : condOld i then _ else _ : Prog (TpuEff nD τ sig (Elt F) Λ₀ .tc) PUnit) = (codesProg i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) h1 >>= fun _ => (k0_part8 i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (Scalar.muli (BitVec.ofNat 32 (i 1).val) 1024#32) h2 >>= fun _ => pure ⟨⟩)) from by
      rw [dif_pos h1]; exact congrArg (codesProg i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) h1 >>= ·) (funext fun _ => dif_pos h2), wp_bind]
    iapply (codes_run c i arg2 harg2 arg3 harg3 arg4 harg4 arg5 harg5 arg6 harg6 arg7 harg7 arg8 harg8 arg9 harg9 arg10 harg10 arg11 harg11 arg12 harg12 arg13 harg13 arg14 harg14 arg15 harg15 h1 (BitVec.ofNat 32 (i 1).val) xh xi y7 E (fun _ => wp frame (wpE (defs₀ (F := F)) Variants.none c none) E (k0_part8 i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (Scalar.muli (BitVec.ofNat 32 (i 1).val) 1024#32) h2 >>= fun _ => pure ⟨⟩) K))
    isplitl [H7]; · iexact H7
    isplitl [HS0]; · iexact HS0
    isplitl [HS4]; · iexact HS4
    iintro ⟨H7, HS0, HS4⟩
    rw [wp_bind]
    iapply (part8_run c i arg2 harg2 arg3 harg3 arg4 harg4 arg5 harg5 arg6 harg6 arg7 harg7 arg8 harg8 arg9 harg9 arg10 harg10 arg11 harg11 arg12 harg12 arg13 harg13 arg14 harg14 arg15 harg15 h2 (BitVec.ofNat 32 (i 1).val) (Scalar.muli (BitVec.ofNat 32 (i 1).val) 1024#32) x0 x1 x2 x3 x4 y5 y6 y8 xh xq xs xm xi E (fun _ => wp frame (wpE (defs₀ (F := F)) Variants.none c none) E (pure ⟨⟩) K))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H8, HS0, HS1, HS2, HS3, HS4⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  · rw [oldC, dif_neg h1]
    rw [dif_neg h1, dif_pos h2, wp_bind]
    iapply (part8_run c i arg2 harg2 arg3 harg3 arg4 harg4 arg5 harg5 arg6 harg6 arg7 harg7 arg8 harg8 arg9 harg9 arg10 harg10 arg11 harg11 arg12 harg12 arg13 harg13 arg14 harg14 arg15 harg15 h2 (BitVec.ofNat 32 (i 1).val) (Scalar.muli (BitVec.ofNat 32 (i 1).val) 1024#32) x0 x1 x2 x3 x4 y5 y6 y8 xh xq xs xm xi E (fun _ => wp frame (wpE (defs₀ (F := F)) Variants.none c none) E (pure ⟨⟩) K))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H8, HS0, HS1, HS2, HS3, HS4⟩
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4

theorem body_old (c : Dev nD) (i : grid0.Coords) (arg2 : Memref sig .tc .vmem S384x1152 .bf16) (harg2 : arg2.IsWhole) (arg3 : Memref sig .tc .vmem S1152x14336 .fp8e4m3) (harg3 : arg3.IsWhole) (arg4 : Memref sig .tc .vmem S1152x14336 .fp8e4m3) (harg4 : arg4.IsWhole) (arg5 : Memref sig .tc .vmem S1x14336 .f32) (harg5 : arg5.IsWhole) (arg6 : Memref sig .tc .vmem S1x14336 .f32) (harg6 : arg6.IsWhole) (arg7 : Memref sig .tc .vmem S384x1152 .fp8e4m3) (harg7 : arg7.IsWhole) (arg8 : Memref sig .tc .vmem S1x1x384 .f32) (harg8 : arg8.IsWhole) (arg9 : Memref sig .tc .vmem S384x1024 .fp8e4m3) (harg9 : arg9.IsWhole) (arg10 : Memref sig .tc .vmem S1x1x384 .f32) (harg10 : arg10.IsWhole) (arg11 : Memref sig .tc .vmem S384x14336 .f32) (harg11 : arg11.IsWhole) (arg12 : Memref sig .tc .vmem S384x1152 .fp8e4m3) (harg12 : arg12.IsWhole) (arg13 : Memref sig .tc .vmem S384x128 .f32) (harg13 : arg13.IsWhole) (arg14 : Memref sig .tc .vmem S384x128 .f32) (harg14 : arg14.IsWhole) (arg15 : Memref sig .tc .vmem S384x128 .f32) (harg15 : arg15.IsWhole) (h1 : condOld i) (h2 : ¬ condNew i)
    (x0 : Vec F S384x1152 .bf16) (x1 x2 : Vec F S1152x14336 .fp8e4m3) (x3 x4 : Vec F S1x14336 .f32) (y5 : Vec F S384x1152 .fp8e4m3) (y6 : Vec F S1x1x384 .f32) (y7 : Vec F S384x1024 .fp8e4m3) (y8 : Vec F S1x1x384 .f32) (xh : Vec F S384x14336 .f32) (xq : Vec F S384x1152 .fp8e4m3) (xs xm xi : Vec F S384x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare xh ∗ owns (c : Thread nD τ) arg12 fullShare xq ∗ owns (c : Thread nD τ) arg13 fullShare xs ∗ owns (c : Thread nD τ) arg14 fullShare xm ∗ owns (c : Thread nD τ) arg15 fullShare xi
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (oldC i xh xi y7) ∗ owns (c : Thread nD τ) arg10 fullShare y8 ∗ owns (c : Thread nD τ) arg11 fullShare xh ∗ owns (c : Thread nD τ) arg12 fullShare xq ∗ owns (c : Thread nD τ) arg13 fullShare xs ∗ owns (c : Thread nD τ) arg14 fullShare xm ∗ owns (c : Thread nD τ) arg15 fullShare xi) -∗ K ⟨⟩))
      ⊢ wp frame (wpE (defs₀ (F := F)) Variants.none c none) E (cc0_proj_up i arg2 harg2 arg3 harg3 arg4 harg4 arg5 harg5 arg6 harg6 arg7 harg7 arg8 harg8 arg9 harg9 arg10 harg10 arg11 harg11 arg12 harg12 arg13 harg13 arg14 harg14 arg15 harg15) K := by
  rw [body_eq]
  iintro ⟨H0, H1, H2, H3, H4, H5, H6, H7, H8, HS0, HS1, HS2, HS3, HS4, Hk⟩
  rw [oldC, dif_pos h1]
  rw [show (if h : condOld i then _ else _ : Prog (TpuEff nD τ sig (Elt F) Λ₀ .tc) PUnit) = (codesProg i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) h1 >>= fun _ => pure ⟨⟩) from by
      rw [dif_pos h1]; exact congrArg (codesProg i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) h1 >>= ·) (funext fun _ => dif_neg h2), wp_bind]
  iapply (codes_run c i arg2 harg2 arg3 harg3 arg4 harg4 arg5 harg5 arg6 harg6 arg7 harg7 arg8 harg8 arg9 harg9 arg10 harg10 arg11 harg11 arg12 harg12 arg13 harg13 arg14 harg14 arg15 harg15 h1 (BitVec.ofNat 32 (i 1).val) xh xi y7 E (fun _ => wp frame (wpE (defs₀ (F := F)) Variants.none c none) E (pure ⟨⟩) K))
  isplitl [H7]; · iexact H7
  isplitl [HS0]; · iexact HS0
  isplitl [HS4]; · iexact HS4
  iintro ⟨H7, HS0, HS4⟩
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iexact HS4

end Cert.KernelIdeal.Up

end
-- ==== Proof.UpVal.lean ====
module

public import proofs.«01_k».proof.Proof.UpBody
public import Idealize.ShloMosaic.Lib.Pointwise

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the scratch and the results hold, row tile by row tile -/

/-- The five argument arrays. -/
structure Arr (F : FTy → Type) where
  x : Vec F S24960x1152 .bf16
  w1 : Vec F S1152x14336 .fp8e4m3
  w2 : Vec F S1152x14336 .fp8e4m3
  s3 : Vec F S1x14336 .f32
  s4 : Vec F S1x14336 .f32

section Sem
variable (a : Arr F)

/-- Row tile `i` of the argument (the last one from there on). -/
def xT (i : ℕ) : Vec F S384x1152 .bf16 := fun y => a.x (ix2 ⟨384 * min i 64 + (y 0).val, by have h0 : (y 0).val < 384 := (y 0).isLt; omega⟩ (y 1))

/-- Its codes and its row scales, over the lanes. -/
def codesT (i : ℕ) : Vec F S384x1152 .fp8e4m3 := k0_pay12 (xT a i)
def sclT (i : ℕ) : Vec F S384x128 .f32 := k0_pay14 (xT a i)

theorem wInb (j : Fin 14) : ∀ b, (![0, 1024 * j.val] : Fin 2 → ℕ) b + S1152x1024.size b ≤ S1152x14336.size b := by
  revert j; exact (by decide : ∀ j : Fin 14, ∀ b, (![0, 1024 * j.val] : Fin 2 → ℕ) b + S1152x1024.size b ≤ S1152x14336.size b)
theorem sInb (j : Fin 14) (g : Fin 8) : ∀ b, (![0, 1024 * j.val + 128 * g.val] : Fin 2 → ℕ) b + S1x128.size b ≤ S1x14336.size b := by
  revert j g; exact (by decide : ∀ (j : Fin 14) (g : Fin 8), ∀ b, (![0, 1024 * j.val + 128 * g.val] : Fin 2 → ℕ) b + S1x128.size b ≤ S1x14336.size b)

/-- Group `g` of column tile `j` of the gated product, from the codes and scales of a row tile. -/
def tileN (xq : Vec F S384x1152 .fp8e4m3) (xs : Vec F S384x128 .f32) (j : Fin 14) (g : Fin 8) : FVec F S384x128 .f32 :=
  hTile g (gateOf xq (VecWindow.window a.w1 ![0, 1024 * j.val] S1152x1024.size (wInb j)))
    (gateOf xq (VecWindow.window a.w2 ![0, 1024 * j.val] S1152x1024.size (wInb j))) xs
    (VecWindow.window a.s3 ![0, 1024 * j.val + 128 * g.val] S1x128.size (sInb j g))
    (VecWindow.window a.s4 ![0, 1024 * j.val + 128 * g.val] S1x128.size (sInb j g))

/-- Group `n` of the 112 of row tile `i`. -/
def tileG (i n : ℕ) : FVec F S384x128 .f32 :=
  tileN a (codesT a i) (sclT a i) ⟨n / 8 % 14, Nat.mod_lt _ (by decide)⟩ ⟨n % 8, Nat.mod_lt _ (by decide)⟩

/-- The product of row tile `i`. -/
def hT (i : ℕ) : Vec F S384x14336 .f32 := fun y => tileG a i ((y 1).val / 128) (ix2 (y 0) ⟨(y 1).val % 128, Nat.mod_lt _ (by decide)⟩)

/-- Its running maximum over the lanes after `n` groups. -/
def maxT (i : ℕ) : ℕ → Vec F S384x128 .f32
  | 0 => k0_pay16 k0_pay15
  | n + 1 => maxStep (maxT i n) (tileG a i n)

/-- Its scales, and their reciprocals over the lanes. -/
def hScale (i : ℕ) : FVec F S384x1 .f32 := scaleOf (maxT a i 112)
def invT (i : ℕ) : Vec F S384x128 .f32 := invOf (hScale a i)

/-- Its block of codes in column tile `j`. -/
def hCodes (i j : ℕ) : Vec F S384x1024 .fp8e4m3 := fun y =>
  codesOf (invT a i) (tileG a i (8 * j + (y 1).val / 128)) (ix2 (y 0) ⟨(y 1).val % 128, Nat.mod_lt _ (by decide)⟩)
end Sem

theorem idx2 {n0 n1 : ℕ} (y : (⟨2, ![n0, n1]⟩ : Shape).Idx) : ∃ (r : Fin n0) (k : Fin n1), y = ix2 r k :=
  ⟨y 0, y 1, funext fun b => by match b with | ⟨0, _⟩ => rfl | ⟨1, _⟩ => rfl⟩

/-! ## Offsets -/

theorem offNat : ∀ (j : Fin 14) (g : Fin 8), (Scalar.indexCast (Scalar.addi (Scalar.muli (BitVec.ofNat 32 j.val) 1024#32) (BitVec.ofNat 32 (128 * g.val)))).toNat = 1024 * j.val + 128 * g.val := by
  decide +kernel
theorem offNat' : ∀ (j : Fin 14), (Scalar.indexCast (Scalar.muli (BitVec.ofNat 32 j.val) 1024#32)).toNat = 1024 * j.val := by
  decide +kernel

theorem off1_eq (i : grid0.Coords) (g : Fin 8) : k0_off1 i (BitVec.ofNat 32 (128 * g.val)) = ![0, 1024 * (i 1).val + 128 * g.val] :=
  congrArg (fun n : ℕ => (![0, n] : Fin 2 → ℕ)) (offNat (i 1) g)
theorem off2_eq (i : grid0.Coords) : k0_off2 i = ![0, 1024 * (i 1).val] :=
  congrArg (fun n : ℕ => (![0, n] : Fin 2 → ℕ)) (offNat' (i 1))
theorem off3_eq (i : grid0.Coords) (g : Fin 8) : k0_off3 i (BitVec.ofNat 32 (128 * g.val)) = ![0, 1024 * (i 1).val + 128 * g.val] :=
  congrArg (fun n : ℕ => (![0, n] : Fin 2 → ℕ)) (offNat (i 1) g)
theorem off4_eq (i : grid0.Coords) (g : Fin 8) : k0_off4 i (BitVec.ofNat 32 (128 * g.val)) = ![0, 1024 * (i 1).val + 128 * g.val] :=
  congrArg (fun n : ℕ => (![0, n] : Fin 2 → ℕ)) (offNat (i 1) g)

theorem window_off {α : Type} {s : Shape} (x : s.Idx → α) {off off' size : Fin s.rank → ℕ} (h : off = off') (i1 : ∀ b, off b + size b ≤ s.size b)
    (i2 : ∀ b, off' b + size b ≤ s.size b) : VecWindow.window x off size i1 = VecWindow.window x off' size i2 := by
  subst h; rfl

/-- The column tile of a grid point. -/
def colOf (i : grid0.Coords) : Fin 14 := ⟨(i 1).val, (i 1).isLt⟩

theorem tileH_eq (a : Arr F) (i : grid0.Coords) (h : condNew i) (xq : Vec F S384x1152 .fp8e4m3) (xs : Vec F S384x128 .f32) (g : Fin 8) :
    tileH i h xq a.w1 a.w2 a.s3 a.s4 xs g = tileN a xq xs (colOf i) g :=
  hTile_congr g (congrArg (gateOf xq) (window_off a.w1 (off2_eq i) _ _)) (congrArg (gateOf xq) (window_off a.w2 (off2_eq i) _ _)) rfl
    (window_off a.s3 (off3_eq i g) _ _) (window_off a.s4 (off3_eq i g) _ _)

theorem tileG_eq (a : Arr F) (i : ℕ) (j : Fin 14) (g : Fin 8) : tileG a i (8 * j.val + g.val) = tileN a (codesT a i) (sclT a i) j g := by
  have h1 : (⟨(8 * j.val + g.val) / 8 % 14, Nat.mod_lt _ (by decide)⟩ : Fin 14) = j := Fin.ext (by show (8 * j.val + g.val) / 8 % 14 = j.val; omega)
  have h2 : (⟨(8 * j.val + g.val) % 8, Nat.mod_lt _ (by decide)⟩ : Fin 8) = g := Fin.ext (by show (8 * j.val + g.val) % 8 = g.val; omega)
  unfold tileG
  rw [h1, h2]

/-! ## Groups of columns put side by side -/

/-- `n` groups of 128 columns put over `x` from column `o` on. -/
def putsN {α : Type} {n1 : ℕ} (x : (⟨2, ![384, n1]⟩ : Shape).Idx → α) (o : ℕ) (w : ℕ → S384x128.Idx → α) : ℕ → (⟨2, ![384, n1]⟩ : Shape).Idx → α
  | 0 => x
  | n + 1 => VecWindow.put (s := ⟨2, ![384, n1]⟩) (putsN x o w n) ![0, o + 128 * n] S384x128.size (w n)

theorem putsN_apply {α : Type} {n1 : ℕ} (x : (⟨2, ![384, n1]⟩ : Shape).Idx → α) (o : ℕ) (w : ℕ → S384x128.Idx → α) (r : Fin 384) (k : Fin n1) :
    ∀ n, putsN x o w n (ix2 r k) = if o ≤ k.val ∧ k.val < o + 128 * n then w ((k.val - o) / 128) (ix2 r ⟨(k.val - o) % 128, Nat.mod_lt _ (by decide)⟩) else x (ix2 r k)
  | 0 => by rw [if_neg (by omega)]; rfl
  | n + 1 => by
    have ih := putsN_apply x o w r k n
    show VecWindow.put (s := ⟨2, ![384, n1]⟩) (putsN x o w n) ![0, o + 128 * n] S384x128.size (w n) (ix2 r k) = _
    unfold VecWindow.put
    by_cases h : o + 128 * n ≤ k.val ∧ k.val < o + 128 * n + 128
    · have hh : ∀ b : Fin 2, (![0, o + 128 * n] : Fin 2 → ℕ) b ≤ ((ix2 r k : (⟨2, ![384, n1]⟩ : Shape).Idx) b).val ∧ ((ix2 r k : (⟨2, ![384, n1]⟩ : Shape).Idx) b).val < (![0, o + 128 * n] : Fin 2 → ℕ) b + S384x128.size b := by
        intro b
        match b with
        | ⟨0, _⟩ => exact ⟨Nat.zero_le _, by have := r.isLt; show r.val < 0 + 384; omega⟩
        | ⟨1, _⟩ => exact h
      rw [dif_pos hh, if_pos (by omega)]
      have e : (k.val - o) / 128 = n := by omega
      rw [e]
      exact congrArg (w n) (funext fun b => by
        match b with
        | ⟨0, _⟩ => exact Fin.ext (by show r.val - 0 = r.val; omega)
        | ⟨1, _⟩ => exact Fin.ext (by show k.val - (o + 128 * n) = (k.val - o) % 128; omega))
    · rw [dif_neg (fun hall => h (hall 1)), ih]
      by_cases h2 : o ≤ k.val ∧ k.val < o + 128 * n
      · rw [if_pos h2, if_pos (by omega)]
      · rw [if_neg h2, if_neg (by omega)]

theorem put_off {α : Type} {s : Shape} {x x' : s.Idx → α} {off off' size : Fin s.rank → ℕ} {w w' : ((b : Fin s.rank) → Fin (size b)) → α}
    (hx : x = x') (ho : off = off') (hw : w = w') : VecWindow.put x off size w = VecWindow.put x' off' size w' := by
  subst hx; subst ho; subst hw; rfl

/-- The scratch product after a point: the point's column tile, else what was there. -/
theorem hAfter_apply (a : Arr F) (i : grid0.Coords) (h : condNew i) (xq : Vec F S384x1152 .fp8e4m3) (xs : Vec F S384x128 .f32) (xh : Vec F S384x14336 .f32)
    (r : Fin 384) (k : Fin 14336) :
    hAfter i h xq a.w1 a.w2 a.s3 a.s4 xs xh (ix2 r k)
      = if 1024 * (i 1).val ≤ k.val ∧ k.val < 1024 * (i 1).val + 1024 then
          tileN a xq xs (colOf i) ⟨(k.val - 1024 * (i 1).val) / 128 % 8, Nat.mod_lt _ (by decide)⟩ (ix2 r ⟨(k.val - 1024 * (i 1).val) % 128, Nat.mod_lt _ (by decide)⟩)
        else xh (ix2 r k) := by
  have e : hAfter i h xq a.w1 a.w2 a.s3 a.s4 xs xh
      = putsN (n1 := 14336) xh (1024 * (i 1).val) (fun n => tileN a xq xs (colOf i) ⟨n % 8, Nat.mod_lt _ (by decide)⟩) 8 := by
    have hP : ∀ g : Fin 8, tileP i h xq a.w1 a.w2 a.s3 a.s4 xs g = tileN a xq xs (colOf i) ⟨g.val % 8, Nat.mod_lt _ (by decide)⟩ := fun g => by
      unfold tileP
      rw [shapeCast_self, tileH_eq]
      exact congrArg _ (Fin.ext (Nat.mod_eq_of_lt g.isLt).symm)
    unfold hAfter
    exact put_off (put_off (put_off (put_off (put_off (put_off (put_off (put_off rfl (off4_eq i 0) (hP 0)) (off4_eq i 1) (hP 1)) (off4_eq i 2) (hP 2)) (off4_eq i 3) (hP 3)) (off4_eq i 4) (hP 4)) (off4_eq i 5) (hP 5)) (off4_eq i 6) (hP 6)) (off4_eq i 7) (hP 7)
  rw [e]
  exact putsN_apply (n1 := 14336) xh (1024 * (i 1).val) _ r k 8

theorem codesBlock_apply (i : grid0.Coords) (h : condOld i) (xh : Vec F S384x14336 .f32) (xi : Vec F S384x128 .f32) (y7 : Vec F S384x1024 .fp8e4m3) (r : Fin 384) (k : Fin 1024) :
    codesBlock i h xh xi y7 (ix2 r k) = codesOf xi (hCols xh i h ⟨k.val / 128, by have := k.isLt; omega⟩) (ix2 r ⟨k.val % 128, Nat.mod_lt _ (by decide)⟩) := by
  have e : codesBlock i h xh xi y7 = putsN (n1 := 1024) y7 0 (fun n => codesOf xi (hCols xh i h ⟨n % 8, Nat.mod_lt _ (by decide)⟩)) 8 := rfl
  rw [e, putsN_apply (n1 := 1024), if_pos (by have := k.isLt; omega)]
  have h1 : (⟨(k.val - 0) / 128 % 8, Nat.mod_lt _ (by decide)⟩ : Fin 8) = ⟨k.val / 128, by have := k.isLt; omega⟩ := Fin.ext (by have := k.isLt; show (k.val - 0) / 128 % 8 = k.val / 128; omega)
  show codesOf xi (hCols xh i h ⟨(k.val - 0) / 128 % 8, Nat.mod_lt _ (by decide)⟩) (ix2 r ⟨(k.val - 0) % 128, Nat.mod_lt _ (by decide)⟩) = _
  rw [h1]
  rfl

/-- A group's columns of a scratch product that holds row tile `i` there. -/
theorem hCols_eq (a : Arr F) (n : ℕ) (i : grid0.Coords) (h : condOld i) (xh : Vec F S384x14336 .f32)
    (hx : ∀ (r : Fin 384) (k : Fin 14336), 1024 * (i 1).val ≤ k.val → xh (ix2 r k) = hT a n (ix2 r k)) (g : Fin 8) :
    hCols xh i h g = tileG a n (8 * (i 1).val + g.val) := by
  have hj : (i 1).val < 14 := (i 1).isLt
  have hw : hCols xh i h g = VecWindow.window xh ![0, 1024 * (i 1).val + 128 * g.val] S384x128.size (by rw [← off1_eq i g]; exact k0_off1_inb i h g) :=
    window_off xh (off1_eq i g) _ _
  rw [hw]
  refine funext fun (y : S384x128.Idx) => ?_
  obtain ⟨r, k, rfl⟩ : ∃ (r : Fin 384) (k : Fin 128), y = ix2 r k := idx2 y
  have hk := k.isLt
  have hg := g.isLt
  have e : (Rect.unit (s := S384x14336) ![0, 1024 * (i 1).val + 128 * g.val] S384x128.size (by rw [← off1_eq i g]; exact k0_off1_inb i h g)).emb (ix2 r k)
      = (ix2 r ⟨1024 * (i 1).val + 128 * g.val + k.val, by omega⟩ : S384x14336.Idx) := by
    funext b
    match b with
    | ⟨0, _⟩ => exact Fin.ext (by show 0 + 1 * r.val = r.val; omega)
    | ⟨1, _⟩ => exact Fin.ext (by show 1024 * (i 1).val + 128 * g.val + 1 * k.val = 1024 * (i 1).val + 128 * g.val + k.val; omega)
  refine (congrArg xh e).trans ((hx _ _ (by show 1024 * (i 1).val ≤ 1024 * (i 1).val + 128 * g.val + k.val; omega)).trans ?_)
  show tileG a n ((1024 * (i 1).val + 128 * g.val + k.val) / 128) (ix2 r ⟨(1024 * (i 1).val + 128 * g.val + k.val) % 128, Nat.mod_lt _ (by decide)⟩) = _
  rw [show (1024 * (i 1).val + 128 * g.val + k.val) / 128 = 8 * (i 1).val + g.val by omega]
  refine congrArg (fun b => tileG a n (8 * (i 1).val + g.val) (ix2 r b)) (Fin.ext ?_)
  show (1024 * (i 1).val + 128 * g.val + k.val) % 128 = k.val
  omega

theorem codesBlock_eq (a : Arr F) (n : ℕ) (i : grid0.Coords) (h : condOld i) (xh : Vec F S384x14336 .f32) (y7 : Vec F S384x1024 .fp8e4m3)
    (hx : ∀ (r : Fin 384) (k : Fin 14336), 1024 * (i 1).val ≤ k.val → xh (ix2 r k) = hT a n (ix2 r k)) :
    codesBlock i h xh (invT a n) y7 = hCodes a n (i 1).val := by
  funext y
  obtain ⟨r, k, rfl⟩ : ∃ (r : Fin 384) (k : Fin 1024), y = ix2 r k := idx2 y
  rw [codesBlock_apply, hCols_eq a n i h xh hx]
  rfl

theorem mAfter_eq (a : Arr F) (n : ℕ) (i : grid0.Coords) (h : condNew i) :
    mAfter i h (codesT a n) a.w1 a.w2 a.s3 a.s4 (sclT a n) (maxT a n (8 * (i 1).val)) = maxT a n (8 * (i 1).val + 8) := by
  unfold mAfter
  rw [tileH_eq, tileH_eq, tileH_eq, tileH_eq, tileH_eq, tileH_eq, tileH_eq, tileH_eq]
  rw [← tileG_eq, ← tileG_eq, ← tileG_eq, ← tileG_eq, ← tileG_eq, ← tileG_eq, ← tileG_eq, ← tileG_eq]
  rfl

/-! ## The invariant on the scratch -/

/-- What the scratch holds before point `t`: of the current row tile the codes, the scales, the running maximum and
    the columns done; of the previous one the columns still to be written out, and the reciprocals of its scales. -/
structure Inv (a : Arr F) (t : ℕ) (d0 : Vec F S384x14336 .f32) (d1 : Vec F S384x1152 .fp8e4m3) (d2 d3 d4 : Vec F S384x128 .f32) : Prop where
  codes : t / 14 < 65 → t % 14 ≠ 0 → d1 = codesT a (t / 14)
  scales : t / 14 < 65 → t % 14 ≠ 0 → d2 = sclT a (t / 14)
  max : t / 14 < 65 → t % 14 ≠ 0 → d3 = maxT a (t / 14) (8 * (t % 14))
  done : t / 14 < 65 → ∀ (r : Fin 384) (k : Fin 14336), k.val < 1024 * (t % 14) → d0 (ix2 r k) = hT a (t / 14) (ix2 r k)
  left : 1 ≤ t / 14 → t / 14 ≤ 65 → ∀ (r : Fin 384) (k : Fin 14336), 1024 * (t % 14) ≤ k.val ∨ t / 14 = 65 → d0 (ix2 r k) = hT a (t / 14 - 1) (ix2 r k)
  inv : 1 ≤ t / 14 → t / 14 ≤ 65 → d4 = invT a (t / 14 - 1)

theorem Inv.zero (a : Arr F) (d0 : Vec F S384x14336 .f32) (d1 : Vec F S384x1152 .fp8e4m3) (d2 d3 d4 : Vec F S384x128 .f32) : Inv a 0 d0 d1 d2 d3 d4 where
  codes _ h := absurd rfl h
  scales _ h := absurd rfl h
  max _ h := absurd rfl h
  done _ r k h := by omega
  left h := by omega
  inv h := by omega

variable {a : Arr F} {t : ℕ} {d0 : Vec F S384x14336 .f32} {d1 : Vec F S384x1152 .fp8e4m3} {d2 d3 d4 : Vec F S384x128 .f32}

theorem Inv.old (H : Inv a t d0 d1 d2 d3 d4) (h1 : 910 ≤ t) (h2 : t < 924) : Inv a (t + 1) d0 d1 d2 d3 d4 where
  codes h := by omega
  scales h := by omega
  max h := by omega
  done h := by omega
  left h h' r k _ := by
    have e : (t + 1) / 14 = t / 14 := by omega
    rw [e]; exact H.left (by omega) (by omega) r k (.inr (by omega))
  inv h h' := by
    have e : (t + 1) / 14 = t / 14 := by omega
    rw [e]; exact H.inv (by omega) (by omega)

section Step
variable (i : grid0.Coords)

theorem firstQ_eq (H : Inv a t d0 d1 d2 d3 d4) (ht : t < 910) (hc : condFirst i ↔ t % 14 = 0) : firstQ i (xT a (t / 14)) d1 = codesT a (t / 14) := by
  unfold firstQ
  by_cases h : t % 14 = 0
  · rw [if_pos (hc.2 h)]; rfl
  · rw [if_neg (fun hh => h (hc.1 hh))]; exact H.codes (by omega) h
theorem firstS_eq (H : Inv a t d0 d1 d2 d3 d4) (ht : t < 910) (hc : condFirst i ↔ t % 14 = 0) : firstS i (xT a (t / 14)) d2 = sclT a (t / 14) := by
  unfold firstS
  by_cases h : t % 14 = 0
  · rw [if_pos (hc.2 h)]; rfl
  · rw [if_neg (fun hh => h (hc.1 hh))]; exact H.scales (by omega) h
theorem firstM_eq (H : Inv a t d0 d1 d2 d3 d4) (ht : t < 910) (hc : condFirst i ↔ t % 14 = 0) : firstM i d3 = maxT a (t / 14) (8 * (t % 14)) := by
  unfold firstM
  by_cases h : t % 14 = 0
  · rw [if_pos (hc.2 h), h]; rfl
  · rw [if_neg (fun hh => h (hc.1 hh))]; exact H.max (by omega) h

theorem newM_eq (H : Inv a t d0 d1 d2 d3 d4) (ht : t < 910) (hc : condFirst i ↔ t % 14 = 0) (h1 : (i 1).val = t % 14) (hn : condNew i) :
    newM i hn (xT a (t / 14)) a.w1 a.w2 a.s3 a.s4 d1 d2 d3 = maxT a (t / 14) (8 * (t % 14) + 8) := by
  unfold newM
  rw [firstQ_eq i H ht hc, firstS_eq i H ht hc, firstM_eq i H ht hc, ← h1]
  exact mAfter_eq a (t / 14) i hn

theorem newH_apply (H : Inv a t d0 d1 d2 d3 d4) (ht : t < 910) (hc : condFirst i ↔ t % 14 = 0) (h1 : (i 1).val = t % 14) (hn : condNew i) (r : Fin 384) (k : Fin 14336) :
    newH i hn (xT a (t / 14)) a.w1 a.w2 a.s3 a.s4 d1 d2 d0 (ix2 r k)
      = if 1024 * (t % 14) ≤ k.val ∧ k.val < 1024 * (t % 14) + 1024 then hT a (t / 14) (ix2 r k) else d0 (ix2 r k) := by
  unfold newH
  rw [firstQ_eq i H ht hc, firstS_eq i H ht hc, hAfter_apply, h1]
  by_cases h : 1024 * (t % 14) ≤ k.val ∧ k.val < 1024 * (t % 14) + 1024
  · rw [if_pos h, if_pos h, ← tileG_eq]
    show tileG a (t / 14) (8 * (i 1).val + (k.val - 1024 * (t % 14)) / 128 % 8) (ix2 r ⟨(k.val - 1024 * (t % 14)) % 128, _⟩) = tileG a (t / 14) (k.val / 128) (ix2 r ⟨k.val % 128, _⟩)
    have e1 : 8 * (i 1).val + (k.val - 1024 * (t % 14)) / 128 % 8 = k.val / 128 := by omega
    have e2 : (k.val - 1024 * (t % 14)) % 128 = k.val % 128 := by omega
    rw [e1]
    congr 2
    exact Fin.ext e2
  · rw [if_neg h, if_neg h]

theorem Inv.new (H : Inv a t d0 d1 d2 d3 d4) (ht : t < 910) (hc : condFirst i ↔ t % 14 = 0) (hl : condLast i ↔ t % 14 = 13) (h1 : (i 1).val = t % 14) (hn : condNew i) :
    Inv a (t + 1) (newH i hn (xT a (t / 14)) a.w1 a.w2 a.s3 a.s4 d1 d2 d0) (firstQ i (xT a (t / 14)) d1) (firstS i (xT a (t / 14)) d2)
      (shapeCast S384x128 (newM i hn (xT a (t / 14)) a.w1 a.w2 a.s3 a.s4 d1 d2 d3) shapeCasts_S384x128_S384x128)
      (if condLast i then invOf (scaleOf (newM i hn (xT a (t / 14)) a.w1 a.w2 a.s3 a.s4 d1 d2 d3)) else d4) := by
  have hM := newM_eq i H ht hc h1 hn
  have hH := newH_apply i H ht hc h1 hn
  rw [hM, firstQ_eq i H ht hc, firstS_eq i H ht hc]
  by_cases hj : t % 14 = 13
  · have e0 : (t + 1) / 14 = t / 14 + 1 := by omega
    have e1 : (t + 1) % 14 = 0 := by omega
    refine ⟨fun _ h => absurd e1 h, fun _ h => absurd e1 h, fun _ h => absurd e1 h, fun _ r k h => by omega, fun _ _ r k _ => ?_, fun _ _ => ?_⟩
    · rw [hH r k, e0, Nat.add_sub_cancel]
      by_cases hk : 1024 * (t % 14) ≤ k.val ∧ k.val < 1024 * (t % 14) + 1024
      · rw [if_pos hk]
      · rw [if_neg hk]; exact H.done (by omega) r k (by have := k.isLt; omega)
    · rw [if_pos (hl.2 hj), e0, Nat.add_sub_cancel, hj]; rfl
  · have e0 : (t + 1) / 14 = t / 14 := by omega
    have e1 : (t + 1) % 14 = t % 14 + 1 := by omega
    refine ⟨fun _ _ => by rw [e0], fun _ _ => by rw [e0], fun _ _ => by rw [e0, e1, shapeCast_self]; rfl, fun _ r k h => ?_, fun h _ r k hk => ?_, fun h _ => ?_⟩
    · rw [hH r k, e0]
      by_cases hk : 1024 * (t % 14) ≤ k.val ∧ k.val < 1024 * (t % 14) + 1024
      · rw [if_pos hk]
      · rw [if_neg hk]; exact H.done (by omega) r k (by omega)
    · rw [hH r k, if_neg (by omega), e0]; exact H.left (by omega) (by omega) r k (.inl (by omega))
    · rw [if_neg (fun hh => hj (hl.1 hh)), e0]; exact H.inv (by omega) (by omega)

/-- The block of codes written out at a point. -/
theorem oldC_eq (H : Inv a t d0 d1 d2 d3 d4) (h14 : 14 ≤ t) (ht : t < 924) (hc : condOld i) (h1 : (i 1).val = t % 14) (y : Vec F S384x1024 .fp8e4m3) :
    oldC i d0 d4 y = hCodes a (t / 14 - 1) (t % 14) := by
  unfold oldC
  rw [dif_pos hc, H.inv (by omega) (by omega), codesBlock_eq a (t / 14 - 1) i hc d0 y (fun r k hk => H.left (by omega) (by omega) r k (.inl (by omega))), h1]

/-- The scales written out at the last point of a row tile. -/
theorem lastS_eq (H : Inv a t d0 d1 d2 d3 d4) (ht : t < 910) (hc : condFirst i ↔ t % 14 = 0) (hl : condLast i ↔ t % 14 = 13) (h1 : (i 1).val = t % 14) (hn : condNew i) (hj : t % 14 = 13) (y : Vec F S1x1x384 .f32) :
    (if condLast i then rowOf (scaleOf (newM i hn (xT a (t / 14)) a.w1 a.w2 a.s3 a.s4 d1 d2 d3)) else y) = rowOf (hScale a (t / 14)) := by
  rw [if_pos (hl.2 hj), newM_eq i H ht hc h1 hn, hj]; rfl
end Step

end Cert.KernelIdeal.Up

end
-- ==== Proof.UpRun.lean ====
module

public import proofs.«01_k».proof.Proof.UpVal
public import Idealize.ShloMosaic.Lib.Pipeline.ValueKit

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: what each point leaves, the body obligation, the launch -/

variable (m : (ℓ : Loc nD τ sig) → Buf (Elt F) ℓ) (ρ : Dev nD → PrngReg)

/-- The five argument arrays as the region finds them. -/
def arrOf (c : Dev nD) : Arr F := ⟨V m c main_arg0, V m c main_arg1, V m c main_arg2, V m c main_v0, V m c main_v1⟩

theorem xT_clamp (a : Arr F) {i : ℕ} (h : 64 ≤ i) : xT a i = xT a 64 := by
  unfold xT; simp only [Nat.min_eq_right h, Nat.min_self]

/-! ## The windows' blocks -/

theorem index0 : ∀ t : Fin cfg0.N, win0_0.index t = ![min (t.val / 14) 64, 0] :=
  (by decide +kernel : ∀ t : Fin grid0.N, win0_0.index t = ![min (t.val / 14) 64, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])

theorem iblk0_eq (c : Dev nD) (t : Fin cfg0.N) : iblk m c 0 t = xT (arrOf m c) (t.val / 14) := by
  funext y
  blk_simp [iblk, index0]
  unfold xT arrOf
  refine congrArg (V m c main_arg0) ?_
  blk_ext! [index0]
theorem iblk1_eq (c : Dev nD) (t : Fin cfg0.N) : iblk m c 1 t = (arrOf m c).w1 := by
  funext y
  blk_simp [iblk, index1]
  unfold arrOf
  refine congrArg (V m c main_arg1) ?_
  blk_ext! [index1]
theorem iblk2_eq (c : Dev nD) (t : Fin cfg0.N) : iblk m c 2 t = (arrOf m c).w2 := by
  funext y
  blk_simp [iblk, index2]
  unfold arrOf
  refine congrArg (V m c main_arg2) ?_
  blk_ext! [index2]
theorem iblk3_eq (c : Dev nD) (t : Fin cfg0.N) : iblk m c 3 t = (arrOf m c).s3 := by
  funext y
  blk_simp [iblk, index3]
  unfold arrOf
  refine congrArg (V m c main_v0) ?_
  blk_ext! [index3]
theorem iblk4_eq (c : Dev nD) (t : Fin cfg0.N) : iblk m c 4 t = (arrOf m c).s4 := by
  funext y
  blk_simp [iblk, index4]
  unfold arrOf
  refine congrArg (V m c main_v1) ?_
  blk_ext! [index4]

/-! ## What the body leaves -/

section After
variable (a : Arr F) (n : ℕ)
/-- The row tile's codes. -/
def aft5 (X : Vec F S384x1152 .fp8e4m3) : Prop := X = k0_pay11 (xT a (n / 14))
/-- Its row scales. -/
def aft6 (X : Vec F S1x1x384 .f32) : Prop := X = k0_pay13 (xT a (n / 14))
/-- From the second row tile on, the block of codes of the product of the row tile before. -/
def aft7 (X : Vec F S384x1024 .fp8e4m3) : Prop := 14 ≤ n → X = hCodes a (n / 14 - 1) (n % 14)
/-- At the end of a row tile, the row scales of its product; after the last one, still those. -/
def aft8 (X : Vec F S1x1x384 .f32) : Prop := (n % 14 = 13 → n < 910 → X = rowOf (hScale a (n / 14))) ∧ (910 ≤ n → X = rowOf (hScale a 64))
end After

/-- The invariant before point `n`. -/
def PhiN (a : Arr F) (c : Dev nD) (n : ℕ) : sProp 𝕄 :=
  iprop(∃ d0 d1 d2 d3 d4, ⌜Inv a n d0 d1 d2 d3 d4⌝ ∗ (owns (c : Thread nD τ) scM0 fullShare d0 ∗ owns (c : Thread nD τ) scM1 fullShare d1
    ∗ owns (c : Thread nD τ) scM2 fullShare d2 ∗ owns (c : Thread nD τ) scM3 fullShare d3 ∗ owns (c : Thread nD τ) scM4 fullShare d4) ∗ (∃ r, prngReg c r))

/-- The relational proof data: inputs are left as found, outputs as said. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => aft5 (arrOf m c) t.val X
    | ⟨6, _⟩ => fun _ X => aft6 (arrOf m c) t.val X
    | ⟨7, _⟩ => fun _ X => aft7 (arrOf m c) t.val X
    | ⟨8, _⟩ => fun _ X => aft8 (arrOf m c) t.val X
  Φ t := PhiN (arrOf m c) c t.val
  q _ := fullShare
  owed _ := 0

theorem rA_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = (xT (arrOf m c) (t.val / 14)) := by
  obtain ⟨d, rfl⟩ := Pipeline.RDat.finds_in_eq_fetched (rdat m c) 0 rfl (fun _ _ _ => rfl) (fun _ _ _ h => h) t Y h
  rw [← iblk0_eq m c t]
  unfold Pipeline.RDat.fetched Pipeline.RDat.blockOf iblk; rw [rA_eq]; try rfl
theorem finds1 (c : Dev nD) (t : Fin cfg0.N) (Y) (h : (rdat m c).Finds 1 t Y) : Y = (arrOf m c).w1 := by
  obtain ⟨d, rfl⟩ := Pipeline.RDat.finds_in_eq_fetched (rdat m c) 1 rfl (fun _ _ _ => rfl) (fun _ _ _ h => h) t Y h
  rw [← iblk1_eq m c t]
  unfold Pipeline.RDat.fetched Pipeline.RDat.blockOf iblk; rw [rA_eq]; try rfl
theorem finds2 (c : Dev nD) (t : Fin cfg0.N) (Y) (h : (rdat m c).Finds 2 t Y) : Y = (arrOf m c).w2 := by
  obtain ⟨d, rfl⟩ := Pipeline.RDat.finds_in_eq_fetched (rdat m c) 2 rfl (fun _ _ _ => rfl) (fun _ _ _ h => h) t Y h
  rw [← iblk2_eq m c t]
  unfold Pipeline.RDat.fetched Pipeline.RDat.blockOf iblk; rw [rA_eq]; try rfl
theorem finds3 (c : Dev nD) (t : Fin cfg0.N) (Y) (h : (rdat m c).Finds 3 t Y) : Y = (arrOf m c).s3 := by
  obtain ⟨d, rfl⟩ := Pipeline.RDat.finds_in_eq_fetched (rdat m c) 3 rfl (fun _ _ _ => rfl) (fun _ _ _ h => h) t Y h
  rw [← iblk3_eq m c t]
  unfold Pipeline.RDat.fetched Pipeline.RDat.blockOf iblk; rw [rA_eq]; try rfl
theorem finds4 (c : Dev nD) (t : Fin cfg0.N) (Y) (h : (rdat m c).Finds 4 t Y) : Y = (arrOf m c).s4 := by
  obtain ⟨d, rfl⟩ := Pipeline.RDat.finds_in_eq_fetched (rdat m c) 4 rfl (fun _ _ _ => rfl) (fun _ _ _ h => h) t Y h
  rw [← iblk4_eq m c t]
  unfold Pipeline.RDat.fetched Pipeline.RDat.blockOf iblk; rw [rA_eq]; try rfl
theorem flush5 : ∀ t : Fin cfg0.N, (cfg0.win 5).flush t = true ↔ (t.val % 14 = 13 ∧ t.val ≠ 909) :=
  (by decide +kernel : ∀ t : Fin grid0.N, win0_5.flush t = true ↔ (t.val % 14 = 13 ∧ t.val ≠ 909))
theorem flush6 : ∀ t : Fin cfg0.N, (cfg0.win 6).flush t = true ↔ (t.val % 14 = 13 ∧ t.val ≠ 909) :=
  (by decide +kernel : ∀ t : Fin grid0.N, win0_6.flush t = true ↔ (t.val % 14 = 13 ∧ t.val ≠ 909))
theorem flush8 : ∀ t : Fin cfg0.N, (cfg0.win 8).flush t = true ↔ (t.val % 14 = 13 ∧ t.val ≠ 909) :=
  (by decide +kernel : ∀ t : Fin grid0.N, win0_8.flush t = true ↔ (t.val % 14 = 13 ∧ t.val ≠ 909))

theorem finds5 (c : Dev nD) (t : Fin cfg0.N) (Y) (h : (rdat m c).Finds 5 t Y) (ht : t.val % 14 ≠ 0 ∨ 910 ≤ t.val) : aft5 (arrOf m c) t.val Y := by
  have hN : t.val < 924 := Nat.lt_of_lt_of_eq t.isLt N_0
  rcases ((rdat m c).finds_of_pos (w := 5) (t := t) rfl (by omega) Y).1 h with hf | ⟨Y', _, h'⟩
  · have := (flush5 _).1 hf
    exfalso
    have h2 : (t.val - 1) % 14 = 13 ∧ t.val - 1 ≠ 909 := this
    omega
  · have h2 : Y = k0_pay11 (xT (arrOf m c) ((t.val - 1) / 14)) := h'
    unfold aft5
    rw [h2]
    by_cases e : (t.val - 1) / 14 = t.val / 14
    · rw [e]
    · rw [show (t.val - 1) / 14 = 64 by omega, xT_clamp (arrOf m c) (show 64 ≤ t.val / 14 by omega)]

theorem finds6 (c : Dev nD) (t : Fin cfg0.N) (Y) (h : (rdat m c).Finds 6 t Y) (ht : t.val % 14 ≠ 0 ∨ 910 ≤ t.val) : aft6 (arrOf m c) t.val Y := by
  have hN : t.val < 924 := Nat.lt_of_lt_of_eq t.isLt N_0
  rcases ((rdat m c).finds_of_pos (w := 6) (t := t) rfl (by omega) Y).1 h with hf | ⟨Y', _, h'⟩
  · have := (flush6 _).1 hf
    exfalso
    have h2 : (t.val - 1) % 14 = 13 ∧ t.val - 1 ≠ 909 := this
    omega
  · have h2 : Y = k0_pay13 (xT (arrOf m c) ((t.val - 1) / 14)) := h'
    unfold aft6
    rw [h2]
    by_cases e : (t.val - 1) / 14 = t.val / 14
    · rw [e]
    · rw [show (t.val - 1) / 14 = 64 by omega, xT_clamp (arrOf m c) (show 64 ≤ t.val / 14 by omega)]

theorem finds8 (c : Dev nD) (t : Fin cfg0.N) (Y) (h : (rdat m c).Finds 8 t Y) (ht : 910 ≤ t.val) : aft8 (arrOf m c) t.val Y := by
  have hN : t.val < 924 := Nat.lt_of_lt_of_eq t.isLt N_0
  rcases ((rdat m c).finds_of_pos (w := 8) (t := t) rfl (by omega) Y).1 h with hf | ⟨Y', _, h'⟩
  · have := (flush8 _).1 hf
    exfalso
    have h2 : (t.val - 1) % 14 = 13 ∧ t.val - 1 ≠ 909 := this
    omega
  · have h2 : aft8 (arrOf m c) (t.val - 1) Y := h'
    refine ⟨fun _ h => by omega, fun _ => ?_⟩
    by_cases e : t.val = 910
    · rw [h2.1 (by omega) (by omega), e]
    · exact h2.2 (by omega)

set_option maxHeartbeats 1000000 in
/-- The body at a point: from the invariant and the blocks found, the invariant and what the point leaves. -/
theorem sound (c : Dev nD) (t : Fin cfg0.N) (O : sProp 𝕄) (y5 : Vec F S384x1152 .fp8e4m3) (y6 : Vec F S1x1x384 .f32) (y7 : Vec F S384x1024 .fp8e4m3) (y8 : Vec F S1x1x384 .f32)
    (h5 : t.val % 14 ≠ 0 ∨ 910 ≤ t.val → aft5 (arrOf m c) t.val y5) (h6 : t.val % 14 ≠ 0 ∨ 910 ≤ t.val → aft6 (arrOf m c) t.val y6)
    (h8 : 910 ≤ t.val → aft8 (arrOf m c) t.val y8) :
    iprop(PhiN (arrOf m c) c t.val ∗ O ∗ owns (c : Thread nD τ) (st0_0 t) fullShare (xT (arrOf m c) (t.val / 14)) ∗ owns (c : Thread nD τ) (st0_1 t) fullShare (arrOf m c).w1 ∗ owns (c : Thread nD τ) (st0_2 t) fullShare (arrOf m c).w2 ∗ owns (c : Thread nD τ) (st0_3 t) fullShare (arrOf m c).s3 ∗ owns (c : Thread nD τ) (st0_4 t) fullShare (arrOf m c).s4 ∗ owns (c : Thread nD τ) (st0_5 t) fullShare y5 ∗ owns (c : Thread nD τ) (st0_6 t) fullShare y6 ∗ owns (c : Thread nD τ) (st0_7 t) fullShare y7 ∗ owns (c : Thread nD τ) (st0_8 t) fullShare y8)
      ⊢ wp frame (wpE (defs₀ (F := F)) Variants.none c none) Set.univ (bodyAt0 t) fun _ =>
        iprop(PhiN (arrOf m c) c (t.val + 1) ∗ O ∗ iprop(∃ X, ⌜X = (xT (arrOf m c) (t.val / 14))⌝ ∗ owns (c : Thread nD τ) (st0_0 t) fullShare X) ∗ iprop(∃ X, ⌜X = (arrOf m c).w1⌝ ∗ owns (c : Thread nD τ) (st0_1 t) fullShare X) ∗ iprop(∃ X, ⌜X = (arrOf m c).w2⌝ ∗ owns (c : Thread nD τ) (st0_2 t) fullShare X) ∗ iprop(∃ X, ⌜X = (arrOf m c).s3⌝ ∗ owns (c : Thread nD τ) (st0_3 t) fullShare X) ∗ iprop(∃ X, ⌜X = (arrOf m c).s4⌝ ∗ owns (c : Thread nD τ) (st0_4 t) fullShare X) ∗ iprop(∃ X, ⌜aft5 (arrOf m c) t.val X⌝ ∗ owns (c : Thread nD τ) (st0_5 t) fullShare X) ∗ iprop(∃ X, ⌜aft6 (arrOf m c) t.val X⌝ ∗ owns (c : Thread nD τ) (st0_6 t) fullShare X) ∗ iprop(∃ X, ⌜aft7 (arrOf m c) t.val X⌝ ∗ owns (c : Thread nD τ) (st0_7 t) fullShare X) ∗ iprop(∃ X, ⌜aft8 (arrOf m c) t.val X⌝ ∗ owns (c : Thread nD τ) (st0_8 t) fullShare X)) := by
  have hN : t.val < 924 := Nat.lt_of_lt_of_eq t.isLt N_0
  have hc1 := coords1 t
  have hcF := condFirst_iff t
  have hcL := condLast_iff t
  unfold PhiN
  iintro ⟨⟨%d0, %d1, %d2, %d3, %d4, %hI, ⟨HS0, HS1, HS2, HS3, HS4⟩, Hg⟩, Ho, H0, H1, H2, H3, H4, H5, H6, H7, H8⟩
  by_cases ht : t.val < 910
  · have hn := (condNew_iff t).2 ht
    iapply (body_new c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scM0 (Memref.isWhole_whole _) scM1 (Memref.isWhole_whole _) scM2 (Memref.isWhole_whole _) scM3 (Memref.isWhole_whole _) scM4 (Memref.isWhole_whole _) hn (xT (arrOf m c) (t.val / 14)) (arrOf m c).w1 (arrOf m c).w2 (arrOf m c).s3 (arrOf m c).s4 y5 y6 y7 y8 d0 d1 d2 d3 d4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, HS0, HS1, HS2, HS3, HS4⟩
    have new5 : aft5 (arrOf m c) t.val (firstC (grid0.coords t) (xT (arrOf m c) (t.val / 14)) y5) := by
      unfold firstC
      by_cases h : t.val % 14 = 0
      · rw [if_pos (hcF.2 h)]; rfl
      · rw [if_neg (fun hh => h (hcF.1 hh))]; exact h5 (.inl h)
    have new6 : aft6 (arrOf m c) t.val (firstR (grid0.coords t) (xT (arrOf m c) (t.val / 14)) y6) := by
      unfold firstR
      by_cases h : t.val % 14 = 0
      · rw [if_pos (hcF.2 h)]; rfl
      · rw [if_neg (fun hh => h (hcF.1 hh))]; exact h6 (.inl h)
    have new7 : aft7 (arrOf m c) t.val (oldC (grid0.coords t) d0 d4 y7) := fun h =>
      oldC_eq (grid0.coords t) hI h hN ((condOld_iff t).2 h) hc1 y7
    have new8 : aft8 (arrOf m c) t.val (if condLast (grid0.coords t) then rowOf (scaleOf (newM (grid0.coords t) hn (xT (arrOf m c) (t.val / 14)) (arrOf m c).w1 (arrOf m c).w2 (arrOf m c).s3 (arrOf m c).s4 d1 d2 d3)) else y8) :=
      ⟨fun hj _ => lastS_eq (grid0.coords t) hI ht hcF hcL hc1 hn hj y8, fun h => absurd h (by omega)⟩
    isplitl [HS0 HS1 HS2 HS3 HS4 Hg]
    · iexists _, _, _, _, _
      isplitr
      · ipureintro; exact hI.new (grid0.coords t) ht hcF hcL hc1 hn
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]
    · iexists _
      isplitr
      · ipureintro; exact rfl
      iexact H0
    isplitl [H1]
    · iexists _
      isplitr
      · ipureintro; exact rfl
      iexact H1
    isplitl [H2]
    · iexists _
      isplitr
      · ipureintro; exact rfl
      iexact H2
    isplitl [H3]
    · iexists _
      isplitr
      · ipureintro; exact rfl
      iexact H3
    isplitl [H4]
    · iexists _
      isplitr
      · ipureintro; exact rfl
      iexact H4
    isplitl [H5]
    · iexists _
      isplitr
      · ipureintro; exact new5
      iexact H5
    isplitl [H6]
    · iexists _
      isplitr
      · ipureintro; exact new6
      iexact H6
    isplitl [H7]
    · iexists _
      isplitr
      · ipureintro; exact new7
      iexact H7
    iexists _
    isplitr
    · ipureintro; exact new8
    iexact H8
  · have ho := (condOld_iff t).2 (show 14 ≤ t.val by omega)
    have hn : ¬ condNew (grid0.coords t) := fun h => ht ((condNew_iff t).1 h)
    iapply (body_old c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scM0 (Memref.isWhole_whole _) scM1 (Memref.isWhole_whole _) scM2 (Memref.isWhole_whole _) scM3 (Memref.isWhole_whole _) scM4 (Memref.isWhole_whole _) ho hn (xT (arrOf m c) (t.val / 14)) (arrOf m c).w1 (arrOf m c).w2 (arrOf m c).s3 (arrOf m c).s4 y5 y6 y7 y8 d0 d1 d2 d3 d4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, HS0, HS1, HS2, HS3, HS4⟩
    have new7 : aft7 (arrOf m c) t.val (oldC (grid0.coords t) d0 d4 y7) := fun h =>
      oldC_eq (grid0.coords t) hI h hN ho hc1 y7
    isplitl [HS0 HS1 HS2 HS3 HS4 Hg]
    · iexists _, _, _, _, _
      isplitr
      · ipureintro; exact hI.old (by omega) hN
      isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]
    · iexists _
      isplitr
      · ipureintro; exact rfl
      iexact H0
    isplitl [H1]
    · iexists _
      isplitr
      · ipureintro; exact rfl
      iexact H1
    isplitl [H2]
    · iexists _
      isplitr
      · ipureintro; exact rfl
      iexact H2
    isplitl [H3]
    · iexists _
      isplitr
      · ipureintro; exact rfl
      iexact H3
    isplitl [H4]
    · iexists _
      isplitr
      · ipureintro; exact rfl
      iexact H4
    isplitl [H5]
    · iexists _
      isplitr
      · ipureintro; exact h5 (.inr (by omega))
      iexact H5
    isplitl [H6]
    · iexists _
      isplitr
      · ipureintro; exact h6 (.inr (by omega))
      iexact H6
    isplitl [H7]
    · iexists _
      isplitr
      · ipureintro; exact new7
      iexact H7
    iexists _
    isplitr
    · ipureintro; exact h8 (by omega)
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  have e0 := finds0 m c t _ (hY 0)
  have e1 := finds1 m c t _ (hY 1)
  have e2 := finds2 m c t _ (hY 2)
  have e3 := finds3 m c t _ (hY 3)
  have e4 := finds4 m c t _ (hY 4)
  rw [e0, e1, e2, e3, e4]
  exact triple_restated (sound m c t _ (Y 5) (Y 6) (Y 7) (Y 8) (finds5 m c t _ (hY 5)) (finds6 m c t _ (hY 6)) (finds8 m c t _ (hY 8))) rfl .rfl fun _ => .rfl

theorem hin (c : Dev nD) : Pipeline.ΦA spec0 c ⊢ (rdat m c).Φ 0 := by
  rw [show (rdat m c).Φ 0 = PhiN (arrOf m c) c 0 from rfl, PhiA_eq]
  unfold PhiN
  iintro ⟨⟨⟨%d0, HS0⟩, ⟨%d1, HS1⟩, ⟨%d2, HS2⟩, ⟨%d3, HS3⟩, ⟨%d4, HS4⟩⟩, Hg⟩
  iexists d0, d1, d2, d3, d4
  isplitr
  · ipureintro; exact Inv.zero _ _ _ _ _ _
  isplitl [HS0 HS1 HS2 HS3 HS4]
  · isplitl [HS0]; · iexact HS0
    isplitl [HS1]; · iexact HS1
    isplitl [HS2]; · iexact HS2
    isplitl [HS3]; · iexact HS3
    iexact HS4
  iexact Hg

theorem hout (c : Dev nD) : (rdat m c).Φ (Fin.last cfg0.N) ⊢ Pipeline.ΦA spec0 c := by
  rw [show (rdat m c).Φ (Fin.last cfg0.N) = PhiN (arrOf m c) c (Fin.last cfg0.N).val from rfl, PhiA_eq]
  unfold PhiN
  iintro ⟨%d0, %d1, %d2, %d3, %d4, %hI, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The launch: every final state has the arrays as the relation allows, every counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := rA_eq m) (hin := hin m) (hout := hout m)

theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged and the counters at zero. -/
theorem frame_args (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => frame_args m r h.1 c, h.2⟩) (run_main_quiescent m ρ)

end Cert.KernelIdeal.Up

end
-- ==== Proof.UpArr.lean ====
module

public import proofs.«01_k».proof.Proof.UpRun
public import Idealize.ShloMosaic.Lib.Pipeline.ArrRel

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The four result arrays after the run -/

/-- Write-backs from point `n₀` on each of their block of one whole array `G`: an index in such a block reads `G`
    after the run, whatever the earlier points wrote there. -/
theorem arrAt_apply_of_mem_from {c : Dev nD} (dat : Dat τ (Elt F) Unit ℕ (UR sig nD τ) ℕ cfg0 c) (n₀ : ℕ) (w : Fin cfg0.W) (G : Buf (Elt F) ((cfg0.win w).arr.view.loc (c.tc : Thread nD τ)))
    (hG : ∀ t : Fin cfg0.N, n₀ ≤ t.val → (cfg0.win w).flush t = true → dat.flushed w t = ((cfg0.win w).blk t).view.read (Elt F) G) :
    ∀ (n : Nat) (t : Fin cfg0.N) (i : ((cfg0.win w).arr.view.loc (c.tc : Thread nD τ)).2.ty.Idx),
      n₀ ≤ t.val → t.val < n → (cfg0.win w).flush t = true → i ∈ ((cfg0.win w).blk t).view.set → dat.arrAt w n i = G i
  | 0, _, _, _, ht, _, _ => absurd ht (Nat.not_lt_zero _)
  | n + 1, t, i, h0, ht, hf, hi => by
    rw [dat.arrAt_succ_apply]
    by_cases hn : n < cfg0.N
    swap
    · rw [dif_neg hn]
      exact arrAt_apply_of_mem_from dat n₀ w G hG n t i h0 (by have := t.isLt; omega) hf hi
    rw [dif_pos hn]
    by_cases hfn : (cfg0.win w).flush ⟨n, hn⟩ = true
    · rw [if_pos hfn, hG _ (by show n₀ ≤ n; omega) hfn, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem_from dat n₀ w G hG n t i h0 (by omega) hf hi
    · rw [if_neg hfn]
      have htn : t.val ≠ n := fun e => hfn (by have : t = ⟨n, hn⟩ := Fin.ext e; exact this ▸ hf)
      exact arrAt_apply_of_mem_from dat n₀ w G hG n t i h0 (by omega) hf hi

section Res
variable (a : Arr F)
/-- The codes of all rows. -/
def res5 : Vec F S24960x1152 .fp8e4m3 := fun y => k0_pay11 (xT a ((y 0).val / 384)) (ix2 ⟨(y 0).val % 384, Nat.mod_lt _ (by decide)⟩ (y 1))
/-- Their scales, a row per row tile. -/
def res6 : Vec F S65x1x384 .f32 := fun y => k0_pay13 (xT a (y 0).val) (ix3 0 0 (y 2))
/-- The codes of the product. -/
def res7 : Vec F S24960x14336 .fp8e4m3 := fun y =>
  hCodes a ((y 0).val / 384) ((y 1).val / 1024) (ix2 ⟨(y 0).val % 384, Nat.mod_lt _ (by decide)⟩ ⟨(y 1).val % 1024, Nat.mod_lt _ (by decide)⟩)
/-- Their scales. -/
def res8 : Vec F S65x1x384 .f32 := fun y => rowOf (hScale a (y 0).val) (ix3 0 0 (y 2))
end Res

theorem index5 : ∀ t : Fin cfg0.N, win0_5.index t = ![min (t.val / 14) 64, 0] :=
  (by decide +kernel : ∀ t : Fin grid0.N, win0_5.index t = ![min (t.val / 14) 64, 0])
theorem index6 : ∀ t : Fin cfg0.N, win0_6.index t = ![min (t.val / 14) 64, 0, 0] :=
  (by decide +kernel : ∀ t : Fin grid0.N, win0_6.index t = ![min (t.val / 14) 64, 0, 0])
theorem index7 : ∀ t : Fin cfg0.N, win0_7.index t = ![t.val / 14 - 1, t.val % 14] :=
  (by decide +kernel : ∀ t : Fin grid0.N, win0_7.index t = ![t.val / 14 - 1, t.val % 14])
theorem index8 : ∀ t : Fin cfg0.N, win0_8.index t = ![min (t.val / 14) 64, 0, 0] :=
  (by decide +kernel : ∀ t : Fin grid0.N, win0_8.index t = ![min (t.val / 14) 64, 0, 0])

variable (m : (ℓ : Loc nD τ sig) → Buf (Elt F) ℓ) (ρ : Dev nD → PrngReg)

theorem xT_min (a : Arr F) (i : ℕ) : xT a (min i 64) = xT a i := by
  by_cases h : i ≤ 64
  · rw [Nat.min_eq_left h]
  · rw [Nat.min_eq_right (by omega), xT_clamp a (show 64 ≤ i by omega)]

theorem res5_at (a : Arr F) (i : ℕ) (r : Fin 384) (k : Fin 1152) (h : 384 * i + r.val < 24960) :
    res5 a (ix2 ⟨384 * i + r.val, h⟩ k) = k0_pay11 (xT a i) (ix2 r k) := by
  have h1 := r.isLt
  show k0_pay11 (xT a ((384 * i + r.val) / 384)) (ix2 ⟨(384 * i + r.val) % 384, _⟩ k) = _
  rw [show (384 * i + r.val) / 384 = i by omega]
  exact congrArg (fun r => k0_pay11 (xT a i) (ix2 r k)) (Fin.ext (by show (384 * i + r.val) % 384 = r.val; omega))

theorem res7_at (a : Arr F) (i j : ℕ) (r : Fin 384) (k : Fin 1024) (h : 384 * i + r.val < 24960) (h' : 1024 * j + k.val < 14336) :
    res7 a (ix2 ⟨384 * i + r.val, h⟩ ⟨1024 * j + k.val, h'⟩) = hCodes a i j (ix2 r k) := by
  have h1 := r.isLt
  have h2 := k.isLt
  show hCodes a ((384 * i + r.val) / 384) ((1024 * j + k.val) / 1024) (ix2 ⟨(384 * i + r.val) % 384, _⟩ ⟨(1024 * j + k.val) % 1024, _⟩) = _
  rw [show (384 * i + r.val) / 384 = i by omega, show (1024 * j + k.val) / 1024 = j by omega]
  exact congrArg₂ (fun r k => hCodes a i j (ix2 r k)) (Fin.ext (by show (384 * i + r.val) % 384 = r.val; omega)) (Fin.ext (by show (1024 * j + k.val) % 1024 = k.val; omega))

theorem idx3 (y : S1x1x384.Idx) : ∃ r : Fin 384, y = ix3 0 0 r :=
  ⟨y 2, funext fun b => by
    match b with
    | ⟨0, _⟩ => exact Subsingleton.elim (α := Fin 1) _ _
    | ⟨1, _⟩ => exact Subsingleton.elim (α := Fin 1) _ _
    | ⟨2, _⟩ => rfl⟩

theorem arr5 (c : Dev nD) (after : (w' : Fin cfg0.W) → Fin cfg0.N → (cfg0.win w').block.Idx → Elt F (cfg0.win w').elt) (hL : ∀ t : Fin cfg0.N, (cfg0.win 5).flush t = true → (rdat m c).Leaves 5 t (after 5 t)) :
    ((rdat m c).withAfter after).arrAt 5 cfg0.N = res5 (arrOf m c) := by
  refine Dat.arrAt_eq_of_covers _ 5 _ (by decide +kernel) fun t hf y => ?_
  obtain ⟨Y, _, h⟩ := hL t hf
  have h2 : after 5 t = k0_pay11 (xT (arrOf m c) (t.val / 14)) := h
  obtain ⟨r, k, rfl⟩ : ∃ (r : Fin 384) (k : Fin 1152), y = ix2 r k := idx2 y
  blk_simp [Pipeline.RDat.withAfter_after]
  rw [h2, ← xT_min, ← res5_at (arrOf m c) (min (t.val / 14) 64) r k (by have := r.isLt; omega)]
  refine congrArg (res5 (arrOf m c)) ?_
  blk_ext! [index5]

theorem arr6 (c : Dev nD) (after : (w' : Fin cfg0.W) → Fin cfg0.N → (cfg0.win w').block.Idx → Elt F (cfg0.win w').elt) (hL : ∀ t : Fin cfg0.N, (cfg0.win 6).flush t = true → (rdat m c).Leaves 6 t (after 6 t)) :
    ((rdat m c).withAfter after).arrAt 6 cfg0.N = res6 (arrOf m c) := by
  refine Dat.arrAt_eq_of_covers _ 6 _ (by decide +kernel) fun t hf y => ?_
  obtain ⟨Y, _, h⟩ := hL t hf
  have h2 : after 6 t = k0_pay13 (xT (arrOf m c) (t.val / 14)) := h
  obtain ⟨r, rfl⟩ : ∃ r : Fin 384, y = ix3 0 0 r := idx3 y
  blk_simp [Pipeline.RDat.withAfter_after]
  have e : res6 (arrOf m c) (ix3 ⟨min (t.val / 14) 64, by omega⟩ 0 r) = k0_pay13 (xT (arrOf m c) (min (t.val / 14) 64)) (ix3 0 0 r) := rfl
  rw [h2, ← xT_min, ← e]
  refine congrArg (res6 (arrOf m c)) ?_
  blk_ext! [index6]

theorem arr8 (c : Dev nD) (after : (w' : Fin cfg0.W) → Fin cfg0.N → (cfg0.win w').block.Idx → Elt F (cfg0.win w').elt) (hL : ∀ t : Fin cfg0.N, (cfg0.win 8).flush t = true → (rdat m c).Leaves 8 t (after 8 t)) :
    ((rdat m c).withAfter after).arrAt 8 cfg0.N = res8 (arrOf m c) := by
  refine Dat.arrAt_eq_of_covers _ 8 _ (by decide +kernel) fun t hf y => ?_
  obtain ⟨Y, _, h⟩ := hL t hf
  have hN : t.val < 924 := Nat.lt_of_lt_of_eq t.isLt N_0
  have hj := (flush8 t).1 hf
  have h1 : aft8 (arrOf m c) t.val (after 8 t) := h
  have h2 : after 8 t = rowOf (hScale (arrOf m c) (min (t.val / 14) 64)) := by
    by_cases ht : t.val < 910
    · rw [h1.1 hj.1 ht, Nat.min_eq_left (by omega)]
    · rw [h1.2 (by omega), Nat.min_eq_right (by omega)]
  obtain ⟨r, rfl⟩ : ∃ r : Fin 384, y = ix3 0 0 r := idx3 y
  blk_simp [Pipeline.RDat.withAfter_after]
  have e : res8 (arrOf m c) (ix3 ⟨min (t.val / 14) 64, by omega⟩ 0 r) = rowOf (hScale (arrOf m c) (min (t.val / 14) 64)) (ix3 0 0 r) := rfl
  rw [h2, ← e]
  refine congrArg (res8 (arrOf m c)) ?_
  blk_ext! [index8]

theorem arr7 (c : Dev nD) (after : (w' : Fin cfg0.W) → Fin cfg0.N → (cfg0.win w').block.Idx → Elt F (cfg0.win w').elt) (hL : ∀ t : Fin cfg0.N, (cfg0.win 7).flush t = true → (rdat m c).Leaves 7 t (after 7 t)) :
    ((rdat m c).withAfter after).arrAt 7 cfg0.N = res7 (arrOf m c) := by
  refine funext fun (i : S24960x14336.Idx) => ?_
  obtain ⟨r, k, rfl⟩ : ∃ (r : Fin 24960) (k : Fin 14336), i = ix2 r k := idx2 i
  have hr := r.isLt
  have hk := k.isLt
  have hT : 14 * (r.val / 384 + 1) + k.val / 1024 < cfg0.N := Nat.lt_of_lt_of_eq (by omega) N_0.symm
  refine arrAt_apply_of_mem_from _ 14 7 (res7 (arrOf m c)) (fun t h14 hf => funext fun y => ?_) cfg0.N ⟨14 * (r.val / 384 + 1) + k.val / 1024, hT⟩ _ (by show 14 ≤ 14 * (r.val / 384 + 1) + k.val / 1024; omega) hT (flush0_7 _) ?_
  · obtain ⟨Y, _, h⟩ := hL t hf
    have hN : t.val < 924 := Nat.lt_of_lt_of_eq t.isLt N_0
    have h1 : aft7 (arrOf m c) t.val (after 7 t) := h
    have h2 := h1 h14
    obtain ⟨r, k, rfl⟩ : ∃ (r : Fin 384) (k : Fin 1024), y = ix2 r k := idx2 y
    blk_simp [Pipeline.RDat.withAfter_after]
    rw [h2, ← res7_at (arrOf m c) (t.val / 14 - 1) (t.val % 14) r k (by have := r.isLt; omega) (by have := k.isLt; omega)]
    refine congrArg (res7 (arrOf m c)) ?_
    blk_ext! [index7]
  · mem_blk [index7]
    refine ⟨?_, ?_⟩
    · show ((14 * (r.val / 384 + 1) + k.val / 1024) / 14 - 1) * 384 ≤ r.val ∧ r.val < ((14 * (r.val / 384 + 1) + k.val / 1024) / 14 - 1) * 384 + 384
      omega
    · show (14 * (r.val / 384 + 1) + k.val / 1024) % 14 * 1024 ≤ k.val ∧ k.val < (14 * (r.val / 384 + 1) + k.val / 1024) % 14 * 1024 + 1024
      omega

/-- What the run leaves in the result arrays. -/
theorem results (r : PUnit × MemSt nD τ sig (Elt F)) (h : Pipeline.RDat.FramePost (cfgs 0) (rdat m) (V m) r) (c : Dev nD) :
    r.2.mem ((c.tc : Thread nD τ).loc main_v2_0) = res5 (arrOf m c) ∧ r.2.mem ((c.tc : Thread nD τ).loc main_v2_1) = res6 (arrOf m c)
      ∧ r.2.mem ((c.tc : Thread nD τ).loc main_v2_2) = res7 (arrOf m c) ∧ r.2.mem ((c.tc : Thread nD τ).loc main_v2_3) = res8 (arrOf m c) := by
  obtain ⟨after, hL, hA⟩ := Pipeline.RDat.FramePost.exists_exact h c
  exact ⟨(hA 5).trans (arr5 m c after (hL 5)), (hA 6).trans (arr6 m c after (hL 6)), (hA 7).trans (arr7 m c after (hL 7)), (hA 8).trans (arr8 m c after (hL 8))⟩

end Cert.KernelIdeal.Up

end
-- ==== Proof.UpRef.lean ====
module

public import proofs.«01_k».proof.Proof.Gen.ReferenceIdeal.Frame
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Up

open Cert.ReferenceIdeal Cert.ReferenceIdeal.Gen
open Idealize.ShloMosaic Idealize.ShloMosaic.TcCoe Idealize.ShloMosaic.Tactic
open Idealize.SL Idealize.SL.Sem

/-! # What the reference's run leaves in its result arrays -/

variable {F : FTy → Type} [FloatOps F]
variable (m : (ℓ : Loc nD τ sig) → Buf (Elt F) ℓ) (ρ : Dev nD → PrngReg)

/-- The gated product of the whole arrays. -/
abbrev prod (x : Vec F S24960x1152 .bf16) (w1 w2 : Vec F S1152x14336 .fp8e4m3) (s3 s4 : Vec F S1x14336 .f32) : FVec F S24960x14336 .f32 :=
  k0_pay8 x w1 s3 w2 s4
/-- Its row maxima. -/
abbrev prodMax (x : Vec F S24960x1152 .bf16) (w1 w2 : Vec F S1152x14336 .fp8e4m3) (s3 s4 : Vec F S1x14336 .f32) : FVec F S24960x1 .f32 :=
  k0_pay9 x w1 s3 w2 s4

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

theorem iblk0 (c : Dev nD) (t : Fin cfg0.N) : iblk m c 0 t = V m c main_arg0 := by
  have : V m c main_arg0 = V m c (Pipeline.arrRef spec0 0) := rfl
  rw [this]
  generalize hV : V m c (Pipeline.arrRef spec0 0) = X
  blk_ext! [iblk, hV, index0 t]
theorem iblk1 (c : Dev nD) (t : Fin cfg0.N) : iblk m c 1 t = V m c main_arg1 := by
  have : V m c main_arg1 = V m c (Pipeline.arrRef spec0 1) := rfl
  rw [this]
  generalize hV : V m c (Pipeline.arrRef spec0 1) = X
  blk_ext! [iblk, hV, index1 t]
theorem iblk2 (c : Dev nD) (t : Fin cfg0.N) : iblk m c 2 t = V m c main_arg2 := by
  have : V m c main_arg2 = V m c (Pipeline.arrRef spec0 2) := rfl
  rw [this]
  generalize hV : V m c (Pipeline.arrRef spec0 2) = X
  blk_ext! [iblk, hV, index2 t]
theorem iblk3 (c : Dev nD) (t : Fin cfg0.N) : iblk m c 3 t = V m c main_v0 := by
  have : V m c main_v0 = V m c (Pipeline.arrRef spec0 3) := rfl
  rw [this]
  generalize hV : V m c (Pipeline.arrRef spec0 3) = X
  blk_ext! [iblk, hV, index3 t]
theorem iblk4 (c : Dev nD) (t : Fin cfg0.N) : iblk m c 4 t = V m c main_v1 := by
  have : V m c main_v1 = V m c (Pipeline.arrRef spec0 4) := rfl
  rw [this]
  generalize hV : V m c (Pipeline.arrRef spec0 4) = X
  blk_ext! [iblk, hV, index4 t]

theorem final5 (c : Dev nD) : (dats m 0 c).arrAt 5 cfg0.N = k0_pay7 (V m c main_arg0) := by
  refine (dats m 0 c).arrAt_eq_of_after_last 5 t0_0 (by decide +kernel) _ fun j => ?_
  blk_simp
  rw [after0_5]
  unfold out0_5
  frame_out
  rw [iblk0]

theorem final6 (c : Dev nD) : (dats m 0 c).arrAt 6 cfg0.N = k0_pay3 (k0_pay6 (V m c main_arg0)) := by
  refine (dats m 0 c).arrAt_eq_of_after_last 6 t0_0 (by decide +kernel) _ fun j => ?_
  blk_simp
  rw [after0_6]
  unfold out0_6
  frame_out
  rw [iblk0]

theorem final7 (c : Dev nD) : (dats m 0 c).arrAt 7 cfg0.N
    = k0_pay2 (prod (V m c main_arg0) (V m c main_arg1) (V m c main_arg2) (V m c main_v0) (V m c main_v1))
        (prodMax (V m c main_arg0) (V m c main_arg1) (V m c main_arg2) (V m c main_v0) (V m c main_v1)) (Scalar.ofBits .f32 0x00000000#32) := by
  refine (dats m 0 c).arrAt_eq_of_after_last 7 t0_0 (by decide +kernel) _ fun j => ?_
  blk_simp
  rw [after0_7]
  unfold out0_7 k0_pay10
  frame_out
  rw [iblk0, iblk1, iblk2, iblk3, iblk4]

theorem final8 (c : Dev nD) : (dats m 0 c).arrAt 8 cfg0.N
    = k0_pay4 (prodMax (V m c main_arg0) (V m c main_arg1) (V m c main_arg2) (V m c main_v0) (V m c main_v1)) (Scalar.ofBits .f32 0x00000000#32) := by
  refine (dats m 0 c).arrAt_eq_of_after_last 8 t0_0 (by decide +kernel) _ fun j => ?_
  blk_simp
  rw [after0_8]
  unfold out0_8 k0_pay10
  frame_out
  rw [iblk0, iblk1, iblk2, iblk3, iblk4]

end Cert.ReferenceIdeal.Up

end
-- ==== Proof.UpLaws.lean ====
module

public import Idealize.ShloMosaic.Lib.Pipeline.Value
public import Idealize.ShloMosaic.Lib.VecWindow
public import Idealize.ShloMosaic.Lib.IdealHost
public import Idealize.ShloMosaic.Lib.Pointwise
public import Idealize.ShloMosaic.Lib.MatmulPlain
public import Idealize.ShloMosaic.Lib.ValueLayout
public import Idealize.ShloMosaic.Lib.ValueLayoutCasts

@[expose] public section

noncomputable section

/-! The operations the two programs share, each read at an element, for matrices of any size, over the extended reals. -/

open Idealize.ShloMosaic

namespace Cert.UpLaws

variable {α : Type} {n d e : ℕ}

/-- A vector laid as one column, read at a row. -/
theorem col_at (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) :=
  ValueIdx.shapeCast_a_a1_apply x h r 0

/-- One row laid over many, read at an element. -/
theorem brow_at (v : (⟨2, ![1, d]⟩ : Shape).Idx → α) (h : (⟨2, ![1, d]⟩ : Shape).Broadcasts ⟨2, ![n, d]⟩) (r : Fin n) (k : Fin d) :
    broadcastTo ⟨2, ![n, d]⟩ v h (ix2 r k) = v (ix2 0 k) :=
  ValueIdx.broadcastTo_1b_ab_apply v h r k

/-- One column laid over many, read at an element. -/
theorem bcol_at (v : (⟨2, ![n, 1]⟩ : Shape).Idx → α) (h : (⟨2, ![n, 1]⟩ : Shape).Broadcasts ⟨2, ![n, d]⟩) (r : Fin n) (k : Fin d) :
    broadcastTo ⟨2, ![n, d]⟩ v h (ix2 r k) = v (ix2 r 0) := by
  refine broadcastTo_apply v h (ix2 r k) (ix2 r 0) fun ax => ?_
  match ax with
  | ⟨0, _⟩ =>
    show r.val = if n = 1 then 0 else r.val
    split
    · have := r.isLt; omega
    · rfl
  | ⟨1, _⟩ => rfl

/-- A vector laid as one row, read at a column. -/
theorem row_at (x : (⟨1, ![n]⟩ : Shape).Idx → α) (h : (⟨1, ![n]⟩ : Shape).ShapeCasts ⟨2, ![1, n]⟩) (r : Fin n) :
    shapeCast ⟨2, ![1, n]⟩ x h (ix2 0 r) = x (ix1 r) :=
  shapeCast_apply x h _ _ (by
    rw [Shape.rowMajor_val_two, Shape.rowMajor_val_one]
    show r.val = 0 * n + r.val
    omega)

/-- One column cut into rows of `d`, read at an element. -/
theorem fold_at (x : (⟨2, ![n, 1]⟩ : Shape).Idx → α) (h : (⟨2, ![n, 1]⟩ : Shape).ShapeCasts ⟨3, ![e, 1, d]⟩) (q : Fin e) (r : Fin d)
    (R : Fin n) (hR : R.val = q.val * d + r.val) : shapeCast ⟨3, ![e, 1, d]⟩ x h (ix3 q 0 r) = x (ix2 R 0) :=
  shapeCast_apply x h _ _ (by
    rw [Shape.rowMajor_val_two, Shape.rowMajor_val_three]
    show R.val * 1 + 0 = (q.val * 1 + 0) * d + r.val
    simp only [Nat.mul_one, Nat.add_zero]
    exact hR)

/-- The maximum along the rows, read at a row. -/
theorem rowMax_at {φ : FTy} (v : FVec Ideal ⟨2, ![n, d]⟩ φ) (acc : BitVec φ.bits) (h : (⟨2, ![n, d]⟩ : Shape).Reduces [1] ⟨1, ![n]⟩)
    (hφ) (hacc) (r : Fin n) :
    multiReduction .maximumf [1] ⟨1, ![n]⟩ v acc h hφ hacc (ix1 r)
      = (Finset.univ : Finset (Fin d)).fold max (FloatOps.ofBits (F := Ideal) φ acc) fun k => v (ix2 r k) := by
  rw [Ideal.multiReduction_maximumf_single]
  refine Finset.fold_congr fun k _ => congrArg v ?_
  funext c; apply Fin.ext
  match c with
  | ⟨0, _⟩ => rfl
  | ⟨1, _⟩ => rfl

/-- A matrix product into zeros, read at an element. -/
theorem dot_at {φ₁ φ₂ : FTy} (x : FVec Ideal ⟨2, ![n, d]⟩ φ₁) (w : FVec Ideal ⟨2, ![d, e]⟩ φ₂) (r : Fin n) (c : Fin e) :
    matmul (DotDims.plain n d e) none x w (constant ⟨2, ![n, e]⟩ .f32 0x00000000#32) (ix2 r c) = ∑ k : Fin d, x (ix2 r k) * w (ix2 k c) := by
  refine (Ideal.matmul_plain_apply none x w _ r c).trans ?_
  show Ideal.ofBits .f32 0x00000000#32 + _ = _
  rw [Ideal.ofBits_zero_f32, zero_add]
  rfl

/-- A window of a matrix, read at an element. -/
theorem window_at (w : (⟨2, ![n, d]⟩ : Shape).Idx → α) (o p : ℕ) (size : Fin 2 → ℕ) (h) (X : Fin n) (K : Fin d)
    (y : (Rect.unit (s := ⟨2, ![n, d]⟩) ![o, p] size h).shape.Idx) (hX : X.val = o + (y 0).val) (hK : K.val = p + (y 1).val) :
    VecWindow.window w ![o, p] size h y = w (ix2 X K) := by
  refine congrArg w ?_
  funext c; apply Fin.ext
  match c with
  | ⟨0, _⟩ => show o + 1 * (y 0).val = X.val; omega
  | ⟨1, _⟩ => show p + 1 * (y 1).val = K.val; omega

/-- The step of a row whose greatest magnitude is `b`. -/
def scl (b : EReal) : EReal :=
  Scalar.select (FloatOps.cmpf (F := Ideal) (φ := .f32) .oeq b (Scalar.ofBits (F := Ideal) .f32 0x00000000#32)) (Scalar.ofBits (F := Ideal) .f32 0x3F800000#32)
    (Ideal.div b (Scalar.ofBits (F := Ideal) .f32 0x43E00000#32))

/-- A value held to the range of the codes. -/
def clipS (v : EReal) : EReal :=
  min (Scalar.ofBits (F := Ideal) .f32 0x43E00000#32) (max (Scalar.ofBits (F := Ideal) .f32 0xC3E00000#32) v)

/-- An element of the gated product from its two sums, the row's step and the two columns' scales. -/
def gated (g u x s t : EReal) : EReal :=
  (g * x * s) * FloatOps.logistic (F := Ideal) (φ := .f32) (g * x * s) * (u * x * t)

/-- The greatest magnitude of a row. -/
def amax (v : FVec Ideal ⟨2, ![n, d]⟩ .f32) (r : Fin n) : EReal :=
  (Finset.univ : Finset (Fin d)).fold max (FloatOps.ofBits (F := Ideal) .f32 0xFF800000#32) fun k => max (v (ix2 r k)) (-(v (ix2 r k)))

/-- The column of steps from a column of maxima, read at a row. -/
theorem sclCol_at {s : Shape} (m : FVec Ideal s .f32) (y : s.Idx) :
    select (cmpf .oeq m (broadcast s (Scalar.ofBits .f32 0x00000000#32))) (broadcast s (Scalar.ofBits .f32 0x3F800000#32))
      (divf m (broadcast s (Scalar.ofBits .f32 0x43E00000#32))) y = scl (m y) := rfl

/-- Values held to the range of the codes, read at an element. -/
theorem clip_at {s : Shape} (v : FVec Ideal s .f32) (h) (y : s.Idx) :
    truncf .fp8e4m3 (minimumf (broadcast s (Scalar.ofBits .f32 0x43E00000#32)) (maximumf (broadcast s (Scalar.ofBits .f32 0xC3E00000#32)) v)) h y = clipS (v y) := rfl

/-- A quotient by the row's step, held to the range of the codes, read at an element. -/
theorem codes_at (v : FVec Ideal ⟨2, ![n, d]⟩ .f32) (x : FVec Ideal ⟨2, ![n, 1]⟩ .f32) (hx : (⟨2, ![n, 1]⟩ : Shape).Broadcasts ⟨2, ![n, d]⟩) (h) (r : Fin n) (k : Fin d) :
    truncf .fp8e4m3 (minimumf (broadcast ⟨2, ![n, d]⟩ (Scalar.ofBits .f32 0x43E00000#32)) (maximumf (broadcast ⟨2, ![n, d]⟩ (Scalar.ofBits .f32 0xC3E00000#32))
      (divf v (broadcastTo ⟨2, ![n, d]⟩ x hx)))) h (ix2 r k) = clipS (Ideal.div (v (ix2 r k)) (x (ix2 r 0))) := by
  rw [← bcol_at x hx r k]; rfl

/-- A constant over a column, read at an element. -/
theorem recip_at {s : Shape} (c : EReal) (x : FVec Ideal s .f32) (y : s.Idx) : divf (broadcast s (α := Ideal .f32) c) x y = Ideal.div c (x y) := rfl

/-- A row's greatest magnitude as the two programs compute it. -/
theorem amaxCol_at (v : FVec Ideal ⟨2, ![n, d]⟩ .f32) (h : (⟨2, ![n, d]⟩ : Shape).Reduces [1] ⟨1, ![n]⟩) (hφ) (hacc) (hc) (r : Fin n) :
    shapeCast ⟨2, ![n, 1]⟩ (multiReduction .maximumf [1] ⟨1, ![n]⟩ (absf v) 0xFF800000#32 h hφ hacc) hc (ix2 r 0) = amax v r :=
  (col_at _ hc r).trans (rowMax_at (absf v) _ h hφ hacc r)

/-- The gated product written over whole matrices, read at an element. -/
theorem gated_at {φ₁ φ₂ : FTy} (xq : FVec Ideal ⟨2, ![n, d]⟩ φ₁) (w1 w2 : FVec Ideal ⟨2, ![d, e]⟩ φ₂) (x : FVec Ideal ⟨2, ![n, 1]⟩ .f32)
    (s t : FVec Ideal ⟨2, ![1, e]⟩ .f32) (hx : (⟨2, ![n, 1]⟩ : Shape).Broadcasts ⟨2, ![n, e]⟩) (hs : (⟨2, ![1, e]⟩ : Shape).Broadcasts ⟨2, ![n, e]⟩)
    (v25 v33 : FVec Ideal ⟨2, ![n, e]⟩ .f32)
    (h25 : v25 = mulf (mulf (matmul (DotDims.plain n d e) none xq w1 (constant ⟨2, ![n, e]⟩ .f32 0x00000000#32)) (broadcastTo ⟨2, ![n, e]⟩ x hx)) (broadcastTo ⟨2, ![n, e]⟩ s hs))
    (h33 : v33 = mulf (mulf (matmul (DotDims.plain n d e) none xq w2 (constant ⟨2, ![n, e]⟩ .f32 0x00000000#32)) (broadcastTo ⟨2, ![n, e]⟩ x hx)) (broadcastTo ⟨2, ![n, e]⟩ t hs))
    (r : Fin n) (c : Fin e) :
    mulf (mulf v25 (logistic v25)) v33 (ix2 r c)
      = gated (∑ k : Fin d, xq (ix2 r k) * w1 (ix2 k c)) (∑ k : Fin d, xq (ix2 r k) * w2 (ix2 k c)) (x (ix2 r 0)) (s (ix2 0 c)) (t (ix2 0 c)) := by
  have e25 : v25 (ix2 r c) = (∑ k : Fin d, xq (ix2 r k) * w1 (ix2 k c)) * x (ix2 r 0) * s (ix2 0 c) := by
    rw [h25, ← dot_at xq w1 r c, ← bcol_at x hx r c, ← brow_at s hs r c]; rfl
  have e33 : v33 (ix2 r c) = (∑ k : Fin d, xq (ix2 r k) * w2 (ix2 k c)) * x (ix2 r 0) * t (ix2 0 c) := by
    rw [h33, ← dot_at xq w2 r c, ← bcol_at x hx r c, ← brow_at t hs r c]; rfl
  show v25 (ix2 r c) * FloatOps.logistic (F := Ideal) (φ := .f32) (v25 (ix2 r c)) * v33 (ix2 r c) = _
  rw [e25, e33]
  rfl

/-- Multiplying by the reciprocal of a number other than zero is dividing by it. -/
theorem mul_inv_eq (h s : EReal) (hs : s ≠ 0) : h * Ideal.div (Scalar.ofBits (F := Ideal) .f32 0x3F800000#32) s = Ideal.div h s := by
  show h * Ideal.div (Ideal.ofBits .f32 0x3F800000#32) s = _
  rw [Ideal.ofBits_one_f32]
  unfold Ideal.div
  rw [if_neg hs, if_neg hs, one_mul]

/-- 448 as a real number. -/
theorem ofBits_448 : Ideal.ofBits .f32 0x43E00000#32 = ((448 : ℝ) : EReal) := by
  simp [Ideal.ofBits, Ideal.ieee, -EReal.coe_mul]; norm_num

/-- A row's step is never zero. -/
theorem scl_ne_zero (b : EReal) : scl b ≠ 0 := by
  by_cases hb : b = 0
  · subst hb
    have h : scl 0 = 1 := by
      show Scalar.select (BitVec.ofBool (decide ((0 : EReal) = Ideal.ofBits .f32 0x00000000#32))) (Ideal.ofBits .f32 0x3F800000#32) _ = _
      rw [Ideal.ofBits_zero_f32, Ideal.ofBits_one_f32, decide_eq_true rfl]
      rfl
    rw [h]; exact one_ne_zero
  · have h : scl b = Ideal.div b ((448 : ℝ) : EReal) := by
      show Scalar.select (BitVec.ofBool (decide (b = Ideal.ofBits .f32 0x00000000#32))) _ (Ideal.div b (Ideal.ofBits .f32 0x43E00000#32)) = _
      rw [Ideal.ofBits_zero_f32, decide_eq_false hb, ofBits_448]
      rfl
    have h448 : ((448 : ℝ) : EReal) ≠ 0 := by exact_mod_cast (by norm_num : (448 : ℝ) ≠ 0)
    rw [h]; unfold Ideal.div; rw [if_neg h448]
    refine mul_ne_zero hb ?_
    rw [← EReal.coe_inv]
    exact_mod_cast (by norm_num : ((448 : ℝ)⁻¹) ≠ 0)

/-- A magnitude is not negative. -/
theorem mag_nonneg (a : EReal) : 0 ≤ max a (-a) := by
  rcases le_total 0 a with h | h
  · exact le_max_of_le_left h
  · exact le_max_of_le_right (by simpa using EReal.neg_le_neg_iff.2 h)

/-- The maximum kept lane by lane, from zero, over `n` groups of `d` columns. -/
def runMax (H : ℕ → Fin d → EReal) : ℕ → Fin d → EReal
  | 0, _ => 0
  | m + 1, l => max (runMax H m l) (max (H m l) (-(H m l)))

theorem runMax_le (H : ℕ → Fin d → EReal) (l : Fin d) (c : EReal) : ∀ m, runMax H m l ≤ c ↔ 0 ≤ c ∧ ∀ p < m, max (H p l) (-(H p l)) ≤ c
  | 0 => ⟨fun h => ⟨h, fun p hp => absurd hp (Nat.not_lt_zero p)⟩, fun h => h.1⟩
  | m + 1 => by
    show max (runMax H m l) _ ≤ c ↔ _
    rw [max_le_iff, runMax_le H l c m]
    refine ⟨fun h => ⟨h.1.1, fun p hp => ?_⟩, fun h => ⟨⟨h.1, fun p hp => h.2 p (by omega)⟩, h.2 m (by omega)⟩⟩
    rcases Nat.lt_succ_iff_lt_or_eq.1 hp with hp | rfl
    · exact h.1.2 p hp
    · exact h.2

/-- The greatest of the lanes' maxima is the greatest over all the columns. -/
theorem fold_run (N : ℕ) (hN : 0 < N) (hd : 0 < d) (he : e = N * d) (b : EReal) (H : ℕ → Fin d → EReal) (G : Fin e → EReal)
    (hG : ∀ C : Fin e, G C = H (C.val / d) ⟨C.val % d, Nat.mod_lt _ hd⟩) :
    (Finset.univ : Finset (Fin d)).fold max b (runMax H N) = (Finset.univ : Finset (Fin e)).fold max b fun C => max (G C) (-(G C)) := by
  refine eq_of_forall_ge_iff fun c => ?_
  rw [Finset.fold_max_le, Finset.fold_max_le]
  refine and_congr_right fun _ => ⟨fun h C _ => ?_, fun h l _ => (runMax_le H l c N).2 ⟨?_, fun p hp => ?_⟩⟩
  · rw [hG C]
    exact ((runMax_le H _ c N).1 (h ⟨C.val % d, Nat.mod_lt _ hd⟩ (Finset.mem_univ _))).2 _
      ((Nat.div_lt_iff_lt_mul hd).2 (he ▸ C.isLt))
  · exact (mag_nonneg _).trans (h ⟨0, he ▸ Nat.mul_pos hN hd⟩ (Finset.mem_univ _))
  · have hlt : p * d + l.val < e := by
      have h1 : (p + 1) * d ≤ N * d := Nat.mul_le_mul_right d hp
      have h2 : (p + 1) * d = p * d + d := Nat.succ_mul p d
      have := l.isLt
      omega
    have h1 := h ⟨p * d + l.val, hlt⟩ (Finset.mem_univ _)
    have e1 : (p * d + l.val) / d = p := by
      rw [Nat.add_comm, Nat.add_mul_div_right _ _ hd, Nat.div_eq_of_lt l.isLt, Nat.zero_add]
    have e2 : (p * d + l.val) % d = l.val := by
      rw [Nat.add_comm, Nat.add_mul_mod_self_right, Nat.mod_eq_of_lt l.isLt]
    rw [hG] at h1
    simp only [e1, e2] at h1
    exact h1

end Cert.UpLaws
-- ==== Proof.UpIdeal.lean ====
module

public import proofs.«01_k».proof.Proof.UpArr
public import proofs.«01_k».proof.Proof.UpRef
public import proofs.«01_k».proof.Proof.UpLaws
public import Idealize.ShloMosaic.Lib.IdealHost
public import Idealize.ShloMosaic.Lib.Pointwise

@[expose] public section

set_option maxRecDepth 16384

noncomputable section

namespace Cert.KernelIdeal.Up

open Cert.KernelIdeal Cert.KernelIdeal.Gen Cert.UpLaws
open Idealize.ShloMosaic Idealize.ShloMosaic.TcCoe Idealize.ShloMosaic.Tactic
open Idealize.SL Idealize.SL.Sem

/-! # The kernel's arrays are the reference's, over the extended reals -/

variable (a : Arr Ideal)

/-- The row of the whole argument that row `r` of row tile `i` is. -/
def rowAt (i : ℕ) (r : Fin 384) : Fin 24960 := ⟨384 * min i 64 + r.val, by have := r.isLt; omega⟩

/-- The step of a row of the argument, and its codes. -/
def rowScl (R : Fin 24960) : EReal := scl (amax (n := 24960) (d := 1152) a.x R)
def rowCode (R : Fin 24960) (k : Fin 1152) : EReal := clipS (Ideal.div (a.x (ix2 R k)) (rowScl a R))

/-- The gated product at an element. -/
def hVal (R : Fin 24960) (C : Fin 14336) : EReal :=
  gated (∑ k : Fin 1152, rowCode a R k * a.w1 (ix2 k C)) (∑ k : Fin 1152, rowCode a R k * a.w2 (ix2 k C)) (rowScl a R) (a.s3 (ix2 0 C)) (a.s4 (ix2 0 C))

/-- The greatest magnitude of a row of it, and the row's step. -/
def hMax (R : Fin 24960) : EReal :=
  (Finset.univ : Finset (Fin 14336)).fold max (FloatOps.ofBits (F := Ideal) .f32 0xFF800000#32) fun C => max (hVal a R C) (-(hVal a R C))
def hScl (R : Fin 24960) : EReal := scl (hMax a R)

/-! ## The reference's arrays, element by element -/

theorem ref_scale (R : Fin 24960) : ReferenceIdeal.Gen.k0_pay6 a.x (ix2 R 0) = rowScl a R := by
  unfold ReferenceIdeal.Gen.k0_pay6
  refine (sclCol_at _ _).trans (congrArg scl ?_)
  refine (amaxCol_at (n := 24960) (d := 1152) (ReferenceIdeal.Gen.k0_pay5 a.x) _ _ _ _ R).trans ?_
  exact congrArg (fun v => amax (n := 24960) (d := 1152) v R) (funext fun _ => rfl)

theorem ref_codes (R : Fin 24960) (k : Fin 1152) : ReferenceIdeal.Gen.k0_pay7 a.x (ix2 R k) = rowCode a R k := by
  unfold ReferenceIdeal.Gen.k0_pay7
  refine (codes_at (n := 24960) (d := 1152) (ReferenceIdeal.Gen.k0_pay5 a.x) (ReferenceIdeal.Gen.k0_pay6 a.x) _ _ R k).trans ?_
  rw [ref_scale]
  rfl

theorem ref_prod (R : Fin 24960) (C : Fin 14336) : ReferenceIdeal.Up.prod a.x a.w1 a.w2 a.s3 a.s4 (ix2 R C) = hVal a R C := by
  unfold ReferenceIdeal.Up.prod ReferenceIdeal.Gen.k0_pay8
  refine (gated_at (n := 24960) (d := 1152) (e := 14336) (ReferenceIdeal.Gen.k0_pay7 a.x) a.w1 a.w2 (ReferenceIdeal.Gen.k0_pay6 a.x) _ _ _ _ _ _ rfl rfl R C).trans ?_
  rw [ref_scale, shapeCast_self, shapeCast_self]
  simp only [ref_codes]
  rfl

theorem ref_prodMax (R : Fin 24960) : ReferenceIdeal.Up.prodMax a.x a.w1 a.w2 a.s3 a.s4 (ix2 R 0) = hMax a R := by
  unfold ReferenceIdeal.Up.prodMax ReferenceIdeal.Gen.k0_pay9
  refine (amaxCol_at (n := 24960) (d := 14336) (ReferenceIdeal.Up.prod a.x a.w1 a.w2 a.s3 a.s4) _ _ _ _ R).trans ?_
  unfold amax hMax
  simp only [ref_prod]

theorem ref_outScale (R : Fin 24960) :
    ReferenceIdeal.Gen.k0_pay1 (ReferenceIdeal.Up.prodMax a.x a.w1 a.w2 a.s3 a.s4) (Scalar.ofBits .f32 0x00000000#32) (ix2 R 0) = hScl a R := by
  unfold ReferenceIdeal.Gen.k0_pay1
  exact (sclCol_at _ _).trans (congrArg scl (ref_prodMax a R))

theorem ref_outCodes (R : Fin 24960) (C : Fin 14336) :
    ReferenceIdeal.Gen.k0_pay2 (ReferenceIdeal.Up.prod a.x a.w1 a.w2 a.s3 a.s4) (ReferenceIdeal.Up.prodMax a.x a.w1 a.w2 a.s3 a.s4) (Scalar.ofBits .f32 0x00000000#32) (ix2 R C)
      = clipS (Ideal.div (hVal a R C) (hScl a R)) := by
  unfold ReferenceIdeal.Gen.k0_pay2
  refine (codes_at (n := 24960) (d := 14336) (ReferenceIdeal.Up.prod a.x a.w1 a.w2 a.s3 a.s4) (ReferenceIdeal.Gen.k0_pay1 (ReferenceIdeal.Up.prodMax a.x a.w1 a.w2 a.s3 a.s4) (Scalar.ofBits .f32 0x00000000#32)) _ _ R C).trans ?_
  rw [ref_prod, ref_outScale]

/-! ## The kernel's arrays, element by element -/

theorem xT_at (i : ℕ) (r : Fin 384) (k : Fin 1152) : xT a i (ix2 r k) = a.x (ix2 (rowAt i r) k) := rfl

theorem ker_scale (i : ℕ) (r : Fin 384) : k0_pay10 (xT a i) (ix2 r 0) = rowScl a (rowAt i r) := by
  unfold k0_pay10
  refine (sclCol_at _ _).trans (congrArg scl ?_)
  refine (amaxCol_at (n := 384) (d := 1152) (k0_pay9 (xT a i)) _ _ _ _ r).trans ?_
  unfold amax
  exact Finset.fold_congr fun k _ => rfl

theorem ker_codes (i : ℕ) (r : Fin 384) (k : Fin 1152) : k0_pay11 (xT a i) (ix2 r k) = rowCode a (rowAt i r) k := by
  unfold k0_pay11
  refine (codes_at (n := 384) (d := 1152) (k0_pay9 (xT a i)) (k0_pay10 (xT a i)) _ _ r k).trans ?_
  rw [ker_scale]
  rfl

theorem codesT_at (i : ℕ) (r : Fin 384) (k : Fin 1152) : codesT a i (ix2 r k) = rowCode a (rowAt i r) k := by
  unfold codesT k0_pay12
  rw [shapeCast_self]
  exact ker_codes a i r k

theorem sclT_at (i : ℕ) (r : Fin 384) (l : Fin 128) : sclT a i (ix2 r l) = rowScl a (rowAt i r) := by
  unfold sclT k0_pay14
  rw [shapeCast_self, shapeCast_self]
  exact (bcol_at (n := 384) (d := 128) _ _ r l).trans (ker_scale a i r)

/-- One group's sums, read at an element. -/
theorem gate_at (i : ℕ) (w : Vec Ideal S1152x14336 .fp8e4m3) (j : Fin 14) (g : Fin 8) (r : Fin 384) (l : Fin 128) (C : Fin 14336)
    (hC : C.val = 1024 * j.val + 128 * g.val + l.val) :
    extractStridedSlice S384x128 ![0, 128 * g.val] (gateOf (codesT a i) (VecWindow.window w ![0, 1024 * j.val] S1152x1024.size (wInb j))) (sliceCols g) (ix2 r l)
      = ∑ k : Fin 1152, rowCode a (rowAt i r) k * w (ix2 k C) := by
  have hg := g.isLt
  have hl := l.isLt
  refine (extractStridedSlice_apply (s := S384x1024) _ _ (sliceCols g) (ix2 r l) (ix2 r (⟨128 * g.val + l.val, by omega⟩ : Fin 1024)) (fun c => by
    match c with
    | ⟨0, _⟩ => show r.val = 0 + r.val; omega
    | ⟨1, _⟩ => rfl)).trans ?_
  unfold gateOf k0_pay17
  refine (dot_at (n := 384) (d := 1152) (e := 1024) (φ₁ := .fp8e4m3) (φ₂ := .fp8e4m3) (codesT a i) (VecWindow.window w ![0, 1024 * j.val] S1152x1024.size (wInb j)) r ⟨128 * g.val + l.val, by omega⟩).trans ?_
  refine Finset.sum_congr rfl fun k _ => ?_
  rw [codesT_at]
  refine congrArg (rowCode a (rowAt i r) k * ·) ?_
  refine window_at (n := 1152) (d := 14336) w 0 (1024 * j.val) S1152x1024.size (wInb j) k C _ ?_ ?_
  · show k.val = 0 + k.val; omega
  · show C.val = 1024 * j.val + (128 * g.val + l.val); omega

theorem col_scale_at (s : Vec Ideal S1x14336 .f32) (j : Fin 14) (g : Fin 8) (r : Fin 384) (l : Fin 128) (C : Fin 14336)
    (hC : C.val = 1024 * j.val + 128 * g.val + l.val) :
    broadcastTo S384x128 (shapeCast S1x128 (VecWindow.window s ![0, 1024 * j.val + 128 * g.val] S1x128.size (sInb j g)) shapeCasts_S1x128_S1x128) broadcasts_S1x128_S384x128 (ix2 r l)
      = s (ix2 0 C) := by
  refine (brow_at (n := 384) (d := 128) _ _ r l).trans ((congrFun (shapeCast_self (s := S1x128) _ _) _).trans ?_)
  refine window_at (n := 1) (d := 14336) s 0 (1024 * j.val + 128 * g.val) S1x128.size (sInb j g) 0 C _ ?_ ?_
  · rfl
  · exact hC

theorem tile_at (i : ℕ) (j : Fin 14) (g : Fin 8) (r : Fin 384) (l : Fin 128) (C : Fin 14336) (hC : C.val = 1024 * j.val + 128 * g.val + l.val) :
    tileN a (codesT a i) (sclT a i) j g (ix2 r l) = hVal a (rowAt i r) C := by
  have e1 := gate_at a i a.w1 j g r l C hC
  have e2 := gate_at a i a.w2 j g r l C hC
  have e3 := col_scale_at a.s3 j g r l C hC
  have e4 := col_scale_at a.s4 j g r l C hC
  have ex := sclT_at a i r l
  unfold tileN hTile scaled hVal gated
  rw [← e1, ← e2, ← e3, ← e4, ← ex]
  rfl

end Cert.KernelIdeal.Up
-- ==== Proof.UpEqual.lean ====
module

public import proofs.«01_k».proof.Proof.UpIdeal
public import Idealize.ShloMosaic.Lib.IdealHost
public import Idealize.ShloMosaic.Lib.Pointwise

@[expose] public section

set_option maxRecDepth 16384

noncomputable section

namespace Cert.KernelIdeal.Up

open Cert.KernelIdeal Cert.KernelIdeal.Gen Cert.UpLaws

open Idealize.ShloMosaic Idealize.ShloMosaic.TcCoe Idealize.ShloMosaic.Tactic
open Idealize.SL Idealize.SL.Sem

/-! # The result arrays are equal -/

variable (a : Arr Ideal)

theorem tileG_at (i n : ℕ) (hn : n < 112) (r : Fin 384) (l : Fin 128) (C : Fin 14336) (hC : C.val = 128 * n + l.val) :
    tileG a i n (ix2 r l) = hVal a (rowAt i r) C := by
  unfold tileG
  refine tile_at a i _ _ r l C ?_
  show C.val = 1024 * (n / 8 % 14) + 128 * (n % 8) + l.val
  omega

theorem maxT_at (i : ℕ) (r : Fin 384) (l : Fin 128) : ∀ n, maxT a i n (ix2 r l) = runMax (fun p l => tileG a i p (ix2 r l)) n l
  | 0 => by
    unfold maxT k0_pay16
    rw [shapeCast_self]
    exact Ideal.ofBits_zero_f32
  | n + 1 => by
    have ih := maxT_at i r l n
    show max (maxT a i n (ix2 r l)) (max (tileG a i n (ix2 r l)) (-(tileG a i n (ix2 r l)))) = _
    rw [ih]
    rfl

theorem maxRow (i : ℕ) (r : Fin 384) :
    (Finset.univ : Finset (Fin 128)).fold max (FloatOps.ofBits (F := Ideal) .f32 0xFF800000#32) (fun l => maxT a i 112 (ix2 r l)) = hMax a (rowAt i r) := by
  unfold hMax
  simp only [maxT_at]
  refine (fold_run (d := 128) (e := 14336) 112 (by decide) (by decide) (by decide) _ (fun p l => tileG a i p (ix2 r l)) (fun C => hVal a (rowAt i r) C) fun C => ?_)
  have hC := C.isLt
  exact (tileG_at a i (C.val / 128) (by omega) r _ C (by show C.val = 128 * (C.val / 128) + C.val % 128; omega)).symm

theorem hScale_at (i : ℕ) (r : Fin 384) : hScale a i (ix2 r 0) = hScl a (rowAt i r) := by
  unfold hScale scaleOf
  refine (sclCol_at _ _).trans (congrArg scl ?_)
  refine (col_at (n := 384) _ _ r).trans ?_
  exact (rowMax_at (n := 384) (d := 128) (φ := .f32) (maxT a i 112) _ _ _ _ r).trans (maxRow a i r)

theorem invT_at (i : ℕ) (r : Fin 384) (l : Fin 128) :
    invT a i (ix2 r l) = Ideal.div (Scalar.ofBits (F := Ideal) .f32 0x3F800000#32) (hScl a (rowAt i r)) := by
  unfold invT invOf
  rw [shapeCast_self, shapeCast_self]
  refine (bcol_at (n := 384) (d := 128) _ _ r l).trans ?_
  refine (recip_at (Scalar.ofBits (F := Ideal) .f32 0x3F800000#32) (hScale a i) _).trans ?_
  rw [hScale_at]

theorem hCodes_at (i n : ℕ) (hn : n < 112) (r : Fin 384) (l : Fin 128) (C : Fin 14336) (hC : C.val = 128 * n + l.val) :
    codesOf (invT a i) (tileG a i n) (ix2 r l) = clipS (Ideal.div (hVal a (rowAt i r) C) (hScl a (rowAt i r))) := by
  have e : codesOf (invT a i) (tileG a i n) (ix2 r l) = clipS (tileG a i n (ix2 r l) * invT a i (ix2 r l)) := rfl
  rw [e, tileG_at a i n hn r l C hC, invT_at, mul_inv_eq _ (hScl a (rowAt i r)) (scl_ne_zero (hMax a (rowAt i r)))]

theorem rowOf_at (s : FVec Ideal S384x1 .f32) (r : Fin 384) : rowOf s (ix3 0 0 r) = s (ix2 r 0) := by
  pointwise [rowOf]

theorem rowAt_div (R : Fin 24960) : rowAt (R.val / 384) ⟨R.val % 384, Nat.mod_lt _ (by decide)⟩ = R := by
  have := R.isLt
  exact Fin.ext (by show 384 * min (R.val / 384) 64 + R.val % 384 = R.val; omega)

theorem rowAt_tile (q : Fin 65) (r : Fin 384) : (rowAt q.val r).val = q.val * 384 + r.val := by
  have := q.isLt
  show 384 * min q.val 64 + r.val = _
  omega

theorem idx3' (y : S65x1x384.Idx) : ∃ (q : Fin 65) (r : Fin 384), y = ix3 q 0 r :=
  ⟨y 0, y 2, funext fun b => by
    match b with
    | ⟨0, _⟩ => rfl
    | ⟨1, _⟩ => exact Subsingleton.elim (α := Fin 1) _ _
    | ⟨2, _⟩ => rfl⟩

theorem res5_eq : res5 a = ReferenceIdeal.Gen.k0_pay7 a.x := by
  refine funext fun (y : S24960x1152.Idx) => ?_
  obtain ⟨R, k, rfl⟩ : ∃ (R : Fin 24960) (k : Fin 1152), y = ix2 R k := idx2 y
  refine (ker_codes a (R.val / 384) ⟨R.val % 384, Nat.mod_lt _ (by decide)⟩ k).trans ?_
  rw [rowAt_div]
  exact (ref_codes a R k).symm

theorem res6_eq : res6 a = ReferenceIdeal.Gen.k0_pay3 (ReferenceIdeal.Gen.k0_pay6 a.x) := by
  refine funext fun (y : S65x1x384.Idx) => ?_
  obtain ⟨q, r, rfl⟩ := idx3' y
  refine (rowOf_at (k0_pay10 (xT a q.val)) r).trans ((ker_scale a q.val r).trans ?_)
  unfold ReferenceIdeal.Gen.k0_pay3
  exact ((fold_at (n := 24960) (e := 65) (d := 384) (ReferenceIdeal.Gen.k0_pay6 a.x) _ q r (rowAt q.val r) (rowAt_tile q r)).trans (ref_scale a _)).symm

theorem res7_eq : res7 a = ReferenceIdeal.Gen.k0_pay2 (ReferenceIdeal.Up.prod a.x a.w1 a.w2 a.s3 a.s4) (ReferenceIdeal.Up.prodMax a.x a.w1 a.w2 a.s3 a.s4) (Scalar.ofBits .f32 0x00000000#32) := by
  refine funext fun (y : S24960x14336.Idx) => ?_
  obtain ⟨R, C, rfl⟩ : ∃ (R : Fin 24960) (C : Fin 14336), y = ix2 R C := idx2 y
  have hC := C.isLt
  have e : (8 * (C.val / 1024) + C.val % 1024 / 128) < 112 := by omega
  refine (hCodes_at a (R.val / 384) (8 * (C.val / 1024) + C.val % 1024 / 128) e ⟨R.val % 384, Nat.mod_lt _ (by decide)⟩ ⟨C.val % 1024 % 128, Nat.mod_lt _ (by decide)⟩ C
    (by show C.val = 128 * (8 * (C.val / 1024) + C.val % 1024 / 128) + C.val % 1024 % 128; omega)).trans ?_
  rw [rowAt_div]
  exact (ref_outCodes a R C).symm

theorem res8_eq : res8 a = ReferenceIdeal.Gen.k0_pay4 (ReferenceIdeal.Up.prodMax a.x a.w1 a.w2 a.s3 a.s4) (Scalar.ofBits .f32 0x00000000#32) := by
  refine funext fun (y : S65x1x384.Idx) => ?_
  obtain ⟨q, r, rfl⟩ := idx3' y
  refine (rowOf_at (hScale a q.val) r).trans ((hScale_at a q.val r).trans ?_)
  unfold ReferenceIdeal.Gen.k0_pay4
  exact ((fold_at (n := 24960) (e := 65) (d := 384) _ _ q r (rowAt q.val r) (rowAt_tile q r)).trans (ref_outScale a _)).symm

end Cert.KernelIdeal.Up
-- ==== Proof.UpBits.lean ====
module

public import proofs.«01_k».proof.Defs
public import proofs.«01_k».proof.Proof.Gen.Kernel
public import proofs.«01_k».proof.Proof.UpRun

@[expose] public section

set_option maxRecDepth 16384

noncomputable section

namespace Cert.Kernel.Up

open Idealize.ShloMosaic Idealize.SL.Sem

/-! # The program before idealization runs as the idealized one does

The two programs have the same text, so what is shown of the one, at any number format, is shown of the other. -/

variable {F : FTy → Type} [FloatOps F]

theorem body_eq : Cert.Kernel.cc0_proj_up (F := F) = Cert.KernelIdeal.cc0_proj_up (F := F) := rfl

theorem main_eq : Cert.Kernel.main (F := F) = Cert.KernelIdeal.main (F := F) := rfl

theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

theorem defs_eq : Cert.Kernel.defs (F := F) = Cert.KernelIdeal.defs (F := F) :=
  congrArg (Pipeline.defs (Cert.KernelIdeal.pcfgs (F := F))) defs₀_eq

/-- The argument arrays end unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.KernelIdeal.Up.frame (F := F) m ρ
  rw [← defs_eq, ← main_eq] at h
  exact h

end Cert.Kernel.Up
-- ==== Proof.DnBase.lean ====
module

public import proofs.«01_k».proof.Proof.Gen.DownIdeal.Frame
public import proofs.«01_k».proof.Proof.Gen.DownIdeal.Skeleton
public import Idealize.ShloMosaic.Lib.VecWindow

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body runs share: the branch conditions over the grid points, the buffers, the invariant's scratch -/

/-- The body quantises a block of the previous row tile (row tile above zero). -/
abbrev condOld (i : grid0.Coords) : Prop := k0_cond1 i = 1#1
/-- The body computes a block of the current row tile (row tile below the number of tiles). -/
abbrev condNew (i : grid0.Coords) : Prop := k0_cond2 i = 1#1
/-- The first column tile. -/
abbrev condFirst (i : grid0.Coords) : Prop := Scalar.cmpi .ne (Scalar.extui (Scalar.cmpi .eq (BitVec.ofNat 32 (i 1).val) 0#32) : BitVec 32) 0#32 = 1#1
/-- The last column tile. -/
abbrev condLast (i : grid0.Coords) : Prop := k0_cond4 i = 1#1

theorem condOld_iff : ∀ t : Fin cfg0.N, condOld (grid0.coords t) ↔ 8 ≤ t.val :=
  (by decide +kernel : ∀ t : Fin grid0.N, condOld (grid0.coords t) ↔ 8 ≤ t.val)
theorem condNew_iff : ∀ t : Fin cfg0.N, condNew (grid0.coords t) ↔ t.val < 416 :=
  (by decide +kernel : ∀ t : Fin grid0.N, condNew (grid0.coords t) ↔ t.val < 416)

/-- The grid coordinates of a point: row tile and column tile. -/
theorem coords0 (t : Fin cfg0.N) : (grid0.coords t 0).val = t.val / 8 := by
  have ht : t.val < 424 := Nat.lt_of_lt_of_eq t.isLt N_0
  have e0 : (grid0.coords t 0).val = t.val / 8 % 53 := Pipeline.Grid.coords_val t 0 (by decide) rfl
  omega
theorem coords1 (t : Fin cfg0.N) : (grid0.coords t 1).val = t.val % 8 := by
  have e1 : (grid0.coords t 1).val = t.val / 1 % 8 := Pipeline.Grid.coords_val t 1 (by decide) rfl
  omega

theorem condFirst_iff : ∀ t : Fin cfg0.N, condFirst (grid0.coords t) ↔ t.val % 8 = 0 :=
  (fun t => by
    have ht : t.val < 424 := Nat.lt_of_lt_of_eq t.isLt N_0
    have e1 : (grid0.coords t 1).val = t.val / 1 % 8 := Pipeline.Grid.coords_val t 1 (by decide) rfl
    simp only [condFirst, e1]
    word_cmp
   : ∀ t : Fin grid0.N, condFirst (grid0.coords t) ↔ t.val % 8 = 0)
theorem condLast_iff : ∀ t : Fin cfg0.N, condLast (grid0.coords t) ↔ t.val % 8 = 7 :=
  (fun t => by
    have ht : t.val < 424 := Nat.lt_of_lt_of_eq t.isLt N_0
    have e1 : (grid0.coords t 1).val = t.val / 1 % 8 := Pipeline.Grid.coords_val t 1 (by decide) rfl
    simp only [condLast, k0_cond4, e1]
    word_cmp
   : ∀ t : Fin grid0.N, condLast (grid0.coords t) ↔ t.val % 8 = 7)

/-- The scratch buffers: the row tile's product, its input's row scales over the lanes, the running sum of squares,
the root mean square of the last row tile over the lanes. -/
abbrev scM0 : Memref sig .tc .vmem S480x4096 .f32 := Memref.whole cc0_scratch0
abbrev scM1 : Memref sig .tc .vmem S480x128 .f32 := Memref.whole cc0_scratch1
abbrev scM2 : Memref sig .tc .vmem S480x128 .f32 := Memref.whole cc0_scratch2
abbrev scM3 : Memref sig .tc .vmem S480x128 .f32 := Memref.whole cc0_scratch3

/-- What the launch hands the region beside the windows: the four scratch buffers at some contents and the generator
register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Two puts of equal payloads over equal contents are equal. -/
theorem put_congr {α : Type} {s : Shape} {x x' : s.Idx → α} {off size : Fin s.rank → ℕ} {w w' : ((a : Fin s.rank) → Fin (size a)) → α}
    (hx : x = x') (hw : w = w') : VecWindow.put x off size w = VecWindow.put x' off size w' := by
  subst hx; subst hw; rfl

end Cert.DownIdeal.Dn

end
-- ==== Proof.DnCodes.lean ====
module

public import proofs.«01_k».proof.Proof.DnBase

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's first region: a block of the previous row tile quantised, its scales among the row tile's -/

/-- Four column groups divided by the root mean square, each with a power-of-two scale of its own. -/
noncomputable def codesProg (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (arg1 : BitVec 32) (k0_h1 : condOld i) :
    Prog (TpuEff nD τ sig (Elt F) Λ₀ .tc) PUnit := do
  let v341 : FVec F S480x32 .f32 ← k0_part8 i arg2 harg2 arg3 harg3 arg4 harg4 arg5 harg5 arg6 harg6 arg7 harg7 arg8 harg8 arg9 harg9 arg10 harg10 arg11 harg11 arg12 harg12 arg1 k0_h1
  let v342 : Vec F S480x32 .f32 ← Prog.lift (.load arg8 (Rect.unit (s := S480x32) ![0, 0] S480x32.size inb_S480x32_S480x32_0_0).toLoadRect (View.loadsAt_vmem h_S480x32))
  Prog.lift (.store arg8 (Rect.unit (s := S480x32) ![0, 0] S480x32.size inb_S480x32_S480x32_0_0) v341 Finset.univ (View.stores_vmem_bits_univ h_S480x32 rfl) (.inl rfl))
  pure ⟨⟩

/-! ## One group's values -/

/-- A group's magnitudes over the format's range: the row maximum of the quotients, over 448. -/
noncomputable def magOf (rms c : Vec F S480x128 .f32) : FVec F S480x1 .f32 := k0_pay12 rms c

/-- One rung of the ladder: the next power of two, if it is not above `y`. -/
noncomputable def rung (z : BitVec 32) (y p : FVec F S480x1 .f32) : FVec F S480x1 .f32 :=
  select (cmpf .oge y (mulf p (broadcast S480x1 (Scalar.ofBits .f32 z)))) (mulf p (broadcast S480x1 (Scalar.ofBits .f32 z))) p

/-- The first rung. -/
noncomputable def rung0 (y : FVec F S480x1 .f32) : FVec F S480x1 .f32 :=
  select (cmpf .olt y (broadcast S480x1 (Scalar.ofBits .f32 0x00800000#32))) (broadcast S480x1 (Scalar.ofBits .f32 0x3F000000#32)) (broadcast S480x1 (Scalar.ofBits .f32 0x00800000#32))

/-- The power of two not above `y`. -/
noncomputable def powOf (y : FVec F S480x1 .f32) : FVec F S480x1 .f32 :=
  rung 0x40000000#32 y (rung 0x40800000#32 y (rung 0x41800000#32 y (rung 0x43800000#32 y (rung 0x47800000#32 y (rung 0x4F800000#32 y (rung 0x5F800000#32 y (rung 0x7E800000#32 y (rung0 y))))))))

/-- A group's scales. -/
noncomputable def scaleOf (rms c : Vec F S480x128 .f32) : FVec F S480x1 .f32 :=
  mulf (broadcast S480x1 (Scalar.ofBits .f32 0x40000000#32)) (powOf (magOf rms c))

/-- A group's codes: the quotients times the inverse scale, clipped to the format's range, cast. -/
noncomputable def codesOf (rms c : Vec F S480x128 .f32) : FVec F S480x128 .fp8e4m3 :=
  truncf .fp8e4m3 (minimumf (broadcast S480x128 (Scalar.ofBits .f32 0x43E00000#32)) (maximumf (broadcast S480x128 (Scalar.ofBits .f32 0xC3E00000#32))
    (mulf (divf c rms) (broadcastTo S480x128 (divf (broadcast S480x1 (Scalar.ofBits .f32 0x3F000000#32)) (powOf (magOf rms c))) broadcasts_S480x1_S480x128)))) bitsLt_fp8e4m3_f32

/-- The row tile's scales after one group: the group's lane set. -/
noncomputable def setLane (arg1 : BitVec 32) (g : BitVec 32) (s : FVec F S480x1 .f32) (out : FVec F S480x32 .f32) : FVec F S480x32 .f32 :=
  select (cmpi .eq (iota .tc S480x32 32 [1] iota_S480x32_d1_w32) (broadcast S480x32 (Scalar.addi (Scalar.muli arg1 4#32) g)))
    (broadcastTo S480x32 (shapeCast S480x1 s shapeCasts_S480x1_S480x1) broadcasts_S480x1_S480x32) out

theorem pow0_eq (rms c : Vec F S480x128 .f32) : k0_pay15 (k0_pay12 rms c) (k0_pay13 rms c) (k0_pay14 rms c) = powOf (magOf rms c) := rfl
theorem pow1_eq (rms c : Vec F S480x128 .f32) : k0_pay23 (k0_pay21 rms c) (k0_pay22 rms c) = powOf (magOf rms c) := rfl
theorem pow2_eq (rms c : Vec F S480x128 .f32) : k0_pay30 (k0_pay27 rms c) (k0_pay28 rms c) (k0_pay29 rms c) = powOf (magOf rms c) := rfl
theorem pow3_eq (rms c : Vec F S480x128 .f32) : k0_pay36 (k0_pay34 rms c) (k0_pay35 rms c) = powOf (magOf rms c) := rfl

theorem codes0_eq (rms c : Vec F S480x128 .f32) : k0_pay17 (k0_pay11 rms c) (k0_pay12 rms c) (k0_pay13 rms c) (k0_pay14 rms c) = codesOf rms c := by
  unfold k0_pay17 codesOf; rw [pow0_eq]; rfl
theorem codes1_eq (rms c : Vec F S480x128 .f32) : k0_pay24 (k0_pay20 rms c) (k0_pay21 rms c) (k0_pay22 rms c) = codesOf rms c := by
  unfold k0_pay24 codesOf; rw [pow1_eq]; rfl
theorem codes2_eq (rms c : Vec F S480x128 .f32) : k0_pay31 (k0_pay26 rms c) (k0_pay27 rms c) (k0_pay28 rms c) (k0_pay29 rms c) = codesOf rms c := by
  unfold k0_pay31 codesOf; rw [pow2_eq]; rfl
theorem codes3_eq (rms c : Vec F S480x128 .f32) : k0_pay37 (k0_pay33 rms c) (k0_pay34 rms c) (k0_pay35 rms c) = codesOf rms c := by
  unfold k0_pay37 codesOf; rw [pow3_eq]; rfl

/-- The row tile's scales after the block's four groups. -/
noncomputable def lanes4 (arg1 : BitVec 32) (rms c0 c1 c2 c3 : Vec F S480x128 .f32) (out : FVec F S480x32 .f32) : FVec F S480x32 .f32 :=
  setLane arg1 3#32 (scaleOf rms c3) (setLane arg1 2#32 (scaleOf rms c2) (setLane arg1 1#32 (scaleOf rms c1) (setLane arg1 0#32 (scaleOf rms c0) (shapeCast S480x32 out shapeCasts_S480x32_S480x32))))

/-- The same as the body spells it. -/
noncomputable def lanesPay (arg1 : BitVec 32) (rms c0 c1 c2 c3 : Vec F S480x128 .f32) (out : Vec F S480x32 .f32) : FVec F S480x32 .f32 :=
  k0_pay38 arg1 (iota .tc S480x32 32 [1] iota_S480x32_d1_w32)
    (k0_pay32 arg1 (iota .tc S480x32 32 [1] iota_S480x32_d1_w32)
      (k0_pay25 arg1 (iota .tc S480x32 32 [1] iota_S480x32_d1_w32)
        (k0_pay19 (iota .tc S480x32 32 [1] iota_S480x32_d1_w32) (k0_pay10 out) (k0_pay16 (k0_pay12 rms c0) (k0_pay13 rms c0) (k0_pay14 rms c0)) (k0_pay18 arg1))
        (k0_pay21 rms c1) (k0_pay22 rms c1))
      (k0_pay27 rms c2) (k0_pay28 rms c2) (k0_pay29 rms c2))
    (k0_pay34 rms c3) (k0_pay35 rms c3)

theorem lanes4_eq (arg1 : BitVec 32) (rms c0 c1 c2 c3 : Vec F S480x128 .f32) (out : Vec F S480x32 .f32) :
    lanesPay arg1 rms c0 c1 c2 c3 out = lanes4 arg1 rms c0 c1 c2 c3 out := by
  unfold lanesPay k0_pay38 k0_pay32 k0_pay25 k0_pay19 k0_pay16
  rw [pow0_eq, pow1_eq, pow2_eq, pow3_eq]
  rfl

theorem lanesPay_congr (arg1 : BitVec 32) {rms rms' c0 c0' c1 c1' c2 c2' c3 c3' : Vec F S480x128 .f32} {out out' : Vec F S480x32 .f32}
    (h : rms = rms') (h0 : c0 = c0') (h1 : c1 = c1') (h2 : c2 = c2') (h3 : c3 = c3') (ho : out = out') :
    lanesPay arg1 rms c0 c1 c2 c3 out = lanesPay arg1 rms' c0' c1' c2' c3' out' := by
  subst h h0 h1 h2 h3 ho; rfl

/-- A group's columns of the scratch product. -/
abbrev cCols (xc : Vec F S480x4096 .f32) (i : grid0.Coords) (h : condOld i) (g : Fin 4) : Vec F S480x128 .f32 :=
  VecWindow.window xc (k0_off1 i (BitVec.ofNat 32 (128 * g.val))) S480x128.size (k0_off1_inb i h g)

/-- The block of codes after the four stores, over what the buffer held. -/
noncomputable def codesBlock (i : grid0.Coords) (h : condOld i) (xc : Vec F S480x4096 .f32) (xr : Vec F S480x128 .f32)
    (y5 : Vec F S480x512 .fp8e4m3) : Vec F S480x512 .fp8e4m3 :=
  VecWindow.put (VecWindow.put (VecWindow.put (VecWindow.put (y5) ![0, 0] S480x128.size (codesOf xr (cCols xc i h 0))) ![0, 128] S480x128.size (codesOf xr (cCols xc i h 1))) ![0, 256] S480x128.size (codesOf xr (cCols xc i h 2))) ![0, 384] S480x128.size (codesOf xr (cCols xc i h 3))

/-- The row tile's scales after the block. -/
noncomputable def lanesBlock (i : grid0.Coords) (h : condOld i) (xc : Vec F S480x4096 .f32) (xr : Vec F S480x128 .f32)
    (y6 : Vec F S480x32 .f32) : Vec F S480x32 .f32 :=
  lanes4 (BitVec.ofNat 32 (i 1).val) xr (cCols xc i h 0) (cCols xc i h 1) (cCols xc i h 2) (cCols xc i h 3) y6

set_option maxHeartbeats 1000000 in
theorem codes_run (c : Dev nD) (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (h1 : condOld i)
    (xc : Vec F S480x4096 .f32) (xr : Vec F S480x128 .f32) (y5 : Vec F S480x512 .fp8e4m3) (y6 : Vec F S480x32 .f32) (E : Set ℕ) (K : PUnit → sProp 𝕄) :
    iprop(owns (c : Thread nD τ) arg7 fullShare y5 ∗ owns (c : Thread nD τ) arg8 fullShare y6 ∗ owns (c : Thread nD τ) arg9 fullShare xc ∗ owns (c : Thread nD τ) arg12 fullShare xr
        ∗ (iprop(owns (c : Thread nD τ) arg7 fullShare (codesBlock i h1 xc xr y5) ∗ owns (c : Thread nD τ) arg8 fullShare (lanesBlock i h1 xc xr y6) ∗ owns (c : Thread nD τ) arg9 fullShare xc ∗ owns (c : Thread nD τ) arg12 fullShare xr) -∗ K ⟨⟩))
      ⊢ wp frame (wpE (defs₀ (F := F)) Variants.none c none) E (codesProg i arg2 harg2 arg3 harg3 arg4 harg4 arg5 harg5 arg6 harg6 arg7 harg7 arg8 harg8 arg9 harg9 arg10 harg10 arg11 harg11 arg12 harg12 (BitVec.ofNat 32 (i 1).val) h1) K := by
  unfold codesProg
  simp only [k0_part8_eq_skeleton]; unfold k0_part8_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f5, %hf5, H5⟩, ⟨%f6, %hf6, H6⟩, ⟨%fs0, %hfs0, HS0⟩, ⟨%fs3, %hfs3, HS3⟩, Hk⟩
  obtain rfl := harg7.eq_unread hf5; obtain rfl := harg8.eq_unread hf6; obtain rfl := harg9.eq_unread hfs0; obtain rfl := harg12.eq_unread hfs3
  sl_exec (disch := sl_exact h1)
  sl_step
  have hr : View.readAt (Elt F) arg12.view (Rect.unit (s := S480x128) ![0, 0] S480x128.size inb_S480x128_S480x128_0_0).toLoadRect (harg12.unread xr) = xr := by
    rw [View.readAt_full, hfs3]
  have hy : View.readAt (Elt F) arg8.view (Rect.unit (s := S480x32) ![0, 0] S480x32.size inb_S480x32_S480x32_0_0).toLoadRect (harg8.unread y6) = y6 := by
    rw [View.readAt_full, hf6]
  have hh : ∀ g : Fin 4, View.readAt (Elt F) arg9.view (Rect.unit (s := S480x4096) (k0_off1 i (BitVec.ofNat 32 (128 * g.val))) S480x128.size (k0_off1_inb i h1 g)).toLoadRect (harg9.unread xc) = cCols xc i h1 g := fun g => by
    rw [View.readAt_unit _ _ _ rfl (k0_off1_inb i h1 g), hfs0]
  iapply Hk
  isplitl [H5]
  · iexists _; isplitr; swap; · iexact H5
    ipureintro
    repeat rw [View.read_writes_cons_put _ _ _ _ _ rfl]
    rw [View.writes_nil, hf5]
    unfold codesBlock
    sl_unfold_words
    refine put_congr (put_congr (put_congr (put_congr rfl ?_) ?_) ?_) ?_
    · exact (codes0_eq _ _).trans (congrArg₂ codesOf hr (hh 0))
    · exact (codes1_eq _ _).trans (congrArg₂ codesOf hr (hh 1))
    · exact (codes2_eq _ _).trans (congrArg₂ codesOf hr (hh 2))
    · exact (codes3_eq _ _).trans (congrArg₂ codesOf hr (hh 3))
  isplitl [H6]
  · iexists _; isplitr; swap; · iexact H6
    ipureintro
    rw [View.read_writes_full]
    sl_unfold_words
    exact (lanesPay_congr (BitVec.ofNat 32 (i 1).val) hr (hh 0) (hh 1) (hh 2) (hh 3) hy).trans (lanes4_eq _ _ _ _ _ _ _)
  isplitl [HS0]
  · iexists _; isplitr; · ipureintro; exact harg9.read_unread _
    iexact HS0
  iexists _; isplitr; · ipureintro; exact harg12.read_unread _
  iexact HS3

end Cert.DownIdeal.Dn

end
-- ==== Proof.DnTile.lean ====
module

public import proofs.«01_k».proof.Proof.DnBase

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's second region: one column block of the current row tile -/

/-- At the first column tile: the row tile's scales turned over the lanes, and the running sum of squares reset. -/
noncomputable def firstProg (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) :
    Prog (TpuEff nD τ sig (Elt F) Λ₀ .tc) PUnit := do
  let v80 : Vec F S1x1x480 .f32 ← Prog.lift (.load arg3 (Rect.unit (s := S1x1x480) ![0, 0, 0] S1x1x480.size inb_S1x1x480_S1x1x480_0_0_0).toLoadRect (View.loadsAt_vmem h_S1x1x480))
  let v85 : Vec F S480x128 .f32 ← Prog.lift (.load arg10 (Rect.unit (s := S480x128) ![0, 0] S480x128.size inb_S480x128_S480x128_0_0).toLoadRect (View.loadsAt_vmem h_S480x128))
  Prog.lift (.store arg10 (Rect.unit (s := S480x128) ![0, 0] S480x128.size inb_S480x128_S480x128_0_0) (k0_pay39 v80) Finset.univ (View.stores_vmem_bits_univ h_S480x128 rfl) (.inl rfl))
  let v89 : Vec F S480x128 .f32 ← Prog.lift (.load arg11 (Rect.unit (s := S480x128) ![0, 0] S480x128.size inb_S480x128_S480x128_0_0).toLoadRect (View.loadsAt_vmem h_S480x128))
  Prog.lift (.store arg11 (Rect.unit (s := S480x128) ![0, 0] S480x128.size inb_S480x128_S480x128_0_0) (k0_pay40 (F := F)) Finset.univ (View.stores_vmem_bits_univ h_S480x128 rfl) (.inl rfl))
  pure ⟨⟩

/-- The product, and its first two groups of columns. -/
noncomputable def dotProg (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (k0_h2 : condNew i) :
    Prog (TpuEff nD τ sig (Elt F) Λ₀ .tc) (Σ' (v11 : FVec F S480x512 .f32) (v12 : Vec F S480x128 .f32) (v28 : FVec F S480x128 .f32), FVec F S480x128 .f32) := do
  let v9 : Vec F S480x14336 .fp8e4m3 ← Prog.lift (.load arg2 (Rect.unit (s := S480x14336) ![0, 0] S480x14336.size inb_S480x14336_S480x14336_0_0).toLoadRect (View.loadsAt_vmem h_S480x14336))
  let v10 : Vec F S14336x512 .fp8e4m3 ← Prog.lift (.load arg4 (Rect.unit (s := S14336x512) ![0, 0] S14336x512.size inb_S14336x512_S14336x512_0_0).toLoadRect (View.loadsAt_vmem h_S14336x512))
  let v12 : Vec F S480x128 .f32 ← Prog.lift (.load arg10 (Rect.unit (s := S480x128) ![0, 0] S480x128.size inb_S480x128_S480x128_0_0).toLoadRect (View.loadsAt_vmem h_S480x128))
  let v13 : Vec F S480x128 .f32 ← Prog.lift (.load arg11 (Rect.unit (s := S480x128) ![0, 0] S480x128.size inb_S480x128_S480x128_0_0).toLoadRect (View.loadsAt_vmem h_S480x128))
  let v19 : Vec F S1x128 .f32 ← Prog.lift (.load arg5 (Rect.unit (s := S1x512) ![0, 0] S1x128.size inb_S1x512_S1x128_0_0).toLoadRect (View.loadsAt_vmem h_S1x128))
  let v24 : Vec F S480x128 .f32 ← Prog.lift (.load arg9 (Rect.unit (s := S480x4096) (k0_off2 i 0#32) S480x128.size (k0_off2_inb i k0_h2 0)).toLoadRect (View.loadsAt_vmem h_S480x128))
  Prog.lift (.store arg9 (Rect.unit (s := S480x4096) (k0_off2 i 0#32) S480x128.size (k0_off2_inb i k0_h2 0)) (k0_pay43 v9 v10 v12 v19) Finset.univ (View.stores_vmem_bits_univ h_S480x128 rfl) (.inl rfl))
  let v34 : Vec F S1x128 .f32 ← Prog.lift (.load arg5 (Rect.unit (s := S1x512) ![0, 128] S1x128.size inb_S1x512_S1x128_0_128).toLoadRect (View.loadsAt_vmem h_S1x128))
  let v39 : Vec F S480x128 .f32 ← Prog.lift (.load arg9 (Rect.unit (s := S480x4096) (k0_off2 i 128#32) S480x128.size (k0_off2_inb i k0_h2 1)).toLoadRect (View.loadsAt_vmem h_S480x128))
  Prog.lift (.store arg9 (Rect.unit (s := S480x4096) (k0_off2 i 128#32) S480x128.size (k0_off2_inb i k0_h2 1)) (k0_pay46 v9 v10 v12 v34) Finset.univ (View.stores_vmem_bits_univ h_S480x128 rfl) (.inl rfl))
  pure ⟨k0_pay41 v9 v10, v12, k0_pay44 v9 v10 v12 v13 v19, k0_pay45 v9 v10 v12 v34⟩

/-- The column block: the product, four groups stored, the running sum of squares, and at the last block the row tile's
root mean square. -/
noncomputable def tileProg (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (k0_h2 : condNew i) :
    Prog (TpuEff nD τ sig (Elt F) Λ₀ .tc) PUnit := do
  let ⟨v11, v12, v28, v37⟩ : Σ' (v11 : FVec F S480x512 .f32) (v12 : Vec F S480x128 .f32) (v28 : FVec F S480x128 .f32), FVec F S480x128 .f32 ← dotProg i arg2 harg2 arg3 harg3 arg4 harg4 arg5 harg5 arg6 harg6 arg7 harg7 arg8 harg8 arg9 harg9 arg10 harg10 arg11 harg11 arg12 harg12 k0_h2
  let v49 : Vec F S1x128 .f32 ← Prog.lift (.load arg5 (Rect.unit (s := S1x512) ![0, 256] S1x128.size inb_S1x512_S1x128_0_256).toLoadRect (View.loadsAt_vmem h_S1x128))
  let v54 : Vec F S480x128 .f32 ← Prog.lift (.load arg9 (Rect.unit (s := S480x4096) (k0_off2 i 256#32) S480x128.size (k0_off2_inb i k0_h2 2)).toLoadRect (View.loadsAt_vmem h_S480x128))
  Prog.lift (.store arg9 (Rect.unit (s := S480x4096) (k0_off2 i 256#32) S480x128.size (k0_off2_inb i k0_h2 2)) (k0_pay2 v11 v12 v49) Finset.univ (View.stores_vmem_bits_univ h_S480x128 rfl) (.inl rfl))
  let v64 : Vec F S1x128 .f32 ← Prog.lift (.load arg5 (Rect.unit (s := S1x512) ![0, 384] S1x128.size inb_S1x512_S1x128_0_384).toLoadRect (View.loadsAt_vmem h_S1x128))
  let v69 : Vec F S480x128 .f32 ← Prog.lift (.load arg9 (Rect.unit (s := S480x4096) (k0_off2 i 384#32) S480x128.size (k0_off2_inb i k0_h2 3)).toLoadRect (View.loadsAt_vmem h_S480x128))
  Prog.lift (.store arg9 (Rect.unit (s := S480x4096) (k0_off2 i 384#32) S480x128.size (k0_off2_inb i k0_h2 3)) (k0_pay4 v11 v12 v64) Finset.univ (View.stores_vmem_bits_univ h_S480x128 rfl) (.inl rfl))
  let v74 : Vec F S480x128 .f32 ← Prog.lift (.load arg11 (Rect.unit (s := S480x128) ![0, 0] S480x128.size inb_S480x128_S480x128_0_0).toLoadRect (View.loadsAt_vmem h_S480x128))
  Prog.lift (.store arg11 (Rect.unit (s := S480x128) ![0, 0] S480x128.size inb_S480x128_S480x128_0_0) (k0_pay6 v11 v12 v28 v37 v49 v64) Finset.univ (View.stores_vmem_bits_univ h_S480x128 rfl) (.inl rfl))
  if k0_h4 : k0_cond4 i = 1#1 then do
    let v91 : Vec F S1x1x480 .f32 ← Prog.lift (.load arg6 (Rect.unit (s := S1x1x480) ![0, 0, 0] S1x1x480.size inb_S1x1x480_S1x1x480_0_0_0).toLoadRect (View.loadsAt_vmem h_S1x1x480))
    Prog.lift (.store arg6 (Rect.unit (s := S1x1x480) ![0, 0, 0] S1x1x480.size inb_S1x1x480_S1x1x480_0_0_0) (k0_pay8 v11 v12 v28 v37 v49 v64) Finset.univ (View.stores_vmem_bits_univ h_S1x1x480 rfl) (.inl rfl))
    let v96 : Vec F S480x128 .f32 ← Prog.lift (.load arg12 (Rect.unit (s := S480x128) ![0, 0] S480x128.size inb_S480x128_S480x128_0_0).toLoadRect (View.loadsAt_vmem h_S480x128))
    Prog.lift (.store arg12 (Rect.unit (s := S480x128) ![0, 0] S480x128.size inb_S480x128_S480x128_0_0) (k0_pay9 v11 v12 v28 v37 v49 v64) Finset.univ (View.stores_vmem_bits_univ h_S480x128 rfl) (.inl rfl))
    pure ⟨⟩
  else do
    pure ⟨⟩
  pure ⟨⟩

/-- The region as printed: the first column tile's stores come inside the part that starts the product. -/
noncomputable def newPart (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (arg1 : BitVec 32) (k0_h2 : condNew i) :
    Prog (TpuEff nD τ sig (Elt F) Λ₀ .tc) PUnit := do
  let ⟨v11, v12, v28, v37⟩ : Σ' (v11 : FVec F S480x512 .f32) (v12 : Vec F S480x128 .f32) (v28 : FVec F S480x128 .f32), FVec F S480x128 .f32 ← k0_part9 i arg2 harg2 arg3 harg3 arg4 harg4 arg5 harg5 arg6 harg6 arg7 harg7 arg8 harg8 arg9 harg9 arg10 harg10 arg11 harg11 arg12 harg12 arg1 k0_h2
  let v49 : Vec F S1x128 .f32 ← Prog.lift (.load arg5 (Rect.unit (s := S1x512) ![0, 256] S1x128.size inb_S1x512_S1x128_0_256).toLoadRect (View.loadsAt_vmem h_S1x128))
  let v54 : Vec F S480x128 .f32 ← Prog.lift (.load arg9 (Rect.unit (s := S480x4096) (k0_off2 i 256#32) S480x128.size (k0_off2_inb i k0_h2 2)).toLoadRect (View.loadsAt_vmem h_S480x128))
  Prog.lift (.store arg9 (Rect.unit (s := S480x4096) (k0_off2 i 256#32) S480x128.size (k0_off2_inb i k0_h2 2)) (k0_pay2 v11 v12 v49) Finset.univ (View.stores_vmem_bits_univ h_S480x128 rfl) (.inl rfl))
  let v64 : Vec F S1x128 .f32 ← Prog.lift (.load arg5 (Rect.unit (s := S1x512) ![0, 384] S1x128.size inb_S1x512_S1x128_0_384).toLoadRect (View.loadsAt_vmem h_S1x128))
  let v69 : Vec F S480x128 .f32 ← Prog.lift (.load arg9 (Rect.unit (s := S480x4096) (k0_off2 i 384#32) S480x128.size (k0_off2_inb i k0_h2 3)).toLoadRect (View.loadsAt_vmem h_S480x128))
  Prog.lift (.store arg9 (Rect.unit (s := S480x4096) (k0_off2 i 384#32) S480x128.size (k0_off2_inb i k0_h2 3)) (k0_pay4 v11 v12 v64) Finset.univ (View.stores_vmem_bits_univ h_S480x128 rfl) (.inl rfl))
  let v74 : Vec F S480x128 .f32 ← Prog.lift (.load arg11 (Rect.unit (s := S480x128) ![0, 0] S480x128.size inb_S480x128_S480x128_0_0).toLoadRect (View.loadsAt_vmem h_S480x128))
  Prog.lift (.store arg11 (Rect.unit (s := S480x128) ![0, 0] S480x128.size inb_S480x128_S480x128_0_0) (k0_pay6 v11 v12 v28 v37 v49 v64) Finset.univ (View.stores_vmem_bits_univ h_S480x128 rfl) (.inl rfl))
  if k0_h4 : k0_cond4 i = 1#1 then do
    let v91 : Vec F S1x1x480 .f32 ← Prog.lift (.load arg6 (Rect.unit (s := S1x1x480) ![0, 0, 0] S1x1x480.size inb_S1x1x480_S1x1x480_0_0_0).toLoadRect (View.loadsAt_vmem h_S1x1x480))
    Prog.lift (.store arg6 (Rect.unit (s := S1x1x480) ![0, 0, 0] S1x1x480.size inb_S1x1x480_S1x1x480_0_0_0) (k0_pay8 v11 v12 v28 v37 v49 v64) Finset.univ (View.stores_vmem_bits_univ h_S1x1x480 rfl) (.inl rfl))
    let v96 : Vec F S480x128 .f32 ← Prog.lift (.load arg12 (Rect.unit (s := S480x128) ![0, 0] S480x128.size inb_S480x128_S480x128_0_0).toLoadRect (View.loadsAt_vmem h_S480x128))
    Prog.lift (.store arg12 (Rect.unit (s := S480x128) ![0, 0] S480x128.size inb_S480x128_S480x128_0_0) (k0_pay9 v11 v12 v28 v37 v49 v64) Finset.univ (View.stores_vmem_bits_univ h_S480x128 rfl) (.inl rfl))
    pure ⟨⟩
  else do
    pure ⟨⟩
  pure ⟨⟩

/-- The two, as the body runs them. -/
noncomputable def newProg (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (k0_h2 : condNew i) :
    Prog (TpuEff nD τ sig (Elt F) Λ₀ .tc) PUnit := do
  if h : condFirst i then firstProg i arg2 harg2 arg3 harg3 arg4 harg4 arg5 harg5 arg6 harg6 arg7 harg7 arg8 harg8 arg9 harg9 arg10 harg10 arg11 harg11 arg12 harg12 else pure ⟨⟩
  tileProg i arg2 harg2 arg3 harg3 arg4 harg4 arg5 harg5 arg6 harg6 arg7 harg7 arg8 harg8 arg9 harg9 arg10 harg10 arg11 harg11 arg12 harg12 k0_h2

theorem newPart_eq (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (k0_h2 : condNew i) :
    newPart (F := F) i arg2 harg2 arg3 harg3 arg4 harg4 arg5 harg5 arg6 harg6 arg7 harg7 arg8 harg8 arg9 harg9 arg10 harg10 arg11 harg11 arg12 harg12 (BitVec.ofNat 32 (i 1).val) k0_h2 = newProg i arg2 harg2 arg3 harg3 arg4 harg4 arg5 harg5 arg6 harg6 arg7 harg7 arg8 harg8 arg9 harg9 arg10 harg10 arg11 harg11 arg12 harg12 k0_h2 := by
  unfold newPart newProg
  rw [k0_part9_eq_skeleton]; unfold k0_part9_skel
  by_cases h : condFirst i
  · rw [dif_pos h, dif_pos h]; rfl
  · rw [dif_neg h, dif_neg h]; rfl

set_option maxHeartbeats 1000000 in
theorem first_run (c : Dev nD) (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole)
    (x1 : Vec F S1x1x480 .f32) (xb xq : Vec F S480x128 .f32)
    (E : Set ℕ) (K : PUnit → sProp 𝕄) :
    iprop(owns (c : Thread nD τ) arg3 fullShare x1 ∗ owns (c : Thread nD τ) arg10 fullShare xb ∗ owns (c : Thread nD τ) arg11 fullShare xq
        ∗ (iprop(owns (c : Thread nD τ) arg3 fullShare x1 ∗ owns (c : Thread nD τ) arg10 fullShare (k0_pay39 x1) ∗ owns (c : Thread nD τ) arg11 fullShare k0_pay40) -∗ K ⟨⟩))
      ⊢ wp frame (wpE (defs₀ (F := F)) Variants.none c none) E (firstProg i arg2 harg2 arg3 harg3 arg4 harg4 arg5 harg5 arg6 harg6 arg7 harg7 arg8 harg8 arg9 harg9 arg10 harg10 arg11 harg11 arg12 harg12) K := by
  unfold firstProg
  unfold owns
  iintro ⟨⟨%f0, %hf0, H0⟩, ⟨%fs2, %hfs2, HS2⟩, ⟨%fs3, %hfs3, HS3⟩, Hk⟩
  obtain rfl := harg3.eq_unread hf0
  obtain rfl := harg10.eq_unread hfs2; obtain rfl := harg11.eq_unread hfs3
  sl_exec
  sl_step
  have e0 : View.readAt (Elt F) arg3.view (Rect.unit (s := S1x1x480) ![0, 0, 0] S1x1x480.size inb_S1x1x480_S1x1x480_0_0_0).toLoadRect (harg3.unread x1) = x1 := by
    rw [View.readAt_full, hf0]
  iapply Hk
  isplitl [H0]
  · iexists _; isplitr; · ipureintro; exact harg3.read_unread _
    iexact H0
  isplitl [HS2]
  · iexists _; isplitr; swap; · iexact HS2
    ipureintro; rw [View.read_writes_full]; sl_unfold_words; exact congrArg k0_pay39 e0
  iexists _; isplitr; swap; · iexact HS3
  ipureintro; rw [View.read_writes_full]; try rfl

/-! ## The column block's values -/

theorem sliceCols (g : Fin 4) : S480x512.Slices ![0, 128 * g.val] S480x128 := by
  revert g; exact (by decide : ∀ g : Fin 4, S480x512.Slices ![0, 128 * g.val] S480x128)

theorem sliceIn (g : Fin 4) : ∀ a : Fin S1x512.rank, (![0, 128 * g.val] : Fin 2 → ℕ) a + S1x128.size a ≤ S1x512.size a := by
  revert g; exact (by decide : ∀ g : Fin 4, ∀ a : Fin S1x512.rank, (![0, 128 * g.val] : Fin 2 → ℕ) a + S1x128.size a ≤ S1x512.size a)

/-- The product's block of columns: the codes against the weights' columns. -/
noncomputable def prodOf (xh : Vec F S480x14336 .fp8e4m3) (w : Vec F S14336x512 .fp8e4m3) : FVec F S480x512 .f32 := k0_pay41 xh w

/-- The product's group of columns, scaled by the row scales and by the columns' scales. -/
noncomputable def cTile (g : Fin 4) (p : FVec F S480x512 .f32) (xb : Vec F S480x128 .f32) (s : Vec F S1x128 .f32) : FVec F S480x128 .f32 :=
  mulf (mulf (extractStridedSlice S480x128 ![0, 128 * g.val] p (sliceCols g)) xb)
    (broadcastTo S480x128 (shapeCast S1x128 s shapeCasts_S1x128_S1x128) broadcasts_S1x128_S480x128)

theorem cTile_congr (g : Fin 4) {p p' : FVec F S480x512 .f32} {xb xb' : Vec F S480x128 .f32} {s s' : Vec F S1x128 .f32}
    (h1 : p = p') (h2 : xb = xb') (h3 : s = s') : cTile g p xb s = cTile g p' xb' s' := by
  subst h1 h2 h3; rfl

/-- The running sum of squares after one group. -/
noncomputable def sqStep (q c : Vec F S480x128 .f32) : FVec F S480x128 .f32 := addf q (mulf c c)

/-- The root mean square of a lanewise sum of squares. -/
noncomputable def rmsOf (q : Vec F S480x128 .f32) : FVec F S480x1 .f32 :=
  sqrt (addf (mulf (shapeCast S480x1 (multiReduction .add [1] S480 q 0x00000000#32 reduces_S480x128_S480 (.inl rfl) rfl) shapeCasts_S480_S480x1) (broadcast S480x1 (Scalar.ofBits .f32 0x39800000#32)))
    (broadcast S480x1 (Scalar.ofBits .f32 0x358637BD#32)))

/-- A column of row values laid out as a row. -/
noncomputable def rowOf (s : FVec F S480x1 .f32) : FVec F S1x1x480 .f32 :=
  shapeCast S1x1x480 (extractStridedSlice S1x480 ![0, 0] (transpose S128x480 [1, 0] (broadcastTo S480x128 (shapeCast S480x1 s shapeCasts_S480x1_S480x1) broadcasts_S480x1_S480x128) transposes_S480x128_p1_0_S128x480) slices_S128x480_o0_0_S1x480) shapeCasts_S1x480_S1x1x480

/-- A column of row values over the lanes. -/
noncomputable def lanesOf (s : FVec F S480x1 .f32) : FVec F S480x128 .f32 :=
  shapeCast S480x128 (broadcastTo S480x128 (shapeCast S480x1 s shapeCasts_S480x1_S480x1) broadcasts_S480x1_S480x128) shapeCasts_S480x128_S480x128

/-- The weight scales of one group of columns. -/
abbrev sCols (xs : Vec F S1x512 .f32) (g : Fin 4) : Vec F S1x128 .f32 :=
  VecWindow.window xs ![0, 128 * g.val] S1x128.size (sliceIn g)

section Tile
variable (xh : Vec F S480x14336 .fp8e4m3) (xw : Vec F S14336x512 .fp8e4m3) (xb : Vec F S480x128 .f32) (xs : Vec F S1x512 .f32)

/-- Group `g` of the point's column tile. -/
noncomputable def tileC (g : Fin 4) : FVec F S480x128 .f32 := cTile g (prodOf xh xw) xb (sCols xs g)

/-- The same as stored. -/
noncomputable def tileP (g : Fin 4) : FVec F S480x128 .f32 := shapeCast S480x128 (tileC xh xw xb xs g) shapeCasts_S480x128_S480x128

/-- The scratch product after the point's four stores. -/
noncomputable def cAfter (i : grid0.Coords) (xc : Vec F S480x4096 .f32) : Vec F S480x4096 .f32 :=
  VecWindow.put (VecWindow.put (VecWindow.put (VecWindow.put (xc) (k0_off2 i (BitVec.ofNat 32 (128 * (0 : Fin 4).val))) S480x128.size (tileP xh xw xb xs 0)) (k0_off2 i (BitVec.ofNat 32 (128 * (1 : Fin 4).val))) S480x128.size (tileP xh xw xb xs 1)) (k0_off2 i (BitVec.ofNat 32 (128 * (2 : Fin 4).val))) S480x128.size (tileP xh xw xb xs 2)) (k0_off2 i (BitVec.ofNat 32 (128 * (3 : Fin 4).val))) S480x128.size (tileP xh xw xb xs 3)

/-- The running sum of squares after the point. -/
noncomputable def qAfter (q : Vec F S480x128 .f32) : Vec F S480x128 .f32 :=
  sqStep (sqStep (sqStep (sqStep (q) (tileC xh xw xb xs 0)) (tileC xh xw xb xs 1)) (tileC xh xw xb xs 2)) (tileC xh xw xb xs 3)
end Tile

set_option maxHeartbeats 4000000 in
theorem tile_run (c : Dev nD) (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (h2 : condNew i)
    (xh : Vec F S480x14336 .fp8e4m3) (xw : Vec F S14336x512 .fp8e4m3) (xs : Vec F S1x512 .f32) (y4 : Vec F S1x1x480 .f32) (xc : Vec F S480x4096 .f32) (xb q xr : Vec F S480x128 .f32)
    (E : Set ℕ) (K : PUnit → sProp 𝕄) :
    iprop(owns (c : Thread nD τ) arg2 fullShare xh ∗ owns (c : Thread nD τ) arg4 fullShare xw ∗ owns (c : Thread nD τ) arg5 fullShare xs ∗ owns (c : Thread nD τ) arg6 fullShare y4 ∗ owns (c : Thread nD τ) arg9 fullShare xc ∗ owns (c : Thread nD τ) arg10 fullShare xb ∗ owns (c : Thread nD τ) arg11 fullShare q ∗ owns (c : Thread nD τ) arg12 fullShare xr
        ∗ (iprop(owns (c : Thread nD τ) arg2 fullShare xh ∗ owns (c : Thread nD τ) arg4 fullShare xw ∗ owns (c : Thread nD τ) arg5 fullShare xs ∗ owns (c : Thread nD τ) arg6 fullShare (if condLast i then rowOf (rmsOf (qAfter xh xw xb xs q)) else y4) ∗ owns (c : Thread nD τ) arg9 fullShare (cAfter xh xw xb xs i xc) ∗ owns (c : Thread nD τ) arg10 fullShare xb ∗ owns (c : Thread nD τ) arg11 fullShare (shapeCast S480x128 (qAfter xh xw xb xs q) shapeCasts_S480x128_S480x128) ∗ owns (c : Thread nD τ) arg12 fullShare (if condLast i then lanesOf (rmsOf (qAfter xh xw xb xs q)) else xr)) -∗ K ⟨⟩))
      ⊢ wp frame (wpE (defs₀ (F := F)) Variants.none c none) E (tileProg i arg2 harg2 arg3 harg3 arg4 harg4 arg5 harg5 arg6 harg6 arg7 harg7 arg8 harg8 arg9 harg9 arg10 harg10 arg11 harg11 arg12 harg12 h2) K := by
  unfold tileProg dotProg
  unfold owns
  iintro ⟨⟨%f0, %hf0, H0⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg4.eq_unread hf2; obtain rfl := harg5.eq_unread hf3; obtain rfl := harg6.eq_unread hf4
  obtain rfl := harg9.eq_unread hfs0
  obtain rfl := harg10.eq_unread hfs1; obtain rfl := harg11.eq_unread hfs2; obtain rfl := harg12.eq_unread hfs3
  by_cases h4 : condLast i
  all_goals
    sl_exec (disch := first | sl_exact h2 | sl_exact h4)
    sl_step
    have e9 : View.readAt (Elt F) arg2.view (Rect.unit (s := S480x14336) ![0, 0] S480x14336.size inb_S480x14336_S480x14336_0_0).toLoadRect (harg2.unread xh) = xh := by
      rw [View.readAt_full, hf0]
    have e8 : View.readAt (Elt F) arg4.view (Rect.unit (s := S14336x512) ![0, 0] S14336x512.size inb_S14336x512_S14336x512_0_0).toLoadRect (harg4.unread xw) = xw := by
      rw [View.readAt_full, hf2]
    have e10 : View.readAt (Elt F) arg10.view (Rect.unit (s := S480x128) ![0, 0] S480x128.size inb_S480x128_S480x128_0_0).toLoadRect (harg10.unread xb) = xb := by
      rw [View.readAt_full, hfs1]
    have e11 : View.readAt (Elt F) arg11.view (Rect.unit (s := S480x128) ![0, 0] S480x128.size inb_S480x128_S480x128_0_0).toLoadRect (harg11.unread q) = q := by
      rw [View.readAt_full, hfs2]
    have e5 : ∀ g : Fin 4, View.readAt (Elt F) arg5.view (Rect.unit (s := S1x512) ![0, 128 * g.val] S1x128.size (sliceIn g)).toLoadRect (harg5.unread xs) = sCols xs g := fun g => by
      rw [View.readAt_unit _ _ _ rfl (sliceIn g), hf3]
    have eg := congrArg₂ prodOf e9 e8
    have et : ∀ g : Fin 4, _ = tileC xh xw xb xs g := fun g => cTile_congr g eg e10 (e5 g)
    have ep : ∀ g : Fin 4, _ = tileP xh xw xb xs g := fun g => congrArg (fun v => shapeCast S480x128 v shapeCasts_S480x128_S480x128) (et g)
    have em := (congrArg₂ sqStep (congrArg₂ sqStep (congrArg₂ sqStep (congrArg₂ sqStep e11 (et 0)) (et 1)) (et 2)) (et 3))
    iapply Hk
    isplitl [H0]
    · iexists _; isplitr; · ipureintro; exact harg2.read_unread _
      iexact H0
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      first
        | (rw [if_neg h4]; exact harg6.read_unread _)
        | (rw [if_pos h4, View.read_writes_full]; sl_unfold_words; exact congrArg (fun m => rowOf (rmsOf m)) em)
    isplitl [HS0]
    · iexists _; isplitr; swap; · iexact HS0
      ipureintro
      repeat rw [View.read_writes_cons_put _ _ _ _ _ rfl]
      rw [View.writes_nil, hfs0]
      unfold cAfter
      sl_unfold_words
      refine put_congr (put_congr (put_congr (put_congr rfl ?_) ?_) ?_) ?_
      · exact ep 0
      · exact ep 1
      · exact ep 2
      · exact ep 3
    isplitl [HS1]
    · iexists _; isplitr; · ipureintro; exact harg10.read_unread _
      iexact HS1
    isplitl [HS2]
    · iexists _; isplitr; swap; · iexact HS2
      ipureintro
      rw [View.read_writes_full]; sl_unfold_words
      exact congrArg (fun m => shapeCast S480x128 m shapeCasts_S480x128_S480x128) em
    iexists _; isplitr; swap; · iexact HS3
    ipureintro
    first
      | (rw [if_neg h4]; exact harg12.read_unread _)
      | (rw [if_pos h4, View.read_writes_full]; sl_unfold_words; exact congrArg (fun m => lanesOf (rmsOf m)) em)

end Cert.DownIdeal.Dn

end
-- ==== Proof.DnBody.lean ====
module

public import proofs.«01_k».proof.Proof.DnCodes
public import proofs.«01_k».proof.Proof.DnTile

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole body at a point -/

section After
variable (i : grid0.Coords)

/-- What the first column tile puts in place, and the other ones keep. -/
noncomputable def firstB (x1 : Vec F S1x1x480 .f32) (y : Vec F S480x128 .f32) : Vec F S480x128 .f32 := if condFirst i then k0_pay39 x1 else y
noncomputable def firstQ (y : Vec F S480x128 .f32) : Vec F S480x128 .f32 := if condFirst i then k0_pay40 else y
/-- The block of codes and the scales of the previous row tile, where there is one. -/
noncomputable def oldC (xc : Vec F S480x4096 .f32) (xr : Vec F S480x128 .f32) (y : Vec F S480x512 .fp8e4m3) : Vec F S480x512 .fp8e4m3 :=
  if h : condOld i then codesBlock i h xc xr y else y
noncomputable def oldS (xc : Vec F S480x4096 .f32) (xr : Vec F S480x128 .f32) (y : Vec F S480x32 .f32) : Vec F S480x32 .f32 :=
  if h : condOld i then lanesBlock i h xc xr y else y
end After

section New
variable (i : grid0.Coords) (x0 : Vec F S480x14336 .fp8e4m3) (x1 : Vec F S1x1x480 .f32) (x2 : Vec F S14336x512 .fp8e4m3) (x3 : Vec F S1x512 .f32) (xb : Vec F S480x128 .f32)
/-- The running sum of squares after a point of a row tile, from what the scratch held before it. -/
noncomputable def newQ (q : Vec F S480x128 .f32) : Vec F S480x128 .f32 := qAfter x0 x2 (firstB i x1 xb) x3 (firstQ i q)
/-- The scratch product after it. -/
noncomputable def newC (xc : Vec F S480x4096 .f32) : Vec F S480x4096 .f32 := cAfter x0 x2 (firstB i x1 xb) x3 i xc
end New

set_option maxHeartbeats 1000000 in
/-- The printed body: the codes region, then the region of the current row tile. -/
theorem body_eq (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) :
    cc0_proj_down (F := F) i arg2 harg2 arg3 harg3 arg4 harg4 arg5 harg5 arg6 harg6 arg7 harg7 arg8 harg8 arg9 harg9 arg10 harg10 arg11 harg11 arg12 harg12 = (do
      if h : condOld i then codesProg i arg2 harg2 arg3 harg3 arg4 harg4 arg5 harg5 arg6 harg6 arg7 harg7 arg8 harg8 arg9 harg9 arg10 harg10 arg11 harg11 arg12 harg12 (BitVec.ofNat 32 (i 1).val) h else pure ⟨⟩
      if h : condNew i then newPart i arg2 harg2 arg3 harg3 arg4 harg4 arg5 harg5 arg6 harg6 arg7 harg7 arg8 harg8 arg9 harg9 arg10 harg10 arg11 harg11 arg12 harg12 (BitVec.ofNat 32 (i 1).val) h
      else pure ⟨⟩) := by
  rw [cc0_proj_down_eq_skeleton]; unfold cc0_proj_down_skel
  by_cases h2 : condNew i
  · by_cases h4 : condLast i
    · by_cases h1 : condOld i
      · simp only [newPart, dif_pos h1, dif_pos h2, dif_pos h4]; try rfl
      · simp only [newPart, dif_neg h1, dif_pos h2, dif_pos h4]; try rfl
    · by_cases h1 : condOld i
      · simp only [newPart, dif_pos h1, dif_pos h2, dif_neg h4]; try rfl
      · simp only [newPart, dif_neg h1, dif_pos h2, dif_neg h4]; try rfl
  · by_cases h1 : condOld i
    · simp only [dif_pos h1, dif_neg h2]; try rfl
    · simp only [dif_neg h1, dif_neg h2]; try rfl

theorem new_run (c : Dev nD) (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (h2 : condNew i)
    (x0 : Vec F S480x14336 .fp8e4m3) (x1 : Vec F S1x1x480 .f32) (x2 : Vec F S14336x512 .fp8e4m3) (x3 : Vec F S1x512 .f32) (y4 : Vec F S1x1x480 .f32) (xc : Vec F S480x4096 .f32) (xb q xr : Vec F S480x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg9 fullShare xc ∗ owns (c : Thread nD τ) arg10 fullShare xb ∗ owns (c : Thread nD τ) arg11 fullShare q ∗ owns (c : Thread nD τ) arg12 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (if condLast i then rowOf (rmsOf (newQ i x0 x1 x2 x3 xb q)) else y4) ∗ owns (c : Thread nD τ) arg9 fullShare (newC i x0 x1 x2 x3 xb xc) ∗ owns (c : Thread nD τ) arg10 fullShare (firstB i x1 xb) ∗ owns (c : Thread nD τ) arg11 fullShare (shapeCast S480x128 (newQ i x0 x1 x2 x3 xb q) shapeCasts_S480x128_S480x128) ∗ owns (c : Thread nD τ) arg12 fullShare (if condLast i then lanesOf (rmsOf (newQ i x0 x1 x2 x3 xb q)) else xr)) -∗ K ⟨⟩))
      ⊢ wp frame (wpE (defs₀ (F := F)) Variants.none c none) E (newPart i arg2 harg2 arg3 harg3 arg4 harg4 arg5 harg5 arg6 harg6 arg7 harg7 arg8 harg8 arg9 harg9 arg10 harg10 arg11 harg11 arg12 harg12 (BitVec.ofNat 32 (i 1).val) h2) K := by
  rw [newPart_eq]; unfold newProg
  iintro ⟨H0, H1, H2, H3, H4, HS0, HS1, HS2, HS3, Hk⟩
  by_cases h3 : condFirst i
  · simp only [newQ, newC, firstB, firstQ, if_pos h3]
    rw [dif_pos h3, wp_bind]
    iapply (first_run c i arg2 harg2 arg3 harg3 arg4 harg4 arg5 harg5 arg6 harg6 arg7 harg7 arg8 harg8 arg9 harg9 arg10 harg10 arg11 harg11 arg12 harg12 x1 xb q E (fun _ => wp frame (wpE (defs₀ (F := F)) Variants.none c none) E (tileProg i arg2 harg2 arg3 harg3 arg4 harg4 arg5 harg5 arg6 harg6 arg7 harg7 arg8 harg8 arg9 harg9 arg10 harg10 arg11 harg11 arg12 harg12 h2) K))
    isplitl [H1]; · iexact H1
    isplitl [HS1]; · iexact HS1
    isplitl [HS2]; · iexact HS2
    iintro ⟨H1, HS1, HS2⟩
    iapply (tile_run c i arg2 harg2 arg3 harg3 arg4 harg4 arg5 harg5 arg6 harg6 arg7 harg7 arg8 harg8 arg9 harg9 arg10 harg10 arg11 harg11 arg12 harg12 h2 x0 x2 x3 y4 xc (k0_pay39 x1) k0_pay40 xr E K)
    isplitl [H0]; · iexact H0
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H2, H3, H4, HS0, HS1, HS2, HS3⟩
    iapply Hk
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iexact HS3
  · simp only [newQ, newC, firstB, firstQ, if_neg h3]
    rw [dif_neg h3]
    iapply (tile_run c i arg2 harg2 arg3 harg3 arg4 harg4 arg5 harg5 arg6 harg6 arg7 harg7 arg8 harg8 arg9 harg9 arg10 harg10 arg11 harg11 arg12 harg12 h2 x0 x2 x3 y4 xc xb q xr E K)
    isplitl [H0]; · iexact H0
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H2, H3, H4, HS0, HS1, HS2, HS3⟩
    iapply Hk
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iexact HS3

theorem body_new (c : Dev nD) (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (h2 : condNew i)
    (x0 : Vec F S480x14336 .fp8e4m3) (x1 : Vec F S1x1x480 .f32) (x2 : Vec F S14336x512 .fp8e4m3) (x3 : Vec F S1x512 .f32) (y4 : Vec F S1x1x480 .f32) (y5 : Vec F S480x512 .fp8e4m3) (y6 : Vec F S480x32 .f32) (xc : Vec F S480x4096 .f32) (xb q xr : Vec F S480x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare xc ∗ owns (c : Thread nD τ) arg10 fullShare xb ∗ owns (c : Thread nD τ) arg11 fullShare q ∗ owns (c : Thread nD τ) arg12 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (if condLast i then rowOf (rmsOf (newQ i x0 x1 x2 x3 xb q)) else y4) ∗ owns (c : Thread nD τ) arg7 fullShare (oldC i xc xr y5) ∗ owns (c : Thread nD τ) arg8 fullShare (oldS i xc xr y6) ∗ owns (c : Thread nD τ) arg9 fullShare (newC i x0 x1 x2 x3 xb xc) ∗ owns (c : Thread nD τ) arg10 fullShare (firstB i x1 xb) ∗ owns (c : Thread nD τ) arg11 fullShare (shapeCast S480x128 (newQ i x0 x1 x2 x3 xb q) shapeCasts_S480x128_S480x128) ∗ owns (c : Thread nD τ) arg12 fullShare (if condLast i then lanesOf (rmsOf (newQ i x0 x1 x2 x3 xb q)) else xr)) -∗ K ⟨⟩))
      ⊢ wp frame (wpE (defs₀ (F := F)) Variants.none c none) E (cc0_proj_down i arg2 harg2 arg3 harg3 arg4 harg4 arg5 harg5 arg6 harg6 arg7 harg7 arg8 harg8 arg9 harg9 arg10 harg10 arg11 harg11 arg12 harg12) K := by
  rw [body_eq]
  iintro ⟨H0, H1, H2, H3, H4, H5, H6, HS0, HS1, HS2, HS3, Hk⟩
  by_cases h1 : condOld i
  · rw [oldC, dif_pos h1, oldS, dif_pos h1]
    rw [show (if h : condOld i then _ else _ : Prog (TpuEff nD τ sig (Elt F) Λ₀ .tc) PUnit) = (codesProg i arg2 harg2 arg3 harg3 arg4 harg4 arg5 harg5 arg6 harg6 arg7 harg7 arg8 harg8 arg9 harg9 arg10 harg10 arg11 harg11 arg12 harg12 (BitVec.ofNat 32 (i 1).val) h1 >>= fun _ => newPart i arg2 harg2 arg3 harg3 arg4 harg4 arg5 harg5 arg6 harg6 arg7 harg7 arg8 harg8 arg9 harg9 arg10 harg10 arg11 harg11 arg12 harg12 (BitVec.ofNat 32 (i 1).val) h2) from by
      rw [dif_pos h1]; exact congrArg (codesProg i arg2 harg2 arg3 harg3 arg4 harg4 arg5 harg5 arg6 harg6 arg7 harg7 arg8 harg8 arg9 harg9 arg10 harg10 arg11 harg11 arg12 harg12 (BitVec.ofNat 32 (i 1).val) h1 >>= ·) (funext fun _ => dif_pos h2), wp_bind]
    iapply (codes_run c i arg2 harg2 arg3 harg3 arg4 harg4 arg5 harg5 arg6 harg6 arg7 harg7 arg8 harg8 arg9 harg9 arg10 harg10 arg11 harg11 arg12 harg12 h1 xc xr y5 y6 E (fun _ => wp frame (wpE (defs₀ (F := F)) Variants.none c none) E (newPart i arg2 harg2 arg3 harg3 arg4 harg4 arg5 harg5 arg6 harg6 arg7 harg7 arg8 harg8 arg9 harg9 arg10 harg10 arg11 harg11 arg12 harg12 (BitVec.ofNat 32 (i 1).val) h2) K))
    isplitl [H5]; · iexact H5
    isplitl [H6]; · iexact H6
    isplitl [HS0]; · iexact HS0
    isplitl [HS3]; · iexact HS3
    iintro ⟨H5, H6, HS0, HS3⟩
    iapply (new_run c i arg2 harg2 arg3 harg3 arg4 harg4 arg5 harg5 arg6 harg6 arg7 harg7 arg8 harg8 arg9 harg9 arg10 harg10 arg11 harg11 arg12 harg12 h2 x0 x1 x2 x3 y4 xc xb q xr E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3
  · rw [oldC, dif_neg h1, oldS, dif_neg h1]
    rw [dif_neg h1, dif_pos h2]
    iapply (new_run c i arg2 harg2 arg3 harg3 arg4 harg4 arg5 harg5 arg6 harg6 arg7 harg7 arg8 harg8 arg9 harg9 arg10 harg10 arg11 harg11 arg12 harg12 h2 x0 x1 x2 x3 y4 xc xb q xr E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HS3

theorem body_old (c : Dev nD) (i : grid0.Coords) (arg2 : Memref sig .tc .vmem S480x14336 .fp8e4m3) (harg2 : arg2.IsWhole) (arg3 : Memref sig .tc .vmem S1x1x480 .f32) (harg3 : arg3.IsWhole) (arg4 : Memref sig .tc .vmem S14336x512 .fp8e4m3) (harg4 : arg4.IsWhole) (arg5 : Memref sig .tc .vmem S1x512 .f32) (harg5 : arg5.IsWhole) (arg6 : Memref sig .tc .vmem S1x1x480 .f32) (harg6 : arg6.IsWhole) (arg7 : Memref sig .tc .vmem S480x512 .fp8e4m3) (harg7 : arg7.IsWhole) (arg8 : Memref sig .tc .vmem S480x32 .f32) (harg8 : arg8.IsWhole) (arg9 : Memref sig .tc .vmem S480x4096 .f32) (harg9 : arg9.IsWhole) (arg10 : Memref sig .tc .vmem S480x128 .f32) (harg10 : arg10.IsWhole) (arg11 : Memref sig .tc .vmem S480x128 .f32) (harg11 : arg11.IsWhole) (arg12 : Memref sig .tc .vmem S480x128 .f32) (harg12 : arg12.IsWhole) (h1 : condOld i) (h2 : ¬ condNew i)
    (x0 : Vec F S480x14336 .fp8e4m3) (x1 : Vec F S1x1x480 .f32) (x2 : Vec F S14336x512 .fp8e4m3) (x3 : Vec F S1x512 .f32) (y4 : Vec F S1x1x480 .f32) (y5 : Vec F S480x512 .fp8e4m3) (y6 : Vec F S480x32 .f32) (xc : Vec F S480x4096 .f32) (xb q xr : Vec F S480x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare xc ∗ owns (c : Thread nD τ) arg10 fullShare xb ∗ owns (c : Thread nD τ) arg11 fullShare q ∗ owns (c : Thread nD τ) arg12 fullShare xr
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare (oldC i xc xr y5) ∗ owns (c : Thread nD τ) arg8 fullShare (oldS i xc xr y6) ∗ owns (c : Thread nD τ) arg9 fullShare xc ∗ owns (c : Thread nD τ) arg10 fullShare xb ∗ owns (c : Thread nD τ) arg11 fullShare q ∗ owns (c : Thread nD τ) arg12 fullShare xr) -∗ K ⟨⟩))
      ⊢ wp frame (wpE (defs₀ (F := F)) Variants.none c none) E (cc0_proj_down i arg2 harg2 arg3 harg3 arg4 harg4 arg5 harg5 arg6 harg6 arg7 harg7 arg8 harg8 arg9 harg9 arg10 harg10 arg11 harg11 arg12 harg12) K := by
  rw [body_eq]
  iintro ⟨H0, H1, H2, H3, H4, H5, H6, HS0, HS1, HS2, HS3, Hk⟩
  rw [oldC, dif_pos h1, oldS, dif_pos h1]
  rw [show (if h : condOld i then _ else _ : Prog (TpuEff nD τ sig (Elt F) Λ₀ .tc) PUnit) = (codesProg i arg2 harg2 arg3 harg3 arg4 harg4 arg5 harg5 arg6 harg6 arg7 harg7 arg8 harg8 arg9 harg9 arg10 harg10 arg11 harg11 arg12 harg12 (BitVec.ofNat 32 (i 1).val) h1 >>= fun _ => pure ⟨⟩) from by
      rw [dif_pos h1]; exact congrArg (codesProg i arg2 harg2 arg3 harg3 arg4 harg4 arg5 harg5 arg6 harg6 arg7 harg7 arg8 harg8 arg9 harg9 arg10 harg10 arg11 harg11 arg12 harg12 (BitVec.ofNat 32 (i 1).val) h1 >>= ·) (funext fun _ => dif_neg h2), wp_bind]
  iapply (codes_run c i arg2 harg2 arg3 harg3 arg4 harg4 arg5 harg5 arg6 harg6 arg7 harg7 arg8 harg8 arg9 harg9 arg10 harg10 arg11 harg11 arg12 harg12 h1 xc xr y5 y6 E (fun _ => wp frame (wpE (defs₀ (F := F)) Variants.none c none) E (pure ⟨⟩) K))
  isplitl [H5]; · iexact H5
  isplitl [H6]; · iexact H6
  isplitl [HS0]; · iexact HS0
  isplitl [HS3]; · iexact HS3
  iintro ⟨H5, H6, HS0, HS3⟩
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iexact HS3

end Cert.DownIdeal.Dn

end
-- ==== Proof.DnVal.lean ====
module

public import proofs.«01_k».proof.Proof.DnBody
public import proofs.«01_k».proof.Proof.UpLaws
public import Idealize.ShloMosaic.Lib.Pointwise

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the scratch and the results hold, row tile by row tile -/

/-- The four argument arrays. -/
structure Arr (F : FTy → Type) where
  h : Vec F S24960x14336 .fp8e4m3
  hs : Vec F S52x1x480 .f32
  w : Vec F S14336x4096 .fp8e4m3
  s : Vec F S1x4096 .f32

section Sem
variable (a : Arr F)

/-- Row tile `i` of the codes (the last one from there on), and its scales. -/
def hT (i : ℕ) : Vec F S480x14336 .fp8e4m3 := fun y => a.h (ix2 ⟨480 * min i 51 + (y 0).val, by have h0 : (y 0).val < 480 := (y 0).isLt; omega⟩ (y 1))
def hsT (i : ℕ) : Vec F S1x1x480 .f32 := fun y => a.hs (ix3 ⟨min i 51, by omega⟩ (y 1) (y 2))
/-- Column tile `j` of the weights, and its scales. -/
def wT (j : Fin 8) : Vec F S14336x512 .fp8e4m3 := fun y => a.w (ix2 (y 0) ⟨512 * j.val + (y 1).val, by have h0 : (y 1).val < 512 := (y 1).isLt; omega⟩)
def sT (j : Fin 8) : Vec F S1x512 .f32 := fun y => a.s (ix2 (y 0) ⟨512 * j.val + (y 1).val, by have h0 : (y 1).val < 512 := (y 1).isLt; omega⟩)

/-- Its scales over the lanes. -/
def sclT (i : ℕ) : Vec F S480x128 .f32 := k0_pay39 (hsT a i)

/-- Group `n` of the 32 of row tile `i`. -/
def tileG (i n : ℕ) : FVec F S480x128 .f32 :=
  tileC (hT a i) (wT a ⟨n / 4 % 8, Nat.mod_lt _ (by decide)⟩) (sclT a i) (sT a ⟨n / 4 % 8, Nat.mod_lt _ (by decide)⟩) ⟨n % 4, Nat.mod_lt _ (by decide)⟩

/-- The product of row tile `i`. -/
def cT (i : ℕ) : Vec F S480x4096 .f32 := fun y => tileG a i ((y 1).val / 128) (ix2 (y 0) ⟨(y 1).val % 128, Nat.mod_lt _ (by decide)⟩)

/-- Its running sum of squares over the lanes after `n` groups. -/
def sqT (i : ℕ) : ℕ → Vec F S480x128 .f32
  | 0 => k0_pay40
  | n + 1 => sqStep (sqT i n) (tileG a i n)

/-- Its root mean square, and the same over the lanes. -/
def rmsC (i : ℕ) : FVec F S480x1 .f32 := rmsOf (sqT a i 32)
def rmsT (i : ℕ) : Vec F S480x128 .f32 := lanesOf (rmsC a i)

/-- Its block of codes in column tile `j`. -/
def cCodes (i j : ℕ) : Vec F S480x512 .fp8e4m3 := fun y =>
  codesOf (rmsT a i) (tileG a i (4 * j + (y 1).val / 128)) (ix2 (y 0) ⟨(y 1).val % 128, Nat.mod_lt _ (by decide)⟩)
/-- Its scales, group by group. -/
def csT (i : ℕ) : Vec F S480x32 .f32 := fun y => scaleOf (rmsT a i) (tileG a i (y 1).val) (ix2 (y 0) 0)
end Sem

theorem idx2 {n0 n1 : ℕ} (y : (⟨2, ![n0, n1]⟩ : Shape).Idx) : ∃ (r : Fin n0) (k : Fin n1), y = ix2 r k :=
  ⟨y 0, y 1, funext fun b => by match b with | ⟨0, _⟩ => rfl | ⟨1, _⟩ => rfl⟩

/-! ## Offsets -/

theorem offNat : ∀ (j : Fin 8) (g : Fin 4), (Scalar.indexCast (Scalar.addi (Scalar.muli (BitVec.ofNat 32 j.val) 512#32) (BitVec.ofNat 32 (128 * g.val)))).toNat = 512 * j.val + 128 * g.val := by
  decide +kernel

theorem off1_eq (i : grid0.Coords) (g : Fin 4) : k0_off1 i (BitVec.ofNat 32 (128 * g.val)) = ![0, 512 * (i 1).val + 128 * g.val] :=
  congrArg (fun n : ℕ => (![0, n] : Fin 2 → ℕ)) (offNat (i 1) g)
theorem off2_eq (i : grid0.Coords) (g : Fin 4) : k0_off2 i (BitVec.ofNat 32 (128 * g.val)) = ![0, 512 * (i 1).val + 128 * g.val] :=
  congrArg (fun n : ℕ => (![0, n] : Fin 2 → ℕ)) (offNat (i 1) g)

theorem window_off {α : Type} {s : Shape} (x : s.Idx → α) {off off' size : Fin s.rank → ℕ} (h : off = off') (i1 : ∀ b, off b + size b ≤ s.size b)
    (i2 : ∀ b, off' b + size b ≤ s.size b) : VecWindow.window x off size i1 = VecWindow.window x off' size i2 := by
  subst h; rfl

/-- The column tile of a grid point. -/
def colOf (i : grid0.Coords) : Fin 8 := ⟨(i 1).val, (i 1).isLt⟩

theorem tileG_eq (a : Arr F) (i : ℕ) (j : Fin 8) (g : Fin 4) : tileG a i (4 * j.val + g.val) = tileC (hT a i) (wT a j) (sclT a i) (sT a j) g := by
  have h1 : (⟨(4 * j.val + g.val) / 4 % 8, Nat.mod_lt _ (by decide)⟩ : Fin 8) = j := Fin.ext (by show (4 * j.val + g.val) / 4 % 8 = j.val; omega)
  have h2 : (⟨(4 * j.val + g.val) % 4, Nat.mod_lt _ (by decide)⟩ : Fin 4) = g := Fin.ext (by show (4 * j.val + g.val) % 4 = g.val; omega)
  unfold tileG
  rw [h1, h2]

/-! ## Groups of columns put side by side -/

/-- `n` groups of 128 columns put over `x` from column `o` on. -/
def putsN {α : Type} {n1 : ℕ} (x : (⟨2, ![480, n1]⟩ : Shape).Idx → α) (o : ℕ) (w : ℕ → S480x128.Idx → α) : ℕ → (⟨2, ![480, n1]⟩ : Shape).Idx → α
  | 0 => x
  | n + 1 => VecWindow.put (s := ⟨2, ![480, n1]⟩) (putsN x o w n) ![0, o + 128 * n] S480x128.size (w n)

theorem putsN_apply {α : Type} {n1 : ℕ} (x : (⟨2, ![480, n1]⟩ : Shape).Idx → α) (o : ℕ) (w : ℕ → S480x128.Idx → α) (r : Fin 480) (k : Fin n1) :
    ∀ n, putsN x o w n (ix2 r k) = if o ≤ k.val ∧ k.val < o + 128 * n then w ((k.val - o) / 128) (ix2 r ⟨(k.val - o) % 128, Nat.mod_lt _ (by decide)⟩) else x (ix2 r k)
  | 0 => by rw [if_neg (by omega)]; rfl
  | n + 1 => by
    have ih := putsN_apply x o w r k n
    show VecWindow.put (s := ⟨2, ![480, n1]⟩) (putsN x o w n) ![0, o + 128 * n] S480x128.size (w n) (ix2 r k) = _
    unfold VecWindow.put
    by_cases h : o + 128 * n ≤ k.val ∧ k.val < o + 128 * n + 128
    · have hh : ∀ b : Fin 2, (![0, o + 128 * n] : Fin 2 → ℕ) b ≤ ((ix2 r k : (⟨2, ![480, n1]⟩ : Shape).Idx) b).val ∧ ((ix2 r k : (⟨2, ![480, n1]⟩ : Shape).Idx) b).val < (![0, o + 128 * n] : Fin 2 → ℕ) b + S480x128.size b := by
        intro b
        match b with
        | ⟨0, _⟩ => exact ⟨Nat.zero_le _, by have := r.isLt; show r.val < 0 + 480; omega⟩
        | ⟨1, _⟩ => exact h
      rw [dif_pos hh, if_pos (by omega)]
      have e : (k.val - o) / 128 = n := by omega
      rw [e]
      exact congrArg (w n) (funext fun b => by
        match b with
        | ⟨0, _⟩ => exact Fin.ext (by show r.val - 0 = r.val; omega)
        | ⟨1, _⟩ => exact Fin.ext (by show k.val - (o + 128 * n) = (k.val - o) % 128; omega))
    · rw [dif_neg (fun hall => h (hall 1)), ih]
      by_cases h2 : o ≤ k.val ∧ k.val < o + 128 * n
      · rw [if_pos h2, if_pos (by omega)]
      · rw [if_neg h2, if_neg (by omega)]

theorem put_off {α : Type} {s : Shape} {x x' : s.Idx → α} {off off' size : Fin s.rank → ℕ} {w w' : ((b : Fin s.rank) → Fin (size b)) → α}
    (hx : x = x') (ho : off = off') (hw : w = w') : VecWindow.put x off size w = VecWindow.put x' off' size w' := by
  subst hx; subst ho; subst hw; rfl

/-- The scratch product after a point: the point's column tile, else what was there. -/
theorem cAfter_apply (a : Arr F) (i : grid0.Coords) (n : ℕ) (xc : Vec F S480x4096 .f32)
    (r : Fin 480) (k : Fin 4096) :
    cAfter (hT a n) (wT a (colOf i)) (sclT a n) (sT a (colOf i)) i xc (ix2 r k)
      = if 512 * (i 1).val ≤ k.val ∧ k.val < 512 * (i 1).val + 512 then cT a n (ix2 r k) else xc (ix2 r k) := by
  have hj : (i 1).val < 8 := (i 1).isLt
  have e : cAfter (hT a n) (wT a (colOf i)) (sclT a n) (sT a (colOf i)) i xc
      = putsN (n1 := 4096) xc (512 * (i 1).val) (fun m => tileG a n (4 * (i 1).val + m)) 4 := by
    have hP : ∀ g : Fin 4, tileP (hT a n) (wT a (colOf i)) (sclT a n) (sT a (colOf i)) g = tileG a n (4 * (i 1).val + g.val) := fun g => by
      unfold tileP
      rw [shapeCast_self]
      exact (tileG_eq a n (colOf i) g).symm
    unfold cAfter
    exact put_off (put_off (put_off (put_off rfl (off2_eq i 0) (hP 0)) (off2_eq i 1) (hP 1)) (off2_eq i 2) (hP 2)) (off2_eq i 3) (hP 3)
  rw [e]
  refine (putsN_apply (n1 := 4096) xc (512 * (i 1).val) _ r k 4).trans ?_
  by_cases h : 512 * (i 1).val ≤ k.val ∧ k.val < 512 * (i 1).val + 512
  · rw [if_pos h, if_pos (by omega)]
    show tileG a n (4 * (i 1).val + (k.val - 512 * (i 1).val) / 128) (ix2 r ⟨(k.val - 512 * (i 1).val) % 128, _⟩) = tileG a n (k.val / 128) (ix2 r ⟨k.val % 128, _⟩)
    have e1 : 4 * (i 1).val + (k.val - 512 * (i 1).val) / 128 = k.val / 128 := by omega
    have e2 : (k.val - 512 * (i 1).val) % 128 = k.val % 128 := by omega
    rw [e1]
    congr 2
    exact Fin.ext e2
  · rw [if_neg h, if_neg (by omega)]

theorem codesBlock_apply (i : grid0.Coords) (h : condOld i) (xc : Vec F S480x4096 .f32) (xr : Vec F S480x128 .f32) (y5 : Vec F S480x512 .fp8e4m3) (r : Fin 480) (k : Fin 512) :
    codesBlock i h xc xr y5 (ix2 r k) = codesOf xr (cCols xc i h ⟨k.val / 128, by have := k.isLt; omega⟩) (ix2 r ⟨k.val % 128, Nat.mod_lt _ (by decide)⟩) := by
  have e : codesBlock i h xc xr y5 = putsN (n1 := 512) y5 0 (fun n => codesOf xr (cCols xc i h ⟨n % 4, Nat.mod_lt _ (by decide)⟩)) 4 := rfl
  rw [e, putsN_apply (n1 := 512), if_pos (by have := k.isLt; omega)]
  have h1 : (⟨(k.val - 0) / 128 % 4, Nat.mod_lt _ (by decide)⟩ : Fin 4) = ⟨k.val / 128, by have := k.isLt; omega⟩ := Fin.ext (by have := k.isLt; show (k.val - 0) / 128 % 4 = k.val / 128; omega)
  show codesOf xr (cCols xc i h ⟨(k.val - 0) / 128 % 4, Nat.mod_lt _ (by decide)⟩) (ix2 r ⟨(k.val - 0) % 128, Nat.mod_lt _ (by decide)⟩) = _
  rw [h1]
  rfl

/-- A group's columns of a scratch product that holds row tile `n` there. -/
theorem cCols_eq (a : Arr F) (n : ℕ) (i : grid0.Coords) (h : condOld i) (xc : Vec F S480x4096 .f32)
    (hx : ∀ (r : Fin 480) (k : Fin 4096), 512 * (i 1).val ≤ k.val → xc (ix2 r k) = cT a n (ix2 r k)) (g : Fin 4) :
    cCols xc i h g = tileG a n (4 * (i 1).val + g.val) := by
  have hj : (i 1).val < 8 := (i 1).isLt
  have hw : cCols xc i h g = VecWindow.window xc ![0, 512 * (i 1).val + 128 * g.val] S480x128.size (by rw [← off1_eq i g]; exact k0_off1_inb i h g) :=
    window_off xc (off1_eq i g) _ _
  rw [hw]
  refine funext fun (y : S480x128.Idx) => ?_
  obtain ⟨r, k, rfl⟩ : ∃ (r : Fin 480) (k : Fin 128), y = ix2 r k := idx2 y
  have hk := k.isLt
  have hg := g.isLt
  have e : (Rect.unit (s := S480x4096) ![0, 512 * (i 1).val + 128 * g.val] S480x128.size (by rw [← off1_eq i g]; exact k0_off1_inb i h g)).emb (ix2 r k)
      = (ix2 r ⟨512 * (i 1).val + 128 * g.val + k.val, by omega⟩ : S480x4096.Idx) := by
    funext b
    match b with
    | ⟨0, _⟩ => exact Fin.ext (by show 0 + 1 * r.val = r.val; omega)
    | ⟨1, _⟩ => exact Fin.ext (by show 512 * (i 1).val + 128 * g.val + 1 * k.val = 512 * (i 1).val + 128 * g.val + k.val; omega)
  refine (congrArg xc e).trans ((hx _ _ (by show 512 * (i 1).val ≤ 512 * (i 1).val + 128 * g.val + k.val; omega)).trans ?_)
  show tileG a n ((512 * (i 1).val + 128 * g.val + k.val) / 128) (ix2 r ⟨(512 * (i 1).val + 128 * g.val + k.val) % 128, Nat.mod_lt _ (by decide)⟩) = _
  rw [show (512 * (i 1).val + 128 * g.val + k.val) / 128 = 4 * (i 1).val + g.val by omega]
  refine congrArg (fun b => tileG a n (4 * (i 1).val + g.val) (ix2 r b)) (Fin.ext ?_)
  show (512 * (i 1).val + 128 * g.val + k.val) % 128 = k.val
  omega

theorem codesBlock_eq (a : Arr F) (n : ℕ) (i : grid0.Coords) (h : condOld i) (xc : Vec F S480x4096 .f32) (y5 : Vec F S480x512 .fp8e4m3)
    (hx : ∀ (r : Fin 480) (k : Fin 4096), 512 * (i 1).val ≤ k.val → xc (ix2 r k) = cT a n (ix2 r k)) :
    codesBlock i h xc (rmsT a n) y5 = cCodes a n (i 1).val := by
  funext y
  obtain ⟨r, k, rfl⟩ : ∃ (r : Fin 480) (k : Fin 512), y = ix2 r k := idx2 y
  rw [codesBlock_apply, cCols_eq a n i h xc hx]
  rfl

/-! ## The scales' lanes -/

theorem laneNat : ∀ (j : Fin 8) (g : Fin 4), Scalar.addi (Scalar.muli (BitVec.ofNat 32 j.val) 4#32) (BitVec.ofNat 32 g.val) = BitVec.ofNat 32 (4 * j.val + g.val) := by
  decide +kernel
theorem laneEq : ∀ (k l : Fin 32), (Scalar.cmpi .eq (BitVec.ofNat 32 k.val) (BitVec.ofNat 32 l.val) = 1#1) ↔ k = l := by
  decide +kernel

/-- Setting a lane leaves the others. -/
theorem setLane_apply (j : Fin 8) (g : Fin 4) (s : FVec F S480x1 .f32) (out : FVec F S480x32 .f32) (r : Fin 480) (k : Fin 32) :
    setLane (BitVec.ofNat 32 j.val) (BitVec.ofNat 32 g.val) s out (ix2 r k) = if k.val = 4 * j.val + g.val then s (ix2 r 0) else out (ix2 r k) := by
  have hj := j.isLt
  have hg := g.isLt
  have e : setLane (BitVec.ofNat 32 j.val) (BitVec.ofNat 32 g.val) s out (ix2 r k)
      = Scalar.select (Scalar.cmpi .eq (BitVec.ofNat 32 (0 * 32 + k.val)) (Scalar.addi (Scalar.muli (BitVec.ofNat 32 j.val) 4#32) (BitVec.ofNat 32 g.val)))
          (broadcastTo S480x32 (shapeCast S480x1 s shapeCasts_S480x1_S480x1) broadcasts_S480x1_S480x32 (ix2 r k)) (out (ix2 r k)) := rfl
  rw [e, shapeCast_self, show broadcastTo S480x32 s broadcasts_S480x1_S480x32 (ix2 r k) = s (ix2 r 0) from UpLaws.bcol_at s _ r k, laneNat j g, Nat.zero_mul, Nat.zero_add]
  have hl := laneEq k ⟨4 * j.val + g.val, by omega⟩
  unfold Scalar.select
  by_cases h : k.val = 4 * j.val + g.val
  · rw [if_pos h]; exact if_pos (hl.2 (Fin.ext h))
  · rw [if_neg h]; exact if_neg (fun hh => h (congrArg Fin.val (hl.1 hh)))

/-- The scales after a point: the point's four lanes, else what was there. -/
theorem lanesBlock_apply (a : Arr F) (n : ℕ) (i : grid0.Coords) (h : condOld i) (xc : Vec F S480x4096 .f32) (y6 : Vec F S480x32 .f32)
    (hx : ∀ (r : Fin 480) (k : Fin 4096), 512 * (i 1).val ≤ k.val → xc (ix2 r k) = cT a n (ix2 r k)) (r : Fin 480) (k : Fin 32) :
    lanesBlock i h xc (rmsT a n) y6 (ix2 r k)
      = if 4 * (i 1).val ≤ k.val ∧ k.val < 4 * (i 1).val + 4 then csT a n (ix2 r k) else y6 (ix2 r k) := by
  unfold lanesBlock lanes4
  rw [cCols_eq a n i h xc hx 0, cCols_eq a n i h xc hx 1, cCols_eq a n i h xc hx 2, cCols_eq a n i h xc hx 3, shapeCast_self]
  refine (setLane_apply (colOf i) 3 _ _ r k).trans ?_
  have hs : ∀ g : Fin 4, k.val = 4 * (i 1).val + g.val → scaleOf (rmsT a n) (tileG a n (4 * (i 1).val + g.val)) (ix2 r 0) = csT a n (ix2 r k) := fun g hk => by
    show _ = scaleOf (rmsT a n) (tileG a n k.val) (ix2 r 0)
    rw [hk]
  show (if k.val = 4 * (i 1).val + 3 then _ else _) = _
  by_cases h3 : k.val = 4 * (i 1).val + 3
  · rw [if_pos h3, if_pos (by omega)]; exact hs 3 h3
  rw [if_neg h3]
  refine (setLane_apply (colOf i) 2 _ _ r k).trans ?_
  show (if k.val = 4 * (i 1).val + 2 then _ else _) = _
  by_cases h2 : k.val = 4 * (i 1).val + 2
  · rw [if_pos h2, if_pos (by omega)]; exact hs 2 h2
  rw [if_neg h2]
  refine (setLane_apply (colOf i) 1 _ _ r k).trans ?_
  show (if k.val = 4 * (i 1).val + 1 then _ else _) = _
  by_cases h1 : k.val = 4 * (i 1).val + 1
  · rw [if_pos h1, if_pos (by omega)]; exact hs 1 h1
  rw [if_neg h1]
  refine (setLane_apply (colOf i) 0 _ _ r k).trans ?_
  show (if k.val = 4 * (i 1).val + 0 then _ else _) = _
  by_cases h0 : k.val = 4 * (i 1).val + 0
  · rw [if_pos h0, if_pos (by omega)]; exact hs 0 h0
  rw [if_neg h0, if_neg (by omega)]

theorem qAfter_eq (a : Arr F) (n : ℕ) (j : Fin 8) :
    qAfter (hT a n) (wT a j) (sclT a n) (sT a j) (sqT a n (4 * j.val)) = sqT a n (4 * j.val + 4) := by
  unfold qAfter
  rw [← tileG_eq, ← tileG_eq, ← tileG_eq, ← tileG_eq]
  rfl

/-! ## The invariant on the scratch -/

/-- What the scratch holds before point `t`: of the current row tile the scales, the running sum of squares and
    the columns done; of the previous one the columns still to be written out, and its root mean square. -/
structure Inv (a : Arr F) (t : ℕ) (d0 : Vec F S480x4096 .f32) (d1 d2 d3 : Vec F S480x128 .f32) : Prop where
  scales : t / 8 < 52 → t % 8 ≠ 0 → d1 = sclT a (t / 8)
  sq : t / 8 < 52 → t % 8 ≠ 0 → d2 = sqT a (t / 8) (4 * (t % 8))
  done : t / 8 < 52 → ∀ (r : Fin 480) (k : Fin 4096), k.val < 512 * (t % 8) → d0 (ix2 r k) = cT a (t / 8) (ix2 r k)
  left : 1 ≤ t / 8 → t / 8 ≤ 52 → ∀ (r : Fin 480) (k : Fin 4096), 512 * (t % 8) ≤ k.val ∨ t / 8 = 52 → d0 (ix2 r k) = cT a (t / 8 - 1) (ix2 r k)
  rms : 1 ≤ t / 8 → t / 8 ≤ 52 → d3 = rmsT a (t / 8 - 1)

theorem Inv.zero (a : Arr F) (d0 : Vec F S480x4096 .f32) (d1 d2 d3 : Vec F S480x128 .f32) : Inv a 0 d0 d1 d2 d3 where
  scales _ h := absurd rfl h
  sq _ h := absurd rfl h
  done _ r k h := by omega
  left h := by omega
  rms h := by omega

variable {a : Arr F} {t : ℕ} {d0 : Vec F S480x4096 .f32} {d1 d2 d3 : Vec F S480x128 .f32}

theorem Inv.old (H : Inv a t d0 d1 d2 d3) (h1 : 416 ≤ t) (h2 : t < 424) : Inv a (t + 1) d0 d1 d2 d3 where
  scales h := by omega
  sq h := by omega
  done h := by omega
  left h h' r k _ := by
    have e : (t + 1) / 8 = t / 8 := by omega
    rw [e]; exact H.left (by omega) (by omega) r k (.inr (by omega))
  rms h h' := by
    have e : (t + 1) / 8 = t / 8 := by omega
    rw [e]; exact H.rms (by omega) (by omega)

section Step
variable (i : grid0.Coords)

theorem firstB_eq (H : Inv a t d0 d1 d2 d3) (ht : t < 416) (hc : condFirst i ↔ t % 8 = 0) : firstB i (hsT a (t / 8)) d1 = sclT a (t / 8) := by
  unfold firstB
  by_cases h : t % 8 = 0
  · rw [if_pos (hc.2 h)]; rfl
  · rw [if_neg (fun hh => h (hc.1 hh))]; exact H.scales (by omega) h
theorem firstQ_eq (H : Inv a t d0 d1 d2 d3) (ht : t < 416) (hc : condFirst i ↔ t % 8 = 0) : firstQ i d2 = sqT a (t / 8) (4 * (t % 8)) := by
  unfold firstQ
  by_cases h : t % 8 = 0
  · rw [if_pos (hc.2 h), h]; rfl
  · rw [if_neg (fun hh => h (hc.1 hh))]; exact H.sq (by omega) h

theorem newQ_eq (H : Inv a t d0 d1 d2 d3) (ht : t < 416) (hc : condFirst i ↔ t % 8 = 0) (h1 : (i 1).val = t % 8) :
    newQ i (hT a (t / 8)) (hsT a (t / 8)) (wT a (colOf i)) (sT a (colOf i)) d1 d2 = sqT a (t / 8) (4 * (t % 8) + 4) := by
  unfold newQ
  rw [firstB_eq i H ht hc, firstQ_eq i H ht hc, ← h1]
  exact qAfter_eq a (t / 8) (colOf i)

theorem newC_apply (H : Inv a t d0 d1 d2 d3) (ht : t < 416) (hc : condFirst i ↔ t % 8 = 0) (h1 : (i 1).val = t % 8) (r : Fin 480) (k : Fin 4096) :
    newC i (hT a (t / 8)) (hsT a (t / 8)) (wT a (colOf i)) (sT a (colOf i)) d1 d0 (ix2 r k)
      = if 512 * (t % 8) ≤ k.val ∧ k.val < 512 * (t % 8) + 512 then cT a (t / 8) (ix2 r k) else d0 (ix2 r k) := by
  unfold newC
  rw [firstB_eq i H ht hc, cAfter_apply, h1]

theorem Inv.new (H : Inv a t d0 d1 d2 d3) (ht : t < 416) (hc : condFirst i ↔ t % 8 = 0) (hl : condLast i ↔ t % 8 = 7) (h1 : (i 1).val = t % 8) :
    Inv a (t + 1) (newC i (hT a (t / 8)) (hsT a (t / 8)) (wT a (colOf i)) (sT a (colOf i)) d1 d0) (firstB i (hsT a (t / 8)) d1)
      (shapeCast S480x128 (newQ i (hT a (t / 8)) (hsT a (t / 8)) (wT a (colOf i)) (sT a (colOf i)) d1 d2) shapeCasts_S480x128_S480x128)
      (if condLast i then lanesOf (rmsOf (newQ i (hT a (t / 8)) (hsT a (t / 8)) (wT a (colOf i)) (sT a (colOf i)) d1 d2)) else d3) := by
  have hM := newQ_eq i H ht hc h1
  have hH := newC_apply i H ht hc h1
  rw [hM, firstB_eq i H ht hc]
  by_cases hj : t % 8 = 7
  · have e0 : (t + 1) / 8 = t / 8 + 1 := by omega
    have e1 : (t + 1) % 8 = 0 := by omega
    refine ⟨fun _ h => absurd e1 h, fun _ h => absurd e1 h, fun _ r k h => by omega, fun _ _ r k _ => ?_, fun _ _ => ?_⟩
    · rw [hH r k, e0, Nat.add_sub_cancel]
      by_cases hk : 512 * (t % 8) ≤ k.val ∧ k.val < 512 * (t % 8) + 512
      · rw [if_pos hk]
      · rw [if_neg hk]; exact H.done (by omega) r k (by have := k.isLt; omega)
    · rw [if_pos (hl.2 hj), e0, Nat.add_sub_cancel, hj]; rfl
  · have e0 : (t + 1) / 8 = t / 8 := by omega
    have e1 : (t + 1) % 8 = t % 8 + 1 := by omega
    refine ⟨fun _ _ => by rw [e0], fun _ _ => by rw [e0, e1, shapeCast_self]; rfl, fun _ r k h => ?_, fun h _ r k hk => ?_, fun h _ => ?_⟩
    · rw [hH r k, e0]
      by_cases hk : 512 * (t % 8) ≤ k.val ∧ k.val < 512 * (t % 8) + 512
      · rw [if_pos hk]
      · rw [if_neg hk]; exact H.done (by omega) r k (by omega)
    · rw [hH r k, if_neg (by omega), e0]; exact H.left (by omega) (by omega) r k (.inl (by omega))
    · rw [if_neg (fun hh => hj (hl.1 hh)), e0]; exact H.rms (by omega) (by omega)

/-- The block of codes written out at a point. -/
theorem oldC_eq (H : Inv a t d0 d1 d2 d3) (h8 : 8 ≤ t) (ht : t < 424) (hc : condOld i) (h1 : (i 1).val = t % 8) (y : Vec F S480x512 .fp8e4m3) :
    oldC i d0 d3 y = cCodes a (t / 8 - 1) (t % 8) := by
  unfold oldC
  rw [dif_pos hc, H.rms (by omega) (by omega), codesBlock_eq a (t / 8 - 1) i hc d0 y (fun r k hk => H.left (by omega) (by omega) r k (.inl (by omega))), h1]

/-- The scales in the row tile's buffer after a point. -/
theorem oldS_eq (H : Inv a t d0 d1 d2 d3) (h8 : 8 ≤ t) (ht : t < 424) (hc : condOld i) (h1 : (i 1).val = t % 8) (y : Vec F S480x32 .f32)
    (hy : t % 8 ≠ 0 → ∀ (r : Fin 480) (k : Fin 32), k.val < 4 * (t % 8) → y (ix2 r k) = csT a (t / 8 - 1) (ix2 r k)) :
    ∀ (r : Fin 480) (k : Fin 32), k.val < 4 * (t % 8) + 4 → oldS i d0 d3 y (ix2 r k) = csT a (t / 8 - 1) (ix2 r k) := fun r k hk => by
  unfold oldS
  rw [dif_pos hc, H.rms (by omega) (by omega), lanesBlock_apply a (t / 8 - 1) i hc d0 y (fun r k hk => H.left (by omega) (by omega) r k (.inl (by omega))), h1]
  by_cases h : 4 * (t % 8) ≤ k.val ∧ k.val < 4 * (t % 8) + 4
  · rw [if_pos h]
  · rw [if_neg h]; exact hy (by omega) r k (by omega)

/-- The root mean square written out at the last point of a row tile. -/
theorem lastR_eq (H : Inv a t d0 d1 d2 d3) (ht : t < 416) (hc : condFirst i ↔ t % 8 = 0) (hl : condLast i ↔ t % 8 = 7) (h1 : (i 1).val = t % 8) (hj : t % 8 = 7) (y : Vec F S1x1x480 .f32) :
    (if condLast i then rowOf (rmsOf (newQ i (hT a (t / 8)) (hsT a (t / 8)) (wT a (colOf i)) (sT a (colOf i)) d1 d2)) else y) = rowOf (rmsC a (t / 8)) := by
  rw [if_pos (hl.2 hj), newQ_eq i H ht hc h1, hj]; rfl
end Step

end Cert.DownIdeal.Dn

end
-- ==== Proof.DnRun.lean ====
module

public import proofs.«01_k».proof.Proof.DnVal
public import Idealize.ShloMosaic.Lib.Pipeline.ValueKit

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: what each point leaves, the body obligation, the launch -/

variable (m : (ℓ : Loc nD τ sig) → Buf (Elt F) ℓ) (ρ : Dev nD → PrngReg)

/-- The four argument arrays as the region finds them. -/
def arrOf (c : Dev nD) : Arr F := ⟨V m c main_arg0, V m c main_arg1, V m c main_arg2, V m c main_v0⟩

/-! ## The windows' blocks -/

theorem index0 : ∀ t : Fin cfg0.N, win0_0.index t = ![min (t.val / 8) 51, 0] :=
  (by decide +kernel : ∀ t : Fin grid0.N, win0_0.index t = ![min (t.val / 8) 51, 0])
theorem index1 : ∀ t : Fin cfg0.N, win0_1.index t = ![min (t.val / 8) 51, 0, 0] :=
  (by decide +kernel : ∀ t : Fin grid0.N, win0_1.index t = ![min (t.val / 8) 51, 0, 0])
theorem index2 : ∀ t : Fin cfg0.N, win0_2.index t = ![0, (colOf (grid0.coords t)).val] :=
  (by decide +kernel : ∀ t : Fin grid0.N, win0_2.index t = ![0, (grid0.coords t 1).val])
theorem index3 : ∀ t : Fin cfg0.N, win0_3.index t = ![0, (colOf (grid0.coords t)).val] :=
  (by decide +kernel : ∀ t : Fin grid0.N, win0_3.index t = ![0, (grid0.coords t 1).val])

theorem iblk0_eq (c : Dev nD) (t : Fin cfg0.N) : iblk m c 0 t = hT (arrOf m c) (t.val / 8) := by
  funext y
  blk_simp [iblk, index0]
  unfold hT arrOf
  refine congrArg (V m c main_arg0) ?_
  blk_ext! [index0]
theorem iblk1_eq (c : Dev nD) (t : Fin cfg0.N) : iblk m c 1 t = hsT (arrOf m c) (t.val / 8) := by
  funext y
  blk_simp [iblk, index1]
  unfold hsT arrOf
  refine congrArg (V m c main_arg1) ?_
  blk_ext! [index1]
theorem iblk2_eq (c : Dev nD) (t : Fin cfg0.N) : iblk m c 2 t = wT (arrOf m c) (colOf (grid0.coords t)) := by
  funext y
  blk_simp [iblk, index2]
  unfold wT arrOf
  refine congrArg (V m c main_arg2) ?_
  blk_ext! [index2]
theorem iblk3_eq (c : Dev nD) (t : Fin cfg0.N) : iblk m c 3 t = sT (arrOf m c) (colOf (grid0.coords t)) := by
  funext y
  blk_simp [iblk, index3]
  unfold sT arrOf
  refine congrArg (V m c main_v0) ?_
  blk_ext! [index3]

/-! ## What the body leaves -/

section After
variable (a : Arr F) (n : ℕ)
/-- At the end of a row tile, its root mean square; after the last one, still that. -/
def aft4 (X : Vec F S1x1x480 .f32) : Prop := (n % 8 = 7 → n < 416 → X = rowOf (rmsC a (n / 8))) ∧ (416 ≤ n → X = rowOf (rmsC a 51))
/-- From the second row tile on, the block of codes of the row tile before. -/
def aft5 (X : Vec F S480x512 .fp8e4m3) : Prop := 8 ≤ n → X = cCodes a (n / 8 - 1) (n % 8)
/-- From the second row tile on, the scales of the row tile before, as far as the column tiles done. -/
def aft6 (X : Vec F S480x32 .f32) : Prop := 8 ≤ n → ∀ (r : Fin 480) (k : Fin 32), k.val < 4 * (n % 8) + 4 → X (ix2 r k) = csT a (n / 8 - 1) (ix2 r k)
end After

/-- The invariant before point `n`. -/
def PhiN (a : Arr F) (c : Dev nD) (n : ℕ) : sProp 𝕄 :=
  iprop(∃ d0 d1 d2 d3, ⌜Inv a n d0 d1 d2 d3⌝ ∗ (owns (c : Thread nD τ) scM0 fullShare d0 ∗ owns (c : Thread nD τ) scM1 fullShare d1
    ∗ owns (c : Thread nD τ) scM2 fullShare d2 ∗ owns (c : Thread nD τ) scM3 fullShare d3) ∗ (∃ r, prngReg c r))

/-- The relational proof data: inputs are left as found, outputs as said. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => aft4 (arrOf m c) t.val X
    | ⟨5, _⟩ => fun _ X => aft5 (arrOf m c) t.val X
    | ⟨6, _⟩ => fun _ X => aft6 (arrOf m c) t.val X
  Φ t := PhiN (arrOf m c) c t.val
  q _ := fullShare
  owed _ := 0

theorem rA_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = (hT (arrOf m c) (t.val / 8)) := by
  obtain ⟨d, rfl⟩ := Pipeline.RDat.finds_in_eq_fetched (rdat m c) 0 rfl (fun _ _ _ => rfl) (fun _ _ _ h => h) t Y h
  rw [← iblk0_eq m c t]
  unfold Pipeline.RDat.fetched Pipeline.RDat.blockOf iblk; rw [rA_eq]; try rfl
theorem finds1 (c : Dev nD) (t : Fin cfg0.N) (Y) (h : (rdat m c).Finds 1 t Y) : Y = (hsT (arrOf m c) (t.val / 8)) := by
  obtain ⟨d, rfl⟩ := Pipeline.RDat.finds_in_eq_fetched (rdat m c) 1 rfl (fun _ _ _ => rfl) (fun _ _ _ h => h) t Y h
  rw [← iblk1_eq m c t]
  unfold Pipeline.RDat.fetched Pipeline.RDat.blockOf iblk; rw [rA_eq]; try rfl
theorem finds2 (c : Dev nD) (t : Fin cfg0.N) (Y) (h : (rdat m c).Finds 2 t Y) : Y = (wT (arrOf m c) (colOf (grid0.coords t))) := by
  obtain ⟨d, rfl⟩ := Pipeline.RDat.finds_in_eq_fetched (rdat m c) 2 rfl (fun _ _ _ => rfl) (fun _ _ _ h => h) t Y h
  rw [← iblk2_eq m c t]
  unfold Pipeline.RDat.fetched Pipeline.RDat.blockOf iblk; rw [rA_eq]; try rfl
theorem finds3 (c : Dev nD) (t : Fin cfg0.N) (Y) (h : (rdat m c).Finds 3 t Y) : Y = (sT (arrOf m c) (colOf (grid0.coords t))) := by
  obtain ⟨d, rfl⟩ := Pipeline.RDat.finds_in_eq_fetched (rdat m c) 3 rfl (fun _ _ _ => rfl) (fun _ _ _ h => h) t Y h
  rw [← iblk3_eq m c t]
  unfold Pipeline.RDat.fetched Pipeline.RDat.blockOf iblk; rw [rA_eq]; try rfl
theorem flush4 : ∀ t : Fin cfg0.N, (cfg0.win 4).flush t = true ↔ (t.val % 8 = 7 ∧ t.val ≠ 415) :=
  (by decide +kernel : ∀ t : Fin grid0.N, win0_4.flush t = true ↔ (t.val % 8 = 7 ∧ t.val ≠ 415))
theorem flush6 : ∀ t : Fin cfg0.N, (cfg0.win 6).flush t = true ↔ (t.val % 8 = 7 ∧ t.val ≠ 7) :=
  (by decide +kernel : ∀ t : Fin grid0.N, win0_6.flush t = true ↔ (t.val % 8 = 7 ∧ t.val ≠ 7))

theorem finds4 (c : Dev nD) (t : Fin cfg0.N) (Y) (h : (rdat m c).Finds 4 t Y) (ht : 416 ≤ t.val) : aft4 (arrOf m c) t.val Y := by
  have hN : t.val < 424 := Nat.lt_of_lt_of_eq t.isLt N_0
  rcases ((rdat m c).finds_of_pos (w := 4) (t := t) rfl (by omega) Y).1 h with hf | ⟨Y', _, h'⟩
  · have := (flush4 _).1 hf
    exfalso
    have h2 : (t.val - 1) % 8 = 7 ∧ t.val - 1 ≠ 415 := this
    omega
  · have h2 : aft4 (arrOf m c) (t.val - 1) Y := h'
    refine ⟨fun _ h => by omega, fun _ => ?_⟩
    by_cases e : t.val = 416
    · rw [h2.1 (by omega) (by omega), e]
    · exact h2.2 (by omega)

theorem finds6 (c : Dev nD) (t : Fin cfg0.N) (Y) (h : (rdat m c).Finds 6 t Y) (ht : 8 ≤ t.val) (h0 : t.val % 8 ≠ 0) (r : Fin 480) (k : Fin 32) (hk : k.val < 4 * (t.val % 8)) :
    Y (ix2 r k) = csT (arrOf m c) (t.val / 8 - 1) (ix2 r k) := by
  have hN : t.val < 424 := Nat.lt_of_lt_of_eq t.isLt N_0
  rcases ((rdat m c).finds_of_pos (w := 6) (t := t) rfl (by omega) Y).1 h with hf | ⟨Y', _, h'⟩
  · have := (flush6 _).1 hf
    exfalso
    have h2 : (t.val - 1) % 8 = 7 ∧ t.val - 1 ≠ 7 := this
    omega
  · have h2 : aft6 (arrOf m c) (t.val - 1) Y := h'
    have h3 := h2 (by omega) r k (by omega)
    rw [show (t.val - 1) / 8 - 1 = t.val / 8 - 1 by omega] at h3
    exact h3

set_option maxHeartbeats 1000000 in
/-- The body at a point: from the invariant and the blocks found, the invariant and what the point leaves. -/
theorem sound (c : Dev nD) (t : Fin cfg0.N) (O : sProp 𝕄) (y4 : Vec F S1x1x480 .f32) (y5 : Vec F S480x512 .fp8e4m3) (y6 : Vec F S480x32 .f32)
    (h4 : 416 ≤ t.val → aft4 (arrOf m c) t.val y4)
    (h6 : 8 ≤ t.val → t.val % 8 ≠ 0 → ∀ (r : Fin 480) (k : Fin 32), k.val < 4 * (t.val % 8) → y6 (ix2 r k) = csT (arrOf m c) (t.val / 8 - 1) (ix2 r k)) :
    iprop(PhiN (arrOf m c) c t.val ∗ O ∗ owns (c : Thread nD τ) (st0_0 t) fullShare (hT (arrOf m c) (t.val / 8)) ∗ owns (c : Thread nD τ) (st0_1 t) fullShare (hsT (arrOf m c) (t.val / 8)) ∗ owns (c : Thread nD τ) (st0_2 t) fullShare (wT (arrOf m c) (colOf (grid0.coords t))) ∗ owns (c : Thread nD τ) (st0_3 t) fullShare (sT (arrOf m c) (colOf (grid0.coords t))) ∗ owns (c : Thread nD τ) (st0_4 t) fullShare y4 ∗ owns (c : Thread nD τ) (st0_5 t) fullShare y5 ∗ owns (c : Thread nD τ) (st0_6 t) fullShare y6)
      ⊢ wp frame (wpE (defs₀ (F := F)) Variants.none c none) Set.univ (bodyAt0 t) fun _ =>
        iprop(PhiN (arrOf m c) c (t.val + 1) ∗ O ∗ iprop(∃ X, ⌜X = (hT (arrOf m c) (t.val / 8))⌝ ∗ owns (c : Thread nD τ) (st0_0 t) fullShare X) ∗ iprop(∃ X, ⌜X = (hsT (arrOf m c) (t.val / 8))⌝ ∗ owns (c : Thread nD τ) (st0_1 t) fullShare X) ∗ iprop(∃ X, ⌜X = (wT (arrOf m c) (colOf (grid0.coords t)))⌝ ∗ owns (c : Thread nD τ) (st0_2 t) fullShare X) ∗ iprop(∃ X, ⌜X = (sT (arrOf m c) (colOf (grid0.coords t)))⌝ ∗ owns (c : Thread nD τ) (st0_3 t) fullShare X) ∗ iprop(∃ X, ⌜aft4 (arrOf m c) t.val X⌝ ∗ owns (c : Thread nD τ) (st0_4 t) fullShare X) ∗ iprop(∃ X, ⌜aft5 (arrOf m c) t.val X⌝ ∗ owns (c : Thread nD τ) (st0_5 t) fullShare X) ∗ iprop(∃ X, ⌜aft6 (arrOf m c) t.val X⌝ ∗ owns (c : Thread nD τ) (st0_6 t) fullShare X)) := by
  have hN : t.val < 424 := Nat.lt_of_lt_of_eq t.isLt N_0
  have hc1 := coords1 t
  have hcF := condFirst_iff t
  have hcL := condLast_iff t
  unfold PhiN
  iintro ⟨⟨%d0, %d1, %d2, %d3, %hI, ⟨HS0, HS1, HS2, HS3⟩, Hg⟩, Ho, H0, H1, H2, H3, H4, H5, H6⟩
  by_cases ht : t.val < 416
  · have hn := (condNew_iff t).2 ht
    iapply (body_new c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM0 (Memref.isWhole_whole _) scM1 (Memref.isWhole_whole _) scM2 (Memref.isWhole_whole _) scM3 (Memref.isWhole_whole _) hn (hT (arrOf m c) (t.val / 8)) (hsT (arrOf m c) (t.val / 8)) (wT (arrOf m c) (colOf (grid0.coords t))) (sT (arrOf m c) (colOf (grid0.coords t))) y4 y5 y6 d0 d1 d2 d3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    have new4 : aft4 (arrOf m c) t.val (if condLast (grid0.coords t) then rowOf (rmsOf (newQ (grid0.coords t) (hT (arrOf m c) (t.val / 8)) (hsT (arrOf m c) (t.val / 8)) (wT (arrOf m c) (colOf (grid0.coords t))) (sT (arrOf m c) (colOf (grid0.coords t))) d1 d2)) else y4) :=
      ⟨fun hj _ => lastR_eq (grid0.coords t) hI ht hcF hcL hc1 hj y4, fun h => absurd h (by omega)⟩
    have new5 : aft5 (arrOf m c) t.val (oldC (grid0.coords t) d0 d3 y5) := fun h =>
      oldC_eq (grid0.coords t) hI h hN ((condOld_iff t).2 h) hc1 y5
    have new6 : aft6 (arrOf m c) t.val (oldS (grid0.coords t) d0 d3 y6) := fun h =>
      oldS_eq (grid0.coords t) hI h hN ((condOld_iff t).2 h) hc1 y6 (h6 h)
    isplitl [HS0 HS1 HS2 HS3 Hg]
    · iexists _, _, _, _
      isplitr
      · ipureintro; exact hI.new (grid0.coords t) ht hcF hcL hc1
      isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _
      isplitr
      · ipureintro; exact rfl
      iexact H0
    isplitl [H1]
    · iexists _
      isplitr
      · ipureintro; exact rfl
      iexact H1
    isplitl [H2]
    · iexists _
      isplitr
      · ipureintro; exact rfl
      iexact H2
    isplitl [H3]
    · iexists _
      isplitr
      · ipureintro; exact rfl
      iexact H3
    isplitl [H4]
    · iexists _
      isplitr
      · ipureintro; exact new4
      iexact H4
    isplitl [H5]
    · iexists _
      isplitr
      · ipureintro; exact new5
      iexact H5
    iexists _
    isplitr
    · ipureintro; exact new6
    iexact H6
  · have ho := (condOld_iff t).2 (show 8 ≤ t.val by omega)
    have hn : ¬ condNew (grid0.coords t) := fun h => ht ((condNew_iff t).1 h)
    iapply (body_old c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM0 (Memref.isWhole_whole _) scM1 (Memref.isWhole_whole _) scM2 (Memref.isWhole_whole _) scM3 (Memref.isWhole_whole _) ho hn (hT (arrOf m c) (t.val / 8)) (hsT (arrOf m c) (t.val / 8)) (wT (arrOf m c) (colOf (grid0.coords t))) (sT (arrOf m c) (colOf (grid0.coords t))) y4 y5 y6 d0 d1 d2 d3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    have new5 : aft5 (arrOf m c) t.val (oldC (grid0.coords t) d0 d3 y5) := fun h =>
      oldC_eq (grid0.coords t) hI h hN ho hc1 y5
    have new6 : aft6 (arrOf m c) t.val (oldS (grid0.coords t) d0 d3 y6) := fun h =>
      oldS_eq (grid0.coords t) hI h hN ho hc1 y6 (h6 h)
    isplitl [HS0 HS1 HS2 HS3 Hg]
    · iexists _, _, _, _
      isplitr
      · ipureintro; exact hI.old (by omega) hN
      isplitl [HS0 HS1 HS2 HS3]
      · isplitl [HS0]; · iexact HS0
        isplitl [HS1]; · iexact HS1
        isplitl [HS2]; · iexact HS2
        iexact HS3
      iexact Hg
    isplitl [Ho]; · iexact Ho
    isplitl [H0]
    · iexists _
      isplitr
      · ipureintro; exact rfl
      iexact H0
    isplitl [H1]
    · iexists _
      isplitr
      · ipureintro; exact rfl
      iexact H1
    isplitl [H2]
    · iexists _
      isplitr
      · ipureintro; exact rfl
      iexact H2
    isplitl [H3]
    · iexists _
      isplitr
      · ipureintro; exact rfl
      iexact H3
    isplitl [H4]
    · iexists _
      isplitr
      · ipureintro; exact h4 (by omega)
      iexact H4
    isplitl [H5]
    · iexists _
      isplitr
      · ipureintro; exact new5
      iexact H5
    iexists _
    isplitr
    · ipureintro; exact new6
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  have e0 := finds0 m c t _ (hY 0)
  have e1 := finds1 m c t _ (hY 1)
  have e2 := finds2 m c t _ (hY 2)
  have e3 := finds3 m c t _ (hY 3)
  rw [e0, e1, e2, e3]
  exact triple_restated (sound m c t _ (Y 4) (Y 5) (Y 6) (finds4 m c t _ (hY 4)) (finds6 m c t _ (hY 6))) rfl .rfl fun _ => .rfl

theorem hin (c : Dev nD) : Pipeline.ΦA spec0 c ⊢ (rdat m c).Φ 0 := by
  rw [show (rdat m c).Φ 0 = PhiN (arrOf m c) c 0 from rfl, PhiA_eq]
  unfold PhiN
  iintro ⟨⟨⟨%d0, HS0⟩, ⟨%d1, HS1⟩, ⟨%d2, HS2⟩, ⟨%d3, HS3⟩⟩, Hg⟩
  iexists d0, d1, d2, d3
  isplitr
  · ipureintro; exact Inv.zero _ _ _ _ _
  isplitl [HS0 HS1 HS2 HS3]
  · isplitl [HS0]; · iexact HS0
    isplitl [HS1]; · iexact HS1
    isplitl [HS2]; · iexact HS2
    iexact HS3
  iexact Hg

theorem hout (c : Dev nD) : (rdat m c).Φ (Fin.last cfg0.N) ⊢ Pipeline.ΦA spec0 c := by
  rw [show (rdat m c).Φ (Fin.last cfg0.N) = PhiN (arrOf m c) c (Fin.last cfg0.N).val from rfl, PhiA_eq]
  unfold PhiN
  iintro ⟨%d0, %d1, %d2, %d3, %hI, ⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch: every final state has the arrays as the relation allows, every counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := rA_eq m) (hin := hin m) (hout := hout m)

theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged and the counters at zero. -/
theorem frame_args (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c)),
      ((h c).2 main_arg3 (Pipeline.mem_restRefs_of main_arg3 (by decide) (by decide))).trans (V_main_arg3 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => frame_args m r h.1 c, h.2⟩) (run_main_quiescent m ρ)

end Cert.DownIdeal.Dn

end
-- ==== Proof.DnArr.lean ====
module

public import proofs.«01_k».proof.Proof.DnRun
public import Idealize.ShloMosaic.Lib.Pipeline.ArrRel

@[expose] public section

set_option maxRecDepth 16384

noncomputable section

namespace Cert.DownIdeal.Dn

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three result arrays after the run -/

/-- Write-backs from point `n₀` on each of their block of one whole array `G`: an index in such a block reads `G`
    after the run, whatever the earlier points wrote there. -/
theorem arrAt_apply_of_mem_from {c : Dev nD} (dat : Dat τ (Elt F) Unit ℕ (UR sig nD τ) ℕ cfg0 c) (n₀ : ℕ) (w : Fin cfg0.W) (G : Buf (Elt F) ((cfg0.win w).arr.view.loc (c.tc : Thread nD τ)))
    (hG : ∀ t : Fin cfg0.N, n₀ ≤ t.val → (cfg0.win w).flush t = true → dat.flushed w t = ((cfg0.win w).blk t).view.read (Elt F) G) :
    ∀ (n : Nat) (t : Fin cfg0.N) (i : ((cfg0.win w).arr.view.loc (c.tc : Thread nD τ)).2.ty.Idx),
      n₀ ≤ t.val → t.val < n → (cfg0.win w).flush t = true → i ∈ ((cfg0.win w).blk t).view.set → dat.arrAt w n i = G i
  | 0, _, _, _, ht, _, _ => absurd ht (Nat.not_lt_zero _)
  | n + 1, t, i, h0, ht, hf, hi => by
    rw [dat.arrAt_succ_apply]
    by_cases hn : n < cfg0.N
    swap
    · rw [dif_neg hn]
      exact arrAt_apply_of_mem_from dat n₀ w G hG n t i h0 (by have := t.isLt; omega) hf hi
    rw [dif_pos hn]
    by_cases hfn : (cfg0.win w).flush ⟨n, hn⟩ = true
    · rw [if_pos hfn, hG _ (by show n₀ ≤ n; omega) hfn, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arrAt_apply_of_mem_from dat n₀ w G hG n t i h0 (by omega) hf hi
    · rw [if_neg hfn]
      have htn : t.val ≠ n := fun e => hfn (by have : t = ⟨n, hn⟩ := Fin.ext e; exact this ▸ hf)
      exact arrAt_apply_of_mem_from dat n₀ w G hG n t i h0 (by omega) hf hi

section Res
variable (a : Arr F)
/-- The root mean squares, a row per row tile. -/
def res4 : Vec F S52x1x480 .f32 := fun y => rowOf (rmsC a (y 0).val) (ix3 0 0 (y 2))
/-- The codes. -/
def res5 : Vec F S24960x4096 .fp8e4m3 := fun y =>
  cCodes a ((y 0).val / 480) ((y 1).val / 512) (ix2 ⟨(y 0).val % 480, Nat.mod_lt _ (by decide)⟩ ⟨(y 1).val % 512, Nat.mod_lt _ (by decide)⟩)
/-- Their scales, group by group. -/
def res6 : Vec F S24960x32 .f32 := fun y => csT a ((y 0).val / 480) (ix2 ⟨(y 0).val % 480, Nat.mod_lt _ (by decide)⟩ (y 1))
end Res

theorem index4 : ∀ t : Fin cfg0.N, win0_4.index t = ![min (t.val / 8) 51, 0, 0] :=
  (by decide +kernel : ∀ t : Fin grid0.N, win0_4.index t = ![min (t.val / 8) 51, 0, 0])
theorem index5 : ∀ t : Fin cfg0.N, win0_5.index t = ![t.val / 8 - 1, t.val % 8] :=
  (by decide +kernel : ∀ t : Fin grid0.N, win0_5.index t = ![t.val / 8 - 1, t.val % 8])
theorem index6 : ∀ t : Fin cfg0.N, win0_6.index t = ![t.val / 8 - 1, 0] :=
  (by decide +kernel : ∀ t : Fin grid0.N, win0_6.index t = ![t.val / 8 - 1, 0])

variable (m : (ℓ : Loc nD τ sig) → Buf (Elt F) ℓ) (ρ : Dev nD → PrngReg)

theorem res5_at (a : Arr F) (i j : ℕ) (r : Fin 480) (k : Fin 512) (h : 480 * i + r.val < 24960) (h' : 512 * j + k.val < 4096) :
    res5 a (ix2 ⟨480 * i + r.val, h⟩ ⟨512 * j + k.val, h'⟩) = cCodes a i j (ix2 r k) := by
  have h1 := r.isLt
  have h2 := k.isLt
  show cCodes a ((480 * i + r.val) / 480) ((512 * j + k.val) / 512) (ix2 ⟨(480 * i + r.val) % 480, _⟩ ⟨(512 * j + k.val) % 512, _⟩) = _
  rw [show (480 * i + r.val) / 480 = i by omega, show (512 * j + k.val) / 512 = j by omega]
  exact congrArg₂ (fun r k => cCodes a i j (ix2 r k)) (Fin.ext (by show (480 * i + r.val) % 480 = r.val; omega)) (Fin.ext (by show (512 * j + k.val) % 512 = k.val; omega))

theorem res6_at (a : Arr F) (i : ℕ) (r : Fin 480) (k : Fin 32) (h : 480 * i + r.val < 24960) :
    res6 a (ix2 ⟨480 * i + r.val, h⟩ k) = csT a i (ix2 r k) := by
  have h1 := r.isLt
  show csT a ((480 * i + r.val) / 480) (ix2 ⟨(480 * i + r.val) % 480, _⟩ k) = _
  rw [show (480 * i + r.val) / 480 = i by omega]
  exact congrArg (fun r => csT a i (ix2 r k)) (Fin.ext (by show (480 * i + r.val) % 480 = r.val; omega))

theorem idx3 (y : S1x1x480.Idx) : ∃ r : Fin 480, y = ix3 0 0 r :=
  ⟨y 2, funext fun b => by
    match b with
    | ⟨0, _⟩ => exact Subsingleton.elim (α := Fin 1) _ _
    | ⟨1, _⟩ => exact Subsingleton.elim (α := Fin 1) _ _
    | ⟨2, _⟩ => rfl⟩

theorem arr4 (c : Dev nD) (after : (w' : Fin cfg0.W) → Fin cfg0.N → (cfg0.win w').block.Idx → Elt F (cfg0.win w').elt) (hL : ∀ t : Fin cfg0.N, (cfg0.win 4).flush t = true → (rdat m c).Leaves 4 t (after 4 t)) :
    ((rdat m c).withAfter after).arrAt 4 cfg0.N = res4 (arrOf m c) := by
  refine Dat.arrAt_eq_of_covers _ 4 _ (by decide +kernel) fun t hf y => ?_
  obtain ⟨Y, _, h⟩ := hL t hf
  have hN : t.val < 424 := Nat.lt_of_lt_of_eq t.isLt N_0
  have hj := (flush4 t).1 hf
  have h1 : aft4 (arrOf m c) t.val (after 4 t) := h
  have h2 : after 4 t = rowOf (rmsC (arrOf m c) (min (t.val / 8) 51)) := by
    by_cases ht : t.val < 416
    · rw [h1.1 hj.1 ht, Nat.min_eq_left (by omega)]
    · rw [h1.2 (by omega), Nat.min_eq_right (by omega)]
  obtain ⟨r, rfl⟩ : ∃ r : Fin 480, y = ix3 0 0 r := idx3 y
  blk_simp [Pipeline.RDat.withAfter_after]
  have e : res4 (arrOf m c) (ix3 ⟨min (t.val / 8) 51, by omega⟩ 0 r) = rowOf (rmsC (arrOf m c) (min (t.val / 8) 51)) (ix3 0 0 r) := rfl
  rw [h2, ← e]
  refine congrArg (res4 (arrOf m c)) ?_
  blk_ext! [index4]

theorem arr5 (c : Dev nD) (after : (w' : Fin cfg0.W) → Fin cfg0.N → (cfg0.win w').block.Idx → Elt F (cfg0.win w').elt) (hL : ∀ t : Fin cfg0.N, (cfg0.win 5).flush t = true → (rdat m c).Leaves 5 t (after 5 t)) :
    ((rdat m c).withAfter after).arrAt 5 cfg0.N = res5 (arrOf m c) := by
  refine funext fun (i : S24960x4096.Idx) => ?_
  obtain ⟨r, k, rfl⟩ : ∃ (r : Fin 24960) (k : Fin 4096), i = ix2 r k := idx2 i
  have hr := r.isLt
  have hk := k.isLt
  have hT : 8 * (r.val / 480 + 1) + k.val / 512 < cfg0.N := Nat.lt_of_lt_of_eq (by omega) N_0.symm
  refine arrAt_apply_of_mem_from _ 8 5 (res5 (arrOf m c)) (fun t h14 hf => funext fun y => ?_) cfg0.N ⟨8 * (r.val / 480 + 1) + k.val / 512, hT⟩ _ (by show 8 ≤ 8 * (r.val / 480 + 1) + k.val / 512; omega) hT (flush0_5 _) ?_
  · obtain ⟨Y, _, h⟩ := hL t hf
    have hN : t.val < 424 := Nat.lt_of_lt_of_eq t.isLt N_0
    have h1 : aft5 (arrOf m c) t.val (after 5 t) := h
    have h2 := h1 h14
    obtain ⟨r, k, rfl⟩ : ∃ (r : Fin 480) (k : Fin 512), y = ix2 r k := idx2 y
    blk_simp [Pipeline.RDat.withAfter_after]
    rw [h2, ← res5_at (arrOf m c) (t.val / 8 - 1) (t.val % 8) r k (by have := r.isLt; omega) (by have := k.isLt; omega)]
    refine congrArg (res5 (arrOf m c)) ?_
    blk_ext! [index5]
  · mem_blk [index5]
    refine ⟨?_, ?_⟩
    · show ((8 * (r.val / 480 + 1) + k.val / 512) / 8 - 1) * 480 ≤ r.val ∧ r.val < ((8 * (r.val / 480 + 1) + k.val / 512) / 8 - 1) * 480 + 480
      omega
    · show (8 * (r.val / 480 + 1) + k.val / 512) % 8 * 512 ≤ k.val ∧ k.val < (8 * (r.val / 480 + 1) + k.val / 512) % 8 * 512 + 512
      omega

theorem arr6 (c : Dev nD) (after : (w' : Fin cfg0.W) → Fin cfg0.N → (cfg0.win w').block.Idx → Elt F (cfg0.win w').elt) (hL : ∀ t : Fin cfg0.N, (cfg0.win 6).flush t = true → (rdat m c).Leaves 6 t (after 6 t)) :
    ((rdat m c).withAfter after).arrAt 6 cfg0.N = res6 (arrOf m c) := by
  refine funext fun (i : S24960x32.Idx) => ?_
  obtain ⟨r, k, rfl⟩ : ∃ (r : Fin 24960) (k : Fin 32), i = ix2 r k := idx2 i
  have hr := r.isLt
  have hk := k.isLt
  have hT : 8 * (r.val / 480 + 1) + 7 < cfg0.N := Nat.lt_of_lt_of_eq (by omega) N_0.symm
  refine arrAt_apply_of_mem_from _ 8 6 (res6 (arrOf m c)) (fun t h14 hf => funext fun y => ?_) cfg0.N ⟨8 * (r.val / 480 + 1) + 7, hT⟩ _ (by show 8 ≤ 8 * (r.val / 480 + 1) + 7; omega) hT
    ((flush6 _).2 (by show (8 * (r.val / 480 + 1) + 7) % 8 = 7 ∧ 8 * (r.val / 480 + 1) + 7 ≠ 7; omega)) ?_
  · obtain ⟨Y, _, h⟩ := hL t hf
    have hN : t.val < 424 := Nat.lt_of_lt_of_eq t.isLt N_0
    have hj := (flush6 t).1 hf
    have h1 : aft6 (arrOf m c) t.val (after 6 t) := h
    obtain ⟨r, k, rfl⟩ : ∃ (r : Fin 480) (k : Fin 32), y = ix2 r k := idx2 y
    have h2 := h1 h14 r k (by have := k.isLt; omega)
    blk_simp [Pipeline.RDat.withAfter_after]
    rw [h2, ← res6_at (arrOf m c) (t.val / 8 - 1) r k (by have := r.isLt; omega)]
    refine congrArg (res6 (arrOf m c)) ?_
    blk_ext! [index6]
  · mem_blk [index6]
    refine ⟨?_, ?_⟩
    · show ((8 * (r.val / 480 + 1) + 7) / 8 - 1) * 480 ≤ r.val ∧ r.val < ((8 * (r.val / 480 + 1) + 7) / 8 - 1) * 480 + 480
      omega
    · show 0 * 32 ≤ k.val ∧ k.val < 0 * 32 + 32
      omega

/-- What the run leaves in the result arrays. -/
theorem results (r : PUnit × MemSt nD τ sig (Elt F)) (h : Pipeline.RDat.FramePost (cfgs 0) (rdat m) (V m) r) (c : Dev nD) :
    r.2.mem ((c.tc : Thread nD τ).loc main_v1_0) = res4 (arrOf m c) ∧ r.2.mem ((c.tc : Thread nD τ).loc main_v1_1) = res5 (arrOf m c)
      ∧ r.2.mem ((c.tc : Thread nD τ).loc main_v1_2) = res6 (arrOf m c) := by
  obtain ⟨after, hL, hA⟩ := Pipeline.RDat.FramePost.exists_exact h c
  exact ⟨(hA 4).trans (arr4 m c after (hL 4)), (hA 5).trans (arr5 m c after (hL 5)), (hA 6).trans (arr6 m c after (hL 6))⟩

end Cert.DownIdeal.Dn

end
-- ==== Proof.DnRef.lean ====
module

public import proofs.«01_k».proof.Proof.Gen.DownReferenceIdeal.Frame
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.DownReferenceIdeal.Dn

open Cert.DownReferenceIdeal Cert.DownReferenceIdeal.Gen
open Idealize.ShloMosaic Idealize.ShloMosaic.TcCoe Idealize.ShloMosaic.Tactic
open Idealize.SL Idealize.SL.Sem

/-! # What the reference's run leaves in its result arrays -/

variable {F : FTy → Type} [FloatOps F]
variable (m : (ℓ : Loc nD τ sig) → Buf (Elt F) ℓ) (ρ : Dev nD → PrngReg)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])

theorem iblk0 (c : Dev nD) (t : Fin cfg0.N) : iblk m c 0 t = V m c main_arg0 := by
  have : V m c main_arg0 = V m c (Pipeline.arrRef spec0 0) := rfl
  rw [this]
  generalize hV : V m c (Pipeline.arrRef spec0 0) = X
  blk_ext! [iblk, hV, index0 t]
theorem iblk1 (c : Dev nD) (t : Fin cfg0.N) : iblk m c 1 t = V m c main_v0 := by
  have : V m c main_v0 = V m c (Pipeline.arrRef spec0 1) := rfl
  rw [this]
  generalize hV : V m c (Pipeline.arrRef spec0 1) = X
  blk_ext! [iblk, hV, index1 t]
theorem iblk2 (c : Dev nD) (t : Fin cfg0.N) : iblk m c 2 t = V m c main_arg2 := by
  have : V m c main_arg2 = V m c (Pipeline.arrRef spec0 2) := rfl
  rw [this]
  generalize hV : V m c (Pipeline.arrRef spec0 2) = X
  blk_ext! [iblk, hV, index2 t]
theorem iblk3 (c : Dev nD) (t : Fin cfg0.N) : iblk m c 3 t = V m c main_v1 := by
  have : V m c main_v1 = V m c (Pipeline.arrRef spec0 3) := rfl
  rw [this]
  generalize hV : V m c (Pipeline.arrRef spec0 3) = X
  blk_ext! [iblk, hV, index3 t]

theorem final4 (c : Dev nD) : (dats m 0 c).arrAt 4 cfg0.N = k0_pay6 (V m c main_arg0) (V m c main_arg2) (V m c main_v0) (V m c main_v1) := by
  refine (dats m 0 c).arrAt_eq_of_after_last 4 t0_0 (by decide +kernel) _ fun j => ?_
  blk_simp
  rw [after0_4]
  unfold out0_4
  frame_out
  rw [iblk0, iblk1, iblk2, iblk3]

theorem final5 (c : Dev nD) : (dats m 0 c).arrAt 5 cfg0.N = k0_pay2 (k0_pay7 (V m c main_arg0) (V m c main_arg2) (V m c main_v0) (V m c main_v1)) (k0_pay8 (V m c main_arg0) (V m c main_arg2) (V m c main_v0) (V m c main_v1)) (k0_pay9 (V m c main_arg0) (V m c main_arg2) (V m c main_v0) (V m c main_v1)) := by
  refine (dats m 0 c).arrAt_eq_of_after_last 5 t0_0 (by decide +kernel) _ fun j => ?_
  blk_simp
  rw [after0_5]
  unfold out0_5 k0_pay11 k0_pay10
  frame_out
  rw [iblk0, iblk1, iblk2, iblk3]

theorem final6 (c : Dev nD) : (dats m 0 c).arrAt 6 cfg0.N = k0_pay3 (k0_pay8 (V m c main_arg0) (V m c main_arg2) (V m c main_v0) (V m c main_v1)) (k0_pay9 (V m c main_arg0) (V m c main_arg2) (V m c main_v0) (V m c main_v1)) := by
  refine (dats m 0 c).arrAt_eq_of_after_last 6 t0_0 (by decide +kernel) _ fun j => ?_
  blk_simp
  rw [after0_6]
  unfold out0_6 k0_pay11 k0_pay10
  frame_out
  rw [iblk0, iblk1, iblk2, iblk3]

end Cert.DownReferenceIdeal.Dn

end
-- ==== Proof.DnLaws.lean ====
module

public import proofs.«01_k».proof.Proof.UpLaws

@[expose] public section

noncomputable section

/-! The laws the down-projection's two programs need, over the extended reals: the ladder of powers of two, sums regrouped,
    three-dimensional arrays read at an element. -/

open Idealize.ShloMosaic

namespace Cert.DnLaws

open Cert.UpLaws

/-! ## Powers of two -/

/-- The powers of two from the smallest normal number on. -/
def pow2 (n : ℕ) : EReal := (((2 : ℝ) ^ n * ((2 : ℝ) ^ 126)⁻¹ : ℝ) : EReal)

theorem pow2_mono {m n : ℕ} (h : m ≤ n) : pow2 m ≤ pow2 n := by
  unfold pow2
  refine EReal.coe_le_coe_iff.2 ?_
  exact mul_le_mul_of_nonneg_right (pow_le_pow_right₀ (by norm_num) h) (by positivity)

theorem pow2_mul (n k : ℕ) : pow2 n * (((2 : ℝ) ^ k : ℝ) : EReal) = pow2 (n + k) := by
  unfold pow2
  rw [← EReal.coe_mul]
  refine congrArg _ ?_
  rw [pow_add]; ring

theorem ofBits_tiny : Ideal.ofBits .f32 0x00800000#32 = pow2 0 := by
  unfold pow2
  simp [Ideal.ofBits, Ideal.ieee, -EReal.coe_mul, -EReal.coe_pow]; norm_num
theorem ofBits_half : Ideal.ofBits .f32 0x3F000000#32 = (((2 : ℝ)⁻¹ : ℝ) : EReal) := by
  simp [Ideal.ofBits, Ideal.ieee, -EReal.coe_mul, -EReal.coe_pow]; norm_num
theorem ofBits_126 : Ideal.ofBits .f32 0x42FC0000#32 = ((126 : ℝ) : EReal) := by
  simp [Ideal.ofBits, Ideal.ieee, -EReal.coe_mul, -EReal.coe_pow]; norm_num
theorem ofBits_4096 : Ideal.ofBits .f32 0x45800000#32 = ((4096 : ℝ) : EReal) := by
  simp [Ideal.ofBits, Ideal.ieee, -EReal.coe_mul, -EReal.coe_pow]; norm_num
theorem ofBits_inv4096 : Ideal.ofBits .f32 0x39800000#32 = (((4096 : ℝ)⁻¹ : ℝ) : EReal) := by
  simp [Ideal.ofBits, Ideal.ieee, -EReal.coe_mul, -EReal.coe_pow]; norm_num
theorem ofBits_p126 : Ideal.ofBits .f32 0x7E800000#32 = (((2 : ℝ) ^ 126 : ℝ) : EReal) := by
  simp [Ideal.ofBits, Ideal.ieee, -EReal.coe_mul, -EReal.coe_pow]; norm_num
theorem ofBits_p64 : Ideal.ofBits .f32 0x5F800000#32 = (((2 : ℝ) ^ 64 : ℝ) : EReal) := by
  simp [Ideal.ofBits, Ideal.ieee, -EReal.coe_mul, -EReal.coe_pow]; norm_num
theorem ofBits_p32 : Ideal.ofBits .f32 0x4F800000#32 = (((2 : ℝ) ^ 32 : ℝ) : EReal) := by
  simp [Ideal.ofBits, Ideal.ieee, -EReal.coe_mul, -EReal.coe_pow]; norm_num
theorem ofBits_p16 : Ideal.ofBits .f32 0x47800000#32 = (((2 : ℝ) ^ 16 : ℝ) : EReal) := by
  simp [Ideal.ofBits, Ideal.ieee, -EReal.coe_mul, -EReal.coe_pow]; norm_num
theorem ofBits_p8 : Ideal.ofBits .f32 0x43800000#32 = (((2 : ℝ) ^ 8 : ℝ) : EReal) := by
  simp [Ideal.ofBits, Ideal.ieee, -EReal.coe_mul, -EReal.coe_pow]; norm_num
theorem ofBits_p4 : Ideal.ofBits .f32 0x41800000#32 = (((2 : ℝ) ^ 4 : ℝ) : EReal) := by
  simp [Ideal.ofBits, Ideal.ieee, -EReal.coe_mul, -EReal.coe_pow]; norm_num
theorem ofBits_p2 : Ideal.ofBits .f32 0x40800000#32 = (((2 : ℝ) ^ 2 : ℝ) : EReal) := by
  simp [Ideal.ofBits, Ideal.ieee, -EReal.coe_mul, -EReal.coe_pow]; norm_num
theorem ofBits_p1 : Ideal.ofBits .f32 0x40000000#32 = (((2 : ℝ) ^ 1 : ℝ) : EReal) := by
  simp [Ideal.ofBits, Ideal.ieee, -EReal.coe_mul, -EReal.coe_pow]; norm_num

theorem select_pos {b : Prop} [Decidable b] (h : b) (x y : EReal) : Scalar.select (BitVec.ofBool (decide b)) x y = x := by
  rw [decide_eq_true h]; rfl
theorem select_neg {b : Prop} [Decidable b] (h : ¬ b) (x y : EReal) : Scalar.select (BitVec.ofBool (decide b)) x y = y := by
  rw [decide_eq_false h]; rfl

/-! ## The ladder -/

/-- One rung. -/
def rungE (z : BitVec 32) (y p : EReal) : EReal :=
  Scalar.select (FloatOps.cmpf (F := Ideal) (φ := .f32) .oge y (p * Scalar.ofBits (F := Ideal) .f32 z)) (p * Scalar.ofBits (F := Ideal) .f32 z) p

/-- The first rung. -/
def rung0E (y : EReal) : EReal :=
  Scalar.select (FloatOps.cmpf (F := Ideal) (φ := .f32) .olt y (Scalar.ofBits (F := Ideal) .f32 0x00800000#32)) (Scalar.ofBits (F := Ideal) .f32 0x3F000000#32) (Scalar.ofBits (F := Ideal) .f32 0x00800000#32)

/-- The kernel's power of two. -/
def ladder (y : EReal) : EReal :=
  rungE 0x40000000#32 y (rungE 0x40800000#32 y (rungE 0x41800000#32 y (rungE 0x43800000#32 y (rungE 0x47800000#32 y (rungE 0x4F800000#32 y (rungE 0x5F800000#32 y (rungE 0x7E800000#32 y (rung0E y))))))))

theorem rungE_pos {z : BitVec 32} {c : EReal} (hz : Ideal.ofBits .f32 z = c) {y p : EReal} (h : p * c ≤ y) : rungE z y p = p * c := by
  show Scalar.select (BitVec.ofBool (decide (p * Ideal.ofBits .f32 z ≤ y))) (p * Ideal.ofBits .f32 z) p = _
  rw [hz]; exact select_pos h _ _
theorem rungE_neg {z : BitVec 32} {c : EReal} (hz : Ideal.ofBits .f32 z = c) {y p : EReal} (h : ¬ p * c ≤ y) : rungE z y p = p := by
  show Scalar.select (BitVec.ofBool (decide (p * Ideal.ofBits .f32 z ≤ y))) (p * Ideal.ofBits .f32 z) p = _
  rw [hz]; exact select_neg h _ _

/-- `p` is a power of two not above `y`, its exponent at most `U`, and no power within `B` of it is greater and not above `y`. -/
def Near (y p : EReal) (U B : ℕ) : Prop := ∃ n ≤ U, p = pow2 n ∧ pow2 n ≤ y ∧ ∀ m < 254, pow2 m ≤ y → m < n + B

theorem Near.step {y p : EReal} {U B : ℕ} (h : Near y p U B) {z : BitVec 32} {k : ℕ} (hz : Ideal.ofBits .f32 z = (((2 : ℝ) ^ k : ℝ) : EReal)) (hB : B ≤ 2 * k + 2) (B' : ℕ)
    (h1 : k ≤ B') (h2 : B ≤ B' + k) : Near y (rungE z y p) (U + k) B' := by
  obtain ⟨n, hU, rfl, hn, hm⟩ := h
  by_cases hk : pow2 (n + k) ≤ y
  · refine ⟨n + k, by omega, ?_, hk, fun m h hy => by have := hm m h hy; omega⟩
    rw [rungE_pos hz (by rw [pow2_mul]; exact hk), pow2_mul]
  · refine ⟨n, by omega, rungE_neg hz (by rw [pow2_mul]; exact hk), hn, fun m h hy => ?_⟩
    by_contra hlt
    exact hk ((pow2_mono (by omega : n + k ≤ m)).trans hy)

theorem ladder_near {y : EReal} (h : pow2 0 ≤ y) : Near y (ladder y) 253 1 := by
  have h0 : Near y (rung0E y) 0 254 := by
    refine ⟨0, le_rfl, ?_, h, fun m h _ => by omega⟩
    show Scalar.select (BitVec.ofBool (decide (y < Ideal.ofBits .f32 0x00800000#32))) _ (Ideal.ofBits .f32 0x00800000#32) = _
    rw [ofBits_tiny]; exact select_neg (not_lt.2 h) _ _
  exact (((((((h0.step ofBits_p126 (by omega) 128 (by omega) (by omega)).step ofBits_p64 (by omega) 64 (by omega) (by omega)).step ofBits_p32 (by omega) 32 (by omega) (by omega)).step
    ofBits_p16 (by omega) 16 (by omega) (by omega)).step ofBits_p8 (by omega) 8 (by omega) (by omega)).step ofBits_p4 (by omega) 4 (by omega) (by omega)).step
    ofBits_p2 (by omega) 2 (by omega) (by omega)).step ofBits_p1 (by omega) 1 (by omega) (by omega)

/-- Below the smallest normal number no rung is taken. -/
theorem ladder_small {y : EReal} (h : y < pow2 0) : ladder y = (((2 : ℝ)⁻¹ : ℝ) : EReal) := by
  have h0 : rung0E y = (((2 : ℝ)⁻¹ : ℝ) : EReal) := by
    show Scalar.select (BitVec.ofBool (decide (y < Ideal.ofBits .f32 0x00800000#32))) (Ideal.ofBits .f32 0x3F000000#32) _ = _
    rw [ofBits_tiny, ofBits_half]; exact select_pos h _ _
  have hs : ∀ (z : BitVec 32) (k : ℕ), 1 ≤ k → Ideal.ofBits .f32 z = (((2 : ℝ) ^ k : ℝ) : EReal) → rungE z y (((2 : ℝ)⁻¹ : ℝ) : EReal) = (((2 : ℝ)⁻¹ : ℝ) : EReal) := by
    intro z k hk hz
    refine rungE_neg hz fun hle => ?_
    have h1 : (((2 : ℝ)⁻¹ : ℝ) : EReal) * (((2 : ℝ) ^ k : ℝ) : EReal) < pow2 0 := hle.trans_lt h
    unfold pow2 at h1
    rw [← EReal.coe_mul, EReal.coe_lt_coe_iff] at h1
    have h2 : (2 : ℝ) ^ 1 ≤ 2 ^ k := pow_le_pow_right₀ (by norm_num) hk
    have h3 : ((2 : ℝ) ^ 0 * ((2 : ℝ) ^ 126)⁻¹) ≤ 1 := by norm_num
    linarith
  unfold ladder
  rw [h0, hs _ 126 (by omega) ofBits_p126, hs _ 64 (by omega) ofBits_p64, hs _ 32 (by omega) ofBits_p32, hs _ 16 (by omega) ofBits_p16, hs _ 8 (by omega) ofBits_p8,
    hs _ 4 (by omega) ofBits_p4, hs _ 2 (by omega) ofBits_p2, hs _ 1 (by omega) ofBits_p1]

/-! ## The reference's power of two -/

/-- The power of two at place `k` of the reference's list. -/
def powE (k : ℕ) : EReal :=
  Ideal.exp2 (FloatOps.sitofp (F := Ideal) .f32 (BitVec.ofNat 32 k) - Scalar.ofBits (F := Ideal) .f32 0x42FC0000#32)

theorem powE_eq (k : ℕ) (hk : k < 254) : powE k = pow2 k := by
  unfold powE pow2
  show Ideal.exp2 ((((BitVec.ofNat 32 k).toInt : ℝ) : EReal) - Ideal.ofBits .f32 0x42FC0000#32) = _
  have e : (BitVec.ofNat 32 k).toInt = (k : ℤ) := by
    rw [BitVec.toInt_ofNat', Int.bmod_def]
    omega
  rw [e, ofBits_126, ← EReal.coe_sub, Ideal.exp2_coe]
  refine congrArg _ ?_
  show (2 : ℝ) ^ (((k : ℤ) : ℝ) - 126) = _
  rw [Real.rpow_sub (by norm_num), div_eq_mul_inv]
  norm_num [Real.rpow_natCast]

/-- The greatest power in the list not above `y`. -/
def below (y : EReal) : EReal :=
  (Finset.univ : Finset (Fin 254)).fold max (FloatOps.ofBits (F := Ideal) .f32 0xFF800000#32) fun k =>
    Scalar.select (FloatOps.cmpf (F := Ideal) (φ := .f32) .ole (powE k.val) y) (powE k.val) (Scalar.ofBits (F := Ideal) .f32 0x00800000#32)

/-- The reference's scale. -/
def scaleE (y : EReal) : EReal :=
  Scalar.select (FloatOps.cmpf (F := Ideal) (φ := .f32) .olt y (Scalar.ofBits (F := Ideal) .f32 0x00800000#32)) (Scalar.ofBits (F := Ideal) .f32 0x3F800000#32)
    (Scalar.ofBits (F := Ideal) .f32 0x40000000#32 * below y)

theorem below_eq {y : EReal} (h : pow2 0 ≤ y) : below y = ladder y := by
  obtain ⟨n, hU, hp, hn, hm⟩ := ladder_near h
  rw [hp]
  unfold below
  have e : ∀ k : Fin 254, Scalar.select (FloatOps.cmpf (F := Ideal) (φ := .f32) .ole (powE k.val) y) (powE k.val) (Scalar.ofBits (F := Ideal) .f32 0x00800000#32)
      = if pow2 k.val ≤ y then pow2 k.val else pow2 0 := by
    intro k
    show Scalar.select (BitVec.ofBool (decide (powE k.val ≤ y))) (powE k.val) (Ideal.ofBits .f32 0x00800000#32) = _
    rw [powE_eq _ k.isLt, ofBits_tiny]
    by_cases hk : pow2 k.val ≤ y
    · rw [if_pos hk]; exact select_pos hk _ _
    · rw [if_neg hk]; exact select_neg hk _ _
  simp only [e]
  refine le_antisymm ?_ ?_
  · refine Finset.fold_max_le _ |>.2 ⟨?_, fun k _ => ?_⟩
    · have : FloatOps.ofBits (F := Ideal) .f32 0xFF800000#32 = (⊥ : EReal) := by
        show Ideal.ofBits .f32 0xFF800000#32 = ⊥
        simp [Ideal.ofBits, Ideal.ieee]
      rw [this]; exact bot_le
    · by_cases hk : pow2 k.val ≤ y
      · rw [if_pos hk]; exact pow2_mono (by have := hm k.val k.isLt hk; omega)
      · rw [if_neg hk]; exact pow2_mono (Nat.zero_le _)
  · refine (Finset.le_fold_max _).2 (Or.inr ⟨⟨n, by omega⟩, Finset.mem_univ _, ?_⟩)
    rw [if_pos hn]

/-- The kernel's scale is the reference's. -/
theorem scale_eq (y : EReal) : Scalar.ofBits (F := Ideal) .f32 0x40000000#32 * ladder y = scaleE y := by
  show _ = Scalar.select (BitVec.ofBool (decide (y < Ideal.ofBits .f32 0x00800000#32))) (Ideal.ofBits .f32 0x3F800000#32) (Ideal.ofBits .f32 0x40000000#32 * below y)
  rw [ofBits_tiny]
  by_cases h : y < pow2 0
  · rw [select_pos h, ladder_small h, Ideal.ofBits_one_f32]
    show Ideal.ofBits .f32 0x40000000#32 * _ = _
    rw [ofBits_p1, ← EReal.coe_mul]
    norm_num
  · rw [select_neg h, below_eq (not_lt.1 h)]
    rfl

/-- The kernel's power of two is a positive real number. -/
theorem ladder_real (y : EReal) : ∃ p : ℝ, 0 < p ∧ ladder y = (p : EReal) := by
  by_cases h : y < pow2 0
  · exact ⟨_, by norm_num, ladder_small h⟩
  · obtain ⟨n, _, hp, _⟩ := ladder_near (not_lt.1 h)
    exact ⟨_, by positivity, hp⟩

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

/-- The kernel's inverse scale is the reference's. -/
theorem inv_eq (y : EReal) : Ideal.div (Scalar.ofBits (F := Ideal) .f32 0x3F000000#32) (ladder y) = Ideal.div (Scalar.ofBits (F := Ideal) .f32 0x3F800000#32) (scaleE y) := by
  rw [← scale_eq]
  obtain ⟨p, hp, e⟩ := ladder_real y
  rw [e]
  show Ideal.div (Ideal.ofBits .f32 0x3F000000#32) _ = Ideal.div (Ideal.ofBits .f32 0x3F800000#32) (Ideal.ofBits .f32 0x40000000#32 * _)
  rw [ofBits_half, Ideal.ofBits_one_f32, ofBits_p1, ← EReal.coe_mul, ← EReal.coe_one, div_coe _ _ hp.ne', div_coe _ _ (by positivity)]
  refine congrArg _ ?_
  rw [mul_inv]; norm_num

/-- Multiplying by a 4096th is dividing by 4096. -/
theorem mean_eq (x : EReal) : x * Scalar.ofBits (F := Ideal) .f32 0x39800000#32 = Ideal.div x (Scalar.ofBits (F := Ideal) .f32 0x45800000#32) := by
  show x * Ideal.ofBits .f32 0x39800000#32 = Ideal.div x (Ideal.ofBits .f32 0x45800000#32)
  rw [ofBits_inv4096, ofBits_4096]
  unfold Ideal.div
  rw [if_neg (by exact_mod_cast (by norm_num : (4096 : ℝ) ≠ 0)), EReal.coe_inv]

/-! ## Sums -/

variable {α : Type} {n d e m : ℕ}

/-- The sum of squares kept lane by lane, from zero, over `n` groups of `d` columns. -/
def runSq (H : ℕ → Fin d → EReal) : ℕ → Fin d → EReal
  | 0, _ => 0
  | p + 1, l => runSq H p l + H p l * H p l

theorem runSq_eq (H : ℕ → Fin d → EReal) (l : Fin d) : ∀ N, runSq H N l = ∑ p : Fin N, H p.val l * H p.val l
  | 0 => rfl
  | N + 1 => by
    rw [Fin.sum_univ_castSucc]
    show runSq H N l + _ = _
    rw [runSq_eq H l N]
    rfl

/-- The sum of the lanes' sums of squares is the sum over all the columns. -/
theorem sum_run (N : ℕ) (hd : 0 < d) (he : e = N * d) (H : ℕ → Fin d → EReal) (G : Fin e → EReal)
    (hG : ∀ C : Fin e, G C = H (C.val / d) ⟨C.val % d, Nat.mod_lt _ hd⟩) :
    ∑ l : Fin d, runSq H N l = ∑ C : Fin e, G C * G C := by
  subst he
  simp only [runSq_eq]
  rw [Finset.sum_comm, ← (finProdFinEquiv (m := N) (n := d)).sum_comp, Fintype.sum_prod_type]
  refine Finset.sum_congr rfl fun p _ => Finset.sum_congr rfl fun l _ => ?_
  have e1 : (finProdFinEquiv (p, l)).val / d = p.val := by
    rw [finProdFinEquiv_apply_val, Nat.add_mul_div_left _ _ hd, Nat.div_eq_of_lt l.isLt, Nat.zero_add]
  have e2 : (finProdFinEquiv (p, l)).val % d = l.val := by
    rw [finProdFinEquiv_apply_val, Nat.add_mul_mod_self_left, Nat.mod_eq_of_lt l.isLt]
  rw [hG]
  simp only [e1, e2]

/-- The sum along the rows, read at a row. -/
theorem rowSum_at {φ : FTy} (v : FVec Ideal ⟨2, ![n, d]⟩ φ) (acc : BitVec φ.bits) (h : (⟨2, ![n, d]⟩ : Shape).Reduces [1] ⟨1, ![n]⟩)
    (hφ) (hacc) (r : Fin n) :
    multiReduction .add [1] ⟨1, ![n]⟩ v acc h hφ hacc (ix1 r) = ∑ k : Fin d, v (ix2 r k) := by
  rw [Ideal.multiReduction_add_single]
  refine Finset.sum_congr rfl fun k _ => congrArg v ?_
  funext c; apply Fin.ext
  match c with
  | ⟨0, _⟩ => rfl
  | ⟨1, _⟩ => rfl

/-! ## Three-dimensional arrays -/

/-- Rows cut into groups, read at an element. -/
theorem split_at (x : (⟨2, ![n, m]⟩ : Shape).Idx → α) (h : (⟨2, ![n, m]⟩ : Shape).ShapeCasts ⟨3, ![n, e, d]⟩) (r : Fin n) (g : Fin e) (l : Fin d)
    (C : Fin m) (hm : m = e * d) (hC : C.val = g.val * d + l.val) : shapeCast ⟨3, ![n, e, d]⟩ x h (ix3 r g l) = x (ix2 r C) :=
  shapeCast_apply x h _ _ (by
    rw [Shape.rowMajor_val_two, Shape.rowMajor_val_three]
    show r.val * m + C.val = (r.val * e + g.val) * d + l.val
    rw [hC, congrArg (r.val * ·) hm]; ring)

/-- Groups laid side by side, read at an element. -/
theorem merge_at (x : (⟨3, ![n, e, d]⟩ : Shape).Idx → α) (h : (⟨3, ![n, e, d]⟩ : Shape).ShapeCasts ⟨2, ![n, m]⟩) (r : Fin n) (g : Fin e) (l : Fin d)
    (C : Fin m) (hm : m = e * d) (hC : C.val = g.val * d + l.val) : shapeCast ⟨2, ![n, m]⟩ x h (ix2 r C) = x (ix3 r g l) :=
  shapeCast_apply x h _ _ (by
    rw [Shape.rowMajor_val_two, Shape.rowMajor_val_three]
    show (r.val * e + g.val) * d + l.val = r.val * m + C.val
    rw [hC, congrArg (r.val * ·) hm]; ring)

/-- A matrix of group values as groups of one, read at a group. -/
theorem unit_at (x : (⟨2, ![n, e]⟩ : Shape).Idx → α) (h : (⟨2, ![n, e]⟩ : Shape).ShapeCasts ⟨3, ![n, e, 1]⟩) (r : Fin n) (g : Fin e) :
    shapeCast ⟨3, ![n, e, 1]⟩ x h (ix3 r g 0) = x (ix2 r g) :=
  split_at x h r g 0 g (Nat.mul_one e).symm (by simp)

/-- And back. -/
theorem ununit_at (x : (⟨3, ![n, e, 1]⟩ : Shape).Idx → α) (h : (⟨3, ![n, e, 1]⟩ : Shape).ShapeCasts ⟨2, ![n, e]⟩) (r : Fin n) (g : Fin e) :
    shapeCast ⟨2, ![n, e]⟩ x h (ix2 r g) = x (ix3 r g 0) :=
  merge_at x h r g 0 g (Nat.mul_one e).symm (by simp)

/-- Group values laid over the groups, read at an element. -/
theorem bgroup_at (v : (⟨3, ![n, e, 1]⟩ : Shape).Idx → α) (h : (⟨3, ![n, e, 1]⟩ : Shape).Broadcasts ⟨3, ![n, e, d]⟩) (r : Fin n) (g : Fin e) (l : Fin d) :
    broadcastTo ⟨3, ![n, e, d]⟩ v h (ix3 r g l) = v (ix3 r g 0) := by
  refine broadcastTo_apply v h (ix3 r g l) (ix3 r g 0) fun ax => ?_
  match ax with
  | ⟨0, _⟩ =>
    show r.val = if n = 1 then 0 else r.val
    split
    · have := r.isLt; omega
    · rfl
  | ⟨1, _⟩ =>
    show g.val = if e = 1 then 0 else g.val
    split
    · have := g.isLt; omega
    · rfl
  | ⟨2, _⟩ => rfl

/-- The maximum along the groups, read at a group. -/
theorem groupMax_at {φ : FTy} (v : FVec Ideal ⟨3, ![n, e, d]⟩ φ) (acc : BitVec φ.bits) (h : (⟨3, ![n, e, d]⟩ : Shape).Reduces [2] ⟨2, ![n, e]⟩)
    (hφ) (hacc) (r : Fin n) (g : Fin e) :
    multiReduction .maximumf [2] ⟨2, ![n, e]⟩ v acc h hφ hacc (ix2 r g)
      = (Finset.univ : Finset (Fin d)).fold max (FloatOps.ofBits (F := Ideal) φ acc) fun k => v (ix3 r g k) := by
  rw [Ideal.multiReduction_maximumf_single]
  refine Finset.fold_congr fun k _ => congrArg v ?_
  funext c; apply Fin.ext
  match c with
  | ⟨0, _⟩ => rfl
  | ⟨1, _⟩ => rfl
  | ⟨2, _⟩ => rfl

/-- Rows of `d` laid as one column, read at an element. -/
theorem unfold_at (x : (⟨3, ![e, 1, d]⟩ : Shape).Idx → α) (h : (⟨3, ![e, 1, d]⟩ : Shape).ShapeCasts ⟨2, ![n, 1]⟩) (q : Fin e) (r : Fin d)
    (R : Fin n) (hR : R.val = q.val * d + r.val) : shapeCast ⟨2, ![n, 1]⟩ x h (ix2 R 0) = x (ix3 q 0 r) :=
  shapeCast_apply x h _ _ (by
    rw [Shape.rowMajor_val_two, Shape.rowMajor_val_three]
    show (q.val * 1 + 0) * d + r.val = R.val * 1 + 0
    simp only [Nat.mul_one, Nat.add_zero]
    exact hR.symm)

/-! ## The two programs' steps over whole matrices -/

/-- The scaled product, read at an element. -/
theorem scaledDot_at {φ₁ φ₂ : FTy} (x : FVec Ideal ⟨2, ![n, d]⟩ φ₁) (w : FVec Ideal ⟨2, ![d, e]⟩ φ₂) (c : FVec Ideal ⟨2, ![n, 1]⟩ .f32) (s : FVec Ideal ⟨2, ![1, e]⟩ .f32)
    (hc : (⟨2, ![n, 1]⟩ : Shape).Broadcasts ⟨2, ![n, e]⟩) (hs : (⟨2, ![1, e]⟩ : Shape).Broadcasts ⟨2, ![n, e]⟩) (r : Fin n) (k : Fin e) :
    mulf (mulf (matmul (DotDims.plain n d e) none x w (constant ⟨2, ![n, e]⟩ .f32 0x00000000#32)) (broadcastTo ⟨2, ![n, e]⟩ c hc)) (broadcastTo ⟨2, ![n, e]⟩ s hs) (ix2 r k)
      = (∑ j : Fin d, x (ix2 r j) * w (ix2 j k)) * c (ix2 r 0) * s (ix2 0 k) := by
  rw [← dot_at x w r k, ← bcol_at c hc r k, ← brow_at s hs r k]; rfl

/-- The root of a mean of squares and a small constant. -/
def rmsE (q : EReal) : EReal :=
  Ideal.sqrt (Ideal.div q (Scalar.ofBits (F := Ideal) .f32 0x45800000#32) + Scalar.ofBits (F := Ideal) .f32 0x358637BD#32)

/-- The column of root mean squares, read at a row. -/
theorem rmsCol_at (v : FVec Ideal ⟨2, ![n, d]⟩ .f32) (h : (⟨2, ![n, d]⟩ : Shape).Reduces [1] ⟨1, ![n]⟩) (hφ) (hacc) (hc) (r : Fin n) :
    sqrt (addf (divf (shapeCast ⟨2, ![n, 1]⟩ (multiReduction .add [1] ⟨1, ![n]⟩ (mulf v v) 0x00000000#32 h hφ hacc) hc) (broadcast ⟨2, ![n, 1]⟩ (Scalar.ofBits .f32 0x45800000#32)))
      (broadcast ⟨2, ![n, 1]⟩ (Scalar.ofBits .f32 0x358637BD#32))) (ix2 r 0) = rmsE (∑ k : Fin d, v (ix2 r k) * v (ix2 r k)) := by
  have e : (∑ k : Fin d, v (ix2 r k) * v (ix2 r k)) = shapeCast ⟨2, ![n, 1]⟩ (multiReduction .add [1] ⟨1, ![n]⟩ (mulf v v) 0x00000000#32 h hφ hacc) hc (ix2 r 0) :=
    ((col_at _ hc r).trans (rowSum_at (mulf v v) _ h hφ hacc r)).symm
  rw [e]; rfl

/-- The same with the mean taken by a multiplication, from a matrix of partial sums. -/
theorem rmsCol_at' (v : FVec Ideal ⟨2, ![n, d]⟩ .f32) (h : (⟨2, ![n, d]⟩ : Shape).Reduces [1] ⟨1, ![n]⟩) (hφ) (hacc) (hc) (r : Fin n) :
    sqrt (addf (mulf (shapeCast ⟨2, ![n, 1]⟩ (multiReduction .add [1] ⟨1, ![n]⟩ v 0x00000000#32 h hφ hacc) hc) (broadcast ⟨2, ![n, 1]⟩ (Scalar.ofBits .f32 0x39800000#32)))
      (broadcast ⟨2, ![n, 1]⟩ (Scalar.ofBits .f32 0x358637BD#32))) (ix2 r 0) = rmsE (∑ k : Fin d, v (ix2 r k)) := by
  have e : (∑ k : Fin d, v (ix2 r k)) = shapeCast ⟨2, ![n, 1]⟩ (multiReduction .add [1] ⟨1, ![n]⟩ v 0x00000000#32 h hφ hacc) hc (ix2 r 0) :=
    ((col_at _ hc r).trans (rowSum_at v _ h hφ hacc r)).symm
  rw [e]
  unfold rmsE
  rw [← mean_eq]; rfl

/-- The greatest magnitude of `d` values over the format's range. -/
def magE (v : Fin d → EReal) : EReal :=
  (Finset.univ : Finset (Fin d)).fold max (FloatOps.ofBits (F := Ideal) .f32 0xFF800000#32) (fun k => max (v k) (-(v k))) * Scalar.ofBits (F := Ideal) .f32 0x3B124925#32

theorem magCol_at (v : FVec Ideal ⟨2, ![n, d]⟩ .f32) (h : (⟨2, ![n, d]⟩ : Shape).Reduces [1] ⟨1, ![n]⟩) (hφ) (hacc) (hc) (r : Fin n) :
    mulf (shapeCast ⟨2, ![n, 1]⟩ (multiReduction .maximumf [1] ⟨1, ![n]⟩ (absf v) 0xFF800000#32 h hφ hacc) hc) (broadcast ⟨2, ![n, 1]⟩ (Scalar.ofBits .f32 0x3B124925#32)) (ix2 r 0)
      = magE fun k : Fin d => v (ix2 r k) := by
  have e := amaxCol_at v h hφ hacc hc r
  unfold amax at e
  unfold magE
  rw [← e]; rfl

theorem magGroup_at (v : FVec Ideal ⟨3, ![n, e, d]⟩ .f32) (h : (⟨3, ![n, e, d]⟩ : Shape).Reduces [2] ⟨2, ![n, e]⟩) (hφ) (hacc) (hc) (r : Fin n) (g : Fin e) :
    mulf (shapeCast ⟨3, ![n, e, 1]⟩ (multiReduction .maximumf [2] ⟨2, ![n, e]⟩ (absf v) 0xFF800000#32 h hφ hacc) hc) (broadcast ⟨3, ![n, e, 1]⟩ (Scalar.ofBits .f32 0x3B124925#32)) (ix3 r g 0)
      = magE fun k : Fin d => v (ix3 r g k) := by
  have e := (unit_at _ hc r g).trans (groupMax_at (absf v) 0xFF800000#32 h hφ hacc r g)
  unfold magE
  refine Eq.trans ?_ (congrArg (· * Scalar.ofBits (F := Ideal) .f32 0x3B124925#32) e)
  rfl

theorem iota_at (h) (r : Fin n) (g : Fin e) (k : Fin 254) : iota .tc ⟨3, ![n, e, 254]⟩ 32 [2] h (ix3 r g k) = BitVec.ofNat 32 k.val := by
  show BitVec.ofNat 32 (0 * 254 + k.val) = _
  rw [Nat.zero_mul, Nat.zero_add]

/-- The greatest power of two not above a group's value, as the reference takes it. -/
theorem below_at (y : FVec Ideal ⟨3, ![n, e, 1]⟩ .f32) (hy : (⟨3, ![n, e, 1]⟩ : Shape).Broadcasts ⟨3, ![n, e, 254]⟩) (hi) (h : (⟨3, ![n, e, 254]⟩ : Shape).Reduces [2] ⟨2, ![n, e]⟩) (hφ) (hacc)
    (p : FVec Ideal ⟨3, ![n, e, 254]⟩ .f32) (hp : p = exp2 (subf (sitofp .f32 (iota .tc ⟨3, ![n, e, 254]⟩ 32 [2] hi)) (broadcast ⟨3, ![n, e, 254]⟩ (Scalar.ofBits .f32 0x42FC0000#32))))
    (r : Fin n) (g : Fin e) :
    multiReduction .maximumf [2] ⟨2, ![n, e]⟩ (select (cmpf .ole p (broadcastTo ⟨3, ![n, e, 254]⟩ y hy)) p (broadcast ⟨3, ![n, e, 254]⟩ (Scalar.ofBits .f32 0x00800000#32))) 0xFF800000#32 h hφ hacc (ix2 r g)
      = below (y (ix3 r g 0)) := by
  refine (groupMax_at _ _ h hφ hacc r g).trans ?_
  unfold below
  refine Finset.fold_congr fun k _ => ?_
  have e1 : p (ix3 r g k) = powE k.val := by
    unfold powE
    rw [hp, ← iota_at hi r g k]; rfl
  rw [← e1, ← bgroup_at y hy r g k]
  rfl

end Cert.DnLaws
-- ==== Proof.DnIdeal.lean ====
module

public import proofs.«01_k».proof.Proof.DnArr
public import proofs.«01_k».proof.Proof.DnRef
public import proofs.«01_k».proof.Proof.DnLaws
public import Idealize.ShloMosaic.Lib.IdealHost
public import Idealize.ShloMosaic.Lib.Pointwise

@[expose] public section

set_option maxRecDepth 16384

noncomputable section

namespace Cert.DownIdeal.Dn

open Cert.DownIdeal Cert.DownIdeal.Gen Cert.UpLaws Cert.DnLaws
open Idealize.ShloMosaic Idealize.ShloMosaic.TcCoe Idealize.ShloMosaic.Tactic
open Idealize.SL Idealize.SL.Sem

/-! # The kernel's arrays are the reference's, over the extended reals -/

variable (a : Arr Ideal)

/-- The row of the whole argument that row `r` of row tile `i` is. -/
def rowAt (i : ℕ) (r : Fin 480) : Fin 24960 := ⟨480 * min i 51 + r.val, by have := r.isLt; omega⟩

/-- A row's scale, and the scaled product at an element. -/
def hsV (R : Fin 24960) : EReal := a.hs (ix3 ⟨R.val / 480, by have := R.isLt; omega⟩ 0 ⟨R.val % 480, Nat.mod_lt _ (by decide)⟩)
def cVal (R : Fin 24960) (C : Fin 4096) : EReal := (∑ k : Fin 14336, a.h (ix2 R k) * a.w (ix2 k C)) * hsV a R * a.s (ix2 0 C)

/-- A row's root mean square, and its quotients by it. -/
def rmsV (R : Fin 24960) : EReal := rmsE (∑ C : Fin 4096, cVal a R C * cVal a R C)
def quoV (R : Fin 24960) (C : Fin 4096) : EReal := Ideal.div (cVal a R C) (rmsV a R)

/-- Column `l` of group `g`. -/
def colAt (g : Fin 32) (l : Fin 128) : Fin 4096 := ⟨g.val * 128 + l.val, by have := g.isLt; have := l.isLt; omega⟩

/-- A group's greatest magnitude over the format's range, and its codes. -/
def magV (R : Fin 24960) (g : Fin 32) : EReal := magE fun l : Fin 128 => quoV a R (colAt g l)
def codeV (R : Fin 24960) (g : Fin 32) (l : Fin 128) : EReal :=
  clipS (quoV a R (colAt g l) * Ideal.div (Scalar.ofBits (F := Ideal) .f32 0x3F800000#32) (scaleE (magV a R g)))

/-! ## The reference's arrays, element by element -/

/-- The row scales as the reference lays them. -/
abbrev hcol : Vec Ideal DownReferenceIdeal.S24960x1 .f32 := shapeCast DownReferenceIdeal.S24960x1 a.hs DownReferenceIdeal.Gen.shapeCasts_S52x1x480_S24960x1

theorem hcol_at (R : Fin 24960) : hcol a (ix2 R 0) = hsV a R :=
  unfold_at (n := 24960) (e := 52) (d := 480) a.hs _ ⟨R.val / 480, by have := R.isLt; omega⟩ ⟨R.val % 480, Nat.mod_lt _ (by decide)⟩ R (by show R.val = R.val / 480 * 480 + R.val % 480; omega)

abbrev refC := DownReferenceIdeal.Gen.k0_pay4 a.h a.w (hcol a) a.s
abbrev refRms := DownReferenceIdeal.Gen.k0_pay5 a.h a.w (hcol a) a.s
abbrev refQuo := DownReferenceIdeal.Gen.k0_pay7 a.h a.w (hcol a) a.s
abbrev refMag := DownReferenceIdeal.Gen.k0_pay8 a.h a.w (hcol a) a.s
abbrev refBelow := DownReferenceIdeal.Gen.k0_pay9 a.h a.w (hcol a) a.s

theorem ref_c (R : Fin 24960) (C : Fin 4096) : refC a (ix2 R C) = cVal a R C := by
  unfold refC DownReferenceIdeal.Gen.k0_pay4
  refine (scaledDot_at (n := 24960) (d := 14336) (e := 4096) (φ₁ := .fp8e4m3) (φ₂ := .fp8e4m3) a.h a.w _ _ _ _ R C).trans ?_
  rw [shapeCast_self, shapeCast_self, hcol_at]
  rfl

theorem ref_rms (R : Fin 24960) : refRms a (ix2 R 0) = rmsV a R := by
  unfold refRms DownReferenceIdeal.Gen.k0_pay5
  refine (rmsCol_at (n := 24960) (d := 4096) (refC a) _ _ _ _ R).trans ?_
  exact congrArg rmsE (Finset.sum_congr rfl fun C _ => congrArg₂ (· * ·) (ref_c a R C) (ref_c a R C))

theorem quo_at {n d : ℕ} (v : FVec Ideal ⟨2, ![n, d]⟩ .f32) (x : FVec Ideal ⟨2, ![n, 1]⟩ .f32) (hx : (⟨2, ![n, 1]⟩ : Shape).Broadcasts ⟨2, ![n, d]⟩) (r : Fin n) (k : Fin d) :
    divf v (broadcastTo ⟨2, ![n, d]⟩ x hx) (ix2 r k) = Ideal.div (v (ix2 r k)) (x (ix2 r 0)) := by
  rw [← bcol_at x hx r k]; rfl

theorem ref_quo (R : Fin 24960) (g : Fin 32) (l : Fin 128) : refQuo a (ix3 R g l) = quoV a R (colAt g l) := by
  unfold refQuo DownReferenceIdeal.Gen.k0_pay7
  refine (split_at (n := 24960) (m := 4096) (e := 32) (d := 128) _ _ R g l (colAt g l) (by decide) rfl).trans ?_
  refine (quo_at (n := 24960) (d := 4096) (refC a) (refRms a) _ R _).trans ?_
  rw [ref_c, ref_rms]
  rfl

theorem ref_mag (R : Fin 24960) (g : Fin 32) : refMag a (ix3 R g 0) = magV a R g := by
  unfold refMag DownReferenceIdeal.Gen.k0_pay8
  refine (magGroup_at (n := 24960) (e := 32) (d := 128) (refQuo a) _ _ _ _ R g).trans ?_
  exact congrArg magE (funext fun l => ref_quo a R g l)

theorem ref_below (R : Fin 24960) (g : Fin 32) : refBelow a (ix2 R g) = below (magV a R g) := by
  unfold refBelow DownReferenceIdeal.Gen.k0_pay9
  refine (below_at (n := 24960) (e := 32) (refMag a) _ _ _ _ _ _ rfl R g).trans ?_
  rw [ref_mag]

theorem scaleGroup_at {n e : ℕ} (y : FVec Ideal ⟨3, ![n, e, 1]⟩ .f32) (b : FVec Ideal ⟨2, ![n, e]⟩ .f32) (h) (r : Fin n) (g : Fin e) (hb : b (ix2 r g) = below (y (ix3 r g 0))) :
    select (cmpf .olt y (broadcast ⟨3, ![n, e, 1]⟩ (Scalar.ofBits .f32 0x00800000#32))) (broadcast ⟨3, ![n, e, 1]⟩ (Scalar.ofBits (F := Ideal) .f32 0x3F800000#32))
      (mulf (broadcast ⟨3, ![n, e, 1]⟩ (Scalar.ofBits .f32 0x40000000#32)) (shapeCast ⟨3, ![n, e, 1]⟩ b h)) (ix3 r g 0) = scaleE (y (ix3 r g 0)) := by
  unfold scaleE
  rw [← hb, ← unit_at b h r g]; rfl

theorem ref_scale (R : Fin 24960) (g : Fin 32) : DownReferenceIdeal.Gen.k0_pay1 (refMag a) (refBelow a) (ix3 R g 0) = scaleE (magV a R g) := by
  unfold DownReferenceIdeal.Gen.k0_pay1
  refine (scaleGroup_at (n := 24960) (e := 32) (refMag a) (refBelow a) _ R g ((ref_below a R g).trans (congrArg below (ref_mag a R g).symm))).trans ?_
  rw [ref_mag]

theorem ref_scales (R : Fin 24960) (g : Fin 32) : DownReferenceIdeal.Gen.k0_pay3 (refMag a) (refBelow a) (ix2 R g) = scaleE (magV a R g) := by
  unfold DownReferenceIdeal.Gen.k0_pay3
  exact (ununit_at (n := 24960) (e := 32) _ _ R g).trans (ref_scale a R g)

theorem codesGroup_at {n m e d : ℕ} (v : FVec Ideal ⟨3, ![n, e, d]⟩ .f32) (x : FVec Ideal ⟨3, ![n, e, 1]⟩ .f32) (hx : (⟨3, ![n, e, 1]⟩ : Shape).Broadcasts ⟨3, ![n, e, d]⟩)
    (hs : (⟨3, ![n, e, d]⟩ : Shape).ShapeCasts ⟨2, ![n, m]⟩) (h) (r : Fin n) (g : Fin e) (l : Fin d) (C : Fin m) (hm : m = e * d) (hC : C.val = g.val * d + l.val) :
    truncf .fp8e4m3 (shapeCast ⟨2, ![n, m]⟩ (minimumf (broadcast ⟨3, ![n, e, d]⟩ (Scalar.ofBits .f32 0x43E00000#32)) (maximumf (broadcast ⟨3, ![n, e, d]⟩ (Scalar.ofBits .f32 0xC3E00000#32))
      (mulf v (broadcastTo ⟨3, ![n, e, d]⟩ (divf (broadcast ⟨3, ![n, e, 1]⟩ (Scalar.ofBits .f32 0x3F800000#32)) x) hx)))) hs) h (ix2 r C)
      = clipS (v (ix3 r g l) * Ideal.div (Scalar.ofBits (F := Ideal) .f32 0x3F800000#32) (x (ix3 r g 0))) := by
  refine (merge_at (minimumf (broadcast ⟨3, ![n, e, d]⟩ (Scalar.ofBits .f32 0x43E00000#32)) (maximumf (broadcast ⟨3, ![n, e, d]⟩ (Scalar.ofBits .f32 0xC3E00000#32))
      (mulf v (broadcastTo ⟨3, ![n, e, d]⟩ (divf (broadcast ⟨3, ![n, e, 1]⟩ (Scalar.ofBits .f32 0x3F800000#32)) x) hx)))) hs r g l C hm hC).trans ?_
  have e1 := bgroup_at (divf (broadcast ⟨3, ![n, e, 1]⟩ (Scalar.ofBits (F := Ideal) .f32 0x3F800000#32)) x) hx r g l
  show clipS (v (ix3 r g l) * broadcastTo ⟨3, ![n, e, d]⟩ (divf (broadcast ⟨3, ![n, e, 1]⟩ (Scalar.ofBits (F := Ideal) .f32 0x3F800000#32)) x) hx (ix3 r g l)) = _
  rw [e1]; rfl

theorem ref_codes (R : Fin 24960) (g : Fin 32) (l : Fin 128) : DownReferenceIdeal.Gen.k0_pay2 (refQuo a) (refMag a) (refBelow a) (ix2 R (colAt g l)) = codeV a R g l := by
  unfold DownReferenceIdeal.Gen.k0_pay2
  refine (codesGroup_at (n := 24960) (m := 4096) (e := 32) (d := 128) (refQuo a) (DownReferenceIdeal.Gen.k0_pay1 (refMag a) (refBelow a)) _ _ _ R g l (colAt g l) (by decide) rfl).trans ?_
  rw [ref_quo, ref_scale]
  rfl

/-! ## The kernel's arrays, element by element -/

theorem hsV_row (i : ℕ) (r : Fin 480) : hsV a (rowAt i r) = a.hs (ix3 ⟨min i 51, by omega⟩ 0 r) := by
  have h := r.isLt
  unfold hsV
  have e1 : (⟨(rowAt i r).val / 480, by have := (rowAt i r).isLt; omega⟩ : Fin 52) = ⟨min i 51, by omega⟩ := Fin.ext (by show (480 * min i 51 + r.val) / 480 = min i 51; omega)
  have e2 : (⟨(rowAt i r).val % 480, Nat.mod_lt _ (by decide)⟩ : Fin 480) = r := Fin.ext (by show (480 * min i 51 + r.val) % 480 = r.val; omega)
  rw [e1, e2]

theorem lanes_at (x : Vec Ideal S1x1x480 .f32) (r : Fin 480) (l : Fin 128) : k0_pay39 x (ix2 r l) = x (ix3 0 0 r) := by
  pointwise [k0_pay39]

theorem sclT_at (i : ℕ) (r : Fin 480) (l : Fin 128) : sclT a i (ix2 r l) = hsV a (rowAt i r) := by
  unfold sclT
  rw [lanes_at, hsV_row]
  rfl

/-- One group's sums, read at an element. -/
theorem prod_at (i : ℕ) (j : Fin 8) (g : Fin 4) (r : Fin 480) (l : Fin 128) (C : Fin 4096) (hC : C.val = 512 * j.val + 128 * g.val + l.val) :
    extractStridedSlice S480x128 ![0, 128 * g.val] (prodOf (hT a i) (wT a j)) (sliceCols g) (ix2 r l) = ∑ k : Fin 14336, a.h (ix2 (rowAt i r) k) * a.w (ix2 k C) := by
  have hg := g.isLt
  have hl := l.isLt
  refine (extractStridedSlice_apply (s := S480x512) _ _ (sliceCols g) (ix2 r l) (ix2 r (⟨128 * g.val + l.val, by omega⟩ : Fin 512)) (fun c => by
    match c with
    | ⟨0, _⟩ => show r.val = 0 + r.val; omega
    | ⟨1, _⟩ => rfl)).trans ?_
  unfold prodOf k0_pay41
  refine (dot_at (n := 480) (d := 14336) (e := 512) (φ₁ := .fp8e4m3) (φ₂ := .fp8e4m3) (hT a i) (wT a j) r ⟨128 * g.val + l.val, by omega⟩).trans ?_
  refine Finset.sum_congr rfl fun k _ => ?_
  refine congrArg (fun C => a.h (ix2 (rowAt i r) k) * a.w (ix2 k C)) (Fin.ext ?_)
  show 512 * j.val + (128 * g.val + l.val) = C.val
  omega

theorem col_scale_at (j : Fin 8) (g : Fin 4) (r : Fin 480) (l : Fin 128) (C : Fin 4096) (hC : C.val = 512 * j.val + 128 * g.val + l.val) :
    broadcastTo S480x128 (shapeCast S1x128 (sCols (sT a j) g) shapeCasts_S1x128_S1x128) broadcasts_S1x128_S480x128 (ix2 r l) = a.s (ix2 0 C) := by
  have hg := g.isLt
  have hl := l.isLt
  refine (brow_at (n := 480) (d := 128) _ _ r l).trans ((congrFun (shapeCast_self (s := S1x128) _ _) _).trans ?_)
  refine (window_at (n := 1) (d := 512) (sT a j) 0 (128 * g.val) S1x128.size (sliceIn g) 0 ⟨128 * g.val + l.val, by omega⟩ _ ?_ ?_).trans ?_
  · rfl
  · rfl
  · refine congrArg (fun k => a.s (ix2 0 k)) (Fin.ext ?_)
    show 512 * j.val + (128 * g.val + l.val) = C.val
    omega

theorem tile_at (i : ℕ) (j : Fin 8) (g : Fin 4) (r : Fin 480) (l : Fin 128) (C : Fin 4096) (hC : C.val = 512 * j.val + 128 * g.val + l.val) :
    tileC (hT a i) (wT a j) (sclT a i) (sT a j) g (ix2 r l) = cVal a (rowAt i r) C := by
  have e1 := prod_at a i j g r l C hC
  have e2 := col_scale_at a j g r l C hC
  have e3 := sclT_at a i r l
  unfold tileC cTile cVal
  rw [← e1, ← e2, ← e3]
  rfl

theorem tileG_at (i : ℕ) (n : Fin 32) (r : Fin 480) (l : Fin 128) : tileG a i n.val (ix2 r l) = cVal a (rowAt i r) (colAt n l) := by
  have hn := n.isLt
  unfold tileG
  refine tile_at a i _ _ r l _ ?_
  show n.val * 128 + l.val = 512 * (n.val / 4 % 8) + 128 * (n.val % 4) + l.val
  omega

theorem sqT_at (i : ℕ) (r : Fin 480) (l : Fin 128) : ∀ n, sqT a i n (ix2 r l) = runSq (fun p l => tileG a i p (ix2 r l)) n l
  | 0 => by
    unfold sqT k0_pay40
    rw [shapeCast_self]
    exact Ideal.ofBits_zero_f32
  | n + 1 => by
    have ih := sqT_at i r l n
    show sqT a i n (ix2 r l) + tileG a i n (ix2 r l) * tileG a i n (ix2 r l) = _
    rw [ih]
    rfl

theorem rmsC_at (i : ℕ) (r : Fin 480) : rmsC a i (ix2 r 0) = rmsV a (rowAt i r) := by
  unfold rmsC rmsOf
  refine (rmsCol_at' (n := 480) (d := 128) (sqT a i 32) _ _ _ _ r).trans ?_
  unfold rmsV
  refine congrArg rmsE ?_
  simp only [sqT_at]
  refine sum_run (d := 128) (e := 4096) 32 (by decide) (by decide) (fun p l => tileG a i p (ix2 r l)) (fun C => cVal a (rowAt i r) C) fun C => ?_
  have hC := C.isLt
  refine Eq.symm ((tileG_at a i ⟨C.val / 128, by omega⟩ r _).trans (congrArg (cVal a (rowAt i r)) (Fin.ext ?_)))
  show C.val / 128 * 128 + C.val % 128 = C.val
  omega

theorem rmsT_at (i : ℕ) (r : Fin 480) (l : Fin 128) : rmsT a i (ix2 r l) = rmsV a (rowAt i r) := by
  unfold rmsT lanesOf
  rw [shapeCast_self, shapeCast_self]
  exact (bcol_at (n := 480) (d := 128) _ _ r l).trans (rmsC_at a i r)

/-- A group divided by the root mean square, read at an element. -/
theorem ker_quo (i : ℕ) (n : Fin 32) (r : Fin 480) (l : Fin 128) : divf (tileG a i n.val) (rmsT a i) (ix2 r l) = quoV a (rowAt i r) (colAt n l) := by
  show Ideal.div (tileG a i n.val (ix2 r l)) (rmsT a i (ix2 r l)) = _
  rw [tileG_at, rmsT_at]
  rfl

theorem ker_mag (i : ℕ) (n : Fin 32) (r : Fin 480) : magOf (rmsT a i) (tileG a i n.val) (ix2 r 0) = magV a (rowAt i r) n := by
  unfold magOf k0_pay12
  refine (magCol_at (n := 480) (d := 128) (divf (tileG a i n.val) (rmsT a i)) _ _ _ _ r).trans ?_
  unfold magV
  simp only [ker_quo]

theorem powOf_at (y : FVec Ideal S480x1 .f32) (r : Fin 480) : powOf y (ix2 r 0) = ladder (y (ix2 r 0)) := rfl

theorem csT_at (i : ℕ) (r : Fin 480) (g : Fin 32) : csT a i (ix2 r g) = scaleE (magV a (rowAt i r) g) := by
  show Scalar.ofBits (F := Ideal) .f32 0x40000000#32 * powOf (magOf (rmsT a i) (tileG a i g.val)) (ix2 r 0) = _
  rw [powOf_at, ker_mag, scale_eq]

theorem cCodes_at (i : ℕ) (n : Fin 32) (r : Fin 480) (l : Fin 128) : codesOf (rmsT a i) (tileG a i n.val) (ix2 r l) = codeV a (rowAt i r) n l := by
  have e := (bcol_at (n := 480) (d := 128) (divf (broadcast S480x1 (Scalar.ofBits (F := Ideal) .f32 0x3F000000#32)) (powOf (magOf (rmsT a i) (tileG a i n.val)))) broadcasts_S480x1_S480x128 r l).trans
    (recip_at (Scalar.ofBits (F := Ideal) .f32 0x3F000000#32) (powOf (magOf (rmsT a i) (tileG a i n.val))) (ix2 r 0))
  rw [powOf_at, ker_mag, inv_eq] at e
  unfold codeV
  rw [← e, ← ker_quo]
  rfl

end Cert.DownIdeal.Dn

end
-- ==== Proof.DnEqual.lean ====
module

public import proofs.«01_k».proof.Proof.DnIdeal
public import Idealize.ShloMosaic.Lib.IdealHost
public import Idealize.ShloMosaic.Lib.Pointwise

@[expose] public section

set_option maxRecDepth 16384

noncomputable section

namespace Cert.DownIdeal.Dn

open Cert.DownIdeal Cert.DownIdeal.Gen Cert.UpLaws Cert.DnLaws
open Idealize.ShloMosaic Idealize.ShloMosaic.TcCoe Idealize.ShloMosaic.Tactic
open Idealize.SL Idealize.SL.Sem

/-! # The result arrays are equal -/

variable (a : Arr Ideal)

theorem rowOf_at (s : FVec Ideal S480x1 .f32) (r : Fin 480) : rowOf s (ix3 0 0 r) = s (ix2 r 0) := by
  pointwise [rowOf]

theorem rowAt_div (R : Fin 24960) : rowAt (R.val / 480) ⟨R.val % 480, Nat.mod_lt _ (by decide)⟩ = R := by
  have := R.isLt
  exact Fin.ext (by show 480 * min (R.val / 480) 51 + R.val % 480 = R.val; omega)

theorem rowAt_tile (q : Fin 52) (r : Fin 480) : (rowAt q.val r).val = q.val * 480 + r.val := by
  have := q.isLt
  show 480 * min q.val 51 + r.val = _
  omega

theorem idx3' (y : S52x1x480.Idx) : ∃ (q : Fin 52) (r : Fin 480), y = ix3 q 0 r :=
  ⟨y 0, y 2, funext fun b => by
    match b with
    | ⟨0, _⟩ => rfl
    | ⟨1, _⟩ => exact Subsingleton.elim (α := Fin 1) _ _
    | ⟨2, _⟩ => rfl⟩

theorem col_split (C : Fin 4096) : ∃ (g : Fin 32) (l : Fin 128), C = colAt g l := by
  have hC := C.isLt
  exact ⟨⟨C.val / 128, by omega⟩, ⟨C.val % 128, Nat.mod_lt _ (by decide)⟩, Fin.ext (by show C.val = C.val / 128 * 128 + C.val % 128; omega)⟩

theorem res4_eq : res4 a = DownReferenceIdeal.Gen.k0_pay6 a.h a.w (hcol a) a.s := by
  refine funext fun (y : S52x1x480.Idx) => ?_
  obtain ⟨q, r, rfl⟩ := idx3' y
  refine (rowOf_at (rmsC a q.val) r).trans ((rmsC_at a q.val r).trans ?_)
  unfold DownReferenceIdeal.Gen.k0_pay6
  exact ((fold_at (n := 24960) (e := 52) (d := 480) _ _ q r (rowAt q.val r) (rowAt_tile q r)).trans (ref_rms a _)).symm

theorem res5_eq : res5 a = DownReferenceIdeal.Gen.k0_pay2 (refQuo a) (refMag a) (refBelow a) := by
  refine funext fun (y : S24960x4096.Idx) => ?_
  obtain ⟨R, C, rfl⟩ : ∃ (R : Fin 24960) (C : Fin 4096), y = ix2 R C := idx2 y
  obtain ⟨g, l, rfl⟩ := col_split C
  have hg := g.isLt
  have hl := l.isLt
  have e : 4 * ((colAt g l).val / 512) + (colAt g l).val % 512 / 128 = g.val := by
    show 4 * ((g.val * 128 + l.val) / 512) + (g.val * 128 + l.val) % 512 / 128 = g.val
    omega
  have e2 : (⟨(colAt g l).val % 512 % 128, Nat.mod_lt _ (by decide)⟩ : Fin 128) = l := Fin.ext (by
    show (g.val * 128 + l.val) % 512 % 128 = l.val
    omega)
  refine Eq.trans ?_ (ref_codes a R g l).symm
  show codesOf (rmsT a (R.val / 480)) (tileG a (R.val / 480) (4 * ((colAt g l).val / 512) + (colAt g l).val % 512 / 128))
    (ix2 ⟨R.val % 480, Nat.mod_lt _ (by decide)⟩ ⟨(colAt g l).val % 512 % 128, Nat.mod_lt _ (by decide)⟩) = _
  rw [e, e2, cCodes_at, rowAt_div]

theorem res6_eq : res6 a = DownReferenceIdeal.Gen.k0_pay3 (refMag a) (refBelow a) := by
  refine funext fun (y : S24960x32.Idx) => ?_
  obtain ⟨R, g, rfl⟩ : ∃ (R : Fin 24960) (g : Fin 32), y = ix2 R g := idx2 y
  refine (csT_at a (R.val / 480) ⟨R.val % 480, Nat.mod_lt _ (by decide)⟩ g).trans ?_
  rw [rowAt_div]
  exact (ref_scales a R g).symm

end Cert.DownIdeal.Dn

end
-- ==== Proof.DnBits.lean ====
module

public import proofs.«01_k».proof.Defs
public import proofs.«01_k».proof.Proof.Gen.Down
public import proofs.«01_k».proof.Proof.DnRun

@[expose] public section

set_option maxRecDepth 16384

noncomputable section

namespace Cert.Down.Dn

open Idealize.ShloMosaic Idealize.SL.Sem

/-! # The program before idealization runs as the idealized one does

The two programs have the same text, so what is shown of the one, at any number format, is shown of the other. -/

variable {F : FTy → Type} [FloatOps F]

theorem body_eq : Cert.Down.cc0_proj_down (F := F) = Cert.DownIdeal.cc0_proj_down (F := F) := rfl

theorem main_eq : Cert.Down.main (F := F) = Cert.DownIdeal.main (F := F) := rfl

theorem defs₀_eq : Cert.Down.defs₀ (F := F) = Cert.DownIdeal.defs₀ (F := F) := by
  unfold Cert.Down.defs₀ Cert.DownIdeal.defs₀
  refine congrArg Defs.onTc ?_
  funext l x
  match l, x with
  | 0, (t, s) => rfl

theorem defs_eq : Cert.Down.defs (F := F) = Cert.DownIdeal.defs (F := F) :=
  congrArg (Pipeline.defs (Cert.DownIdeal.pcfgs (F := F))) defs₀_eq

/-- The argument arrays end unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.DownIdeal.Dn.frame (F := F) m ρ
  rw [← defs_eq, ← main_eq] at h
  exact h

end Cert.Down.Dn
-- ==== Proof.FnRun.lean ====
module

public import proofs.«01_k».proof.Proof.Gen.FinalIdeal.Frame
public import proofs.«01_k».proof.Proof.Gen.FinalReferenceIdeal.Frame
public import proofs.«01_k».proof.Proof.DnLaws
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.FinalIdeal.Norm

open Cert.FinalIdeal Cert.FinalIdeal.Gen
open Idealize.ShloMosaic Idealize.ShloMosaic.TcCoe Idealize.ShloMosaic.Tactic
open Idealize.SL Idealize.SL.Sem

/-! # What the kernel's run leaves in its result arrays -/

variable {F : FTy → Type} [FloatOps F]
variable (m : (ℓ : Loc nD τ sig) → Buf (Elt F) ℓ) (ρ : Dev nD → PrngReg)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])

/-- The one block of each argument is the whole array. -/
theorem iblk0 (c : Dev nD) (t : Fin cfg0.N) : iblk m c 0 t = V m c main_arg0 := by
  have : V m c main_arg0 = V m c (Pipeline.arrRef spec0 0) := rfl
  rw [this]
  generalize hV : V m c (Pipeline.arrRef spec0 0) = X
  blk_ext! [iblk, hV, index0 t]
theorem iblk1 (c : Dev nD) (t : Fin cfg0.N) : iblk m c 1 t = V m c main_v0 := by
  have : V m c main_v0 = V m c (Pipeline.arrRef spec0 1) := rfl
  rw [this]
  generalize hV : V m c (Pipeline.arrRef spec0 1) = X
  blk_ext! [iblk, hV, index1 t]

/-- The normalised rows. -/
theorem final2 (c : Dev nD) : (dats m 0 c).arrAt 2 cfg0.N = k0_pay2 (V m c main_arg0) (V m c main_v0) := by
  refine (dats m 0 c).arrAt_eq_of_after_last 2 t0_0 (by decide +kernel) _ fun j => ?_
  blk_simp
  rw [after0_2]
  unfold out0_2
  frame_out
  rw [iblk0, iblk1]

/-- Their codes. -/
theorem final3 (c : Dev nD) : (dats m 0 c).arrAt 3 cfg0.N = k0_pay4 (V m c main_arg0) (V m c main_v0) := by
  refine (dats m 0 c).arrAt_eq_of_after_last 3 t0_0 (by decide +kernel) _ fun j => ?_
  blk_simp
  rw [after0_3]
  unfold out0_3
  frame_out
  rw [iblk0, iblk1]

/-- Their scales. -/
theorem final4 (c : Dev nD) : (dats m 0 c).arrAt 4 cfg0.N = k0_pay5 (V m c main_arg0) (V m c main_v0) := by
  refine (dats m 0 c).arrAt_eq_of_after_last 4 t0_0 (by decide +kernel) _ fun j => ?_
  blk_simp
  rw [after0_4]
  unfold out0_4
  frame_out
  rw [iblk0, iblk1]

/-- The run, its results in terms of its arrays and its arguments unchanged. -/
theorem run_vals : θ_run (defs (F := F)) (onTc (τ := τ) (main (F := F))) ⟨m, fun _ => 0, ρ⟩ (fun r => ∀ c : Dev nD,
      (r.2.mem ((c.tc : Thread nD τ).loc main_v1_0) = k0_pay2 (V m c main_arg0) (V m c main_v0)
      ∧ r.2.mem ((c.tc : Thread nD τ).loc main_v1_1) = k0_pay4 (V m c main_arg0) (V m c main_v0)
      ∧ r.2.mem ((c.tc : Thread nD τ).loc main_v1_2) = k0_pay5 (V m c main_arg0) (V m c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨⟨((h c).1 2).trans (final2 m c), ((h c).1 3).trans (final3 m c), ((h c).1 4).trans (final4 m c)⟩,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-- The gains as the call takes them, from the argument. -/
theorem gains (c : Dev nD) : V m c main_v0 = shapeCast S1x4096 (m ((c.tc : Thread nD τ).loc main_arg1)) Gen.shapeCasts_S4096_S1x4096 := by
  entry_read
  rfl

end Cert.FinalIdeal.Norm

namespace Cert.FinalReferenceIdeal.Norm

open Cert.FinalReferenceIdeal Cert.FinalReferenceIdeal.Gen
open Idealize.ShloMosaic Idealize.ShloMosaic.TcCoe Idealize.ShloMosaic.Tactic
open Idealize.SL Idealize.SL.Sem

/-! # What the reference's run leaves in its result arrays -/

variable {F : FTy → Type} [FloatOps F]
variable (m : (ℓ : Loc nD τ sig) → Buf (Elt F) ℓ) (ρ : Dev nD → PrngReg)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])

/-- The one block of each argument is the whole array. -/
theorem iblk0 (c : Dev nD) (t : Fin cfg0.N) : iblk m c 0 t = V m c main_arg0 := by
  have : V m c main_arg0 = V m c (Pipeline.arrRef spec0 0) := rfl
  rw [this]
  generalize hV : V m c (Pipeline.arrRef spec0 0) = X
  blk_ext! [iblk, hV, index0 t]
theorem iblk1 (c : Dev nD) (t : Fin cfg0.N) : iblk m c 1 t = V m c main_v0 := by
  have : V m c main_v0 = V m c (Pipeline.arrRef spec0 1) := rfl
  rw [this]
  generalize hV : V m c (Pipeline.arrRef spec0 1) = X
  blk_ext! [iblk, hV, index1 t]

/-- The normalised rows. -/
theorem final2 (c : Dev nD) : (dats m 0 c).arrAt 2 cfg0.N = k0_pay3 (V m c main_arg0) (V m c main_v0) := by
  refine (dats m 0 c).arrAt_eq_of_after_last 2 t0_0 (by decide +kernel) _ fun j => ?_
  blk_simp
  rw [after0_2]
  unfold out0_2
  frame_out
  rw [iblk0, iblk1]

/-- Their codes. -/
theorem final3 (c : Dev nD) : (dats m 0 c).arrAt 3 cfg0.N = k0_pay4 (V m c main_arg0) (V m c main_v0) := by
  refine (dats m 0 c).arrAt_eq_of_after_last 3 t0_0 (by decide +kernel) _ fun j => ?_
  blk_simp
  rw [after0_3]
  unfold out0_3
  frame_out
  rw [iblk0, iblk1]

/-- Their scales. -/
theorem final4 (c : Dev nD) : (dats m 0 c).arrAt 4 cfg0.N = k0_pay5 (V m c main_arg0) (V m c main_v0) := by
  refine (dats m 0 c).arrAt_eq_of_after_last 4 t0_0 (by decide +kernel) _ fun j => ?_
  blk_simp
  rw [after0_4]
  unfold out0_4
  frame_out
  rw [iblk0, iblk1]

/-- The run, its results in terms of its arrays and its arguments unchanged. -/
theorem run_vals : θ_run (defs (F := F)) (onTc (τ := τ) (main (F := F))) ⟨m, fun _ => 0, ρ⟩ (fun r => ∀ c : Dev nD,
      (r.2.mem ((c.tc : Thread nD τ).loc main_v1_0) = k0_pay3 (V m c main_arg0) (V m c main_v0)
      ∧ r.2.mem ((c.tc : Thread nD τ).loc main_v1_1) = k0_pay4 (V m c main_arg0) (V m c main_v0)
      ∧ r.2.mem ((c.tc : Thread nD τ).loc main_v1_2) = k0_pay5 (V m c main_arg0) (V m c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c =>
    ⟨⟨((h c).1 2).trans (final2 m c), ((h c).1 3).trans (final3 m c), ((h c).1 4).trans (final4 m c)⟩,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-- The gains as the call takes them, from the argument. -/
theorem gains (c : Dev nD) : V m c main_v0 = shapeCast S1x4096 (m ((c.tc : Thread nD τ).loc main_arg1)) Gen.shapeCasts_S4096_S1x4096 := by
  entry_read
  rfl

end Cert.FinalReferenceIdeal.Norm

end
-- ==== Proof.FnEqual.lean ====
module

public import proofs.«01_k».proof.Proof.FnRun

@[expose] public section

set_option maxRecDepth 16384

noncomputable section

namespace Cert.FinalIdeal.Norm

open Cert.UpLaws Cert.DnLaws
open Idealize.ShloMosaic Idealize.ShloMosaic.TcCoe Idealize.ShloMosaic.Tactic

/-! # The final norm's arrays are the reference's, over the extended reals -/

section Laws
variable {n d : ℕ}

/-- A matrix divided by a column and multiplied by a row, read at an element. -/
theorem normed_at (x : FVec Ideal ⟨2, ![n, d]⟩ .f32) (s : FVec Ideal ⟨2, ![n, 1]⟩ .f32) (g : FVec Ideal ⟨2, ![1, d]⟩ .f32)
    (hs : (⟨2, ![n, 1]⟩ : Shape).Broadcasts ⟨2, ![n, d]⟩) (hg : (⟨2, ![1, d]⟩ : Shape).Broadcasts ⟨2, ![n, d]⟩) (r : Fin n) (k : Fin d) :
    mulf (divf x (broadcastTo ⟨2, ![n, d]⟩ s hs)) (broadcastTo ⟨2, ![n, d]⟩ g hg) (ix2 r k) = Ideal.div (x (ix2 r k)) (s (ix2 r 0)) * g (ix2 0 k) := by
  rw [← bcol_at s hs r k, ← brow_at g hg r k]; rfl

/-- The root mean squares taken as a vector and then laid as a column, read at a row. -/
theorem rmsVec_at (v : FVec Ideal ⟨2, ![n, d]⟩ .f32) (h : (⟨2, ![n, d]⟩ : Shape).Reduces [1] ⟨1, ![n]⟩) (hφ) (hacc)
    (hc : (⟨1, ![n]⟩ : Shape).ShapeCasts ⟨2, ![n, 1]⟩) (r : Fin n) :
    shapeCast ⟨2, ![n, 1]⟩ (sqrt (addf (divf (multiReduction .add [1] ⟨1, ![n]⟩ (mulf v v) 0x00000000#32 h hφ hacc) (broadcast ⟨1, ![n]⟩ (Scalar.ofBits .f32 0x45800000#32)))
      (broadcast ⟨1, ![n]⟩ (Scalar.ofBits .f32 0x358637BD#32)))) hc (ix2 r 0) = rmsE (∑ k : Fin d, v (ix2 r k) * v (ix2 r k)) := by
  refine (col_at _ hc r).trans ?_
  have e : (∑ k : Fin d, v (ix2 r k) * v (ix2 r k)) = multiReduction .add [1] ⟨1, ![n]⟩ (mulf v v) 0x00000000#32 h hφ hacc (ix1 r) :=
    (rowSum_at (mulf v v) _ h hφ hacc r).symm
  rw [e]; rfl

/-- A row's greatest magnitude, from the vector of maxima. -/
theorem amaxVec_at (v : FVec Ideal ⟨2, ![n, d]⟩ .f32) (h : (⟨2, ![n, d]⟩ : Shape).Reduces [1] ⟨1, ![n]⟩) (hφ) (hacc) (r : Fin n) :
    multiReduction .maximumf [1] ⟨1, ![n]⟩ (absf v) 0xFF800000#32 h hφ hacc (ix1 r) = amax v r :=
  rowMax_at (absf v) _ h hφ hacc r

/-- Two matrices that agree element by element are equal. -/
theorem funext2 {α : Type} {f g : (⟨2, ![n, d]⟩ : Shape).Idx → α} (h : ∀ r k, f (ix2 r k) = g (ix2 r k)) : f = g := by
  refine funext fun y => ?_
  have hy : y = ix2 (y 0) (y 1) := funext fun b => by
    match b with
    | ⟨0, _⟩ => rfl
    | ⟨1, _⟩ => rfl
  rw [hy]
  exact h _ _
end Laws

variable (x : Vec Ideal S320x4096 .f32) (g : Vec Ideal S1x4096 .f32)

/-- An element of the normalised rows: the quotient by the row's root mean square, times the column's gain. -/
def normV (r : Fin 320) (k : Fin 4096) : EReal := Ideal.div (x (ix2 r k)) (rmsE (∑ j : Fin 4096, x (ix2 r j) * x (ix2 r j))) * g (ix2 0 k)

theorem kern_norm (r : Fin 320) (k : Fin 4096) : Gen.k0_pay1 x g (ix2 r k) = normV x g r k := by
  unfold Gen.k0_pay1
  refine (normed_at (n := 320) (d := 4096) x _ _ _ _ r k).trans ?_
  refine congrArg₂ (fun s t : EReal => Ideal.div (x (ix2 r k)) s * t) ?_ (congrFun (shapeCast_self (s := S1x4096) g _) _)
  exact rmsCol_at' (n := 320) (d := 4096) (mulf x x) _ _ _ _ r

theorem ref_norm (r : Fin 320) (k : Fin 4096) : FinalReferenceIdeal.Gen.k0_pay1 x g (ix2 r k) = normV x g r k := by
  unfold FinalReferenceIdeal.Gen.k0_pay1
  refine (normed_at (n := 320) (d := 4096) x _ _ _ _ r k).trans ?_
  refine congrArg₂ (fun s t : EReal => Ideal.div (x (ix2 r k)) s * t) ?_ (congrFun (shapeCast_self (s := S1x4096) g _) _)
  exact rmsVec_at (n := 320) (d := 4096) x _ _ _ _ r

/-- The normalised rows are the same. -/
theorem norm_eq : Gen.k0_pay1 x g = FinalReferenceIdeal.Gen.k0_pay1 x g :=
  funext2 (n := 320) (d := 4096) fun r k => (kern_norm x g r k).trans (ref_norm x g r k).symm

theorem res2_eq : Gen.k0_pay2 x g = FinalReferenceIdeal.Gen.k0_pay3 x g := by
  unfold Gen.k0_pay2 FinalReferenceIdeal.Gen.k0_pay3
  rw [norm_eq]

/-- A row's scale in the kernel's column and in the reference's vector. -/
theorem kern_scale (r : Fin 320) : Gen.k0_pay3 x g (ix2 r 0) = scl (amax (Gen.k0_pay1 x g) r) := by
  unfold Gen.k0_pay3
  refine (sclCol_at (s := S320x1) _ (ix2 r 0)).trans (congrArg scl ?_)
  exact amaxCol_at (n := 320) (d := 4096) (Gen.k0_pay1 x g) _ _ _ _ r

theorem ref_scale (r : Fin 320) : FinalReferenceIdeal.Gen.k0_pay2 x g (ix1 r) = scl (amax (Gen.k0_pay1 x g) r) := by
  unfold FinalReferenceIdeal.Gen.k0_pay2
  refine (sclCol_at (s := FinalReferenceIdeal.S320) _ (ix1 r)).trans (congrArg scl ?_)
  rw [norm_eq]
  exact amaxVec_at (n := 320) (d := 4096) (FinalReferenceIdeal.Gen.k0_pay1 x g) _ _ _ r

/-- The codes are the same. -/
theorem res3_eq : Gen.k0_pay4 x g = FinalReferenceIdeal.Gen.k0_pay4 x g := by
  refine funext2 (n := 320) (d := 4096) fun r k => ?_
  unfold Gen.k0_pay4 FinalReferenceIdeal.Gen.k0_pay4
  refine (codes_at (n := 320) (d := 4096) (Gen.k0_pay1 x g) (Gen.k0_pay3 x g) _ _ r k).trans
    (Eq.trans ?_ (codes_at (n := 320) (d := 4096) (FinalReferenceIdeal.Gen.k0_pay1 x g) _ _ _ r k).symm)
  rw [kern_scale, ← norm_eq]
  exact congrArg (fun s => clipS (Ideal.div (Gen.k0_pay1 x g (ix2 r k)) s)) ((col_at (n := 320) (FinalReferenceIdeal.Gen.k0_pay2 x g) _ r).trans (ref_scale x g r)).symm

/-- The kernel's column of scales turned into a row. -/
theorem turned_at (r : Fin 320) : Gen.k0_pay5 x g (ix2 0 r) = Gen.k0_pay3 x g (ix2 r 0) := by
  pointwise [Gen.k0_pay5]

/-- The scales are the same. -/
theorem res4_eq : Gen.k0_pay5 x g = FinalReferenceIdeal.Gen.k0_pay5 x g := by
  refine funext2 (n := 1) (d := 320) fun q r => ?_
  obtain rfl : q = 0 := Subsingleton.elim _ _
  rw [turned_at, kern_scale]
  unfold FinalReferenceIdeal.Gen.k0_pay5
  exact ((row_at (n := 320) (FinalReferenceIdeal.Gen.k0_pay2 x g) _ r).trans (ref_scale x g r)).symm

end Cert.FinalIdeal.Norm

end
-- ==== Proof.AtBase.lean ====
module

public import proofs.«01_k».proof.Proof.Gen.AttnOutIdeal.Frame
public import proofs.«01_k».proof.Proof.Gen.AttnOutIdeal.Skeleton
public import Idealize.ShloMosaic.Lib.VecWindow

@[expose] public section

set_option maxRecDepth 16384

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the body runs share: the branch condition over the grid points, the buffers, the invariant's scratch -/

/-- The first column step. -/
abbrev condFirst (i : grid0.Coords) : Prop := k0_cond1 i = 1#1

theorem condFirst_iff : ∀ t : Fin cfg0.N, condFirst (grid0.coords t) ↔ t.val = 0 :=
  (by decide +kernel : ∀ t : Fin grid0.N, condFirst (grid0.coords t) ↔ t.val = 0)

/-- The scratch buffers: the attention's bf16 values, and the step's weight block in bf16. -/
abbrev scM0 : Memref sig .tc .vmem S320x1536 .bf16 := Memref.whole cc0_scratch0
abbrev scM1 : Memref sig .tc .vmem S1536x512 .bf16 := Memref.whole cc0_scratch1

/-- What the launch hands the region beside the windows: the two scratch buffers at some contents and the generator
register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Two puts of equal payloads over equal contents are equal. -/
theorem put_congr {α : Type} {s : Shape} {x x' : s.Idx → α} {off size : Fin s.rank → ℕ} {w w' : ((a : Fin s.rank) → Fin (size a)) → α}
    (hx : x = x') (hw : w = w') : VecWindow.put x off size w = VecWindow.put x' off size w' := by
  subst hx; subst hw; rfl

/-- The same with the windows at equal offsets. -/
theorem put_off {α : Type} {s : Shape} {x x' : s.Idx → α} {off off' size : Fin s.rank → ℕ} {w w' : ((b : Fin s.rank) → Fin (size b)) → α}
    (hx : x = x') (ho : off = off') (hw : w' = w) : VecWindow.put x off size w = VecWindow.put x' off' size w' := by
  subst hx ho hw; rfl

/-! ## Windows stored one after the other -/

section Chain
variable {α : Type} {s : Shape} (x : s.Idx → α) (off : ℕ → Fin s.rank → ℕ) (size : Fin s.rank → ℕ) (W : ℕ → ((a : Fin s.rank) → Fin (size a)) → α)

/-- The first `n` windows, of one size, stored over `x`. -/
def chain : ℕ → s.Idx → α
  | 0 => x
  | n + 1 => VecWindow.put (chain n) (off n) size (W n)

/-- If every window's payload is its part of `D`, the windows stored show `D` wherever one of them lies. -/
theorem chain_apply (D : s.Idx → α) (hD : ∀ n (y : s.Idx) (h : ∀ a, off n a ≤ (y a).val ∧ (y a).val < off n a + size a), W n (Rect.unitLocal (s := s) (off := off n) (size := size) y h) = D y)
    (y : s.Idx) : ∀ n, (∃ m, m < n ∧ ∀ a, off m a ≤ (y a).val ∧ (y a).val < off m a + size a) → chain x off size W n y = D y
  | 0, h => absurd h.choose_spec.1 (Nat.not_lt_zero _)
  | n + 1, h => by
    unfold chain VecWindow.put
    by_cases hn : ∀ a, off n a ≤ (y a).val ∧ (y a).val < off n a + size a
    · rw [dif_pos hn]; exact hD n y hn
    · rw [dif_neg hn]
      refine chain_apply D hD y n ?_
      obtain ⟨m, hm, hy⟩ := h
      refine ⟨m, ?_, hy⟩
      rcases Nat.lt_succ_iff_lt_or_eq.mp hm with h | h
      · exact h
      · subst h; exact absurd hy hn
end Chain

end Cert.AttnOutIdeal.At

end
-- ==== Proof.AtQuant.lean ====
module

public import proofs.«01_k».proof.Proof.AtBase

@[expose] public section

set_option maxRecDepth 65536

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's first region: at the first column step, the twelve quantised groups -/

/-- The twelve groups of columns of the attention rows, quantised, and their bf16 values. -/
noncomputable def quantProg (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole) :
    Prog (TpuEff nD τ sig (Elt F) Λ₀ .tc) PUnit := do
  let ⟨v795, v800, v835, v836⟩ : Σ' (v795 : Vec F S320x128 .f32) (v800 : FVec F S320x1 .f32) (v835 : FVec F S320x1 .f32), FVec F S320x1 .f32 ← k0_part1 i arg1 harg1 arg2 harg2 arg3 harg3 arg4 harg4 arg5 harg5 arg6 harg6 arg7 harg7 arg8 harg8 arg9 harg9
  let ⟨v874, v875⟩ : Σ' (v874 : Vec F S320x128 .f32), FVec F S320x128 .f32 ← k0_part2 i arg1 harg1 arg2 harg2 arg3 harg3 arg4 harg4 arg5 harg5 arg6 harg6 arg7 harg7 arg8 harg8 arg9 harg9 v795 v800 v835 v836
  let ⟨v879, v914, v917, v919⟩ : Σ' (v879 : FVec F S320x1 .f32) (v914 : FVec F S320x1 .f32) (v917 : IVec S320x1 1), FVec F S320x1 .f32 ← k0_part3 i arg1 harg1 arg2 harg2 arg3 harg3 arg4 harg4 arg5 harg5 arg6 harg6 arg7 harg7 arg8 harg8 arg9 harg9 v875
  let ⟨v953, v958⟩ : Σ' (v953 : Vec F S320x128 .f32), FVec F S320x1 .f32 ← k0_part4 i arg1 harg1 arg2 harg2 arg3 harg3 arg4 harg4 arg5 harg5 arg6 harg6 arg7 harg7 arg8 harg8 arg9 harg9 v874 v879 v914 v917 v919
  let ⟨v999, v1002⟩ : Σ' (v999 : FVec F S320x1 .f32), IVec S320x1 1 ← k0_part5 i arg1 harg1 arg2 harg2 arg3 harg3 arg4 harg4 arg5 harg5 arg6 harg6 arg7 harg7 arg8 harg8 arg9 harg9 v958
  let ⟨v1032, v1037, v1039, cst_485, cst_486⟩ : Σ' (v1032 : Vec F S320x128 .f32) (v1037 : FVec F S320x1 .f32) (v1039 : IVec S320x1 1) (cst_485 : F .f32), F .f32 ← k0_part6 i arg1 harg1 arg2 harg2 arg3 harg3 arg4 harg4 arg5 harg5 arg6 harg6 arg7 harg7 arg8 harg8 arg9 harg9 v953 v958 v999 v1002
  let ⟨v1084, cst_501⟩ : Σ' (v1084 : FVec F S320x1 .f32), F .f32 ← k0_part7 i arg1 harg1 arg2 harg2 arg3 harg3 arg4 harg4 arg5 harg5 arg6 harg6 arg7 harg7 arg8 harg8 arg9 harg9 v1037 v1039 cst_485 cst_486
  let ⟨v1111, v1116, v1121, v1122⟩ : Σ' (v1111 : Vec F S320x128 .f32) (v1116 : FVec F S320x1 .f32) (v1121 : FVec F S320x1 .f32), FVec F S320x1 .f32 ← k0_part8 i arg1 harg1 arg2 harg2 arg3 harg3 arg4 harg4 arg5 harg5 arg6 harg6 arg7 harg7 arg8 harg8 arg9 harg9 v1032 v1037 v1084 cst_501
  let ⟨v1163, v1166, v1167⟩ : Σ' (v1163 : FVec F S320x1 .f32) (v1166 : IVec S320x1 1), FVec F S320x1 .f32 ← k0_part9 i arg1 harg1 arg2 harg2 arg3 harg3 arg4 harg4 arg5 harg5 arg6 harg6 arg7 harg7 arg8 harg8 arg9 harg9 v1116 v1121 v1122
  let ⟨v1190, v1195, v1200, v1203, v1205⟩ : Σ' (v1190 : Vec F S320x128 .f32) (v1195 : FVec F S320x1 .f32) (v1200 : FVec F S320x1 .f32) (v1203 : IVec S320x1 1), FVec F S320x1 .f32 ← k0_part10 i arg1 harg1 arg2 harg2 arg3 harg3 arg4 harg4 arg5 harg5 arg6 harg6 arg7 harg7 arg8 harg8 arg9 harg9 v1111 v1163 v1166 v1167
  let ⟨v1248, v1250⟩ : Σ' (v1248 : FVec F S320x1 .f32), FVec F S320x1 .f32 ← k0_part11 i arg1 harg1 arg2 harg2 arg3 harg3 arg4 harg4 arg5 harg5 arg6 harg6 arg7 harg7 arg8 harg8 arg9 harg9 v1195 v1200 v1203 v1205
  let ⟨v1269, v1274, v1285, v1288⟩ : Σ' (v1269 : Vec F S320x128 .f32) (v1274 : FVec F S320x1 .f32) (v1285 : FVec F S320x1 .f32), IVec S320x1 1 ← k0_part12 i arg1 harg1 arg2 harg2 arg3 harg3 arg4 harg4 arg5 harg5 arg6 harg6 arg7 harg7 arg8 harg8 arg9 harg9 v1190 v1248 v1250
  let ⟨v1329, v1333⟩ : Σ' (v1329 : FVec F S320x1 .f32), FVec F S320x128 .f32 ← k0_part13 i arg1 harg1 arg2 harg2 arg3 harg3 arg4 harg4 arg5 harg5 arg6 harg6 arg7 harg7 arg8 harg8 arg9 harg9 v1269 v1274 v1285 v1288
  let ⟨v1348, v1353, v1370, cst_623⟩ : Σ' (v1348 : Vec F S320x128 .f32) (v1353 : FVec F S320x1 .f32) (v1370 : FVec F S320x1 .f32), F .f32 ← k0_part14 i arg1 harg1 arg2 harg2 arg3 harg3 arg4 harg4 arg5 harg5 arg6 harg6 arg7 harg7 arg8 harg8 arg9 harg9 v1329 v1333
  let ⟨v1408, v1414, v1415⟩ : Σ' (v1408 : FVec F S320x1 .f32) (v1414 : FVec F S320x128 .f32), FVec F S320x128 .f32 ← k0_part15 i arg1 harg1 arg2 harg2 arg3 harg3 arg4 harg4 arg5 harg5 arg6 harg6 arg7 harg7 arg8 harg8 arg9 harg9 v1348 v1353 v1370 cst_623
  let ⟨v1427, v1432, v1449, v1452, v1453⟩ : Σ' (v1427 : Vec F S320x128 .f32) (v1432 : FVec F S320x1 .f32) (v1449 : FVec F S320x1 .f32) (v1452 : IVec S320x1 1), FVec F S320x1 .f32 ← k0_part16 i arg1 harg1 arg2 harg2 arg3 harg3 arg4 harg4 arg5 harg5 arg6 harg6 arg7 harg7 arg8 harg8 arg9 harg9 v1408 v1414 v1415
  let ⟨v1487, v1496⟩ : Σ' (v1487 : FVec F S320x1 .f32), FVec F S320x128 .fp8e4m3 ← k0_part17 i arg1 harg1 arg2 harg2 arg3 harg3 arg4 harg4 arg5 harg5 arg6 harg6 arg7 harg7 arg8 harg8 arg9 harg9 v1427 v1432 v1449 v1452 v1453
  let ⟨v1506, v1511, v1534, v1536⟩ : Σ' (v1506 : Vec F S320x128 .f32) (v1511 : FVec F S320x1 .f32) (v1534 : FVec F S320x1 .f32), FVec F S320x1 .f32 ← k0_part18 i arg1 harg1 arg2 harg2 arg3 harg3 arg4 harg4 arg5 harg5 arg6 harg6 arg7 harg7 arg8 harg8 arg9 harg9 v1487 v1496
  let ⟨v1566, v1575⟩ : Σ' (v1566 : FVec F S320x1 .f32), FVec F S320x128 .fp8e4m3 ← k0_part19 i arg1 harg1 arg2 harg2 arg3 harg3 arg4 harg4 arg5 harg5 arg6 harg6 arg7 harg7 arg8 harg8 arg9 harg9 v1506 v1511 v1534 v1536
  let ⟨v1585, v1590, v1619⟩ : Σ' (v1585 : Vec F S320x128 .f32) (v1590 : FVec F S320x1 .f32), FVec F S320x1 .f32 ← k0_part20 i arg1 harg1 arg2 harg2 arg3 harg3 arg4 harg4 arg5 harg5 arg6 harg6 arg7 harg7 arg8 harg8 arg9 harg9 v1566 v1575
  let v1660 : FVec F S320x128 .bf16 ← k0_part21 i arg1 harg1 arg2 harg2 arg3 harg3 arg4 harg4 arg5 harg5 arg6 harg6 arg7 harg7 arg8 harg8 arg9 harg9 v1585 v1590 v1619
  let ⟨v1664, v1669, v1698, v1701, cst_760⟩ : Σ' (v1664 : Vec F S320x128 .f32) (v1669 : FVec F S320x1 .f32) (v1698 : FVec F S320x1 .f32) (v1701 : IVec S320x1 1), F .f32 ← k0_part22 i arg1 harg1 arg2 harg2 arg3 harg3 arg4 harg4 arg5 harg5 arg6 harg6 arg7 harg7 arg8 harg8 arg9 harg9 v1660
  k0_part23 i arg1 harg1 arg2 harg2 arg3 harg3 arg4 harg4 arg5 harg5 arg6 harg6 arg7 harg7 arg8 harg8 arg9 harg9 v1664 v1669 v1698 v1701 cst_760
  pure ⟨⟩

/-! ## One group's values -/

/-- A group's magnitudes over the format's range: the row maximum over 448. -/
noncomputable def magOf (x : Vec F S320x128 .f32) : FVec F S320x1 .f32 := k0_pay1 x

/-- One rung of the ladder: the next power of two, if it is not above `y`. -/
noncomputable def rung (z : BitVec 32) (y p : FVec F S320x1 .f32) : FVec F S320x1 .f32 :=
  select (cmpf .oge y (mulf p (broadcast S320x1 (Scalar.ofBits .f32 z)))) (mulf p (broadcast S320x1 (Scalar.ofBits .f32 z))) p

/-- The first rung. -/
noncomputable def rung0 (y : FVec F S320x1 .f32) : FVec F S320x1 .f32 :=
  select (cmpf .olt y (broadcast S320x1 (Scalar.ofBits .f32 0x00800000#32))) (broadcast S320x1 (Scalar.ofBits .f32 0x3F000000#32)) (broadcast S320x1 (Scalar.ofBits .f32 0x00800000#32))

/-- The power of two not above `y`. -/
noncomputable def powOf (y : FVec F S320x1 .f32) : FVec F S320x1 .f32 :=
  rung 0x40000000#32 y (rung 0x40800000#32 y (rung 0x41800000#32 y (rung 0x43800000#32 y (rung 0x47800000#32 y (rung 0x4F800000#32 y (rung 0x5F800000#32 y (rung 0x7E800000#32 y (rung0 y))))))))

/-- A group's scales. -/
noncomputable def scaleOf (x : Vec F S320x128 .f32) : FVec F S320x1 .f32 :=
  mulf (broadcast S320x1 (Scalar.ofBits .f32 0x40000000#32)) (powOf (magOf x))

/-- A group's codes: the values times the inverse scale, clipped to the format's range, cast. -/
noncomputable def codesOf (x : Vec F S320x128 .f32) : FVec F S320x128 .fp8e4m3 :=
  truncf .fp8e4m3 (minimumf (broadcast S320x128 (Scalar.ofBits .f32 0x43E00000#32)) (maximumf (broadcast S320x128 (Scalar.ofBits .f32 0xC3E00000#32))
    (mulf x (broadcastTo S320x128 (divf (broadcast S320x1 (Scalar.ofBits .f32 0x3F000000#32)) (powOf (magOf x))) broadcasts_S320x1_S320x128)))) bitsLt_fp8e4m3_f32

/-- A group's bf16 values: the codes times the scales. -/
noncomputable def bfOf (x : Vec F S320x128 .f32) : FVec F S320x128 .bf16 :=
  shapeCast S320x128 (mulf (extf .bf16 (codesOf x) bitsLt_fp8e4m3_bf16) (broadcastTo S320x128 (truncf .bf16 (scaleOf x) bitsLt_bf16_f32) broadcasts_S320x1_S320x128)) shapeCasts_S320x128_S320x128

def gOff (n : ℕ) : Fin 2 → ℕ := ![0, 128 * (n % 12)]
def lOff (n : ℕ) : Fin 2 → ℕ := ![0, n % 12]

theorem gIn (n : ℕ) : ∀ a : Fin S320x1536.rank, gOff n a + S320x128.size a ≤ S320x1536.size a := by
  have h0 : 0 + 320 ≤ 320 := by omega
  have h1 : 128 * (n % 12) + 128 ≤ 1536 := by omega
  intro a; match a with
  | 0 => exact h0
  | 1 => exact h1

/-- Group `n` of the attention rows. -/
noncomputable def grp (xa : Vec F S320x1536 .f32) (n : ℕ) : Vec F S320x128 .f32 := VecWindow.window xa (gOff n) S320x128.size (gIn n)

/-- The three buffers after the twelve groups. -/
noncomputable def codesAfter (xa : Vec F S320x1536 .f32) (y : Vec F S320x1536 .fp8e4m3) : Vec F S320x1536 .fp8e4m3 :=
  chain (s := S320x1536) y gOff S320x128.size (fun n => codesOf (grp xa n)) 12
noncomputable def scalesAfter (xa : Vec F S320x1536 .f32) (y : Vec F S320x12 .f32) : Vec F S320x12 .f32 :=
  chain (s := S320x12) y lOff S320x1.size (fun n => scaleOf (grp xa n)) 12
noncomputable def bfAfter (xa : Vec F S320x1536 .f32) (y : Vec F S320x1536 .bf16) : Vec F S320x1536 .bf16 :=
  chain (s := S320x1536) y gOff S320x128.size (fun n => bfOf (grp xa n)) 12

set_option maxHeartbeats 8000000 in
theorem quant_run (c : Dev nD) (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole)
    (xa : Vec F S320x1536 .f32) (y5 : Vec F S320x1536 .fp8e4m3) (y6 : Vec F S320x12 .f32) (y8 : Vec F S320x1536 .bf16) (E : Set ℕ) (K : PUnit → sProp 𝕄) :
    iprop(owns (c : Thread nD τ) arg1 fullShare xa ∗ owns (c : Thread nD τ) arg5 fullShare y5 ∗ owns (c : Thread nD τ) arg6 fullShare y6 ∗ owns (c : Thread nD τ) arg8 fullShare y8
        ∗ (iprop(owns (c : Thread nD τ) arg1 fullShare xa ∗ owns (c : Thread nD τ) arg5 fullShare (codesAfter xa y5) ∗ owns (c : Thread nD τ) arg6 fullShare (scalesAfter xa y6) ∗ owns (c : Thread nD τ) arg8 fullShare (bfAfter xa y8)) -∗ K ⟨⟩))
      ⊢ wp frame (wpE (defs₀ (F := F)) Variants.none c none) E (quantProg i arg1 harg1 arg2 harg2 arg3 harg3 arg4 harg4 arg5 harg5 arg6 harg6 arg7 harg7 arg8 harg8 arg9 harg9) K := by
  unfold quantProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f1, %hf1, H1⟩, ⟨%f5, %hf5, H5⟩, ⟨%f6, %hf6, H6⟩, ⟨%f8, %hf8, H8⟩, Hk⟩
  obtain rfl := harg1.eq_unread hf1; obtain rfl := harg5.eq_unread hf5; obtain rfl := harg6.eq_unread hf6; obtain rfl := harg8.eq_unread hf8
  sl_exec
  sl_step
  have ea : ∀ n : ℕ, View.readAt (Elt F) arg1.view (Rect.unit (s := S320x1536) (gOff n) S320x128.size (gIn n)).toLoadRect (harg1.unread xa) = grp xa n := fun n => by
    rw [View.readAt_unit _ _ _ rfl (gIn n), hf1]; rfl
  have eb := fun n => (ea n).symm
  iapply Hk
  isplitl [H1]
  · iexists _; isplitr; · ipureintro; exact harg1.read_unread _
    iexact H1
  isplitl [H5]
  · iexists _; isplitr; swap; · iexact H5
    ipureintro
    repeat rw [View.read_writes_cons_put _ _ _ _ _ rfl]
    rw [View.writes_nil, hf5]
    unfold codesAfter
    simp only [chain]
    iterate 12 refine put_off ?_ rfl (congrArg codesOf (eb _))
    rfl
  isplitl [H6]
  · iexists _; isplitr; swap; · iexact H6
    ipureintro
    repeat rw [View.read_writes_cons_put _ _ _ _ _ rfl]
    rw [View.writes_nil, hf6]
    unfold scalesAfter
    simp only [chain]
    iterate 12 refine put_off ?_ rfl (congrArg scaleOf (eb _))
    rfl
  iexists _; isplitr; swap; · iexact H8
  ipureintro
  repeat rw [View.read_writes_cons_put _ _ _ _ _ rfl]
  rw [View.writes_nil, hf8]
  unfold bfAfter
  simp only [chain]
  iterate 12 refine put_off ?_ rfl (congrArg bfOf (eb _))
  rfl

end Cert.AttnOutIdeal.At

end
-- ==== Proof.AtDeq.lean ====
module

public import proofs.«01_k».proof.Proof.AtBase

@[expose] public section

set_option maxRecDepth 65536

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's second region: the weight block's forty-eight tiles, given their values -/

/-- The forty-eight tiles of the step's weight block, given their values. -/
noncomputable def deqProg (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole) :
    Prog (TpuEff nD τ sig (Elt F) Λ₀ .tc) PUnit := do
  let v3 : BitVec 32 := Scalar.muli (BitVec.ofNat 32 (i 0).val) 4#32
  let c2_i32 : BitVec 32 := 2#32
  let v6 : Elt F .i32 ← smemLoad arg4 (Rect.unit (s := S1x12x32) (k0_off1 i 0#32) S1x1x1.size (k0_off1_inb i 0)) numel1_S1x1x1 rfl
  let v9 : Vec F S1x128x128 .fp8e4m3 ← Prog.lift (.load arg3 (Rect.unit (s := S1x1536x512) ![0, 0, 0] S1x128x128.size inb_S1x1536x512_S1x128x128_0_0_0).toLoadRect (View.loadsAt_vmem h_S1x128x128))
  let v17 : Vec F S128x128 .bf16 ← Prog.lift (.load arg9 (Rect.unit (s := S1536x512) ![0, 0] S128x128.size inb_S1536x512_S128x128_0_0).toLoadRect (View.loadsAt_vmem h_S128x128))
  Prog.lift (.store arg9 (Rect.unit (s := S1536x512) ![0, 0] S128x128.size inb_S1536x512_S128x128_0_0) (k0_pay94 v6 v9) Finset.univ (View.stores_vmem h_S128x128 (harg9.storeExact_slice rfl _ packedbf16_S1536x512_S128x128_0_0) (fun _ => rfl)) (.inl rfl))
  let v22 : Elt F .i32 ← smemLoad arg4 (Rect.unit (s := S1x12x32) (k0_off1 i 1#32) S1x1x1.size (k0_off1_inb i 1)) numel1_S1x1x1 rfl
  let v25 : Vec F S1x128x128 .fp8e4m3 ← Prog.lift (.load arg3 (Rect.unit (s := S1x1536x512) ![0, 0, 128] S1x128x128.size inb_S1x1536x512_S1x128x128_0_0_128).toLoadRect (View.loadsAt_vmem h_S1x128x128))
  let v33 : Vec F S128x128 .bf16 ← Prog.lift (.load arg9 (Rect.unit (s := S1536x512) ![0, 128] S128x128.size inb_S1536x512_S128x128_0_128).toLoadRect (View.loadsAt_vmem h_S128x128))
  Prog.lift (.store arg9 (Rect.unit (s := S1536x512) ![0, 128] S128x128.size inb_S1536x512_S128x128_0_128) (k0_pay95 v22 v25) Finset.univ (View.stores_vmem h_S128x128 (harg9.storeExact_slice rfl _ packedbf16_S1536x512_S128x128_0_128) (fun _ => rfl)) (.inl rfl))
  let v72 : FVec F S16x128 .bf16 ← k0_part25 i arg1 harg1 arg2 harg2 arg3 harg3 arg4 harg4 arg5 harg5 arg6 harg6 arg7 harg7 arg8 harg8 arg9 harg9 v3 c2_i32
  let v112 : FVec F S128x128 .bf16 ← k0_part26 i arg1 harg1 arg2 harg2 arg3 harg3 arg4 harg4 arg5 harg5 arg6 harg6 arg7 harg7 arg8 harg8 arg9 harg9 v3 v72
  let v150 : Elt F .i32 ← k0_part27 i arg1 harg1 arg2 harg2 arg3 harg3 arg4 harg4 arg5 harg5 arg6 harg6 arg7 harg7 arg8 harg8 arg9 harg9 v3 v112
  let ⟨v188, v189⟩ : Σ' (v188 : FVec F S8x16x128 .bf16), FVec F S1x16x128 .bf16 ← k0_part28 i arg1 harg1 arg2 harg2 arg3 harg3 arg4 harg4 arg5 harg5 arg6 harg6 arg7 harg7 arg8 harg8 arg9 harg9 v3 v150
  let c2_i32_103 : BitVec 32 ← k0_part29 i arg1 harg1 arg2 harg2 arg3 harg3 arg4 harg4 arg5 harg5 arg6 harg6 arg7 harg7 arg8 harg8 arg9 harg9 v3 v188 v189
  let v264 : FVec F S16x128 .bf16 ← k0_part30 i arg1 harg1 arg2 harg2 arg3 harg3 arg4 harg4 arg5 harg5 arg6 harg6 arg7 harg7 arg8 harg8 arg9 harg9 v3 c2_i32_103
  let v304 : FVec F S128x128 .bf16 ← k0_part31 i arg1 harg1 arg2 harg2 arg3 harg3 arg4 harg4 arg5 harg5 arg6 harg6 arg7 harg7 arg8 harg8 arg9 harg9 v3 v264
  let v342 : Elt F .i32 ← k0_part32 i arg1 harg1 arg2 harg2 arg3 harg3 arg4 harg4 arg5 harg5 arg6 harg6 arg7 harg7 arg8 harg8 arg9 harg9 v3 v304
  let ⟨v380, v381⟩ : Σ' (v380 : FVec F S8x16x128 .bf16), FVec F S1x16x128 .bf16 ← k0_part33 i arg1 harg1 arg2 harg2 arg3 harg3 arg4 harg4 arg5 harg5 arg6 harg6 arg7 harg7 arg8 harg8 arg9 harg9 v3 v342
  let c2_i32_193 : BitVec 32 ← k0_part34 i arg1 harg1 arg2 harg2 arg3 harg3 arg4 harg4 arg5 harg5 arg6 harg6 arg7 harg7 arg8 harg8 arg9 harg9 v3 v380 v381
  let v456 : FVec F S16x128 .bf16 ← k0_part35 i arg1 harg1 arg2 harg2 arg3 harg3 arg4 harg4 arg5 harg5 arg6 harg6 arg7 harg7 arg8 harg8 arg9 harg9 v3 c2_i32_193
  let v496 : FVec F S128x128 .bf16 ← k0_part36 i arg1 harg1 arg2 harg2 arg3 harg3 arg4 harg4 arg5 harg5 arg6 harg6 arg7 harg7 arg8 harg8 arg9 harg9 v3 v456
  let v534 : Elt F .i32 ← k0_part37 i arg1 harg1 arg2 harg2 arg3 harg3 arg4 harg4 arg5 harg5 arg6 harg6 arg7 harg7 arg8 harg8 arg9 harg9 v3 v496
  let ⟨v572, v573⟩ : Σ' (v572 : FVec F S8x16x128 .bf16), FVec F S1x16x128 .bf16 ← k0_part38 i arg1 harg1 arg2 harg2 arg3 harg3 arg4 harg4 arg5 harg5 arg6 harg6 arg7 harg7 arg8 harg8 arg9 harg9 v3 v534
  let c2_i32_283 : BitVec 32 ← k0_part39 i arg1 harg1 arg2 harg2 arg3 harg3 arg4 harg4 arg5 harg5 arg6 harg6 arg7 harg7 arg8 harg8 arg9 harg9 v3 v572 v573
  let v648 : FVec F S16x128 .bf16 ← k0_part40 i arg1 harg1 arg2 harg2 arg3 harg3 arg4 harg4 arg5 harg5 arg6 harg6 arg7 harg7 arg8 harg8 arg9 harg9 v3 c2_i32_283
  let v688 : FVec F S128x128 .bf16 ← k0_part41 i arg1 harg1 arg2 harg2 arg3 harg3 arg4 harg4 arg5 harg5 arg6 harg6 arg7 harg7 arg8 harg8 arg9 harg9 v3 v648
  let v726 : Elt F .i32 ← k0_part42 i arg1 harg1 arg2 harg2 arg3 harg3 arg4 harg4 arg5 harg5 arg6 harg6 arg7 harg7 arg8 harg8 arg9 harg9 v3 v688
  let ⟨v764, v765⟩ : Σ' (v764 : FVec F S8x16x128 .bf16), FVec F S1x16x128 .bf16 ← k0_part43 i arg1 harg1 arg2 harg2 arg3 harg3 arg4 harg4 arg5 harg5 arg6 harg6 arg7 harg7 arg8 harg8 arg9 harg9 v3 v726
  let v769 : Vec F S128x128 .bf16 ← Prog.lift (.load arg9 (Rect.unit (s := S1536x512) ![1408, 384] S128x128.size inb_S1536x512_S128x128_1408_384).toLoadRect (View.loadsAt_vmem h_S128x128))
  Prog.lift (.store arg9 (Rect.unit (s := S1536x512) ![1408, 384] S128x128.size inb_S1536x512_S128x128_1408_384) (k0_pay157 v764 v765) Finset.univ (View.stores_vmem h_S128x128 (harg9.storeExact_slice rfl _ packedbf16_S1536x512_S128x128_1408_384) (fun _ => rfl)) (.inl rfl))
  pure ⟨⟩

/-! ## The tiles' values -/

/-- The tiles in order, four to a row of tiles. -/
def tOff (n : ℕ) : Fin 2 → ℕ := ![128 * (n % 48 / 4), 128 * (n % 4)]
def wOff (n : ℕ) : Fin 3 → ℕ := ![0, 128 * (n % 48 / 4), 128 * (n % 4)]
/-- The scale word of a tile: its row of tiles, and its column among the step's four. -/
def sOff (i : grid0.Coords) (n : ℕ) : Fin 3 → ℕ := ![0, n % 48 / 4, (Scalar.addi (Scalar.muli (BitVec.ofNat 32 (i 0).val) 4#32) (BitVec.ofNat 32 (n % 4))).toNat]

theorem wIn (n : ℕ) : ∀ a : Fin S1x1536x512.rank, wOff n a + S1x128x128.size a ≤ S1x1536x512.size a := by
  have h0 : 0 + 1 ≤ 1 := by omega
  have h1 : 128 * (n % 48 / 4) + 128 ≤ 1536 := by omega
  have h2 : 128 * (n % 4) + 128 ≤ 512 := by omega
  intro a; match a with
  | 0 => exact h0
  | 1 => exact h1
  | 2 => exact h2

theorem sWord (i : grid0.Coords) (n : ℕ) : (Scalar.addi (Scalar.muli (BitVec.ofNat 32 (i 0).val) 4#32) (BitVec.ofNat 32 (n % 4))).toNat = 4 * (i 0).val + n % 4 :=
  (by decide +kernel : ∀ (j : Fin 8) (k : Fin 4), (Scalar.addi (Scalar.muli (BitVec.ofNat 32 j.val) 4#32) (BitVec.ofNat 32 k.val)).toNat = 4 * j.val + k.val) (i 0) ⟨n % 4, by omega⟩

theorem sIn (i : grid0.Coords) (n : ℕ) : ∀ a : Fin S1x12x32.rank, sOff i n a + S1x1x1.size a ≤ S1x12x32.size a := by
  have hi : (i 0).val < 8 := (i 0).isLt
  have h0 : 0 + 1 ≤ 1 := by omega
  have h1 : n % 48 / 4 + 1 ≤ 12 := by omega
  have h2 : (Scalar.addi (Scalar.muli (BitVec.ofNat 32 (i 0).val) 4#32) (BitVec.ofNat 32 (n % 4))).toNat + 1 ≤ 32 := by rw [sWord]; omega
  intro a; match a with
  | 0 => exact h0
  | 1 => exact h1
  | 2 => exact h2

/-- A tile's values: its codes, each row of sixteen times the scale word's two halves by turns. -/
noncomputable def tileOf (s : Elt F .i32) (w : Vec F S1x128x128 .fp8e4m3) : FVec F S128x128 .bf16 := k0_pay94 s w

theorem tileOf_congr {s s' : Elt F .i32} {w w' : Vec F S1x128x128 .fp8e4m3} (h : s = s') (h' : w = w') : tileOf s w = tileOf s' w' := by
  subst h h'; rfl

/-- Tile `n` of the step's weight block. -/
noncomputable def tileN (i : grid0.Coords) (xw : Vec F S1x1536x512 .fp8e4m3) (xs : Vec F S1x12x32 .i32) (n : ℕ) : FVec F S128x128 .bf16 :=
  tileOf (VecWindow.window xs (sOff i n) S1x1x1.size (sIn i n) (Shape.Idx.first (numel1_S1x1x1.symm ▸ Nat.one_pos)))
    (VecWindow.window xw (wOff n) S1x128x128.size (wIn n))

/-- The scratch block after the forty-eight stores. -/
noncomputable def wAfter (i : grid0.Coords) (xw : Vec F S1x1536x512 .fp8e4m3) (xs : Vec F S1x12x32 .i32) (y : Vec F S1536x512 .bf16) : Vec F S1536x512 .bf16 :=
  chain (s := S1536x512) y tOff S128x128.size (tileN i xw xs) 48

set_option maxHeartbeats 8000000 in
theorem deq_run (c : Dev nD) (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole)
    (xw : Vec F S1x1536x512 .fp8e4m3) (xs : Vec F S1x12x32 .i32) (y : Vec F S1536x512 .bf16) (E : Set ℕ) (K : PUnit → sProp 𝕄) :
    iprop(owns (c : Thread nD τ) arg3 fullShare xw ∗ owns (c : Thread nD τ) arg4 fullShare xs ∗ owns (c : Thread nD τ) arg9 fullShare y
        ∗ (iprop(owns (c : Thread nD τ) arg3 fullShare xw ∗ owns (c : Thread nD τ) arg4 fullShare xs ∗ owns (c : Thread nD τ) arg9 fullShare (wAfter i xw xs y)) -∗ K ⟨⟩))
      ⊢ wp frame (wpE (defs₀ (F := F)) Variants.none c none) E (deqProg i arg1 harg1 arg2 harg2 arg3 harg3 arg4 harg4 arg5 harg5 arg6 harg6 arg7 harg7 arg8 harg8 arg9 harg9) K := by
  unfold deqProg
  simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f3, %hf3, H3⟩, ⟨%f4, %hf4, H4⟩, ⟨%f9, %hf9, H9⟩, Hk⟩
  obtain rfl := harg3.eq_unread hf3; obtain rfl := harg4.eq_unread hf4; obtain rfl := harg9.eq_unread hf9
  sl_exec
  sl_step
  have ew : ∀ n : ℕ, View.readAt (Elt F) arg3.view (Rect.unit (s := S1x1536x512) (wOff n) S1x128x128.size (wIn n)).toLoadRect (harg3.unread xw) = VecWindow.window xw (wOff n) S1x128x128.size (wIn n) := fun n => by
    rw [View.readAt_unit _ _ _ rfl (wIn n), hf3]
  have es : ∀ n : ℕ, View.readAt (Elt F) arg4.view (Rect.unit (s := S1x12x32) (sOff i n) S1x1x1.size (sIn i n)).toLoadRect (harg4.unread xs) = VecWindow.window xs (sOff i n) S1x1x1.size (sIn i n) := fun n => by
    rw [View.readAt_unit _ _ _ rfl (sIn i n), hf4]
  have et : ∀ n : ℕ, tileN i xw xs n = _ := fun n => (tileOf_congr (congrFun (es n) _) (ew n)).symm
  iapply Hk
  isplitl [H3]
  · iexists _; isplitr; · ipureintro; exact harg3.read_unread _
    iexact H3
  isplitl [H4]
  · iexists _; isplitr; · ipureintro; exact harg4.read_unread _
    iexact H4
  iexists _; isplitr; swap; · iexact H9
  ipureintro
  repeat rw [View.read_writes_cons_put _ _ _ _ _ rfl]
  rw [View.writes_nil, hf9]
  unfold wAfter
  simp only [chain]
  iterate 48 refine put_off ?_ rfl (et _)
  rfl

end Cert.AttnOutIdeal.At

end
-- ==== Proof.AtTail.lean ====
module

public import proofs.«01_k».proof.Proof.AtQuant
public import proofs.«01_k».proof.Proof.AtDeq

@[expose] public section

set_option maxRecDepth 65536

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body's last region: the product of the step and the residual row -/

/-- The product against the step's weight block, and the residual row added to each of its five bands. -/
noncomputable def tailProg (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole) :
    Prog (TpuEff nD τ sig (Elt F) Λ₀ .tc) PUnit := do
  let v772 : Vec F S320x1536 .bf16 ← Prog.lift (.load arg8 (Rect.unit (s := S320x1536) ![0, 0] S320x1536.size inb_S320x1536_S320x1536_0_0).toLoadRect (View.loadsAt_vmem h_S320x1536))
  let v773 : Vec F S1536x512 .bf16 ← Prog.lift (.load arg9 (Rect.unit (s := S1536x512) ![0, 0] S1536x512.size inb_S1536x512_S1536x512_0_0).toLoadRect (View.loadsAt_vmem h_S1536x512))
  let v775 : Vec F S64x512 .f32 ← Prog.lift (.load arg2 (Rect.unit (s := S64x512) ![0, 0] S64x512.size inb_S64x512_S64x512_0_0).toLoadRect (View.loadsAt_vmem h_S64x512))
  let v778 : Vec F S64x512 .f32 ← Prog.lift (.load arg7 (Rect.unit (s := S320x512) ![0, 0] S64x512.size inb_S320x512_S64x512_0_0).toLoadRect (View.loadsAt_vmem h_S64x512))
  Prog.lift (.store arg7 (Rect.unit (s := S320x512) ![0, 0] S64x512.size inb_S320x512_S64x512_0_0) (k0_pay159 v772 v773 v775) Finset.univ (View.stores_vmem_bits_univ h_S64x512 rfl) (.inl rfl))
  let v779 : Vec F S64x512 .f32 ← Prog.lift (.load arg2 (Rect.unit (s := S64x512) ![0, 0] S64x512.size inb_S64x512_S64x512_0_0).toLoadRect (View.loadsAt_vmem h_S64x512))
  let v782 : Vec F S64x512 .f32 ← Prog.lift (.load arg7 (Rect.unit (s := S320x512) ![64, 0] S64x512.size inb_S320x512_S64x512_64_0).toLoadRect (View.loadsAt_vmem h_S64x512))
  Prog.lift (.store arg7 (Rect.unit (s := S320x512) ![64, 0] S64x512.size inb_S320x512_S64x512_64_0) (k0_pay160 v772 v773 v779) Finset.univ (View.stores_vmem_bits_univ h_S64x512 rfl) (.inl rfl))
  let v783 : Vec F S64x512 .f32 ← Prog.lift (.load arg2 (Rect.unit (s := S64x512) ![0, 0] S64x512.size inb_S64x512_S64x512_0_0).toLoadRect (View.loadsAt_vmem h_S64x512))
  let v786 : Vec F S64x512 .f32 ← Prog.lift (.load arg7 (Rect.unit (s := S320x512) ![128, 0] S64x512.size inb_S320x512_S64x512_128_0).toLoadRect (View.loadsAt_vmem h_S64x512))
  Prog.lift (.store arg7 (Rect.unit (s := S320x512) ![128, 0] S64x512.size inb_S320x512_S64x512_128_0) (k0_pay161 v772 v773 v783) Finset.univ (View.stores_vmem_bits_univ h_S64x512 rfl) (.inl rfl))
  let v787 : Vec F S64x512 .f32 ← Prog.lift (.load arg2 (Rect.unit (s := S64x512) ![0, 0] S64x512.size inb_S64x512_S64x512_0_0).toLoadRect (View.loadsAt_vmem h_S64x512))
  let v790 : Vec F S64x512 .f32 ← Prog.lift (.load arg7 (Rect.unit (s := S320x512) ![192, 0] S64x512.size inb_S320x512_S64x512_192_0).toLoadRect (View.loadsAt_vmem h_S64x512))
  Prog.lift (.store arg7 (Rect.unit (s := S320x512) ![192, 0] S64x512.size inb_S320x512_S64x512_192_0) (k0_pay162 v772 v773 v787) Finset.univ (View.stores_vmem_bits_univ h_S64x512 rfl) (.inl rfl))
  let v791 : Vec F S64x512 .f32 ← Prog.lift (.load arg2 (Rect.unit (s := S64x512) ![0, 0] S64x512.size inb_S64x512_S64x512_0_0).toLoadRect (View.loadsAt_vmem h_S64x512))
  let v794 : Vec F S64x512 .f32 ← Prog.lift (.load arg7 (Rect.unit (s := S320x512) ![256, 0] S64x512.size inb_S320x512_S64x512_256_0).toLoadRect (View.loadsAt_vmem h_S64x512))
  Prog.lift (.store arg7 (Rect.unit (s := S320x512) ![256, 0] S64x512.size inb_S320x512_S64x512_256_0) (k0_pay163 v772 v773 v791) Finset.univ (View.stores_vmem_bits_univ h_S64x512 rfl) (.inl rfl))
  pure ⟨⟩

def bOff (n : ℕ) : Fin 2 → ℕ := ![64 * (n % 5), 0]

theorem bSlices (n : ℕ) : S320x512.Slices (bOff n) S64x512 :=
  (by decide : ∀ g : Fin 5, S320x512.Slices ![64 * g.val, 0] S64x512) ⟨n % 5, by omega⟩

/-- The product of the step: the attention's bf16 values against the weight block. -/
noncomputable def prodOf (xb : Vec F S320x1536 .bf16) (w : Vec F S1536x512 .bf16) : FVec F S320x512 .f32 := k0_pay158 xb w

/-- Band `n` of the output: the residual row and the product's band. -/
noncomputable def bandOf (xr : Vec F S64x512 .f32) (p : FVec F S320x512 .f32) (n : ℕ) : FVec F S64x512 .f32 :=
  addf xr (extractStridedSlice S64x512 (bOff n) p (bSlices n))

theorem bandOf_congr {xr xr' : Vec F S64x512 .f32} {p p' : FVec F S320x512 .f32} (h : xr = xr') (h' : p = p') (n : ℕ) : bandOf xr p n = bandOf xr' p' n := by
  subst h h'; rfl

/-- The output block after the five bands' stores. -/
noncomputable def outAfter (xr : Vec F S64x512 .f32) (xb : Vec F S320x1536 .bf16) (w : Vec F S1536x512 .bf16) (y : Vec F S320x512 .f32) : Vec F S320x512 .f32 :=
  chain (s := S320x512) y bOff S64x512.size (bandOf xr (prodOf xb w)) 5

set_option maxHeartbeats 4000000 in
theorem tail_run (c : Dev nD) (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole)
    (xr : Vec F S64x512 .f32) (xb : Vec F S320x1536 .bf16) (w : Vec F S1536x512 .bf16) (y : Vec F S320x512 .f32) (E : Set ℕ) (K : PUnit → sProp 𝕄) :
    iprop(owns (c : Thread nD τ) arg2 fullShare xr ∗ owns (c : Thread nD τ) arg7 fullShare y ∗ owns (c : Thread nD τ) arg8 fullShare xb ∗ owns (c : Thread nD τ) arg9 fullShare w
        ∗ (iprop(owns (c : Thread nD τ) arg2 fullShare xr ∗ owns (c : Thread nD τ) arg7 fullShare (outAfter xr xb w y) ∗ owns (c : Thread nD τ) arg8 fullShare xb ∗ owns (c : Thread nD τ) arg9 fullShare w) -∗ K ⟨⟩))
      ⊢ wp frame (wpE (defs₀ (F := F)) Variants.none c none) E (tailProg i arg1 harg1 arg2 harg2 arg3 harg3 arg4 harg4 arg5 harg5 arg6 harg6 arg7 harg7 arg8 harg8 arg9 harg9) K := by
  unfold tailProg
  unfold owns
  iintro ⟨⟨%f2, %hf2, H2⟩, ⟨%f7, %hf7, H7⟩, ⟨%f8, %hf8, H8⟩, ⟨%f9, %hf9, H9⟩, Hk⟩
  obtain rfl := harg2.eq_unread hf2; obtain rfl := harg7.eq_unread hf7; obtain rfl := harg8.eq_unread hf8; obtain rfl := harg9.eq_unread hf9
  sl_exec
  sl_step
  have e2 : View.readAt (Elt F) arg2.view (Rect.unit (s := S64x512) ![0, 0] S64x512.size inb_S64x512_S64x512_0_0).toLoadRect (harg2.unread xr) = xr := by
    rw [View.readAt_full, hf2]
  have e8 : View.readAt (Elt F) arg8.view (Rect.unit (s := S320x1536) ![0, 0] S320x1536.size inb_S320x1536_S320x1536_0_0).toLoadRect (harg8.unread xb) = xb := by
    rw [View.readAt_full, hf8]
  have e9 : View.readAt (Elt F) arg9.view (Rect.unit (s := S1536x512) ![0, 0] S1536x512.size inb_S1536x512_S1536x512_0_0).toLoadRect (harg9.unread w) = w := by
    rw [View.readAt_full, hf9]
  have eb : ∀ n : ℕ, bandOf xr (prodOf xb w) n = _ := fun n => (bandOf_congr e2 (congrArg₂ prodOf e8 e9) n).symm
  iapply Hk
  isplitl [H2]
  · iexists _; isplitr; · ipureintro; exact harg2.read_unread _
    iexact H2
  isplitl [H7]
  · iexists _; isplitr; swap; · iexact H7
    ipureintro
    repeat rw [View.read_writes_cons_put _ _ _ _ _ rfl]
    rw [View.writes_nil, hf7]
    unfold outAfter
    simp only [chain]
    iterate 5 refine put_off ?_ rfl (eb _)
    rfl
  isplitl [H8]
  · iexists _; isplitr; · ipureintro; exact harg8.read_unread _
    iexact H8
  iexists _; isplitr; · ipureintro; exact harg9.read_unread _
  iexact H9

end Cert.AttnOutIdeal.At

end
-- ==== Proof.AtBody.lean ====
module

public import proofs.«01_k».proof.Proof.AtTail

@[expose] public section

set_option maxRecDepth 65536

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole body at a point -/

/-! ## The printed body in three regions -/

section Assoc
variable {α β δ ε : Type}

theorem assoc2 {p : Prog (TpuEff nD τ sig (Elt F) Λ₀ .tc) α} {K : α → Prog (TpuEff nD τ sig (Elt F) Λ₀ .tc) β} {G : β → Prog (TpuEff nD τ sig (Elt F) Λ₀ .tc) ε}
    {k : α → Prog (TpuEff nD τ sig (Elt F) Λ₀ .tc) δ} {g : δ → Prog (TpuEff nD τ sig (Elt F) Λ₀ .tc) ε} (h : ∀ x, K x >>= G = k x >>= g) :
    (p >>= K) >>= G = (p >>= k) >>= g := by
  rw [bind_assoc, bind_assoc]; exact congrArg (p >>= ·) (funext h)

theorem assoc1 {p : Prog (TpuEff nD τ sig (Elt F) Λ₀ .tc) α} {K : α → Prog (TpuEff nD τ sig (Elt F) Λ₀ .tc) ε}
    {k : α → Prog (TpuEff nD τ sig (Elt F) Λ₀ .tc) δ} {g : δ → Prog (TpuEff nD τ sig (Elt F) Λ₀ .tc) ε} (h : ∀ x, K x = k x >>= g) :
    p >>= K = (p >>= k) >>= g := by
  rw [bind_assoc]; exact congrArg (p >>= ·) (funext h)
end Assoc

set_option maxHeartbeats 1000000 in
/-- The printed body: at the first step the quantised groups, then the weight block's values, then the product. -/
theorem body_eq (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole) :
    cc0_attn_out (F := F) i arg1 harg1 arg2 harg2 arg3 harg3 arg4 harg4 arg5 harg5 arg6 harg6 arg7 harg7 arg8 harg8 arg9 harg9 = (do
      if h : condFirst i then quantProg i arg1 harg1 arg2 harg2 arg3 harg3 arg4 harg4 arg5 harg5 arg6 harg6 arg7 harg7 arg8 harg8 arg9 harg9 else pure ⟨⟩
      deqProg i arg1 harg1 arg2 harg2 arg3 harg3 arg4 harg4 arg5 harg5 arg6 harg6 arg7 harg7 arg8 harg8 arg9 harg9
      tailProg i arg1 harg1 arg2 harg2 arg3 harg3 arg4 harg4 arg5 harg5 arg6 harg6 arg7 harg7 arg8 harg8 arg9 harg9) := by
  rw [cc0_attn_out_eq_skeleton]; unfold cc0_attn_out_skel
  rw [k0_part24_eq_skeleton, k0_part44_eq_skeleton]; unfold k0_part24_skel k0_part44_skel
  by_cases h : condFirst i
  · simp only [dif_pos h]
    unfold quantProg
    refine assoc2 fun ⟨_, _, _, _⟩ => ?_
    refine assoc2 fun ⟨_, _⟩ => ?_
    refine assoc2 fun ⟨_, _, _, _⟩ => ?_
    refine assoc2 fun ⟨_, _⟩ => ?_
    refine assoc2 fun ⟨_, _⟩ => ?_
    refine assoc2 fun ⟨_, _, _, _, _⟩ => ?_
    refine assoc2 fun ⟨_, _⟩ => ?_
    refine assoc2 fun ⟨_, _, _, _⟩ => ?_
    refine assoc2 fun ⟨_, _, _⟩ => ?_
    refine assoc2 fun ⟨_, _, _, _, _⟩ => ?_
    refine assoc2 fun ⟨_, _⟩ => ?_
    refine assoc2 fun ⟨_, _, _, _⟩ => ?_
    refine assoc2 fun ⟨_, _⟩ => ?_
    refine assoc2 fun ⟨_, _, _, _⟩ => ?_
    refine assoc2 fun ⟨_, _, _⟩ => ?_
    refine assoc2 fun ⟨_, _, _, _, _⟩ => ?_
    refine assoc2 fun ⟨_, _⟩ => ?_
    refine assoc2 fun ⟨_, _, _, _⟩ => ?_
    refine assoc2 fun ⟨_, _⟩ => ?_
    refine assoc2 fun ⟨_, _, _⟩ => ?_
    refine assoc2 fun _ => ?_
    refine assoc2 fun ⟨_, _, _, _, _⟩ => ?_
    refine assoc2 fun _ => ?_
    unfold deqProg
    rw [show ∀ {β : Type} (g : PUnit → Prog (TpuEff nD τ sig (Elt F) Λ₀ .tc) β), ((pure ⟨⟩ : Prog (TpuEff nD τ sig (Elt F) Λ₀ .tc) PUnit) >>= g) = g ⟨⟩ from fun _ => rfl]
    refine assoc2 fun _ => ?_
    refine assoc2 fun _ => ?_
    refine assoc2 fun _ => ?_
    refine assoc2 fun _ => ?_
    refine assoc2 fun _ => ?_
    refine assoc2 fun _ => ?_
    refine assoc2 fun _ => ?_
    refine assoc2 fun _ => ?_
    rw [pure_bind]
    refine assoc1 fun _ => ?_
    refine assoc1 fun _ => ?_
    refine assoc1 fun _ => ?_
    refine assoc1 fun ⟨_, _⟩ => ?_
    refine assoc1 fun _ => ?_
    refine assoc1 fun _ => ?_
    refine assoc1 fun _ => ?_
    refine assoc1 fun _ => ?_
    refine assoc1 fun ⟨_, _⟩ => ?_
    refine assoc1 fun _ => ?_
    refine assoc1 fun _ => ?_
    refine assoc1 fun _ => ?_
    refine assoc1 fun _ => ?_
    refine assoc1 fun ⟨_, _⟩ => ?_
    refine assoc1 fun _ => ?_
    refine assoc1 fun _ => ?_
    refine assoc1 fun _ => ?_
    refine assoc1 fun _ => ?_
    refine assoc1 fun ⟨_, _⟩ => ?_
    rfl
  · simp only [dif_neg h]
    unfold deqProg
    refine assoc2 fun _ => ?_
    refine assoc2 fun _ => ?_
    refine assoc2 fun _ => ?_
    refine assoc2 fun _ => ?_
    refine assoc2 fun _ => ?_
    refine assoc2 fun _ => ?_
    refine assoc2 fun _ => ?_
    refine assoc2 fun _ => ?_
    rw [pure_bind]
    refine assoc1 fun _ => ?_
    refine assoc1 fun _ => ?_
    refine assoc1 fun _ => ?_
    refine assoc1 fun ⟨_, _⟩ => ?_
    refine assoc1 fun _ => ?_
    refine assoc1 fun _ => ?_
    refine assoc1 fun _ => ?_
    refine assoc1 fun _ => ?_
    refine assoc1 fun ⟨_, _⟩ => ?_
    refine assoc1 fun _ => ?_
    refine assoc1 fun _ => ?_
    refine assoc1 fun _ => ?_
    refine assoc1 fun _ => ?_
    refine assoc1 fun ⟨_, _⟩ => ?_
    refine assoc1 fun _ => ?_
    refine assoc1 fun _ => ?_
    refine assoc1 fun _ => ?_
    refine assoc1 fun _ => ?_
    refine assoc1 fun ⟨_, _⟩ => ?_
    rfl

set_option maxHeartbeats 4000000 in
theorem body_first (c : Dev nD) (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole)
    (h : condFirst i) (xa : Vec F S320x1536 .f32) (xr : Vec F S64x512 .f32) (xw : Vec F S1x1536x512 .fp8e4m3) (xs : Vec F S1x12x32 .i32) (y5 : Vec F S320x1536 .fp8e4m3) (y6 : Vec F S320x12 .f32) (y7 : Vec F S320x512 .f32) (y8 : Vec F S320x1536 .bf16) (y9 : Vec F S1536x512 .bf16) (E : Set ℕ) (K : PUnit → sProp 𝕄) :
    iprop(owns (c : Thread nD τ) arg1 fullShare xa ∗ owns (c : Thread nD τ) arg2 fullShare xr ∗ owns (c : Thread nD τ) arg3 fullShare xw ∗ owns (c : Thread nD τ) arg4 fullShare xs ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9
        ∗ (iprop(owns (c : Thread nD τ) arg1 fullShare xa ∗ owns (c : Thread nD τ) arg2 fullShare xr ∗ owns (c : Thread nD τ) arg3 fullShare xw ∗ owns (c : Thread nD τ) arg4 fullShare xs ∗ owns (c : Thread nD τ) arg5 fullShare (codesAfter xa y5) ∗ owns (c : Thread nD τ) arg6 fullShare (scalesAfter xa y6) ∗ owns (c : Thread nD τ) arg7 fullShare (outAfter xr (bfAfter xa y8) (wAfter i xw xs y9) y7) ∗ owns (c : Thread nD τ) arg8 fullShare (bfAfter xa y8) ∗ owns (c : Thread nD τ) arg9 fullShare (wAfter i xw xs y9)) -∗ K ⟨⟩))
      ⊢ wp frame (wpE (defs₀ (F := F)) Variants.none c none) E (cc0_attn_out i arg1 harg1 arg2 harg2 arg3 harg3 arg4 harg4 arg5 harg5 arg6 harg6 arg7 harg7 arg8 harg8 arg9 harg9) K := by
  rw [body_eq]
  iintro ⟨H1, H2, H3, H4, H5, H6, H7, H8, H9, Hk⟩
  rw [dif_pos h, wp_bind]
  iapply (quant_run c i arg1 harg1 arg2 harg2 arg3 harg3 arg4 harg4 arg5 harg5 arg6 harg6 arg7 harg7 arg8 harg8 arg9 harg9 xa y5 y6 y8 E (fun _ => wp frame (wpE (defs₀ (F := F)) Variants.none c none) E (deqProg i arg1 harg1 arg2 harg2 arg3 harg3 arg4 harg4 arg5 harg5 arg6 harg6 arg7 harg7 arg8 harg8 arg9 harg9 >>= fun _ => tailProg i arg1 harg1 arg2 harg2 arg3 harg3 arg4 harg4 arg5 harg5 arg6 harg6 arg7 harg7 arg8 harg8 arg9 harg9) K))
  isplitl [H1]; · iexact H1
  isplitl [H5]; · iexact H5
  isplitl [H6]; · iexact H6
  isplitl [H8]; · iexact H8
  iintro ⟨H1, H5, H6, H8⟩
  rw [wp_bind]
  iapply (deq_run c i arg1 harg1 arg2 harg2 arg3 harg3 arg4 harg4 arg5 harg5 arg6 harg6 arg7 harg7 arg8 harg8 arg9 harg9 xw xs y9 E (fun _ => wp frame (wpE (defs₀ (F := F)) Variants.none c none) E (tailProg i arg1 harg1 arg2 harg2 arg3 harg3 arg4 harg4 arg5 harg5 arg6 harg6 arg7 harg7 arg8 harg8 arg9 harg9) K))
  isplitl [H3]; · iexact H3
  isplitl [H4]; · iexact H4
  isplitl [H9]; · iexact H9
  iintro ⟨H3, H4, H9⟩
  iapply (tail_run c i arg1 harg1 arg2 harg2 arg3 harg3 arg4 harg4 arg5 harg5 arg6 harg6 arg7 harg7 arg8 harg8 arg9 harg9 xr (bfAfter xa y8) (wAfter i xw xs y9) y7 E K)
  isplitl [H2]; · iexact H2
  isplitl [H7]; · iexact H7
  isplitl [H8]; · iexact H8
  isplitl [H9]; · iexact H9
  iintro ⟨H2, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
theorem body_later (c : Dev nD) (i : grid0.Coords) (arg1 : Memref sig .tc .vmem S320x1536 .f32) (harg1 : arg1.IsWhole) (arg2 : Memref sig .tc .vmem S64x512 .f32) (harg2 : arg2.IsWhole) (arg3 : Memref sig .tc .vmem S1x1536x512 .fp8e4m3) (harg3 : arg3.IsWhole) (arg4 : Memref sig .tc .smem S1x12x32 .i32) (harg4 : arg4.IsWhole) (arg5 : Memref sig .tc .vmem S320x1536 .fp8e4m3) (harg5 : arg5.IsWhole) (arg6 : Memref sig .tc .vmem S320x12 .f32) (harg6 : arg6.IsWhole) (arg7 : Memref sig .tc .vmem S320x512 .f32) (harg7 : arg7.IsWhole) (arg8 : Memref sig .tc .vmem S320x1536 .bf16) (harg8 : arg8.IsWhole) (arg9 : Memref sig .tc .vmem S1536x512 .bf16) (harg9 : arg9.IsWhole)
    (h : ¬ condFirst i) (xa : Vec F S320x1536 .f32) (xr : Vec F S64x512 .f32) (xw : Vec F S1x1536x512 .fp8e4m3) (xs : Vec F S1x12x32 .i32) (y5 : Vec F S320x1536 .fp8e4m3) (y6 : Vec F S320x12 .f32) (y7 : Vec F S320x512 .f32) (y8 : Vec F S320x1536 .bf16) (y9 : Vec F S1536x512 .bf16) (E : Set ℕ) (K : PUnit → sProp 𝕄) :
    iprop(owns (c : Thread nD τ) arg1 fullShare xa ∗ owns (c : Thread nD τ) arg2 fullShare xr ∗ owns (c : Thread nD τ) arg3 fullShare xw ∗ owns (c : Thread nD τ) arg4 fullShare xs ∗ owns (c : Thread nD τ) arg5 fullShare y5 ∗ owns (c : Thread nD τ) arg6 fullShare y6 ∗ owns (c : Thread nD τ) arg7 fullShare y7 ∗ owns (c : Thread nD τ) arg8 fullShare y8 ∗ owns (c : Thread nD τ) arg9 fullShare y9
        ∗ (iprop(owns (c : Thread nD τ) arg1 fullShare xa ∗ owns (c : Thread nD τ) arg2 fullShare xr ∗ owns (c : Thread nD τ) arg3 fullShare xw ∗ owns (c : Thread nD τ) arg4 fullShare xs ∗ owns (c : Thread nD τ) arg5 fullShare y5 ∗ owns (c : Thread nD τ) arg6 fullShare y6 ∗ owns (c : Thread nD τ) arg7 fullShare (outAfter xr y8 (wAfter i xw xs y9) y7) ∗ owns (c : Thread nD τ) arg8 fullShare y8 ∗ owns (c : Thread nD τ) arg9 fullShare (wAfter i xw xs y9)) -∗ K ⟨⟩))
      ⊢ wp frame (wpE (defs₀ (F := F)) Variants.none c none) E (cc0_attn_out i arg1 harg1 arg2 harg2 arg3 harg3 arg4 harg4 arg5 harg5 arg6 harg6 arg7 harg7 arg8 harg8 arg9 harg9) K := by
  rw [body_eq]
  iintro ⟨H1, H2, H3, H4, H5, H6, H7, H8, H9, Hk⟩
  rw [dif_neg h]
  rw [wp_bind]
  iapply (deq_run c i arg1 harg1 arg2 harg2 arg3 harg3 arg4 harg4 arg5 harg5 arg6 harg6 arg7 harg7 arg8 harg8 arg9 harg9 xw xs y9 E (fun _ => wp frame (wpE (defs₀ (F := F)) Variants.none c none) E (tailProg i arg1 harg1 arg2 harg2 arg3 harg3 arg4 harg4 arg5 harg5 arg6 harg6 arg7 harg7 arg8 harg8 arg9 harg9) K))
  isplitl [H3]; · iexact H3
  isplitl [H4]; · iexact H4
  isplitl [H9]; · iexact H9
  iintro ⟨H3, H4, H9⟩
  iapply (tail_run c i arg1 harg1 arg2 harg2 arg3 harg3 arg4 harg4 arg5 harg5 arg6 harg6 arg7 harg7 arg8 harg8 arg9 harg9 xr y8 (wAfter i xw xs y9) y7 E K)
  isplitl [H2]; · iexact H2
  isplitl [H7]; · iexact H7
  isplitl [H8]; · iexact H8
  isplitl [H9]; · iexact H9
  iintro ⟨H2, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.AttnOutIdeal.At

end
-- ==== Proof.AtVal.lean ====
module

public import proofs.«01_k».proof.Proof.AtBody
public import proofs.«01_k».proof.Proof.UpLaws
public import Idealize.ShloMosaic.Lib.Pointwise

@[expose] public section

set_option maxRecDepth 65536

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers after the body, entry by entry -/

/-- Group `g` of the attention rows. -/
def grpAt (xa : Vec F S320x1536 .f32) (g : Fin 12) : Vec F S320x128 .f32 :=
  fun j => xa (ix2 (j 0) ⟨128 * g.val + (j 1).val, by have h : (j 1).val < 128 := (j 1).isLt; omega⟩)

theorem grp_eq (xa : Vec F S320x1536 .f32) (n : ℕ) : grp xa n = grpAt xa ⟨n % 12, Nat.mod_lt _ (by decide)⟩ := by
  funext j
  unfold grp grpAt VecWindow.window
  refine congrArg xa (funext fun a => ?_)
  match a with
  | 0 => exact Fin.ext (by show 0 + 1 * (j 0).val = (j 0).val; omega)
  | 1 => exact Fin.ext (by show 128 * (n % 12) + 1 * (j 1).val = 128 * (n % 12) + (j 1).val; omega)

/-- The group and the place in it of a column. -/
def gOf (k : Fin 1536) : Fin 12 := ⟨k.val / 128, by omega⟩
def inG (k : Fin 1536) : Fin 128 := ⟨k.val % 128, by omega⟩

/-- The codes, the scales and the bf16 values of all the attention rows. -/
def codesAll (xa : Vec F S320x1536 .f32) : Vec F S320x1536 .fp8e4m3 := fun y => codesOf (grpAt xa (gOf (y 1))) (ix2 (y 0) (inG (y 1)))
def scalesAll (xa : Vec F S320x1536 .f32) : Vec F S320x12 .f32 := fun y => scaleOf (grpAt xa (y 1)) (ix2 (y 0) 0)
def bfAll (xa : Vec F S320x1536 .f32) : Vec F S320x1536 .bf16 := fun y => bfOf (grpAt xa (gOf (y 1))) (ix2 (y 0) (inG (y 1)))

/-- A chain over the groups leaves, at every entry, its group's value. -/
theorem chain_groups {α : Type} (x : S320x1536.Idx → α) (f : ℕ → S320x128.Idx → α) (f' : Fin 12 → S320x128.Idx → α)
    (hf : ∀ n, f n = f' ⟨n % 12, Nat.mod_lt _ (by decide)⟩) :
    chain (s := S320x1536) x gOff S320x128.size f 12 = fun y => f' (gOf (y 1)) (ix2 (y 0) (inG (y 1))) := by
  funext y
  refine chain_apply x gOff S320x128.size f (fun y => f' (gOf (y 1)) (ix2 (y 0) (inG (y 1)))) (fun n y h => ?_) y 12 ?_
  · have h1 : 128 * (n % 12) ≤ (y 1).val ∧ (y 1).val < 128 * (n % 12) + 128 := h 1
    show f n _ = f' (gOf (y 1)) (ix2 (y 0) (inG (y 1)))
    rw [hf]
    refine congrArg₂ f' (Fin.ext ?_) (funext fun a => ?_)
    · show n % 12 = (y 1).val / 128; omega
    match a with
    | 0 => exact Fin.ext (by show (y 0).val - 0 = (y 0).val; omega)
    | 1 => exact Fin.ext (by show (y 1).val - 128 * (n % 12) = (y 1).val % 128; omega)
  · have h0 : (y 0).val < 320 := (y 0).isLt
    have h1 : (y 1).val < 1536 := (y 1).isLt
    refine ⟨(y 1).val / 128, by omega, fun a => ?_⟩
    match a with
    | 0 => exact (by show 0 ≤ (y 0).val ∧ (y 0).val < 0 + 320; omega)
    | 1 => exact (by show 128 * ((y 1).val / 128 % 12) ≤ (y 1).val ∧ (y 1).val < 128 * ((y 1).val / 128 % 12) + 128; omega)

theorem codesAfter_eq (xa : Vec F S320x1536 .f32) (y) : codesAfter xa y = codesAll xa :=
  chain_groups y _ (fun g => codesOf (grpAt xa g)) fun n => congrArg codesOf (grp_eq xa n)
theorem bfAfter_eq (xa : Vec F S320x1536 .f32) (y) : bfAfter xa y = bfAll xa :=
  chain_groups y _ (fun g => bfOf (grpAt xa g)) fun n => congrArg bfOf (grp_eq xa n)

theorem scalesAfter_eq (xa : Vec F S320x1536 .f32) (y) : scalesAfter xa y = scalesAll xa := by
  funext z
  refine chain_apply y lOff S320x1.size (fun n => scaleOf (grp xa n)) (scalesAll xa) (fun n y h => ?_) z 12 ?_
  · have h1 : n % 12 ≤ (y 1).val ∧ (y 1).val < n % 12 + 1 := h 1
    show scaleOf (grp xa n) _ = scaleOf (grpAt xa (y 1)) (ix2 (y 0) 0)
    rw [grp_eq]
    refine congrArg₂ (fun g => scaleOf (grpAt xa g)) (Fin.ext ?_) (funext fun a => ?_)
    · show n % 12 = (y 1).val; omega
    match a with
    | 0 => exact Fin.ext (by show (y 0).val - 0 = (y 0).val; omega)
    | 1 => exact Fin.ext (by show (y 1).val - n % 12 = 0; omega)
  · have h0 : (z 0).val < 320 := (z 0).isLt
    have h1 : (z 1).val < 12 := (z 1).isLt
    refine ⟨(z 1).val, by omega, fun a => ?_⟩
    match a with
    | 0 => exact (by show 0 ≤ (z 0).val ∧ (z 0).val < 0 + 320; omega)
    | 1 => exact (by show (z 1).val % 12 ≤ (z 1).val ∧ (z 1).val < (z 1).val % 12 + 1; omega)

/-- A tile's codes and its scale word, by the tile's row and its column among the step's four. -/
def wTile (xw : Vec F S1x1536x512 .fp8e4m3) (r : Fin 12) (k : Fin 4) : Vec F S1x128x128 .fp8e4m3 :=
  fun j => xw (ix3 0 ⟨128 * r.val + (j 1).val, by have h : (j 1).val < 128 := (j 1).isLt; omega⟩ ⟨128 * k.val + (j 2).val, by have h : (j 2).val < 128 := (j 2).isLt; omega⟩)
def sWordAt (i : grid0.Coords) (xs : Vec F S1x12x32 .i32) (r : Fin 12) (k : Fin 4) : Elt F .i32 :=
  xs (ix3 0 r ⟨4 * (i 0).val + k.val, by have h : (i 0).val < 8 := (i 0).isLt; omega⟩)

theorem tileN_eq (i : grid0.Coords) (xw : Vec F S1x1536x512 .fp8e4m3) (xs : Vec F S1x12x32 .i32) (n : ℕ) :
    tileN i xw xs n = tileOf (sWordAt i xs ⟨n % 48 / 4, by omega⟩ ⟨n % 4, by omega⟩) (wTile xw ⟨n % 48 / 4, by omega⟩ ⟨n % 4, by omega⟩) := by
  refine tileOf_congr ?_ (funext fun j => ?_)
  · unfold VecWindow.window sWordAt
    refine congrArg xs (funext fun a => ?_)
    match a with
    | 0 => exact Subsingleton.elim (α := Fin 1) _ _
    | 1 => exact Fin.ext (by show n % 48 / 4 + 1 * 0 = n % 48 / 4; omega)
    | 2 => exact Fin.ext (by
        show (Scalar.addi (Scalar.muli (BitVec.ofNat 32 (i 0).val) 4#32) (BitVec.ofNat 32 (n % 4))).toNat + 1 * 0 = 4 * (i 0).val + n % 4
        rw [sWord]; omega)
  · unfold VecWindow.window wTile
    refine congrArg xw (funext fun a => ?_)
    match a with
    | 0 => exact Subsingleton.elim (α := Fin 1) _ _
    | 1 => exact Fin.ext (by show 128 * (n % 48 / 4) + 1 * (j 1).val = 128 * (n % 48 / 4) + (j 1).val; omega)
    | 2 => exact Fin.ext (by show 128 * (n % 4) + 1 * (j 2).val = 128 * (n % 4) + (j 2).val; omega)

def kOf (k : Fin 512) : Fin 4 := ⟨k.val / 128, by omega⟩
def inK (k : Fin 512) : Fin 128 := ⟨k.val % 128, by omega⟩

/-- The step's weight block in bf16. -/
def wAll (i : grid0.Coords) (xw : Vec F S1x1536x512 .fp8e4m3) (xs : Vec F S1x12x32 .i32) : Vec F S1536x512 .bf16 :=
  fun y => tileOf (sWordAt i xs (gOf (y 0)) (kOf (y 1))) (wTile xw (gOf (y 0)) (kOf (y 1))) (ix2 (inG (y 0)) (inK (y 1)))

theorem wAfter_eq (i : grid0.Coords) (xw : Vec F S1x1536x512 .fp8e4m3) (xs : Vec F S1x12x32 .i32) (y) : wAfter i xw xs y = wAll i xw xs := by
  funext z
  refine chain_apply y tOff S128x128.size (tileN i xw xs) (wAll i xw xs) (fun n y h => ?_) z 48 ?_
  · have h0 : 128 * (n % 48 / 4) ≤ (y 0).val ∧ (y 0).val < 128 * (n % 48 / 4) + 128 := h 0
    have h1 : 128 * (n % 4) ≤ (y 1).val ∧ (y 1).val < 128 * (n % 4) + 128 := h 1
    unfold wAll
    rw [tileN_eq]
    rw [show gOf (y 0) = ⟨n % 48 / 4, by omega⟩ from Fin.ext (by show (y 0).val / 128 = n % 48 / 4; omega),
      show kOf (y 1) = ⟨n % 4, by omega⟩ from Fin.ext (by show (y 1).val / 128 = n % 4; omega)]
    refine congrArg _ (funext fun a => ?_)
    match a with
    | 0 => exact Fin.ext (by show (y 0).val - 128 * (n % 48 / 4) = (y 0).val % 128; omega)
    | 1 => exact Fin.ext (by show (y 1).val - 128 * (n % 4) = (y 1).val % 128; omega)
  · have h0 : (z 0).val < 1536 := (z 0).isLt
    have h1 : (z 1).val < 512 := (z 1).isLt
    refine ⟨4 * ((z 0).val / 128) + (z 1).val / 128, by omega, fun a => ?_⟩
    match a with
    | 0 => exact (by
        show 128 * ((4 * ((z 0).val / 128) + (z 1).val / 128) % 48 / 4) ≤ (z 0).val ∧ (z 0).val < 128 * ((4 * ((z 0).val / 128) + (z 1).val / 128) % 48 / 4) + 128
        omega)
    | 1 => exact (by
        show 128 * ((4 * ((z 0).val / 128) + (z 1).val / 128) % 4) ≤ (z 1).val ∧ (z 1).val < 128 * ((4 * ((z 0).val / 128) + (z 1).val / 128) % 4) + 128
        omega)

def inB (r : Fin 320) : Fin 64 := ⟨r.val % 64, by omega⟩

/-- The step's output block: the product, with the residual row of its place in the band added. -/
def outAll (xr : Vec F S64x512 .f32) (p : FVec F S320x512 .f32) : Vec F S320x512 .f32 :=
  addf (fun y : S320x512.Idx => xr (ix2 (inB (y 0)) (y 1))) p

theorem outAfter_eq (xr : Vec F S64x512 .f32) (xb : Vec F S320x1536 .bf16) (w : Vec F S1536x512 .bf16) (y) : outAfter xr xb w y = outAll xr (prodOf xb w) := by
  funext z
  refine chain_apply y bOff S64x512.size (bandOf xr (prodOf xb w)) (outAll xr (prodOf xb w)) (fun n y h => ?_) z 5 ?_
  · have h0 : 64 * (n % 5) ≤ (y 0).val ∧ (y 0).val < 64 * (n % 5) + 64 := h 0
    unfold bandOf outAll
    refine congrArg₂ (fun a b : F .f32 => FloatOps.addf a b) (congrArg xr (funext fun a => ?_)) (congrArg (prodOf xb w) (funext fun a => ?_))
    · match a with
      | 0 => exact Fin.ext (by show (y 0).val - 64 * (n % 5) = (y 0).val % 64; omega)
      | 1 => exact Fin.ext (by show (y 1).val - 0 = (y 1).val; omega)
    · match a with
      | 0 => exact Fin.ext (by show 64 * (n % 5) + ((y 0).val - 64 * (n % 5)) = (y 0).val; omega)
      | 1 => exact Fin.ext (by show 0 + ((y 1).val - 0) = (y 1).val; omega)
  · have h0 : (z 0).val < 320 := (z 0).isLt
    have h1 : (z 1).val < 512 := (z 1).isLt
    refine ⟨(z 0).val / 64, by omega, fun a => ?_⟩
    match a with
    | 0 => exact (by show 64 * ((z 0).val / 64 % 5) ≤ (z 0).val ∧ (z 0).val < 64 * ((z 0).val / 64 % 5) + 64; omega)
    | 1 => exact (by show 0 ≤ (z 1).val ∧ (z 1).val < 0 + 512; omega)

end Cert.AttnOutIdeal.At

end
-- ==== Proof.AtRun.lean ====
module

public import proofs.«01_k».proof.Proof.AtVal
public import Idealize.ShloMosaic.Lib.Pipeline.ValueKit

@[expose] public section

set_option maxRecDepth 16384

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: what each point leaves, the body obligation, the launch -/

variable (m : (ℓ : Loc nD τ sig) → Buf (Elt F) ℓ) (ρ : Dev nD → PrngReg)

/-! ## The windows' blocks -/

theorem index0 : ∀ t : Fin cfg0.N, win0_0.index t = ![0, 0] :=
  (by decide +kernel : ∀ t : Fin grid0.N, win0_0.index t = ![0, 0])
theorem index3 : ∀ t : Fin cfg0.N, win0_3.index t = ![0, 0, 0] :=
  (by decide +kernel : ∀ t : Fin grid0.N, win0_3.index t = ![0, 0, 0])

/-- The four arguments' blocks at a point: the attention rows whole, the columns of the residual rows and of the weights, layer 0's scale words. -/
def xaOf (c : Dev nD) : Vec F S320x1536 .f32 := V m c main_arg0
def xrOf (c : Dev nD) (t : Fin cfg0.N) : Vec F S64x512 .f32 := iblk m c 1 t
def xwOf (c : Dev nD) (t : Fin cfg0.N) : Vec F S1x1536x512 .fp8e4m3 := iblk m c 2 t
def xsOf (c : Dev nD) : Vec F S1x12x32 .i32 := fun y => V m c main_v5 (ix3 0 (y 1) (y 2))

theorem iblk0_eq (c : Dev nD) (t : Fin cfg0.N) : iblk m c 0 t = xaOf m c := by
  funext y
  blk_simp [iblk, index0]
  unfold xaOf
  refine congrArg (V m c main_arg0) ?_
  blk_ext! [index0]
theorem iblk3_eq (c : Dev nD) (t : Fin cfg0.N) : iblk m c 3 t = xsOf m c := by
  funext y
  blk_simp [iblk, index3]
  unfold xsOf
  refine congrArg (V m c main_v5) ?_
  blk_ext! [index3]

/-- The step's output block. -/
def outOf (c : Dev nD) (t : Fin cfg0.N) : Vec F S320x512 .f32 :=
  outAll (xrOf m c t) (prodOf (bfAll (xaOf m c)) (wAll (grid0.coords t) (xwOf m c t) (xsOf m c)))

/-- The invariant before point `n`: after the first point the first scratch buffer holds the attention's bf16 values. -/
def PhiN (c : Dev nD) (n : ℕ) : sProp 𝕄 :=
  iprop(∃ d0 d1, ⌜n ≠ 0 → d0 = bfAll (xaOf m c)⌝ ∗ (owns (c : Thread nD τ) scM0 fullShare d0 ∗ owns (c : Thread nD τ) scM1 fullShare d1) ∗ (∃ r, prngReg c r))

/-- The relational proof data: inputs are left as found, outputs as said. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = codesAll (xaOf m c)
    | ⟨5, _⟩ => fun _ X => X = scalesAll (xaOf m c)
    | ⟨6, _⟩ => fun _ X => X = outOf m c t
  Φ t := PhiN m c t.val
  q _ := fullShare
  owed _ := 0

theorem rA_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = (xaOf m c) := by
  obtain ⟨d, rfl⟩ := Pipeline.RDat.finds_in_eq_fetched (rdat m c) 0 rfl (fun _ _ _ => rfl) (fun _ _ _ h => h) t Y h
  rw [← iblk0_eq m c t]
  unfold Pipeline.RDat.fetched Pipeline.RDat.blockOf iblk; rw [rA_eq]; try rfl
theorem finds1 (c : Dev nD) (t : Fin cfg0.N) (Y) (h : (rdat m c).Finds 1 t Y) : Y = (xrOf m c t) := by
  obtain ⟨d, rfl⟩ := Pipeline.RDat.finds_in_eq_fetched (rdat m c) 1 rfl (fun _ _ _ => rfl) (fun _ _ _ h => h) t Y h
  unfold xrOf
  unfold Pipeline.RDat.fetched Pipeline.RDat.blockOf iblk; rw [rA_eq]; try rfl
theorem finds2 (c : Dev nD) (t : Fin cfg0.N) (Y) (h : (rdat m c).Finds 2 t Y) : Y = (xwOf m c t) := by
  obtain ⟨d, rfl⟩ := Pipeline.RDat.finds_in_eq_fetched (rdat m c) 2 rfl (fun _ _ _ => rfl) (fun _ _ _ h => h) t Y h
  unfold xwOf
  unfold Pipeline.RDat.fetched Pipeline.RDat.blockOf iblk; rw [rA_eq]; try rfl
theorem finds3 (c : Dev nD) (t : Fin cfg0.N) (Y) (h : (rdat m c).Finds 3 t Y) : Y = (xsOf m c) := by
  obtain ⟨d, rfl⟩ := Pipeline.RDat.finds_in_eq_fetched (rdat m c) 3 rfl (fun _ _ _ => rfl) (fun _ _ _ h => h) t Y h
  rw [← iblk3_eq m c t]
  unfold Pipeline.RDat.fetched Pipeline.RDat.blockOf iblk; rw [rA_eq]; try rfl

theorem flush4 : ∀ t : Fin cfg0.N, (cfg0.win 4).flush t = true → t.val = 7 :=
  (by decide +kernel : ∀ t : Fin grid0.N, win0_4.flush t = true → t.val = 7)

theorem finds4 (c : Dev nD) (t : Fin cfg0.N) (Y) (h : (rdat m c).Finds 4 t Y) (ht : t.val ≠ 0) : Y = codesAll (xaOf m c) := by
  have hN : t.val < 8 := Nat.lt_of_lt_of_eq t.isLt N_0
  rcases ((rdat m c).finds_of_pos (w := 4) (t := t) rfl ht Y).1 h with hf | ⟨Y', _, h'⟩
  · have h2 : t.val - 1 = 7 := flush4 _ hf
    omega
  · exact h'

theorem flush5 : ∀ t : Fin cfg0.N, (cfg0.win 5).flush t = true → t.val = 7 :=
  (by decide +kernel : ∀ t : Fin grid0.N, win0_5.flush t = true → t.val = 7)

theorem finds5 (c : Dev nD) (t : Fin cfg0.N) (Y) (h : (rdat m c).Finds 5 t Y) (ht : t.val ≠ 0) : Y = scalesAll (xaOf m c) := by
  have hN : t.val < 8 := Nat.lt_of_lt_of_eq t.isLt N_0
  rcases ((rdat m c).finds_of_pos (w := 5) (t := t) rfl ht Y).1 h with hf | ⟨Y', _, h'⟩
  · have h2 : t.val - 1 = 7 := flush5 _ hf
    omega
  · exact h'

theorem out_of (c : Dev nD) (t : Fin cfg0.N) (d : Vec F S320x1536 .bf16) (d1 : Vec F S1536x512 .bf16) (y : Vec F S320x512 .f32) (hd : d = bfAll (xaOf m c)) :
    outAfter (xrOf m c t) d (wAfter (grid0.coords t) (xwOf m c t) (xsOf m c) d1) y = outOf m c t := by
  subst hd
  rw [outAfter_eq, wAfter_eq]
  rfl

set_option maxHeartbeats 1000000 in
/-- The body at a point: from the invariant and the blocks found, the invariant and what the point leaves. -/
theorem sound (c : Dev nD) (t : Fin cfg0.N) (O : sProp 𝕄) (y4 : Vec F S320x1536 .fp8e4m3) (y5 : Vec F S320x12 .f32) (y6 : Vec F S320x512 .f32)
    (h4 : t.val ≠ 0 → y4 = codesAll (xaOf m c)) (h5 : t.val ≠ 0 → y5 = scalesAll (xaOf m c)) :
    iprop(PhiN m c t.val ∗ O ∗ owns (c : Thread nD τ) (st0_0 t) fullShare (xaOf m c) ∗ owns (c : Thread nD τ) (st0_1 t) fullShare (xrOf m c t) ∗ owns (c : Thread nD τ) (st0_2 t) fullShare (xwOf m c t) ∗ owns (c : Thread nD τ) (st0_3 t) fullShare (xsOf m c) ∗ owns (c : Thread nD τ) (st0_4 t) fullShare y4 ∗ owns (c : Thread nD τ) (st0_5 t) fullShare y5 ∗ owns (c : Thread nD τ) (st0_6 t) fullShare y6)
      ⊢ wp frame (wpE (defs₀ (F := F)) Variants.none c none) Set.univ (bodyAt0 t) fun _ =>
        iprop(PhiN m c (t.val + 1) ∗ O ∗ iprop(∃ X, ⌜X = (xaOf m c)⌝ ∗ owns (c : Thread nD τ) (st0_0 t) fullShare X) ∗ iprop(∃ X, ⌜X = (xrOf m c t)⌝ ∗ owns (c : Thread nD τ) (st0_1 t) fullShare X) ∗ iprop(∃ X, ⌜X = (xwOf m c t)⌝ ∗ owns (c : Thread nD τ) (st0_2 t) fullShare X) ∗ iprop(∃ X, ⌜X = (xsOf m c)⌝ ∗ owns (c : Thread nD τ) (st0_3 t) fullShare X) ∗ iprop(∃ X, ⌜X = (codesAll (xaOf m c))⌝ ∗ owns (c : Thread nD τ) (st0_4 t) fullShare X) ∗ iprop(∃ X, ⌜X = (scalesAll (xaOf m c))⌝ ∗ owns (c : Thread nD τ) (st0_5 t) fullShare X) ∗ iprop(∃ X, ⌜X = (outOf m c t)⌝ ∗ owns (c : Thread nD τ) (st0_6 t) fullShare X)) := by
  unfold PhiN
  iintro ⟨⟨%d0, %d1, %hI, ⟨HS0, HS1⟩, Hg⟩, Ho, H0, H1, H2, H3, H4, H5, H6⟩
  by_cases ht : t.val = 0
  · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM0 (Memref.isWhole_whole _) scM1 (Memref.isWhole_whole _) ((condFirst_iff t).2 ht) (xaOf m c) (xrOf m c t) (xwOf m c t) (xsOf m c) y4 y5 y6 d0 d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · iexists _, _
      isplitr
      · ipureintro; exact fun _ => bfAfter_eq (xaOf m c) d0
      isplitl [HS0 HS1]
      · isplitl [HS0]; · iexact HS0
        iexact HS1
      iexact Hg
    isplitl [Ho]; · iexact Ho
    isplitl [H0]
    · iexists _
      isplitr
      · ipureintro; exact rfl
      iexact H0
    isplitl [H1]
    · iexists _
      isplitr
      · ipureintro; exact rfl
      iexact H1
    isplitl [H2]
    · iexists _
      isplitr
      · ipureintro; exact rfl
      iexact H2
    isplitl [H3]
    · iexists _
      isplitr
      · ipureintro; exact rfl
      iexact H3
    isplitl [H4]
    · iexists _
      isplitr
      · ipureintro; exact codesAfter_eq (xaOf m c) y4
      iexact H4
    isplitl [H5]
    · iexists _
      isplitr
      · ipureintro; exact scalesAfter_eq (xaOf m c) y5
      iexact H5
    iexists _
    isplitr
    · ipureintro; exact out_of m c t _ d1 y6 (bfAfter_eq (xaOf m c) d0)
    iexact H6
  · iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM0 (Memref.isWhole_whole _) scM1 (Memref.isWhole_whole _) (fun h => ht ((condFirst_iff t).1 h)) (xaOf m c) (xrOf m c t) (xwOf m c t) (xsOf m c) y4 y5 y6 d0 d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · iexists _, _
      isplitr
      · ipureintro; exact fun _ => hI ht
      isplitl [HS0 HS1]
      · isplitl [HS0]; · iexact HS0
        iexact HS1
      iexact Hg
    isplitl [Ho]; · iexact Ho
    isplitl [H0]
    · iexists _
      isplitr
      · ipureintro; exact rfl
      iexact H0
    isplitl [H1]
    · iexists _
      isplitr
      · ipureintro; exact rfl
      iexact H1
    isplitl [H2]
    · iexists _
      isplitr
      · ipureintro; exact rfl
      iexact H2
    isplitl [H3]
    · iexists _
      isplitr
      · ipureintro; exact rfl
      iexact H3
    isplitl [H4]
    · iexists _
      isplitr
      · ipureintro; exact h4 ht
      iexact H4
    isplitl [H5]
    · iexists _
      isplitr
      · ipureintro; exact h5 ht
      iexact H5
    iexists _
    isplitr
    · ipureintro; exact out_of m c t _ d1 y6 (hI ht)
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  have e0 := finds0 m c t _ (hY 0)
  have e1 := finds1 m c t _ (hY 1)
  have e2 := finds2 m c t _ (hY 2)
  have e3 := finds3 m c t _ (hY 3)
  rw [e0, e1, e2, e3]
  exact triple_restated (sound m c t _ (Y 4) (Y 5) (Y 6) (finds4 m c t _ (hY 4)) (finds5 m c t _ (hY 5))) rfl .rfl fun _ => .rfl

theorem hin (c : Dev nD) : Pipeline.ΦA spec0 c ⊢ (rdat m c).Φ 0 := by
  rw [show (rdat m c).Φ 0 = PhiN m c 0 from rfl, PhiA_eq]
  unfold PhiN
  iintro ⟨⟨⟨%d0, HS0⟩, ⟨%d1, HS1⟩⟩, Hg⟩
  iexists d0, d1
  isplitr
  · ipureintro; exact fun h => absurd rfl h
  isplitl [HS0 HS1]
  · isplitl [HS0]; · iexact HS0
    iexact HS1
  iexact Hg

theorem hout (c : Dev nD) : (rdat m c).Φ (Fin.last cfg0.N) ⊢ Pipeline.ΦA spec0 c := by
  rw [show (rdat m c).Φ (Fin.last cfg0.N) = PhiN m c (Fin.last cfg0.N).val from rfl, PhiA_eq]
  unfold PhiN
  iintro ⟨%d0, %d1, %hI, ⟨HS0, HS1⟩, Hg⟩
  isplitl [HS0 HS1]
  · isplitl [HS0]; · iexists _; iexact HS0
    iexists _; iexact HS1
  iexact Hg

set_option backward.isDefEq.respectTransparency.types false in
/-- The launch: every final state has the arrays as the relation allows, every counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := rA_eq m) (hin := hin m) (hout := hout m)

theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays end unchanged and the counters at zero. -/
theorem frame_args (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c)),
      ((h c).2 main_arg3 (Pipeline.mem_restRefs_of main_arg3 (by decide) (by decide))).trans (V_main_arg3 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => frame_args m r h.1 c, h.2⟩) (run_main_quiescent m ρ)

end Cert.AttnOutIdeal.At

end
-- ==== Proof.AtArr.lean ====
module

public import proofs.«01_k».proof.Proof.AtRun
public import Idealize.ShloMosaic.Lib.Pipeline.ArrRel

@[expose] public section

set_option maxRecDepth 16384

noncomputable section

namespace Cert.AttnOutIdeal.At

open Cert.AttnOutIdeal Cert.AttnOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three result arrays after the run -/

theorem idx2 {n d : ℕ} (y : (⟨2, ![n, d]⟩ : Shape).Idx) : ∃ (r : Fin n) (k : Fin d), y = ix2 r k :=
  ⟨y 0, y 1, funext fun b => by
    match b with
    | ⟨0, _⟩ => rfl
    | ⟨1, _⟩ => rfl⟩

theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, t.val] := (by decide +kernel : ∀ t : Fin grid0.N, win0_6.index t = ![0, t.val])

variable (m : (ℓ : Loc nD τ sig) → Buf (Elt F) ℓ) (ρ : Dev nD → PrngReg)

/-- The point a column of the output is written at. -/
def tOf (k : Fin 4096) : Fin cfg0.N := ⟨k.val / 512, Nat.lt_of_lt_of_eq (by omega) N_0.symm⟩

/-- The output array: every column from its point's block. -/
def res6 (c : Dev nD) : Vec F S320x4096 .f32 := fun y => outOf m c (tOf (y 1)) (ix2 (y 0) ⟨(y 1).val % 512, Nat.mod_lt _ (by decide)⟩)

theorem res6_at (c : Dev nD) (t : Fin cfg0.N) (r : Fin 320) (k : Fin 512) (h : 512 * t.val + k.val < 4096) : res6 m c (ix2 r ⟨512 * t.val + k.val, h⟩) = outOf m c t (ix2 r k) := by
  have hk := k.isLt
  have e1 : tOf ⟨512 * t.val + k.val, h⟩ = t := Fin.ext (by show (512 * t.val + k.val) / 512 = t.val; omega)
  show outOf m c (tOf ⟨512 * t.val + k.val, h⟩) (ix2 r ⟨(512 * t.val + k.val) % 512, _⟩) = _
  rw [e1]
  exact congrArg (fun k => outOf m c t (ix2 r k)) (Fin.ext (by show (512 * t.val + k.val) % 512 = k.val; omega))

theorem arr4 (c : Dev nD) (after : (w' : Fin cfg0.W) → Fin cfg0.N → (cfg0.win w').block.Idx → Elt F (cfg0.win w').elt) (hL : ∀ t : Fin cfg0.N, (cfg0.win 4).flush t = true → (rdat m c).Leaves 4 t (after 4 t)) :
    ((rdat m c).withAfter after).arrAt 4 cfg0.N = codesAll (xaOf m c) := by
  refine Dat.arrAt_eq_of_covers _ 4 _ (by decide +kernel) fun t hf y => ?_
  obtain ⟨Y, _, h⟩ := hL t hf
  have hN : t.val < 8 := Nat.lt_of_lt_of_eq t.isLt N_0
  have h1 : after 4 t = codesAll (xaOf m c) := h
  obtain ⟨r, k, rfl⟩ : ∃ (r : Fin 320) (k : Fin 1536), y = ix2 r k := idx2 y
  blk_simp [Pipeline.RDat.withAfter_after]
  rw [h1]
  refine congrArg (codesAll (xaOf m c)) ?_
  blk_ext! [index4]

theorem arr5 (c : Dev nD) (after : (w' : Fin cfg0.W) → Fin cfg0.N → (cfg0.win w').block.Idx → Elt F (cfg0.win w').elt) (hL : ∀ t : Fin cfg0.N, (cfg0.win 5).flush t = true → (rdat m c).Leaves 5 t (after 5 t)) :
    ((rdat m c).withAfter after).arrAt 5 cfg0.N = scalesAll (xaOf m c) := by
  refine Dat.arrAt_eq_of_covers _ 5 _ (by decide +kernel) fun t hf y => ?_
  obtain ⟨Y, _, h⟩ := hL t hf
  have hN : t.val < 8 := Nat.lt_of_lt_of_eq t.isLt N_0
  have h1 : after 5 t = scalesAll (xaOf m c) := h
  obtain ⟨r, k, rfl⟩ : ∃ (r : Fin 320) (k : Fin 12), y = ix2 r k := idx2 y
  blk_simp [Pipeline.RDat.withAfter_after]
  rw [h1]
  refine congrArg (scalesAll (xaOf m c)) ?_
  blk_ext! [index5]

theorem arr6 (c : Dev nD) (after : (w' : Fin cfg0.W) → Fin cfg0.N → (cfg0.win w').block.Idx → Elt F (cfg0.win w').elt) (hL : ∀ t : Fin cfg0.N, (cfg0.win 6).flush t = true → (rdat m c).Leaves 6 t (after 6 t)) :
    ((rdat m c).withAfter after).arrAt 6 cfg0.N = res6 m c := by
  refine Dat.arrAt_eq_of_covers _ 6 _ (by decide +kernel) fun t hf y => ?_
  obtain ⟨Y, _, h⟩ := hL t hf
  have hN : t.val < 8 := Nat.lt_of_lt_of_eq t.isLt N_0
  have h1 : after 6 t = outOf m c t := h
  obtain ⟨r, k, rfl⟩ : ∃ (r : Fin 320) (k : Fin 512), y = ix2 r k := idx2 y
  blk_simp [Pipeline.RDat.withAfter_after]
  rw [h1, ← res6_at m c t r k (by have := k.isLt; omega)]
  refine congrArg (res6 m c) ?_
  blk_ext! [index6]

/-- What the run leaves in the result arrays. -/
theorem results (r : PUnit × MemSt nD τ sig (Elt F)) (h : Pipeline.RDat.FramePost (cfgs 0) (rdat m) (V m) r) (c : Dev nD) :
    r.2.mem ((c.tc : Thread nD τ).loc main_v6_0) = codesAll (xaOf m c) ∧ r.2.mem ((c.tc : Thread nD τ).loc main_v6_1) = scalesAll (xaOf m c)
      ∧ r.2.mem ((c.tc : Thread nD τ).loc main_v6_2) = res6 m c := by
  obtain ⟨after, hL, hA⟩ := Pipeline.RDat.FramePost.exists_exact h c
  exact ⟨(hA 4).trans (arr4 m c after (hL 4)), (hA 5).trans (arr5 m c after (hL 5)), (hA 6).trans (arr6 m c after (hL 6))⟩

end Cert.AttnOutIdeal.At

end
-- ==== Proof.AtRef.lean ====
module

public import proofs.«01_k».proof.Proof.Gen.AttnOutReferenceIdeal.Frame
public import Idealize.ShloMosaic.Lib.Pipeline.Value
public import Idealize.ShloMosaic.Lib.Pipeline.ValueKit
public import Idealize.ShloMosaic.Lib.Claim
public import Idealize.ShloMosaic.Lib.Pointwise

@[expose] public section

set_option maxRecDepth 16384

noncomputable section

namespace Cert.AttnOutReferenceIdeal.At

open Cert.AttnOutReferenceIdeal Cert.AttnOutReferenceIdeal.Gen
open Idealize.ShloMosaic Idealize.ShloMosaic.TcCoe Idealize.ShloMosaic.Tactic
open Idealize.SL Idealize.SL.Sem

/-! # What the reference's run leaves in its result arrays -/

variable {F : FTy → Type} [FloatOps F]
variable (m : (ℓ : Loc nD τ sig) → Buf (Elt F) ℓ) (ρ : Dev nD → PrngReg)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0, 0] := (by decide +kernel : ∀ t : Fin grid0.N, win0_3.index t = ![0, 0, 0])

theorem iblk0 (c : Dev nD) (t : Fin cfg0.N) : iblk m c 0 t = V m c main_arg0 := by
  have : V m c main_arg0 = V m c (Pipeline.arrRef spec0 0) := rfl
  rw [this]
  generalize hV : V m c (Pipeline.arrRef spec0 0) = X
  blk_ext! [iblk, hV, index0 t]
theorem iblk1 (c : Dev nD) (t : Fin cfg0.N) : iblk m c 1 t = V m c main_arg1 := by
  have : V m c main_arg1 = V m c (Pipeline.arrRef spec0 1) := rfl
  rw [this]
  generalize hV : V m c (Pipeline.arrRef spec0 1) = X
  blk_ext! [iblk, hV, index1 t]
theorem iblk2 (c : Dev nD) (t : Fin cfg0.N) : iblk m c 2 t = V m c main_arg2 := by
  have : V m c main_arg2 = V m c (Pipeline.arrRef spec0 2) := rfl
  rw [this]
  generalize hV : V m c (Pipeline.arrRef spec0 2) = X
  blk_ext! [iblk, hV, index2 t]
theorem iblk3 (c : Dev nD) (t : Fin cfg0.N) : iblk m c 3 t = V m c main_arg3 := by
  have : V m c main_arg3 = V m c (Pipeline.arrRef spec0 3) := rfl
  rw [this]
  generalize hV : V m c (Pipeline.arrRef spec0 3) = X
  blk_ext! [iblk, hV, index3 t]

theorem final4 (c : Dev nD) : (dats m 0 c).arrAt 4 cfg0.N = k0_pay5 (V m c main_arg0) := by
  refine (dats m 0 c).arrAt_eq_of_after_last 4 t0_0 (by decide +kernel) _ fun j => ?_
  blk_simp
  rw [after0_4]
  unfold out0_4
  frame_out
  rw [iblk0]

theorem final5 (c : Dev nD) : (dats m 0 c).arrAt 5 cfg0.N = k0_pay6 (V m c main_arg0) := by
  refine (dats m 0 c).arrAt_eq_of_after_last 5 t0_0 (by decide +kernel) _ fun j => ?_
  blk_simp
  rw [after0_5]
  unfold out0_5
  frame_out
  rw [iblk0]

theorem final6 (c : Dev nD) : (dats m 0 c).arrAt 6 cfg0.N = k0_pay1 (k0_pay7 (V m c main_arg0)) (View.ld (V m c main_arg3) r0_2) (View.ld (V m c main_arg2) r0_3) (V m c main_arg1) := by
  refine (dats m 0 c).arrAt_eq_of_after_last 6 t0_0 (by decide +kernel) _ fun j => ?_
  blk_simp
  rw [after0_6]
  unfold out0_6
  frame_out
  rw [iblk0, iblk1, iblk2, iblk3]
  rfl

end Cert.AttnOutReferenceIdeal.At

end
-- ==== Proof.AtLaws.lean ====
module

public import proofs.«01_k».proof.Proof.DnLaws
public import Idealize.ShloMosaic.Lib.IdealHost
public import Idealize.ShloMosaic.Lib.BitcastPair

@[expose] public section

noncomputable section

namespace Cert.AtLaws

open Idealize.ShloMosaic

/-! # A bf16 word as the upper half of an f32 one -/

/-- A bf16 value's word in the upper half of an f32 word. -/
def upper (w : BitVec 16) : BitVec 32 := w.signExtend 32 <<< (16#32)

theorem upper_toNat (w : BitVec 16) : (upper w).toNat = w.toNat * 65536 := by
  have e : upper w = w.setWidth 32 <<< (16 : ℕ) := by
    unfold upper
    apply BitVec.eq_of_getLsbD_eq
    intro i hi
    simp only [BitVec.shiftLeft_eq', BitVec.getLsbD_shiftLeft, BitVec.getLsbD_signExtend, BitVec.getLsbD_setWidth, BitVec.toNat_ofNat]
    by_cases h : i < 16
    · simp [h]
    · have h2 : i - 16 < 16 := by omega
      simp [h, h2]
  have hw := w.isLt
  rw [e, BitVec.toNat_shiftLeft, BitVec.toNat_setWidth, Nat.shiftLeft_eq]
  omega

/-- The value is the same in both formats. -/
theorem ofBits_upper (w : BitVec 16) : Ideal.ofBits .f32 (upper w) = Ideal.ofBits .bf16 w := by
  have hu := upper_toNat w
  have hw := w.isLt
  have e1 : (upper w).extractLsb' (8 + 23) 1 = w.extractLsb' (8 + 7) 1 := BitVec.eq_of_toNat_eq (by
    simp only [BitVec.extractLsb'_toNat, Nat.shiftRight_eq_div_pow, hu]; omega)
  have e2 : (upper w).extractLsb' 23 8 = w.extractLsb' 7 8 := BitVec.eq_of_toNat_eq (by
    simp only [BitVec.extractLsb'_toNat, Nat.shiftRight_eq_div_pow, hu]; omega)
  have e3 : ((upper w).extractLsb' 0 23).toNat = (w.extractLsb' 0 7).toNat * 65536 := by
    simp only [BitVec.extractLsb'_toNat, Nat.shiftRight_eq_div_pow, hu]; omega
  show Ideal.ieee 8 23 (upper w) = Ideal.ieee 8 7 w
  unfold Ideal.ieee
  dsimp only
  rw [e1, e2, e3]
  generalize (w.extractLsb' 0 7).toNat = f
  generalize (w.extractLsb' 7 8).toNat = x
  have hf : (f * 65536 = 0) = (f = 0) := by simp
  simp only [hf]
  have hz : ∀ a : ℤ, (2 : ℝ) ^ (a - (7 : ℕ)) = 65536 * (2 : ℝ) ^ (a - (23 : ℕ)) := by
    intro a
    rw [show a - ((7 : ℕ) : ℤ) = (a - ((23 : ℕ) : ℤ)) + 16 by push_cast; ring, zpow_add₀ (by norm_num)]
    norm_num
    ring
  split
  · rfl
  split
  · rw [hz]; refine congrArg _ ?_; push_cast; ring
  · rw [hz]; refine congrArg _ ?_; push_cast; ring

/-- The word with a bf16 word in both halves. -/
def both (w : BitVec 16) : BitVec 32 := upper w ||| (upper w >>> (16#32))

theorem both_half (w : BitVec 16) (b : ℕ) (hb : b < 2) : (both w).extractLsb' (16 * b) 16 = w := by
  have hu := upper_toNat w
  have hw := w.isLt
  apply BitVec.eq_of_getLsbD_eq
  intro i hi
  have hl : ∀ k, (upper w).getLsbD k = (decide (16 ≤ k) && w.getLsbD (k - 16)) := by
    intro k
    have : (upper w).getLsbD k = (w.toNat * 65536).testBit k := by rw [← hu]; rfl
    rw [this, show (65536 : ℕ) = 2 ^ 16 by norm_num, Nat.testBit_mul_two_pow]
    rfl
  unfold both
  simp only [BitVec.getLsbD_extractLsb', BitVec.getLsbD_or, BitVec.ushiftRight_eq', BitVec.getLsbD_ushiftRight, hl, BitVec.toNat_ofNat]
  obtain rfl | rfl : b = 0 ∨ b = 1 := by omega
  · simp [hi, show ¬ 16 ≤ i by omega]
  · simp only [show 16 * 1 + i - 16 = i by omega, show 16 % 2 ^ 32 + (16 * 1 + i) - 16 = 16 + i by omega]
    have : w.getLsbD (16 + i) = false := BitVec.getLsbD_of_ge _ _ (by omega)
    simp [hi, this]

end Cert.AtLaws

end
-- ==== Proof.AtIdeal.lean ====
module

public import proofs.«01_k».proof.Proof.AtArr
public import proofs.«01_k».proof.Proof.AtRef
public import proofs.«01_k».proof.Proof.AtLaws
public import proofs.«01_k».proof.Proof.DnIdeal
public import Idealize.ShloMosaic.Lib.IdealHost
public import Idealize.ShloMosaic.Lib.Pointwise

@[expose] public section

set_option maxRecDepth 16384

noncomputable section

namespace Cert.AttnOutIdeal.At

open Cert.AttnOutIdeal Cert.AttnOutIdeal.Gen Cert.UpLaws Cert.DnLaws Cert.AtLaws
open Cert.DownIdeal.Dn (scaleGroup_at)
open Idealize.ShloMosaic Idealize.ShloMosaic.TcCoe Idealize.ShloMosaic.Tactic
open Idealize.SL Idealize.SL.Sem

/-! # The kernel's arrays are the reference's, over the extended reals -/

variable (xa : Vec Ideal S320x1536 .f32)

/-- Column `l` of group `g`. -/
def colAt (g : Fin 12) (l : Fin 128) : Fin 1536 := ⟨g.val * 128 + l.val, by have := g.isLt; have := l.isLt; omega⟩

theorem gOf_colAt (g : Fin 12) (l : Fin 128) : gOf (colAt g l) = g := Fin.ext (by
  have := l.isLt
  show (g.val * 128 + l.val) / 128 = g.val
  omega)
theorem inG_colAt (g : Fin 12) (l : Fin 128) : inG (colAt g l) = l := Fin.ext (by
  have := l.isLt
  show (g.val * 128 + l.val) % 128 = l.val
  omega)
theorem colAt_of (C : Fin 1536) : colAt (gOf C) (inG C) = C := Fin.ext (by
  show C.val / 128 * 128 + C.val % 128 = C.val
  omega)

/-- A group's greatest magnitude over the format's range, its codes, and the bf16 values. -/
def magV (r : Fin 320) (g : Fin 12) : EReal := magE fun l : Fin 128 => xa (ix2 r (colAt g l))
def codeV (r : Fin 320) (g : Fin 12) (l : Fin 128) : EReal :=
  clipS (xa (ix2 r (colAt g l)) * Ideal.div (Scalar.ofBits (F := Ideal) .f32 0x3F800000#32) (scaleE (magV xa r g)))
def actV (r : Fin 320) (C : Fin 1536) : EReal := codeV xa r (gOf C) (inG C) * scaleE (magV xa r (gOf C))

/-! ## The reference's arrays, element by element -/

theorem ref_group (r : Fin 320) (g : Fin 12) (l : Fin 128) : AttnOutReferenceIdeal.Gen.k0_pay2 xa (ix3 r g l) = xa (ix2 r (colAt g l)) := by
  unfold AttnOutReferenceIdeal.Gen.k0_pay2
  exact split_at (n := 320) (m := 1536) (e := 12) (d := 128) _ _ r g l (colAt g l) (by decide) rfl

/-- The reference's group magnitudes. -/
def refMag : FVec Ideal AttnOutReferenceIdeal.S320x12x1 .f32 :=
  mulf (shapeCast AttnOutReferenceIdeal.S320x12x1 (multiReduction .maximumf [2] AttnOutReferenceIdeal.S320x12 (absf (AttnOutReferenceIdeal.Gen.k0_pay2 xa)) 0xFF800000#32 AttnOutReferenceIdeal.Gen.reduces_S320x12x128_S320x12 (.inl rfl) rfl)
    AttnOutReferenceIdeal.Gen.shapeCasts_S320x12_S320x12x1) (broadcast AttnOutReferenceIdeal.S320x12x1 (Scalar.ofBits .f32 0x3B124925#32))

theorem ref_mag (r : Fin 320) (g : Fin 12) : refMag xa (ix3 r g 0) = magV xa r g := by
  unfold refMag
  refine (magGroup_at (n := 320) (e := 12) (d := 128) (AttnOutReferenceIdeal.Gen.k0_pay2 xa) _ _ _ _ r g).trans ?_
  exact congrArg magE (funext fun l => ref_group xa r g l)

theorem ref_scale (r : Fin 320) (g : Fin 12) : AttnOutReferenceIdeal.Gen.k0_pay3 xa (ix3 r g 0) = scaleE (magV xa r g) := by
  unfold AttnOutReferenceIdeal.Gen.k0_pay3
  refine (scaleGroup_at (n := 320) (e := 12) (refMag xa) _ _ r g ?_).trans (congrArg scaleE (ref_mag xa r g))
  exact below_at (n := 320) (e := 12) (refMag xa) _ _ _ _ _ _ rfl r g

theorem ref_scales (r : Fin 320) (g : Fin 12) : AttnOutReferenceIdeal.Gen.k0_pay6 xa (ix2 r g) = scaleE (magV xa r g) := by
  unfold AttnOutReferenceIdeal.Gen.k0_pay6
  exact (ununit_at (n := 320) (e := 12) _ _ r g).trans (ref_scale xa r g)

/-- Group values quantised, read at an element. -/
theorem codeGroups_at {n e d : ℕ} (v : FVec Ideal ⟨3, ![n, e, d]⟩ .f32) (x : FVec Ideal ⟨3, ![n, e, 1]⟩ .f32) (hx : (⟨3, ![n, e, 1]⟩ : Shape).Broadcasts ⟨3, ![n, e, d]⟩) (h) (r : Fin n) (g : Fin e) (l : Fin d) :
    truncf .fp8e4m3 (minimumf (broadcast ⟨3, ![n, e, d]⟩ (Scalar.ofBits .f32 0x43E00000#32)) (maximumf (broadcast ⟨3, ![n, e, d]⟩ (Scalar.ofBits .f32 0xC3E00000#32))
      (mulf v (broadcastTo ⟨3, ![n, e, d]⟩ (divf (broadcast ⟨3, ![n, e, 1]⟩ (Scalar.ofBits .f32 0x3F800000#32)) x) hx)))) h (ix3 r g l)
      = clipS (v (ix3 r g l) * Ideal.div (Scalar.ofBits (F := Ideal) .f32 0x3F800000#32) (x (ix3 r g 0))) := by
  have e1 := bgroup_at (divf (broadcast ⟨3, ![n, e, 1]⟩ (Scalar.ofBits (F := Ideal) .f32 0x3F800000#32)) x) hx r g l
  show clipS (v (ix3 r g l) * broadcastTo ⟨3, ![n, e, d]⟩ (divf (broadcast ⟨3, ![n, e, 1]⟩ (Scalar.ofBits (F := Ideal) .f32 0x3F800000#32)) x) hx (ix3 r g l)) = _
  rw [e1]; rfl

/-- Codes times their group's scale, read at an element. -/
theorem actGroups_at {n e d : ℕ} (c : FVec Ideal ⟨3, ![n, e, d]⟩ .fp8e4m3) (x : FVec Ideal ⟨3, ![n, e, 1]⟩ .f32) (hx : (⟨3, ![n, e, 1]⟩ : Shape).Broadcasts ⟨3, ![n, e, d]⟩) (h) (h') (r : Fin n) (g : Fin e) (l : Fin d) :
    mulf (extf .bf16 c h) (broadcastTo ⟨3, ![n, e, d]⟩ (truncf .bf16 x h') hx) (ix3 r g l) = (c (ix3 r g l) : EReal) * x (ix3 r g 0) := by
  have e1 := bgroup_at x hx r g l
  rw [← e1]; rfl

theorem ref_code (r : Fin 320) (g : Fin 12) (l : Fin 128) : AttnOutReferenceIdeal.Gen.k0_pay4 xa (ix3 r g l) = codeV xa r g l := by
  unfold AttnOutReferenceIdeal.Gen.k0_pay4
  refine (codeGroups_at (n := 320) (e := 12) (d := 128) (AttnOutReferenceIdeal.Gen.k0_pay2 xa) (AttnOutReferenceIdeal.Gen.k0_pay3 xa) _ _ r g l).trans ?_
  rw [ref_scale, ref_group]
  rfl

theorem ref_codes (r : Fin 320) (C : Fin 1536) : AttnOutReferenceIdeal.Gen.k0_pay5 xa (ix2 r C) = codeV xa r (gOf C) (inG C) := by
  unfold AttnOutReferenceIdeal.Gen.k0_pay5
  exact (merge_at (n := 320) (m := 1536) (e := 12) (d := 128) _ _ r (gOf C) (inG C) C (by decide) (congrArg Fin.val (colAt_of C)).symm).trans (ref_code xa r _ _)

theorem ref_act (r : Fin 320) (C : Fin 1536) (h) : shapeCast AttnOutReferenceIdeal.S320x1536 (AttnOutReferenceIdeal.Gen.k0_pay7 xa) h (ix2 r C) = actV xa r C := by
  refine (merge_at (n := 320) (m := 1536) (e := 12) (d := 128) _ _ r (gOf C) (inG C) C (by decide) (congrArg Fin.val (colAt_of C)).symm).trans ?_
  unfold actV AttnOutReferenceIdeal.Gen.k0_pay7
  refine (actGroups_at (n := 320) (e := 12) (d := 128) (AttnOutReferenceIdeal.Gen.k0_pay4 xa) (AttnOutReferenceIdeal.Gen.k0_pay3 xa) _ _ _ r _ _).trans ?_
  rw [ref_code, ref_scale]

/-! ## The kernel's, element by element -/

theorem ker_mag (g : Fin 12) (r : Fin 320) : magOf (grpAt xa g) (ix2 r 0) = magV xa r g := by
  unfold magOf k0_pay1
  refine (magCol_at (n := 320) (d := 128) (grpAt xa g) _ _ _ _ r).trans ?_
  refine congrArg magE (funext fun l => congrArg (fun C => xa (ix2 r C)) (Fin.ext ?_))
  show 128 * g.val + l.val = g.val * 128 + l.val
  omega

theorem powOf_at (y : FVec Ideal S320x1 .f32) (r : Fin 320) : powOf y (ix2 r 0) = ladder (y (ix2 r 0)) := rfl

theorem ker_scale (g : Fin 12) (r : Fin 320) : scaleOf (grpAt xa g) (ix2 r 0) = scaleE (magV xa r g) := by
  show Scalar.ofBits (F := Ideal) .f32 0x40000000#32 * powOf (magOf (grpAt xa g)) (ix2 r 0) = _
  rw [powOf_at, ker_mag, scale_eq]

theorem ker_code (g : Fin 12) (r : Fin 320) (l : Fin 128) : codesOf (grpAt xa g) (ix2 r l) = codeV xa r g l := by
  have e := (bcol_at (n := 320) (d := 128) (divf (broadcast S320x1 (Scalar.ofBits (F := Ideal) .f32 0x3F000000#32)) (powOf (magOf (grpAt xa g)))) broadcasts_S320x1_S320x128 r l).trans
    (recip_at (Scalar.ofBits (F := Ideal) .f32 0x3F000000#32) (powOf (magOf (grpAt xa g))) (ix2 r 0))
  rw [powOf_at, ker_mag, inv_eq] at e
  have e2 : grpAt xa g (ix2 r l) = xa (ix2 r (colAt g l)) := congrArg (fun C => xa (ix2 r C)) (Fin.ext (by
    show 128 * g.val + l.val = g.val * 128 + l.val
    omega))
  unfold codeV
  rw [← e, ← e2]
  rfl

theorem ker_act (r : Fin 320) (C : Fin 1536) : bfAll xa (ix2 r C) = actV xa r C := by
  show bfOf (grpAt xa (gOf C)) (ix2 r (inG C)) = _
  have e1 := bcol_at (n := 320) (d := 128) (scaleOf (grpAt xa (gOf C))) broadcasts_S320x1_S320x128 r (inG C)
  unfold bfOf actV
  rw [shapeCast_self]
  exact congrArg₂ (fun a b : EReal => a * b) (ker_code xa _ r _) (e1.trans (ker_scale xa _ r))

theorem idx2_eq {α : Type} {n d : ℕ} {f g : (⟨2, ![n, d]⟩ : Shape).Idx → α} (h : ∀ r k, f (ix2 r k) = g (ix2 r k)) : f = g := by
  refine funext fun y => ?_
  obtain ⟨r, k, rfl⟩ := idx2 y
  exact h r k

theorem codes_eq : codesAll xa = AttnOutReferenceIdeal.Gen.k0_pay5 xa :=
  idx2_eq (n := 320) (d := 1536) fun r C => (ker_code xa (gOf C) r (inG C)).trans (ref_codes xa r C).symm

theorem scales_eq : scalesAll xa = AttnOutReferenceIdeal.Gen.k0_pay6 xa :=
  idx2_eq (n := 320) (d := 12) fun r g => (ker_scale xa g r).trans (ref_scales xa r g).symm

end Cert.AttnOutIdeal.At

end
-- ==== Proof.AtEqual.lean ====
module

public import proofs.«01_k».proof.Proof.AtIdeal
public import Idealize.ShloMosaic.Lib.IdealHost
public import Idealize.ShloMosaic.Lib.Pointwise

@[expose] public section

set_option maxRecDepth 16384

noncomputable section

namespace Cert.AttnOutIdeal.At

open Cert.AttnOutIdeal Cert.AttnOutIdeal.Gen Cert.UpLaws Cert.DnLaws Cert.AtLaws
open Idealize.ShloMosaic Idealize.ShloMosaic.TcCoe Idealize.ShloMosaic.Tactic
open Idealize.SL Idealize.SL.Sem

/-! # The weights' values and the output array -/

section Shapes
variable {α : Type}

/-- Rows taken sixteen by sixteen, read at an element. -/
theorem rows16_at (x : S128x128.Idx → α) (h : S128x128.ShapeCasts S8x16x128) (q : Fin 8) (b : Fin 16) (l : Fin 128) (r : Fin 128) (hr : r.val = q.val * 16 + b.val) :
    shapeCast S8x16x128 x h (ix3 q b l) = x (ix2 r l) :=
  shapeCast_apply x h _ _ (by
    rw [Shape.rowMajor_val_two, Shape.rowMajor_val_three]
    show r.val * 128 + l.val = (q.val * 16 + b.val) * 128 + l.val
    rw [hr])

theorem unrows16_at (x : S8x16x128.Idx → α) (h : S8x16x128.ShapeCasts S128x128) (q : Fin 8) (b : Fin 16) (l : Fin 128) (r : Fin 128) (hr : r.val = q.val * 16 + b.val) :
    shapeCast S128x128 x h (ix2 r l) = x (ix3 q b l) :=
  shapeCast_apply x h _ _ (by
    rw [Shape.rowMajor_val_two, Shape.rowMajor_val_three]
    show (q.val * 16 + b.val) * 128 + l.val = r.val * 128 + l.val
    rw [hr])

theorem lead_at {n d : ℕ} (x : (⟨2, ![n, d]⟩ : Shape).Idx → α) (h : (⟨2, ![n, d]⟩ : Shape).ShapeCasts ⟨3, ![1, n, d]⟩) (r : Fin n) (l : Fin d) :
    shapeCast ⟨3, ![1, n, d]⟩ x h (ix3 0 r l) = x (ix2 r l) :=
  shapeCast_apply x h _ _ (by
    rw [Shape.rowMajor_val_two, Shape.rowMajor_val_three]
    show r.val * d + l.val = (0 * n + r.val) * d + l.val
    rw [Nat.zero_mul, Nat.zero_add])

theorem unlead_at {n d : ℕ} (x : (⟨3, ![1, n, d]⟩ : Shape).Idx → α) (h : (⟨3, ![1, n, d]⟩ : Shape).ShapeCasts ⟨2, ![n, d]⟩) (r : Fin n) (l : Fin d) :
    shapeCast ⟨2, ![n, d]⟩ x h (ix2 r l) = x (ix3 0 r l) :=
  shapeCast_apply x h _ _ (by
    rw [Shape.rowMajor_val_two, Shape.rowMajor_val_three]
    show (0 * n + r.val) * d + l.val = r.val * d + l.val
    rw [Nat.zero_mul, Nat.zero_add])

/-- One leading matrix laid over several, read at an element. -/
theorem blead_at {e n d : ℕ} (hn : n ≠ 1) (hd : d ≠ 1) (v : (⟨3, ![1, n, d]⟩ : Shape).Idx → α) (h : (⟨3, ![1, n, d]⟩ : Shape).Broadcasts ⟨3, ![e, n, d]⟩) (q : Fin e) (r : Fin n) (l : Fin d) :
    broadcastTo ⟨3, ![e, n, d]⟩ v h (ix3 q r l) = v (ix3 0 r l) := by
  refine broadcastTo_apply v h (ix3 q r l) (ix3 0 r l) fun ax => ?_
  match ax with
  | ⟨0, _⟩ => rfl
  | ⟨1, _⟩ => show r.val = if n = 1 then 0 else r.val; rw [if_neg hn]
  | ⟨2, _⟩ => show l.val = if d = 1 then 0 else l.val; rw [if_neg hd]
end Shapes

/-- A word laid over eight rows and read as sixteen rows of half words, the two halves equal: every half is that one. -/
theorem halves_at (s : BitVec 32) (v : BitVec 16) (hs : ∀ b < 2, s.extractLsb' (16 * b) 16 = v) (h : S8x128.Bitcasts 32 S16x128 16) (j : S16x128.Idx) :
    bitcast S16x128 16 (broadcast S8x128 s) h j = v := by
  rw [bitcast_32_16]
  exact hs _ (Nat.mod_lt _ (by decide))

/-- A tile's bf16 values, read at an element. -/
theorem tile_at (s : BitVec 32) (v : BitVec 16) (hs : ∀ b < 2, s.extractLsb' (16 * b) 16 = v) (w : Vec Ideal S1x128x128 .fp8e4m3) (r l : Fin 128) :
    tileOf (F := Ideal) s w (ix2 r l) = (w (ix3 0 r l) : EReal) * Ideal.ofBits .bf16 v := by
  have hr : r.val = (⟨r.val / 16, by omega⟩ : Fin 8).val * 16 + (⟨r.val % 16, by omega⟩ : Fin 16).val := by
    show r.val = r.val / 16 * 16 + r.val % 16
    omega
  unfold tileOf k0_pay94
  rw [shapeCast_self]
  refine (unrows16_at _ _ _ _ l r hr).trans ?_
  refine congrArg₂ (fun a b : EReal => a * b) ?_ ?_
  · refine (rows16_at _ _ _ _ l r hr).trans ?_
    exact unlead_at (n := 128) (d := 128) w _ r l
  · refine (blead_at (e := 8) (n := 16) (d := 128) (by decide) (by decide) _ _ _ _ l).trans ?_
    refine (lead_at (n := 16) (d := 128) _ _ _ l).trans ?_
    exact congrArg (Ideal.ofBits .bf16) (halves_at s v hs _ _)

/-! ## The reference's weights and output -/

variable (s : Vec Ideal AttnOutReferenceIdeal.S1x12x32 .i16) (w : Vec Ideal AttnOutReferenceIdeal.S1x1536x4096 .fp8e4m3)

def nOf (k : Fin 4096) : Fin 32 := ⟨k.val / 128, by omega⟩
def inN (k : Fin 4096) : Fin 128 := ⟨k.val % 128, by omega⟩

/-- A weight: its code times its block's scale. -/
def wV (k : Fin 1536) (n : Fin 4096) : EReal := (w (ix3 0 k n) : EReal) * Ideal.ofBits .bf16 (s (ix3 0 (gOf k) (nOf n)))

open AttnOutReferenceIdeal in
theorem spread_at {α : Type} (x : S12x32.Idx → α) (h1 : S12x32.ShapeCasts S12x1x32x1) (h2 : S12x1x32x1.Broadcasts S12x128x32x128) (h3 : S12x128x32x128.ShapeCasts S1536x4096) (k : Fin 1536) (n : Fin 4096) :
    shapeCast S1536x4096 (broadcastTo S12x128x32x128 (shapeCast S12x1x32x1 x h1) h2) h3 (ix2 k n) = x (ix2 (gOf k) (nOf n)) := by
  refine (shapeCast_apply _ h3 (ix2 k n) (ix4 (gOf k) (inG k) (nOf n) (inN n)) ?_).trans ?_
  · rw [Shape.rowMajor_val_two, Shape.rowMajor_val_four]
    show ((k.val / 128 * 128 + k.val % 128) * 32 + n.val / 128) * 128 + n.val % 128 = k.val * 4096 + n.val
    omega
  refine (broadcastTo_apply _ h2 _ (ix4 (gOf k) 0 (nOf n) 0) fun a => ?_).trans ?_
  · match a with
    | ⟨0, _⟩ => rfl
    | ⟨1, _⟩ => rfl
    | ⟨2, _⟩ => rfl
    | ⟨3, _⟩ => rfl
  refine shapeCast_apply x h1 _ (ix2 (gOf k) (nOf n)) ?_
  rw [Shape.rowMajor_val_two, Shape.rowMajor_val_four]
  show k.val / 128 * 32 + n.val / 128 = ((k.val / 128 * 1 + 0) * 32 + n.val / 128) * 1 + 0
  omega

theorem shli_upper (v : BitVec 16) : IntOp.shli .vector (v.signExtend 32) 16#32 = upper v := by
  unfold IntOp.shli
  rw [if_pos (by decide)]
  rfl

open AttnOutReferenceIdeal in
/-- The reference's scaled weights, read at an element. -/
theorem ref_w (h1 h2 h3 h4 h5 h6 h7 h8 h9) (k : Fin 1536) (n : Fin 4096) :
    mulf (extf (φ := .fp8e4m3) .bf16 (shapeCast S1536x4096 w h1) h2)
      (truncf .bf16 (shapeCast S1536x4096 (broadcastTo S12x128x32x128 (shapeCast S12x1x32x1 (shapeCast S12x1x32x1 (bitcastToFloat (F := Ideal) .f32 (shli (extsi 32 (shapeCast S12x32 s h3) h4) (broadcast S12x32 16#32)))
        h5) h6) h7) h8) h9) (ix2 k n) = wV s w k n := by
  have e0 : ∀ i, bitcastToFloat (F := Ideal) .f32 (shli (extsi 32 (shapeCast S12x32 s h3) h4) (broadcast S12x32 16#32)) i = Ideal.ofBits .bf16 (shapeCast S12x32 s h3 i) := fun i =>
    (congrArg (Ideal.ofBits .f32) (shli_upper (shapeCast S12x32 s h3 i))).trans (ofBits_upper _)
  rw [shapeCast_self]
  generalize bitcastToFloat (F := Ideal) .f32 (shli (extsi 32 (shapeCast S12x32 s h3) h4) (broadcast S12x32 16#32)) = x at e0
  have e1 := unlead_at (n := 1536) (d := 4096) w h1 k n
  have e2 := (spread_at x h5 h7 h8 k n).trans ((e0 _).trans (congrArg (Ideal.ofBits .bf16) (unlead_at (n := 12) (d := 32) s h3 (gOf k) (nOf n))))
  unfold wV
  rw [← e1, ← e2]
  rfl

variable (xa : Vec Ideal S320x1536 .f32) (res : Vec Ideal AttnOutReferenceIdeal.S64x4096 .f32)

/-- An element of the output. -/
def outV (r : Fin 320) (n : Fin 4096) : EReal := (res (ix2 (inB r) n) : EReal) + ∑ k : Fin 1536, actV xa r k * wV s w k n

open AttnOutReferenceIdeal AttnOutReferenceIdeal.Gen in
theorem ref_out (r : Fin 320) (n : Fin 4096) : AttnOutReferenceIdeal.Gen.k0_pay1 (AttnOutReferenceIdeal.Gen.k0_pay7 xa) s w res (ix2 r n) = outV s w xa res r n := by
  have hr := r.isLt
  unfold AttnOutReferenceIdeal.Gen.k0_pay1
  refine (shapeCast_apply _ _ (ix2 r n) (ix3 (⟨r.val / 64, by omega⟩ : Fin 5) (inB r) n) ?_).trans ?_
  · rw [Shape.rowMajor_val_two, Shape.rowMajor_val_three]
    show (r.val / 64 * 64 + r.val % 64) * 4096 + n.val = r.val * 4096 + n.val
    omega
  refine congrArg₂ (fun a b : EReal => a + b) ?_ ?_
  · refine (blead_at (e := 5) (n := 64) (d := 4096) (by decide) (by decide) _ _ _ _ n).trans ?_
    exact lead_at (n := 64) (d := 4096) res _ _ n
  · refine (shapeCast_apply _ _ _ (ix2 r n) ?_).trans ?_
    · rw [Shape.rowMajor_val_two, Shape.rowMajor_val_three]
      show r.val * 4096 + n.val = (r.val / 64 * 64 + r.val % 64) * 4096 + n.val
      omega
    refine (dot_at (n := 320) (d := 1536) (e := 4096) (φ₁ := .bf16) (φ₂ := .bf16) _ _ r n).trans ?_
    exact Finset.sum_congr rfl fun k _ => congrArg₂ (fun a b : EReal => a * b) (ref_act xa r k _) (ref_w s w _ _ _ _ _ _ _ _ _ k n)

/-! ## The kernel's output -/

/-- One step's output block, read at an element. -/
theorem ker_block (i : grid0.Coords) (xr : Vec Ideal S64x512 .f32) (xw : Vec Ideal S1x1536x512 .fp8e4m3) (xs : Vec Ideal S1x12x32 .i32) (r : Fin 320) (p : Fin 512) (n : Fin 4096) (hn : n.val = 512 * (i 0).val + p.val)
    (hr : xr (ix2 (inB r) p) = res (ix2 (inB r) n)) (hw : ∀ k : Fin 1536, xw (ix3 0 k p) = w (ix3 0 k n)) (hs : ∀ (g : Fin 12) (q : Fin 32), xs (ix3 0 g q) = both (s (ix3 0 g q))) :
    outAll xr (prodOf (bfAll xa) (wAll i xw xs)) (ix2 r p) = outV s w xa res r n := by
  have hi : (i 0).val < 8 := (i 0).isLt
  have hp := p.isLt
  refine congrArg₂ (fun a b : EReal => a + b) hr ?_
  unfold prodOf k0_pay158
  refine (dot_at (n := 320) (d := 1536) (e := 512) (φ₁ := .bf16) (φ₂ := .bf16) (bfAll xa) (wAll i xw xs) r p).trans ?_
  refine Finset.sum_congr rfl fun k _ => congrArg₂ (fun a b : EReal => a * b) (ker_act xa r k) ?_
  have hq : (⟨4 * (i 0).val + (kOf p).val, by show 4 * (i 0).val + p.val / 128 < 32; omega⟩ : Fin 32) = nOf n := Fin.ext (by
    show 4 * (i 0).val + p.val / 128 = n.val / 128
    omega)
  have es : sWordAt i xs (gOf k) (kOf p) = both (s (ix3 0 (gOf k) (nOf n))) := by
    unfold sWordAt
    rw [hq]
    exact hs _ _
  have ew : wTile xw (gOf k) (kOf p) (ix3 0 (inG k) (inK p)) = w (ix3 0 k n) := by
    rw [← hw k]
    refine congrArg xw ?_
    refine congrArg₂ (fun (a : Fin 1536) (b : Fin 512) => ix3 (0 : Fin 1) a b) (Fin.ext ?_) (Fin.ext ?_)
    · show 128 * (k.val / 128) + k.val % 128 = k.val
      omega
    · show 128 * (p.val / 128) + p.val % 128 = p.val
      omega
  show tileOf (F := Ideal) (sWordAt i xs (gOf k) (kOf p)) (wTile xw (gOf k) (kOf p)) (ix2 (inG k) (inK p)) = _
  rw [es]
  refine (tile_at _ (s (ix3 0 (gOf k) (nOf n))) (fun b hb => both_half _ b hb) _ (inG k) (inK p)).trans ?_
  rw [ew]
  rfl

variable (m : (ℓ : Loc nD τ sig) → Buf (Elt Ideal) ℓ)

theorem index1 : ∀ t : Fin cfg0.N, win0_1.index t = ![0, t.val] := (by decide +kernel : ∀ t : Fin grid0.N, win0_1.index t = ![0, t.val])
theorem index2 : ∀ t : Fin cfg0.N, win0_2.index t = ![0, 0, t.val] := (by decide +kernel : ∀ t : Fin grid0.N, win0_2.index t = ![0, 0, t.val])
theorem coord0 : ∀ t : Fin cfg0.N, (grid0.coords t 0).val = t.val := (by decide +kernel : ∀ t : Fin grid0.N, (grid0.coords t 0).val = t.val)

theorem xr_at (c : Dev nD) (t : Fin cfg0.N) (b : Fin 64) (p : Fin 512) (n : Fin 4096) (hn : n.val = 512 * t.val + p.val) : xrOf m c t (ix2 b p) = V m c main_arg1 (ix2 b n) := by
  unfold xrOf
  blk_simp [iblk, index1]
  refine congrArg (V m c main_arg1) ?_
  blk_ext! [index1, hn]

theorem xw_at (c : Dev nD) (t : Fin cfg0.N) (k : Fin 1536) (p : Fin 512) (n : Fin 4096) (hn : n.val = 512 * t.val + p.val) : xwOf m c t (ix3 0 k p) = V m c main_arg2 (ix3 0 k n) := by
  unfold xwOf
  blk_simp [iblk, index2]
  refine congrArg (V m c main_arg2) ?_
  blk_ext! [index2, hn]

/-- The scale words as the call takes them, from the argument. -/
theorem words_at (c : Dev nD) (g : Fin 12) (q : Fin 32) : xsOf m c (ix3 0 g q) = both (m ((c.tc : Thread nD τ).loc main_arg3) (ix3 0 g q)) := by
  have e : V m c main_v5 = fun i => both (m ((c.tc : Thread nD τ).loc main_arg3) i) := by
    entry_read
    rfl
  unfold xsOf
  rw [e]
  rfl

/-- The output array is the reference's. -/
theorem out_eq (c : Dev nD) (hs : ∀ g q, s (ix3 0 g q) = m ((c.tc : Thread nD τ).loc main_arg3) (ix3 0 g q)) (hw : ∀ k n, w (ix3 0 k n) = V m c main_arg2 (ix3 0 k n)) (hres : res = V m c main_arg1) (hxa : xa = V m c main_arg0) :
    res6 m c = AttnOutReferenceIdeal.Gen.k0_pay1 (AttnOutReferenceIdeal.Gen.k0_pay7 xa) s w res := by
  subst hres hxa
  refine idx2_eq (n := 320) (d := 4096) fun r n => ?_
  have hn := n.isLt
  have e : n.val = 512 * (tOf n).val + (⟨n.val % 512, Nat.mod_lt _ (by decide)⟩ : Fin 512).val := by
    show n.val = 512 * (n.val / 512) + n.val % 512
    omega
  refine Eq.trans ?_ (ref_out s w _ _ r n).symm
  refine ker_block s w _ _ (grid0.coords (tOf n)) _ _ _ r ⟨n.val % 512, Nat.mod_lt _ (by decide)⟩ n (by rw [coord0]; exact e) (xr_at m c _ _ _ n e) (fun k => (xw_at m c _ k _ n e).trans (hw k n).symm)
    (fun g q => (words_at m c g q).trans (congrArg both (hs g q)).symm)

end Cert.AttnOutIdeal.At

end
-- ==== Proof.AtBits.lean ====
module

public import proofs.«01_k».proof.Defs
public import proofs.«01_k».proof.Proof.Gen.AttnOut
public import proofs.«01_k».proof.Proof.AtRun

@[expose] public section

set_option maxRecDepth 16384

noncomputable section

namespace Cert.AttnOut.At

open Idealize.ShloMosaic Idealize.SL.Sem

/-! # The program before idealization runs as the idealized one does

The two programs have the same text, so what is shown of the one, at any number format, is shown of the other. -/

variable {F : FTy → Type} [FloatOps F]

theorem body_eq : Cert.AttnOut.cc0_attn_out (F := F) = Cert.AttnOutIdeal.cc0_attn_out (F := F) := rfl

theorem main_eq : Cert.AttnOut.main (F := F) = Cert.AttnOutIdeal.main (F := F) := rfl

theorem defs₀_eq : Cert.AttnOut.defs₀ (F := F) = Cert.AttnOutIdeal.defs₀ (F := F) := by
  unfold Cert.AttnOut.defs₀ Cert.AttnOutIdeal.defs₀
  refine congrArg Defs.onTc ?_
  funext l x
  match l, x with
  | 0, (t, s) => rfl

theorem defs_eq : Cert.AttnOut.defs (F := F) = Cert.AttnOutIdeal.defs (F := F) :=
  congrArg (Pipeline.defs (Cert.AttnOutIdeal.pcfgs (F := F))) defs₀_eq

/-- The argument arrays end unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.AttnOutIdeal.At.frame (F := F) m ρ
  rw [← defs_eq, ← main_eq] at h
  exact h

end Cert.AttnOut.At
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalReferenceIdeal
public import proofs.«01_k».proof.Proof.Gen.FinalReferenceIdeal.Skeleton
public import proofs.«01_k».proof.Proof.Gen.FinalReferenceIdeal.Launch
public import proofs.«01_k».proof.Proof.Gen.FinalReferenceIdeal.Points
public import proofs.«01_k».proof.Proof.Gen.FinalReferenceIdeal.Frame
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutReferenceIdeal
public import proofs.«01_k».proof.Proof.Gen.AttnOutReferenceIdeal.Skeleton
public import proofs.«01_k».proof.Proof.Gen.AttnOutReferenceIdeal.Launch
public import proofs.«01_k».proof.Proof.Gen.AttnOutReferenceIdeal.Points
public import proofs.«01_k».proof.Proof.Gen.AttnOutReferenceIdeal.Frame
public import proofs.«01_k».proof.Proof.UpEqual
public import proofs.«01_k».proof.Proof.UpBits
public import proofs.«01_k».proof.Proof.DnEqual
public import proofs.«01_k».proof.Proof.DnBits
public import proofs.«01_k».proof.Proof.FnEqual
public import proofs.«01_k».proof.Proof.AtEqual
public import proofs.«01_k».proof.Proof.AtBits
public import Idealize.ShloMosaic.Adequacy
public import Idealize.ShloMosaic.Init

@[expose] public section

noncomputable section

namespace Cert.Proof

open Idealize.ShloMosaic Idealize.SL.Sem

section Pair
variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ) (g' : Dev ReferenceIdeal.nD → PrngReg)

/-- The reference's arrays are the kernel's, when the arguments are. -/
def SameArrays (c : Dev KernelIdeal.nD) : Prop :=
  ReferenceIdeal.Gen.V m' c ReferenceIdeal.main_arg0 = (KernelIdeal.Up.arrOf m c).x
  ∧ ReferenceIdeal.Gen.V m' c ReferenceIdeal.main_arg1 = (KernelIdeal.Up.arrOf m c).w1
  ∧ ReferenceIdeal.Gen.V m' c ReferenceIdeal.main_arg2 = (KernelIdeal.Up.arrOf m c).w2
  ∧ ReferenceIdeal.Gen.V m' c ReferenceIdeal.main_v0 = (KernelIdeal.Up.arrOf m c).s3
  ∧ ReferenceIdeal.Gen.V m' c ReferenceIdeal.main_v1 = (KernelIdeal.Up.arrOf m c).s4

theorem same_arrays (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4)) :
    SameArrays m m' c := by
  refine ⟨?_, ?_, ?_, ?_, ?_⟩
  · exact (ReferenceIdeal.Gen.V_main_arg0 m' c).trans (h0.trans (KernelIdeal.Gen.V_main_arg0 m c).symm)
  · exact (ReferenceIdeal.Gen.V_main_arg1 m' c).trans (h1.trans (KernelIdeal.Gen.V_main_arg1 m c).symm)
  · exact (ReferenceIdeal.Gen.V_main_arg2 m' c).trans (h2.trans (KernelIdeal.Gen.V_main_arg2 m c).symm)
  · show ReferenceIdeal.Gen.V m' c ReferenceIdeal.main_v0 = KernelIdeal.Gen.V m c KernelIdeal.main_v0
    have e1 : ReferenceIdeal.Gen.V m' c ReferenceIdeal.main_v0 = shapeCast ReferenceIdeal.S1x14336 (m' ((c.tc : Thread ReferenceIdeal.nD ReferenceIdeal.τ).loc ReferenceIdeal.main_arg3)) ReferenceIdeal.Gen.shapeCasts_S14336_S1x14336 := by
      entry_read
      rfl
    have e2 : KernelIdeal.Gen.V m c KernelIdeal.main_v0 = shapeCast KernelIdeal.S1x14336 (m ((c.tc : Thread KernelIdeal.nD KernelIdeal.τ).loc KernelIdeal.main_arg3)) KernelIdeal.Gen.shapeCasts_S14336_S1x14336 := by
      entry_read
      rfl
    rw [e1, e2, h3]
  · show ReferenceIdeal.Gen.V m' c ReferenceIdeal.main_v1 = KernelIdeal.Gen.V m c KernelIdeal.main_v1
    have e1 : ReferenceIdeal.Gen.V m' c ReferenceIdeal.main_v1 = shapeCast ReferenceIdeal.S1x14336 (m' ((c.tc : Thread ReferenceIdeal.nD ReferenceIdeal.τ).loc ReferenceIdeal.main_arg4)) ReferenceIdeal.Gen.shapeCasts_S14336_S1x14336 := by
      entry_read
      rfl
    have e2 : KernelIdeal.Gen.V m c KernelIdeal.main_v1 = shapeCast KernelIdeal.S1x14336 (m ((c.tc : Thread KernelIdeal.nD KernelIdeal.τ).loc KernelIdeal.main_arg4)) KernelIdeal.Gen.shapeCasts_S14336_S1x14336 := by
      entry_read
      rfl
    rw [e1, e2, h4]

open ReferenceIdeal ReferenceIdeal.Gen in
/-- The reference's run, its results in terms of its arrays and its arguments unchanged. -/
theorem ref_run : θ_run (ReferenceIdeal.defs (F := Ideal)) (onTc (τ := ReferenceIdeal.τ) (ReferenceIdeal.main (F := Ideal))) ⟨m', fun _ => 0, g'⟩ (fun r => ∀ c : Dev ReferenceIdeal.nD,
      (r.2.mem ((c.tc : Thread nD τ).loc main_v2_0) = (dats m' 0 c).arrAt 5 cfg0.N
      ∧ r.2.mem ((c.tc : Thread nD τ).loc main_v2_1) = (dats m' 0 c).arrAt 6 cfg0.N
      ∧ r.2.mem ((c.tc : Thread nD τ).loc main_v2_2) = (dats m' 0 c).arrAt 7 cfg0.N
      ∧ r.2.mem ((c.tc : Thread nD τ).loc main_v2_3) = (dats m' 0 c).arrAt 8 cfg0.N)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run _ _ _).mono (fun r h c =>
    ⟨⟨(h c).1 5, (h c).1 6, (h c).1 7, (h c).1 8⟩,
      ((h c).1 0).trans (((dats m' 0 c).arrAt_in 0 rfl _).trans ((A_eq m' c 0).trans (V_main_arg0 m' c))),
      ((h c).1 1).trans (((dats m' 0 c).arrAt_in 1 rfl _).trans ((A_eq m' c 1).trans (V_main_arg1 m' c))),
      ((h c).1 2).trans (((dats m' 0 c).arrAt_in 2 rfl _).trans ((A_eq m' c 2).trans (V_main_arg2 m' c))),
      ((h c).2 main_arg3 (Pipeline.mem_restRefs_of main_arg3 (by decide) (by decide))).trans (V_main_arg3 m' c),
      ((h c).2 main_arg4 (Pipeline.mem_restRefs_of main_arg4 (by decide) (by decide))).trans (V_main_arg4 m' c)⟩)
    (ReferenceIdeal.Gen.run_main m' g')

end Pair

theorem algebraic : Cert.algebraic_KernelIdeal_ReferenceIdeal (hKernelIdeal := Cert.KernelIdeal.Gen.facts) (hReferenceIdeal := Cert.ReferenceIdeal.Gen.facts) := by
  intro m g m' g' _ hag
  have hs : ∀ c, SameArrays m m' c := fun c => same_arrays m m' c (hag c).1 (hag c).2.1 (hag c).2.2.1 (hag c).2.2.2.1 (hag c).2.2.2.2
  refine ⟨fun c => KernelIdeal.Up.res5 (KernelIdeal.Up.arrOf m c), fun c => KernelIdeal.Up.res6 (KernelIdeal.Up.arrOf m c),
    fun c => KernelIdeal.Up.res7 (KernelIdeal.Up.arrOf m c), fun c => KernelIdeal.Up.res8 (KernelIdeal.Up.arrOf m c), ?_, ?_⟩
  · refine (θ_run _ _ _).mono (fun r h c => ?_) (KernelIdeal.Up.run_main m g)
    have hr := KernelIdeal.Up.results m r h c
    exact ⟨hr.1, hr.2.1, hr.2.2.1, hr.2.2.2, KernelIdeal.Up.frame_args m r h c⟩
  · refine (θ_run _ _ _).mono (fun r h c => ?_) (ref_run m' g')
    obtain ⟨⟨h5, h6, h7, h8⟩, hargs⟩ := h c
    obtain ⟨s0, s1, s2, s3, s4⟩ := hs c
    rw [ReferenceIdeal.Up.final5, s0] at h5
    rw [ReferenceIdeal.Up.final6, s0] at h6
    rw [ReferenceIdeal.Up.final7, s0, s1, s2, s3, s4] at h7
    rw [ReferenceIdeal.Up.final8, s0, s1, s2, s3, s4] at h8
    exact ⟨h5.trans (KernelIdeal.Up.res5_eq _).symm, h6.trans (KernelIdeal.Up.res6_eq _).symm, h7.trans (KernelIdeal.Up.res7_eq _).symm,
      h8.trans (KernelIdeal.Up.res8_eq _).symm, hargs⟩

section Down
variable (m : (ℓ : Loc DownIdeal.nD DownIdeal.τ DownIdeal.sig) → Buf (Elt Ideal) ℓ)
variable (m' : (ℓ : Loc DownReferenceIdeal.nD DownReferenceIdeal.τ DownReferenceIdeal.sig) → Buf (Elt Ideal) ℓ) (g' : Dev DownReferenceIdeal.nD → PrngReg)

/-- The down-projection's reference has the kernel's arrays, when the arguments are the same. -/
def SameArraysDown (c : Dev DownIdeal.nD) : Prop :=
  DownReferenceIdeal.Gen.V m' c DownReferenceIdeal.main_arg0 = (DownIdeal.Dn.arrOf m c).h
  ∧ DownReferenceIdeal.Gen.V m' c DownReferenceIdeal.main_v0 = DownIdeal.Dn.hcol (DownIdeal.Dn.arrOf m c)
  ∧ DownReferenceIdeal.Gen.V m' c DownReferenceIdeal.main_arg2 = (DownIdeal.Dn.arrOf m c).w
  ∧ DownReferenceIdeal.Gen.V m' c DownReferenceIdeal.main_v1 = (DownIdeal.Dn.arrOf m c).s

theorem same_arrays_down (c : Dev DownIdeal.nD)
    (h0 : m' ((c.tc : Thread DownReferenceIdeal.nD DownReferenceIdeal.τ).loc DownReferenceIdeal.main_arg0) = m ((c.tc : Thread DownIdeal.nD DownIdeal.τ).loc DownIdeal.main_arg0))
    (h1 : m' ((c.tc : Thread DownReferenceIdeal.nD DownReferenceIdeal.τ).loc DownReferenceIdeal.main_arg1) = m ((c.tc : Thread DownIdeal.nD DownIdeal.τ).loc DownIdeal.main_arg1))
    (h2 : m' ((c.tc : Thread DownReferenceIdeal.nD DownReferenceIdeal.τ).loc DownReferenceIdeal.main_arg2) = m ((c.tc : Thread DownIdeal.nD DownIdeal.τ).loc DownIdeal.main_arg2))
    (h3 : m' ((c.tc : Thread DownReferenceIdeal.nD DownReferenceIdeal.τ).loc DownReferenceIdeal.main_arg3) = m ((c.tc : Thread DownIdeal.nD DownIdeal.τ).loc DownIdeal.main_arg3)) :
    SameArraysDown m m' c := by
  refine ⟨?_, ?_, ?_, ?_⟩
  · exact (DownReferenceIdeal.Gen.V_main_arg0 m' c).trans (h0.trans (DownIdeal.Gen.V_main_arg0 m c).symm)
  · have e1 : DownReferenceIdeal.Gen.V m' c DownReferenceIdeal.main_v0 = shapeCast DownReferenceIdeal.S24960x1 (m' ((c.tc : Thread DownReferenceIdeal.nD DownReferenceIdeal.τ).loc DownReferenceIdeal.main_arg1)) DownReferenceIdeal.Gen.shapeCasts_S52x1x480_S24960x1 := by
      entry_read
      rfl
    rw [e1, h1, ← DownIdeal.Gen.V_main_arg1 m c]
    rfl
  · exact (DownReferenceIdeal.Gen.V_main_arg2 m' c).trans (h2.trans (DownIdeal.Gen.V_main_arg2 m c).symm)
  · show DownReferenceIdeal.Gen.V m' c DownReferenceIdeal.main_v1 = DownIdeal.Gen.V m c DownIdeal.main_v0
    have e1 : DownReferenceIdeal.Gen.V m' c DownReferenceIdeal.main_v1 = shapeCast DownReferenceIdeal.S1x4096 (m' ((c.tc : Thread DownReferenceIdeal.nD DownReferenceIdeal.τ).loc DownReferenceIdeal.main_arg3)) DownReferenceIdeal.Gen.shapeCasts_S4096_S1x4096 := by
      entry_read
      rfl
    have e2 : DownIdeal.Gen.V m c DownIdeal.main_v0 = shapeCast DownIdeal.S1x4096 (m ((c.tc : Thread DownIdeal.nD DownIdeal.τ).loc DownIdeal.main_arg3)) DownIdeal.Gen.shapeCasts_S4096_S1x4096 := by
      entry_read
      rfl
    rw [e1, e2, h3]

open DownReferenceIdeal DownReferenceIdeal.Gen in
/-- The run of the down-projection's reference, its results in terms of its arrays and its arguments unchanged. -/
theorem ref_run_down : θ_run (DownReferenceIdeal.defs (F := Ideal)) (onTc (τ := DownReferenceIdeal.τ) (DownReferenceIdeal.main (F := Ideal))) ⟨m', fun _ => 0, g'⟩ (fun r => ∀ c : Dev DownReferenceIdeal.nD,
      (r.2.mem ((c.tc : Thread nD τ).loc main_v2_0) = (dats m' 0 c).arrAt 4 cfg0.N
      ∧ r.2.mem ((c.tc : Thread nD τ).loc main_v2_1) = (dats m' 0 c).arrAt 5 cfg0.N
      ∧ r.2.mem ((c.tc : Thread nD τ).loc main_v2_2) = (dats m' 0 c).arrAt 6 cfg0.N)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run _ _ _).mono (fun r h c =>
    ⟨⟨(h c).1 4, (h c).1 5, (h c).1 6⟩,
      ((h c).1 0).trans (((dats m' 0 c).arrAt_in 0 rfl _).trans ((A_eq m' c 0).trans (V_main_arg0 m' c))),
      ((h c).2 main_arg1 (Pipeline.mem_restRefs_of main_arg1 (by decide) (by decide))).trans (V_main_arg1 m' c),
      ((h c).1 2).trans (((dats m' 0 c).arrAt_in 2 rfl _).trans ((A_eq m' c 2).trans (V_main_arg2 m' c))),
      ((h c).2 main_arg3 (Pipeline.mem_restRefs_of main_arg3 (by decide) (by decide))).trans (V_main_arg3 m' c)⟩)
    (DownReferenceIdeal.Gen.run_main m' g')

end Down

theorem algebraic_down : Cert.algebraic_DownIdeal_DownReferenceIdeal (hDownIdeal := Cert.DownIdeal.Gen.facts) (hDownReferenceIdeal := Cert.DownReferenceIdeal.Gen.facts) := by
  intro m g m' g' _ hag
  have hs : ∀ c, SameArraysDown m m' c := fun c => same_arrays_down m m' c (hag c).1 (hag c).2.1 (hag c).2.2.1 (hag c).2.2.2
  refine ⟨fun c => DownIdeal.Dn.res4 (DownIdeal.Dn.arrOf m c), fun c => DownIdeal.Dn.res5 (DownIdeal.Dn.arrOf m c), fun c => DownIdeal.Dn.res6 (DownIdeal.Dn.arrOf m c), ?_, ?_⟩
  · refine (θ_run _ _ _).mono (fun r h c => ?_) (DownIdeal.Dn.run_main m g)
    have hr := DownIdeal.Dn.results m r h c
    exact ⟨hr.1, hr.2.1, hr.2.2, DownIdeal.Dn.frame_args m r h c⟩
  · refine (θ_run _ _ _).mono (fun r h c => ?_) (ref_run_down m' g')
    obtain ⟨⟨h4, h5, h6⟩, hargs⟩ := h c
    obtain ⟨s0, s1, s2, s3⟩ := hs c
    rw [DownReferenceIdeal.Dn.final4, s0, s1, s2, s3] at h4
    rw [DownReferenceIdeal.Dn.final5, s0, s1, s2, s3] at h5
    rw [DownReferenceIdeal.Dn.final6, s0, s1, s2, s3] at h6
    exact ⟨h4.trans (DownIdeal.Dn.res4_eq _).symm, h5.trans (DownIdeal.Dn.res5_eq _).symm, h6.trans (DownIdeal.Dn.res6_eq _).symm, hargs⟩

theorem algebraic_final : Cert.algebraic_FinalIdeal_FinalReferenceIdeal (hFinalIdeal := Cert.FinalIdeal.Gen.facts) (hFinalReferenceIdeal := Cert.FinalReferenceIdeal.Gen.facts) := by
  intro m g m' g' _ hag
  refine ⟨fun c => FinalIdeal.Gen.k0_pay2 (FinalIdeal.Gen.V m c FinalIdeal.main_arg0) (FinalIdeal.Gen.V m c FinalIdeal.main_v0),
    fun c => FinalIdeal.Gen.k0_pay4 (FinalIdeal.Gen.V m c FinalIdeal.main_arg0) (FinalIdeal.Gen.V m c FinalIdeal.main_v0),
    fun c => FinalIdeal.Gen.k0_pay5 (FinalIdeal.Gen.V m c FinalIdeal.main_arg0) (FinalIdeal.Gen.V m c FinalIdeal.main_v0), ?_, ?_⟩
  · exact (θ_run _ _ _).mono (fun r h c => ⟨(h c).1.1, (h c).1.2.1, (h c).1.2.2, (h c).2⟩) (FinalIdeal.Norm.run_vals m g)
  · refine (θ_run _ _ _).mono (fun r h c => ?_) (FinalReferenceIdeal.Norm.run_vals m' g')
    have e0 : FinalReferenceIdeal.Gen.V m' c FinalReferenceIdeal.main_arg0 = FinalIdeal.Gen.V m c FinalIdeal.main_arg0 :=
      (FinalReferenceIdeal.Gen.V_main_arg0 m' c).trans ((hag c).1.trans (FinalIdeal.Gen.V_main_arg0 m c).symm)
    have e1 : FinalReferenceIdeal.Gen.V m' c FinalReferenceIdeal.main_v0 = FinalIdeal.Gen.V m c FinalIdeal.main_v0 := by
      rw [FinalReferenceIdeal.Norm.gains, FinalIdeal.Norm.gains, (hag c).2]
    obtain ⟨⟨h2, h3, h4⟩, hargs⟩ := h c
    rw [e0, e1] at h2 h3 h4
    exact ⟨h2.trans (FinalIdeal.Norm.res2_eq _ _).symm, h3.trans (FinalIdeal.Norm.res3_eq _ _).symm, h4.trans (FinalIdeal.Norm.res4_eq _ _).symm, hargs⟩

section AttnOut
open AttnOutReferenceIdeal AttnOutReferenceIdeal.Gen
variable (m' : (ℓ : Loc AttnOutReferenceIdeal.nD AttnOutReferenceIdeal.τ AttnOutReferenceIdeal.sig) → Buf (Elt Ideal) ℓ) (g' : Dev AttnOutReferenceIdeal.nD → PrngReg)

theorem ref_run_attn : θ_run (AttnOutReferenceIdeal.defs (F := Ideal)) (onTc (τ := AttnOutReferenceIdeal.τ) (AttnOutReferenceIdeal.main (F := Ideal))) ⟨m', fun _ => 0, g'⟩ (fun r => ∀ c : Dev AttnOutReferenceIdeal.nD,
      (r.2.mem ((c.tc : Thread nD τ).loc main_v0_0) = (dats m' 0 c).arrAt 4 cfg0.N
      ∧ r.2.mem ((c.tc : Thread nD τ).loc main_v0_1) = (dats m' 0 c).arrAt 5 cfg0.N
      ∧ r.2.mem ((c.tc : Thread nD τ).loc main_v0_2) = (dats m' 0 c).arrAt 6 cfg0.N)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run _ _ _).mono (fun r h c =>
    ⟨⟨(h c).1 4, (h c).1 5, (h c).1 6⟩,
      ((h c).1 0).trans (((dats m' 0 c).arrAt_in 0 rfl _).trans ((A_eq m' c 0).trans (V_main_arg0 m' c))),
      ((h c).1 1).trans (((dats m' 0 c).arrAt_in 1 rfl _).trans ((A_eq m' c 1).trans (V_main_arg1 m' c))),
      ((h c).1 2).trans (((dats m' 0 c).arrAt_in 2 rfl _).trans ((A_eq m' c 2).trans (V_main_arg2 m' c))),
      ((h c).1 3).trans (((dats m' 0 c).arrAt_in 3 rfl _).trans ((A_eq m' c 3).trans (V_main_arg3 m' c)))⟩)
    (AttnOutReferenceIdeal.Gen.run_main m' g')

end AttnOut

theorem algebraic_attn_out : Cert.algebraic_AttnOutIdeal_AttnOutReferenceIdeal (hAttnOutIdeal := Cert.AttnOutIdeal.Gen.facts) (hAttnOutReferenceIdeal := Cert.AttnOutReferenceIdeal.Gen.facts) := by
  intro m g m' g' _ hag
  have e0 : ∀ c, AttnOutReferenceIdeal.Gen.V m' c AttnOutReferenceIdeal.main_arg0 = AttnOutIdeal.At.xaOf m c := fun c =>
    (AttnOutReferenceIdeal.Gen.V_main_arg0 m' c).trans ((hag c).1.trans (AttnOutIdeal.Gen.V_main_arg0 m c).symm)
  have e1 : ∀ c, AttnOutReferenceIdeal.Gen.V m' c AttnOutReferenceIdeal.main_arg1 = AttnOutIdeal.Gen.V m c AttnOutIdeal.main_arg1 := fun c =>
    (AttnOutReferenceIdeal.Gen.V_main_arg1 m' c).trans ((hag c).2.1.trans (AttnOutIdeal.Gen.V_main_arg1 m c).symm)
  have e2 : ∀ c, AttnOutReferenceIdeal.Gen.V m' c AttnOutReferenceIdeal.main_arg2 = AttnOutIdeal.Gen.V m c AttnOutIdeal.main_arg2 := fun c =>
    (AttnOutReferenceIdeal.Gen.V_main_arg2 m' c).trans ((hag c).2.2.1.trans (AttnOutIdeal.Gen.V_main_arg2 m c).symm)
  have e3 : ∀ c, AttnOutReferenceIdeal.Gen.V m' c AttnOutReferenceIdeal.main_arg3 = m ((c.tc : Thread AttnOutIdeal.nD AttnOutIdeal.τ).loc AttnOutIdeal.main_arg3) := fun c =>
    (AttnOutReferenceIdeal.Gen.V_main_arg3 m' c).trans (hag c).2.2.2
  refine ⟨fun c => AttnOutIdeal.At.codesAll (AttnOutIdeal.At.xaOf m c), fun c => AttnOutIdeal.At.scalesAll (AttnOutIdeal.At.xaOf m c), fun c => AttnOutIdeal.At.res6 m c, ?_, ?_⟩
  · refine (θ_run _ _ _).mono (fun r h c => ?_) (AttnOutIdeal.At.run_main m g)
    have hr := AttnOutIdeal.At.results m r h c
    exact ⟨hr.1, hr.2.1, hr.2.2, AttnOutIdeal.At.frame_args m r h c⟩
  · refine (θ_run _ _ _).mono (fun r h c => ?_) (ref_run_attn m' g')
    obtain ⟨⟨h4, h5, h6⟩, hargs⟩ := h c
    rw [AttnOutReferenceIdeal.At.final4, e0] at h4
    rw [AttnOutReferenceIdeal.At.final5, e0] at h5
    rw [AttnOutReferenceIdeal.At.final6, e0, e1, e2, e3] at h6
    refine ⟨h4.trans (AttnOutIdeal.At.codes_eq _).symm, h5.trans (AttnOutIdeal.At.scales_eq _).symm, h6.trans (AttnOutIdeal.At.out_eq _ _ _ _ m c (fun a q => ?_) (fun k n => ?_) rfl rfl).symm, hargs⟩
    · refine congrArg (m ((c.tc : Thread AttnOutIdeal.nD AttnOutIdeal.τ).loc AttnOutIdeal.main_arg3)) ?_
      funext a'
      fin_cases a' <;> exact Fin.ext ((Nat.zero_add _).trans (Nat.one_mul _))
    · refine congrArg (AttnOutIdeal.Gen.V m c AttnOutIdeal.main_arg2) ?_
      funext a'
      fin_cases a' <;> exact Fin.ext ((Nat.zero_add _).trans (Nat.one_mul _))

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.Final.Gen.facts, Cert.FinalIdeal.Gen.facts, Cert.FinalReferenceIdeal.Gen.facts,
  Cert.AttnOut.Gen.facts, Cert.AttnOutIdeal.Gen.facts, Cert.AttnOutReferenceIdeal.Gen.facts,
  fun m ρ _ => Cert.Kernel.Up.frame m ρ, fun m ρ _ => Cert.KernelIdeal.Up.frame m ρ, fun m ρ _ => Cert.ReferenceIdeal.Gen.frame m ρ,
  fun m ρ _ => Cert.Down.Dn.frame m ρ, fun m ρ _ => Cert.DownIdeal.Dn.frame m ρ, fun m ρ _ => Cert.DownReferenceIdeal.Gen.frame m ρ,
  fun m ρ _ => Cert.Final.Gen.frame m ρ, fun m ρ _ => Cert.FinalIdeal.Gen.frame m ρ, fun m ρ _ => Cert.FinalReferenceIdeal.Gen.frame m ρ,
  fun m ρ _ => Cert.AttnOut.At.frame m ρ, fun m ρ _ => Cert.AttnOutIdeal.At.frame m ρ, fun m ρ _ => Cert.AttnOutReferenceIdeal.Gen.frame m ρ,
  trivial, algebraic, trivial, algebraic_down, trivial, algebraic_final, trivial, algebraic_attn_out⟩

end Cert.Proof

end
